-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v170_0) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v170_1) = v3 c
          ∧ r.2.mem ((c.tc : Thread Cert.ReferenceIdeal.nD Cert.ReferenceIdeal.τ).loc Cert.ReferenceIdeal.main_v114) = v4 c
          ∧ r.2.mem ((c.tc : Thread Cert.ReferenceIdeal.nD Cert.ReferenceIdeal.τ).loc Cert.ReferenceIdeal.main_v170_2) = v5 c
          ∧ r.2.mem ((c.tc : Thread Cert.ReferenceIdeal.nD Cert.ReferenceIdeal.τ).loc Cert.ReferenceIdeal.main_v115) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S8x2048x1024 : Shape := ⟨3, ![8, 2048, 1024]⟩
abbrev S8x2048x32x128 : Shape := ⟨4, ![8, 2048, 32, 128]⟩
abbrev S8x32x16 : Shape := ⟨3, ![8, 32, 16]⟩
abbrev S8x2048x8x128 : Shape := ⟨4, ![8, 2048, 8, 128]⟩
abbrev S8x8x32 : Shape := ⟨3, ![8, 8, 32]⟩
abbrev S8x8x128 : Shape := ⟨3, ![8, 8, 128]⟩
abbrev S1x128x4096 : Shape := ⟨3, ![1, 128, 4096]⟩
abbrev S1x2048x1024 : Shape := ⟨3, ![1, 2048, 1024]⟩
abbrev S1x128x32x128 : Shape := ⟨4, ![1, 128, 32, 128]⟩
abbrev S1x32x16 : Shape := ⟨3, ![1, 32, 16]⟩
abbrev S1x2048x8x128 : Shape := ⟨4, ![1, 2048, 8, 128]⟩
abbrev S1x8x32 : Shape := ⟨3, ![1, 8, 32]⟩
abbrev S1x8x128 : Shape := ⟨3, ![1, 8, 128]⟩
abbrev S8x2048x128 : Shape := ⟨3, ![8, 2048, 128]⟩
abbrev S8x128x2048 : Shape := ⟨3, ![8, 128, 2048]⟩
abbrev S8x32x128 : Shape := ⟨3, ![8, 32, 128]⟩
abbrev S8x128 : Shape := ⟨2, ![8, 128]⟩
abbrev S8x512x128 : Shape := ⟨3, ![8, 512, 128]⟩
abbrev S32x128 : Shape := ⟨2, ![32, 128]⟩
abbrev S1024x128 : Shape := ⟨2, ![1024, 128]⟩
abbrev S2048x512 : Shape := ⟨2, ![2048, 512]⟩
abbrev S512x128 : Shape := ⟨2, ![512, 128]⟩
abbrev S1x256x128 : Shape := ⟨3, ![1, 256, 128]⟩
abbrev S256x128 : Shape := ⟨2, ![256, 128]⟩
abbrev S32x8x128 : Shape := ⟨3, ![32, 8, 128]⟩
abbrev S128 : Shape := ⟨1, ![128]⟩
abbrev S1x128 : Shape := ⟨2, ![1, 128]⟩
abbrev S4x64x128 : Shape := ⟨3, ![4, 64, 128]⟩
abbrev S4x128 : Shape := ⟨2, ![4, 128]⟩
abbrev S32 : Shape := ⟨1, ![32]⟩
abbrev S32x1 : Shape := ⟨2, ![32, 1]⟩
abbrev S1x32x128 : Shape := ⟨3, ![1, 32, 128]⟩
abbrev S4x1x128 : Shape := ⟨3, ![4, 1, 128]⟩
abbrev S128x256 : Shape := ⟨2, ![128, 256]⟩
abbrev S1x128x256 : Shape := ⟨3, ![1, 128, 256]⟩
abbrev S128x32 : Shape := ⟨2, ![128, 32]⟩
abbrev S8x32 : Shape := ⟨2, ![8, 32]⟩
abbrev S1x128x128 : Shape := ⟨3, ![1, 128, 128]⟩
abbrev S128x128 : Shape := ⟨2, ![128, 128]⟩
abbrev S128x8x128 : Shape := ⟨3, ![128, 8, 128]⟩
abbrev S1x128x8x128 : Shape := ⟨4, ![1, 128, 8, 128]⟩
abbrev S32x16 : Shape := ⟨2, ![32, 16]⟩
abbrev S1x512x128 : Shape := ⟨3, ![1, 512, 128]⟩
abbrev S128x4x128 : Shape := ⟨3, ![128, 4, 128]⟩
abbrev S1x128x4x128 : Shape := ⟨4, ![1, 128, 4, 128]⟩
abbrev S1x512 : Shape := ⟨2, ![1, 512]⟩
abbrev S128x512 : Shape := ⟨2, ![128, 512]⟩
abbrev S8x512 : Shape := ⟨2, ![8, 512]⟩
abbrev S64x512 : Shape := ⟨2, ![64, 512]⟩
abbrev S8x8x512 : Shape := ⟨3, ![8, 8, 512]⟩
abbrev S512 : Shape := ⟨1, ![512]⟩
abbrev S256x512 : Shape := ⟨2, ![256, 512]⟩

abbrev nBuf : Space → Nat
  | .hbm => 10
  | .vmem => 31
  | .smem => 0
  | _ => 0

abbrev bufTy : (tb : Table) → Fin (tcTables nBuf tb) → BufTy
  | .hbm, ⟨0, _⟩ => ⟨S8x2048x4096, .bf16⟩
  | .hbm, ⟨1, _⟩ => ⟨S8x2048x1024, .bf16⟩
  | .hbm, ⟨2, _⟩ => ⟨S8x2048x1024, .bf16⟩
  | .hbm, ⟨3, _⟩ => ⟨S8x2048x4096, .bf16⟩
  | .hbm, ⟨4, _⟩ => ⟨S8x2048x32x128, .fp8e4m3⟩
  | .hbm, ⟨5, _⟩ => ⟨S8x32x16, .f32⟩
  | .hbm, ⟨6, _⟩ => ⟨S8x2048x8x128, .fp8e4m3⟩
  | .hbm, ⟨7, _⟩ => ⟨S8x8x32, .f32⟩
  | .hbm, ⟨8, _⟩ => ⟨S8x2048x8x128, .fp8e4m3⟩
  | .hbm, ⟨9, _⟩ => ⟨S8x8x128, .f32⟩
  | .local _ .vmem, ⟨0, _⟩ => ⟨S1x128x4096, .bf16⟩
  | .local _ .vmem, ⟨1, _⟩ => ⟨S1x128x4096, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x128x4096, .bf16⟩
  | .local _ .vmem, ⟨7, _⟩ => ⟨S1x128x4096, .bf16⟩
  | .local _ .vmem, ⟨8, _⟩ => ⟨S1x128x32x128, .fp8e4m3⟩
  | .local _ .vmem, ⟨9, _⟩ => ⟨S1x128x32x128, .fp8e4m3⟩
  | .local _ .vmem, ⟨10, _⟩ => ⟨S1x32x16, .f32⟩
  | .local _ .vmem, ⟨11, _⟩ => ⟨S1x32x16, .f32⟩
  | .local _ .vmem, ⟨12, _⟩ => ⟨S1x2048x8x128, .fp8e4m3⟩
  | .local _ .vmem, ⟨13, _⟩ => ⟨S1x2048x8x128, .fp8e4m3⟩
  | .local _ .vmem, ⟨14, _⟩ => ⟨S1x8x32, .f32⟩
  | .local _ .vmem, ⟨15, _⟩ => ⟨S1x8x32, .f32⟩
  | .local _ .vmem, ⟨16, _⟩ => ⟨S1x2048x8x128, .fp8e4m3⟩
  | .local _ .vmem, ⟨17, _⟩ => ⟨S1x2048x8x128, .fp8e4m3⟩
  | .local _ .vmem, ⟨18, _⟩ => ⟨S1x8x128, .f32⟩
  | .local _ .vmem, ⟨19, _⟩ => ⟨S1x8x128, .f32⟩
  | .local _ .vmem, ⟨20, _⟩ => ⟨S8x2048x128, .fp8e4m3⟩
  | .local _ .vmem, ⟨21, _⟩ => ⟨S8x128x2048, .fp8e4m3⟩
  | .local _ .vmem, ⟨22, _⟩ => ⟨S8x32x128, .f32⟩
  | .local _ .vmem, ⟨23, _⟩ => ⟨S8x128, .f32⟩
  | .local _ .vmem, ⟨24, _⟩ => ⟨S8x128, .f32⟩
  | .local _ .vmem, ⟨25, _⟩ => ⟨S8x512x128, .fp8e4m3⟩
  | .local _ .vmem, ⟨26, _⟩ => ⟨S32x128, .f32⟩
  | .local _ .vmem, ⟨27, _⟩ => ⟨S32x128, .f32⟩
  | .local _ .vmem, ⟨28, _⟩ => ⟨S1024x128, .f32⟩
  | .local _ .vmem, ⟨29, _⟩ => ⟨S2048x512, .f32⟩
  | .local _ .vmem, ⟨30, _⟩ => ⟨S512x128, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_463 : BitVec 32 := 0#32
  let c8_i32_464 : BitVec 32 := 8#32
  let v877 : BitVec 32 := Scalar.addi c0_i32_463 c8_i32_464
  let c1_i32_465 : BitVec 32 := 1#32
  ⟨c0_i32_463, v877, c1_i32_465⟩
def k0_mult1 (k0_t1 : Fin k0_t1_loop.trips) : BitVec 32 :=
  let c0_i32_463 : BitVec 32 := 0#32
  let c1_i32_465 : BitVec 32 := 1#32
  let arg23 : BitVec 32 := Scf.iv c0_i32_463 c1_i32_465 k0_t1
  let c128_i32 : BitVec 32 := 128#32
  let v891 : BitVec 32 := Scalar.muli arg23 c128_i32
  v891
def k0_off1 (k0_t1 : Fin k0_t1_loop.trips) : Fin 3 → Nat :=
  let c0_484 : Index := 0#32
  let c0_485 : Index := 0#32
  let c0_i32_463 : BitVec 32 := 0#32
  let c1_i32_465 : BitVec 32 := 1#32
  let arg23 : BitVec 32 := Scf.iv c0_i32_463 c1_i32_465 k0_t1
  let c128_i32 : BitVec 32 := 128#32
  let v891 : BitVec 32 := Scalar.muli arg23 c128_i32
  let v892 : BitVec 32 := v891
  let v895 : Index := Scalar.indexCast v892
  ![0, 0, v895.toNat]
def k0_off2 (k0_t1 : Fin k0_t1_loop.trips) : Fin 3 → Nat :=
  let c0_490 : Index := 0#32
  let c256_491 : Index := 256#32
  let c0_i32_463 : BitVec 32 := 0#32
  let c1_i32_465 : BitVec 32 := 1#32
  let arg23 : BitVec 32 := Scf.iv c0_i32_463 c1_i32_465 k0_t1
  let c128_i32 : BitVec 32 := 128#32
  let v891 : BitVec 32 := Scalar.muli arg23 c128_i32
  let v892 : BitVec 32 := v891
  let v909 : Index := Scalar.indexCast v892
  ![0, 256, v909.toNat]
def k0_off3 (k0_t1 : Fin k0_t1_loop.trips) : Fin 3 → Nat :=
  let c0_496 : Index := 0#32
  let c512_497 : Index := 512#32
  let c0_i32_463 : BitVec 32 := 0#32
  let c1_i32_465 : BitVec 32 := 1#32
  let arg23 : BitVec 32 := Scf.iv c0_i32_463 c1_i32_465 k0_t1
  let c128_i32 : BitVec 32 := 128#32
  let v891 : BitVec 32 := Scalar.muli arg23 c128_i32
  let v892 : BitVec 32 := v891
  let v923 : Index := Scalar.indexCast v892
  ![0, 512, v923.toNat]
def k0_off4 (k0_t1 : Fin k0_t1_loop.trips) : Fin 3 → Nat :=
  let c0_502 : Index := 0#32
  let c768_503 : Index := 768#32
  let c0_i32_463 : BitVec 32 := 0#32
  let c1_i32_465 : BitVec 32 := 1#32
  let arg23 : BitVec 32 := Scf.iv c0_i32_463 c1_i32_465 k0_t1
  let c128_i32 : BitVec 32 := 128#32
  let v891 : BitVec 32 := Scalar.muli arg23 c128_i32
  let v892 : BitVec 32 := v891
  let v937 : Index := Scalar.indexCast v892
  ![0, 768, v937.toNat]
def k0_off5 (k0_t1 : Fin k0_t1_loop.trips) : Fin 3 → Nat :=
  let c0_508 : Index := 0#32
  let c1024_509 : Index := 1024#32
  let c0_i32_463 : BitVec 32 := 0#32
  let c1_i32_465 : BitVec 32 := 1#32
  let arg23 : BitVec 32 := Scf.iv c0_i32_463 c1_i32_465 k0_t1
  let c128_i32 : BitVec 32 := 128#32
  let v891 : BitVec 32 := Scalar.muli arg23 c128_i32
  let v892 : BitVec 32 := v891
  let v951 : Index := Scalar.indexCast v892
  ![0, 1024, v951.toNat]
def k0_off6 (k0_t1 : Fin k0_t1_loop.trips) : Fin 3 → Nat :=
  let c0_514 : Index := 0#32
  let c1280_515 : Index := 1280#32
  let c0_i32_463 : BitVec 32 := 0#32
  let c1_i32_465 : BitVec 32 := 1#32
  let arg23 : BitVec 32 := Scf.iv c0_i32_463 c1_i32_465 k0_t1
  let c128_i32 : BitVec 32 := 128#32
  let v891 : BitVec 32 := Scalar.muli arg23 c128_i32
  let v892 : BitVec 32 := v891
  let v965 : Index := Scalar.indexCast v892
  ![0, 1280, v965.toNat]
def k0_off7 (k0_t1 : Fin k0_t1_loop.trips) : Fin 3 → Nat :=
  let c0_520 : Index := 0#32
  let c1536_521 : Index := 1536#32
  let c0_i32_463 : BitVec 32 := 0#32
  let c1_i32_465 : BitVec 32 := 1#32
  let arg23 : BitVec 32 := Scf.iv c0_i32_463 c1_i32_465 k0_t1
  let c128_i32 : BitVec 32 := 128#32
  let v891 : BitVec 32 := Scalar.muli arg23 c128_i32
  let v892 : BitVec 32 := v891
  let v979 : Index := Scalar.indexCast v892
  ![0, 1536, v979.toNat]
def k0_off8 (k0_t1 : Fin k0_t1_loop.trips) : Fin 3 → Nat :=
  let c0_526 : Index := 0#32
  let c1792_527 : Index := 1792#32
  let c0_i32_463 : BitVec 32 := 0#32
  let c1_i32_465 : BitVec 32 := 1#32
  let arg23 : BitVec 32 := Scf.iv c0_i32_463 c1_i32_465 k0_t1
  let c128_i32 : BitVec 32 := 128#32
  let v891 : BitVec 32 := Scalar.muli arg23 c128_i32
  let v892 : BitVec 32 := v891
  let v993 : Index := Scalar.indexCast v892
  ![0, 1792, v993.toNat]
def k0_off9 (k0_t1 : Fin k0_t1_loop.trips) : Fin 2 → Nat :=
  let c0_i32_463 : BitVec 32 := 0#32
  let c1_i32_465 : BitVec 32 := 1#32
  let arg23 : BitVec 32 := Scf.iv c0_i32_463 c1_i32_465 k0_t1
  let v1015 : Index := Scalar.indexCast arg23
  let c0_536 : Index := 0#32
  ![v1015.toNat, 0]
def k0_off10 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1207 : Index := Scalar.indexCast arg23
  let c0_599 : Index := 0#32
  let c0_600 : Index := 0#32
  ![v1207.toNat, 0, 0]
def k0_off11 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1264 : Index := Scalar.indexCast arg23
  let c0_619 : Index := 0#32
  let c0_620 : Index := 0#32
  ![v1264.toNat, 0, 0]
def k0_off12 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1282 : Index := Scalar.indexCast arg23
  let c0_625 : Index := 0#32
  let c0_626 : Index := 0#32
  ![v1282.toNat, 0, 0]
def k0_off13 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1303 : Index := Scalar.indexCast arg23
  let c256_631 : Index := 256#32
  let c0_632 : Index := 0#32
  ![v1303.toNat, 256, 0]
def k0_off14 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1321 : Index := Scalar.indexCast arg23
  let c0_637 : Index := 0#32
  let c256_638 : Index := 256#32
  ![v1321.toNat, 0, 256]
def k0_off15 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1342 : Index := Scalar.indexCast arg23
  let c512_643 : Index := 512#32
  let c0_644 : Index := 0#32
  ![v1342.toNat, 512, 0]
def k0_off16 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1360 : Index := Scalar.indexCast arg23
  let c0_649 : Index := 0#32
  let c512_650 : Index := 512#32
  ![v1360.toNat, 0, 512]
def k0_off17 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1381 : Index := Scalar.indexCast arg23
  let c768_655 : Index := 768#32
  let c0_656 : Index := 0#32
  ![v1381.toNat, 768, 0]
def k0_off18 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1399 : Index := Scalar.indexCast arg23
  let c0_661 : Index := 0#32
  let c768_662 : Index := 768#32
  ![v1399.toNat, 0, 768]
def k0_off19 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1420 : Index := Scalar.indexCast arg23
  let c1024_667 : Index := 1024#32
  let c0_668 : Index := 0#32
  ![v1420.toNat, 1024, 0]
def k0_off20 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1438 : Index := Scalar.indexCast arg23
  let c0_673 : Index := 0#32
  let c1024_674 : Index := 1024#32
  ![v1438.toNat, 0, 1024]
def k0_off21 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1459 : Index := Scalar.indexCast arg23
  let c1280_679 : Index := 1280#32
  let c0_680 : Index := 0#32
  ![v1459.toNat, 1280, 0]
def k0_off22 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1477 : Index := Scalar.indexCast arg23
  let c0_685 : Index := 0#32
  let c1280_686 : Index := 1280#32
  ![v1477.toNat, 0, 1280]
def k0_off23 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1498 : Index := Scalar.indexCast arg23
  let c1536_691 : Index := 1536#32
  let c0_692 : Index := 0#32
  ![v1498.toNat, 1536, 0]
def k0_off24 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1516 : Index := Scalar.indexCast arg23
  let c0_697 : Index := 0#32
  let c1536_698 : Index := 1536#32
  ![v1516.toNat, 0, 1536]
def k0_off25 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1537 : Index := Scalar.indexCast arg23
  let c1792_703 : Index := 1792#32
  let c0_704 : Index := 0#32
  ![v1537.toNat, 1792, 0]
def k0_off26 (k0_t1 : Fin k0_t1_loop.trips) : Fin 3 → Nat :=
  let c0_i32_463 : BitVec 32 := 0#32
  let c1_i32_465 : BitVec 32 := 1#32
  let arg23 : BitVec 32 := Scf.iv c0_i32_463 c1_i32_465 k0_t1
  let v1555 : Index := Scalar.indexCast arg23
  let c0_709 : Index := 0#32
  let c1792_710 : Index := 1792#32
  ![v1555.toNat, 0, 1792]
@[reducible] def k0_t2_loop : Scf.Loop 32 :=
  let c0_i32_475 : BitVec 32 := 0#32
  let c16_i32 : BitVec 32 := 16#32
  let v888 : BitVec 32 := Scalar.addi c0_i32_475 c16_i32
  let c1_i32_476 : BitVec 32 := 1#32
  ⟨c0_i32_475, v888, c1_i32_476⟩
def k0_mult2 (k0_t2 : Fin k0_t2_loop.trips) : BitVec 32 :=
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  v891
def k0_off27 (k0_t2 : Fin k0_t2_loop.trips) : Fin 3 → Nat :=
  let c0_482 : Index := 0#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v893 : Index := Scalar.indexCast v892
  let c0_483 : Index := 0#32
  ![0, v893.toNat, 0]
def k0_off28 (k0_t2 : Fin k0_t2_loop.trips) : Fin 3 → Nat :=
  let c1_486 : Index := 1#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v900 : Index := Scalar.indexCast v892
  let c0_487 : Index := 0#32
  ![1, v900.toNat, 0]
def k0_off29 (k0_t2 : Fin k0_t2_loop.trips) : Fin 3 → Nat :=
  let c2_490 : Index := 2#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v907 : Index := Scalar.indexCast v892
  let c0_491 : Index := 0#32
  ![2, v907.toNat, 0]
def k0_off30 (k0_t2 : Fin k0_t2_loop.trips) : Fin 3 → Nat :=
  let c3_494 : Index := 3#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v914 : Index := Scalar.indexCast v892
  let c0_495 : Index := 0#32
  ![3, v914.toNat, 0]
def k0_off31 (k0_t2 : Fin k0_t2_loop.trips) : Fin 3 → Nat :=
  let c4_498 : Index := 4#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v921 : Index := Scalar.indexCast v892
  let c0_499 : Index := 0#32
  ![4, v921.toNat, 0]
def k0_off32 (k0_t2 : Fin k0_t2_loop.trips) : Fin 3 → Nat :=
  let c5_502 : Index := 5#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v928 : Index := Scalar.indexCast v892
  let c0_503 : Index := 0#32
  ![5, v928.toNat, 0]
def k0_off33 (k0_t2 : Fin k0_t2_loop.trips) : Fin 3 → Nat :=
  let c6_506 : Index := 6#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v935 : Index := Scalar.indexCast v892
  let c0_507 : Index := 0#32
  ![6, v935.toNat, 0]
def k0_off34 (k0_t2 : Fin k0_t2_loop.trips) : Fin 3 → Nat :=
  let c7_510 : Index := 7#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v942 : Index := Scalar.indexCast v892
  let c0_511 : Index := 0#32
  ![7, v942.toNat, 0]
def k0_off35 (k0_t2 : Fin k0_t2_loop.trips) : Fin 4 → Nat :=
  let c0_516 : Index := 0#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v952 : Index := Scalar.indexCast v892
  let c0_517 : Index := 0#32
  let c0_518 : Index := 0#32
  ![0, v952.toNat, 0, 0]
def k0_off36 (k0_t2 : Fin k0_t2_loop.trips) : Fin 3 → Nat :=
  let c0_519 : Index := 0#32
  let c0_520 : Index := 0#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v956 : Index := Scalar.indexCast v892
  ![0, 0, v956.toNat]
def k0_off37 (k0_t2 : Fin k0_t2_loop.trips) : Fin 3 → Nat :=
  let c1_523 : Index := 1#32
  let c0_524 : Index := 0#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v964 : Index := Scalar.indexCast v892
  ![1, 0, v964.toNat]
def k0_off38 (k0_t2 : Fin k0_t2_loop.trips) : Fin 3 → Nat :=
  let c2_527 : Index := 2#32
  let c0_528 : Index := 0#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v972 : Index := Scalar.indexCast v892
  ![2, 0, v972.toNat]
def k0_off39 (k0_t2 : Fin k0_t2_loop.trips) : Fin 3 → Nat :=
  let c3_531 : Index := 3#32
  let c0_532 : Index := 0#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v980 : Index := Scalar.indexCast v892
  ![3, 0, v980.toNat]
def k0_off40 (k0_t2 : Fin k0_t2_loop.trips) : Fin 3 → Nat :=
  let c4_535 : Index := 4#32
  let c0_536 : Index := 0#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v988 : Index := Scalar.indexCast v892
  ![4, 0, v988.toNat]
def k0_off41 (k0_t2 : Fin k0_t2_loop.trips) : Fin 3 → Nat :=
  let c5_539 : Index := 5#32
  let c0_540 : Index := 0#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v996 : Index := Scalar.indexCast v892
  ![5, 0, v996.toNat]
def k0_off42 (k0_t2 : Fin k0_t2_loop.trips) : Fin 3 → Nat :=
  let c6_543 : Index := 6#32
  let c0_544 : Index := 0#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v1004 : Index := Scalar.indexCast v892
  ![6, 0, v1004.toNat]
def k0_off43 (k0_t2 : Fin k0_t2_loop.trips) : Fin 3 → Nat :=
  let c7_547 : Index := 7#32
  let c0_548 : Index := 0#32
  let c0_i32_475 : BitVec 32 := 0#32
  let c1_i32_476 : BitVec 32 := 1#32
  let arg23 : BitVec 32 := Scf.iv c0_i32_475 c1_i32_476 k0_t2
  let c128_i32 : BitVec 32 := 128#32
  let v891 : BitVec 32 := Scalar.muli arg23 c128_i32
  let v892 : BitVec 32 := v891
  let v1012 : Index := Scalar.indexCast v892
  ![7, 0, v1012.toNat]
def k0_cond2 (i : grid0.Coords) : BitVec 1 :=
  let arg1 : BitVec 32 := BitVec.ofNat 32 (i 1).val
  let c0_i32_445 : BitVec 32 := 0#32
  let v827 : BitVec 1 := Scalar.cmpi .eq arg1 c0_i32_445
  let v828 : BitVec 32 := Scalar.extui v827
  let c0_i32_446 : BitVec 32 := 0#32
  let v829 : BitVec 1 := Scalar.cmpi .ne v828 c0_i32_446
  v829

@[reducible] def k0_t3_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off44 (k0_t3 : Fin k0_t3_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off45 (k0_t3 : Fin k0_t3_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off46 (k0_t3 : Fin k0_t3_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off47 (k0_t3 : Fin k0_t3_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let v966 : Index := Scalar.indexCast v877
  let c0_504 : Index := 0#32
  let c0_505 : Index := 0#32
  ![v966.toNat, 0, 0]
def k0_off48 (k0_t3 : Fin k0_t3_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let v1028 : Index := Scalar.indexCast v877
  let c0_529 : Index := 0#32
  let c0_530 : Index := 0#32
  ![v1028.toNat, 0, 0]
def k0_off49 (k0_t3 : Fin k0_t3_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let v1039 : Index := Scalar.indexCast v877
  let c0_534 : Index := 0#32
  ![v1039.toNat, 0]
def k0_mult3 (k0_t3 : Fin k0_t3_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let c4_i32_540 : BitVec 32 := 4#32
  let v1052 : BitVec 32 := Scalar.muli v877 c4_i32_540
  let c0_i32_541 : BitVec 32 := 0#32
  let v1053 : BitVec 32 := Scalar.addi v1052 c0_i32_541
  let c128_i32 : BitVec 32 := 128#32
  let v1054 : BitVec 32 := Scalar.muli v1053 c128_i32
  v1054
def k0_off50 (k0_t3 : Fin k0_t3_loop.trips) (c0_i32_541 : BitVec 32) : Fin 3 → Nat :=
  let c0_542 : Index := 0#32
  let c0_543 : Index := 0#32
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let c4_i32_540 : BitVec 32 := 4#32
  let v1052 : BitVec 32 := Scalar.muli v877 c4_i32_540
  let v1053 : BitVec 32 := Scalar.addi v1052 c0_i32_541
  let c128_i32 : BitVec 32 := 128#32
  let v1054 : BitVec 32 := Scalar.muli v1053 c128_i32
  let v1055 : BitVec 32 := v1054
  let v1056 : Index := Scalar.indexCast v1055
  ![0, 0, v1056.toNat]
def k0_mult4 (k0_t3 : Fin k0_t3_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let c4_i32_546 : BitVec 32 := 4#32
  let v1062 : BitVec 32 := Scalar.muli v877 c4_i32_546
  let c1_i32_547 : BitVec 32 := 1#32
  let v1063 : BitVec 32 := Scalar.addi v1062 c1_i32_547
  let c128_i32_548 : BitVec 32 := 128#32
  let v1064 : BitVec 32 := Scalar.muli v1063 c128_i32_548
  v1064
def k0_mult5 (k0_t3 : Fin k0_t3_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let c4_i32_553 : BitVec 32 := 4#32
  let v1072 : BitVec 32 := Scalar.muli v877 c4_i32_553
  let c2_i32_554 : BitVec 32 := 2#32
  let v1073 : BitVec 32 := Scalar.addi v1072 c2_i32_554
  let c128_i32_555 : BitVec 32 := 128#32
  let v1074 : BitVec 32 := Scalar.muli v1073 c128_i32_555
  v1074
def k0_mult6 (k0_t3 : Fin k0_t3_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t3
  let c1_i32_466 : BitVec 32 := 1#32
  let v876 : BitVec 32 := Scalar.muli arg23 c1_i32_466
  let v877 : BitVec 32 := Scalar.addi c0_i32_467 v876
  let c4_i32_560 : BitVec 32 := 4#32
  let v1082 : BitVec 32 := Scalar.muli v877 c4_i32_560
  let c3_i32_561 : BitVec 32 := 3#32
  let v1083 : BitVec 32 := Scalar.addi v1082 c3_i32_561
  let c128_i32_562 : BitVec 32 := 128#32
  let v1084 : BitVec 32 := Scalar.muli v1083 c128_i32_562
  v1084
def k0_cond3 (i : grid0.Coords) : BitVec 1 :=
  let arg1 : BitVec 32 := BitVec.ofNat 32 (i 1).val
  let c1_i32 : BitVec 32 := 1#32
  let v830 : BitVec 1 := Scalar.cmpi .eq arg1 c1_i32
  let v831 : BitVec 32 := Scalar.extui v830
  let c0_i32_447 : BitVec 32 := 0#32
  let v832 : BitVec 1 := Scalar.cmpi .ne v831 c0_i32_447
  v832

@[reducible] def k0_t4_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off51 (k0_t4 : Fin k0_t4_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off52 (k0_t4 : Fin k0_t4_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off53 (k0_t4 : Fin k0_t4_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off54 (k0_t4 : Fin k0_t4_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let v970 : Index := Scalar.indexCast v877
  let c0_504 : Index := 0#32
  let c0_505 : Index := 0#32
  ![v970.toNat, 0, 0]
def k0_off55 (k0_t4 : Fin k0_t4_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let v1082 : Index := Scalar.indexCast v877
  let c0_546 : Index := 0#32
  let c0_547 : Index := 0#32
  ![v1082.toNat, 0, 0]
def k0_off56 (k0_t4 : Fin k0_t4_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let v1093 : Index := Scalar.indexCast v877
  let c0_551 : Index := 0#32
  ![v1093.toNat, 0]
def k0_mult7 (k0_t4 : Fin k0_t4_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let c4_i32_557 : BitVec 32 := 4#32
  let v1106 : BitVec 32 := Scalar.muli v877 c4_i32_557
  let c0_i32_558 : BitVec 32 := 0#32
  let v1107 : BitVec 32 := Scalar.addi v1106 c0_i32_558
  let c128_i32 : BitVec 32 := 128#32
  let v1108 : BitVec 32 := Scalar.muli v1107 c128_i32
  v1108
def k0_off57 (k0_t4 : Fin k0_t4_loop.trips) (c0_i32_558 : BitVec 32) : Fin 3 → Nat :=
  let c0_559 : Index := 0#32
  let c0_560 : Index := 0#32
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let c4_i32_557 : BitVec 32 := 4#32
  let v1106 : BitVec 32 := Scalar.muli v877 c4_i32_557
  let v1107 : BitVec 32 := Scalar.addi v1106 c0_i32_558
  let c128_i32 : BitVec 32 := 128#32
  let v1108 : BitVec 32 := Scalar.muli v1107 c128_i32
  let v1109 : BitVec 32 := v1108
  let v1110 : Index := Scalar.indexCast v1109
  ![0, 0, v1110.toNat]
def k0_mult8 (k0_t4 : Fin k0_t4_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let c4_i32_563 : BitVec 32 := 4#32
  let v1116 : BitVec 32 := Scalar.muli v877 c4_i32_563
  let c1_i32_564 : BitVec 32 := 1#32
  let v1117 : BitVec 32 := Scalar.addi v1116 c1_i32_564
  let c128_i32_565 : BitVec 32 := 128#32
  let v1118 : BitVec 32 := Scalar.muli v1117 c128_i32_565
  v1118
def k0_mult9 (k0_t4 : Fin k0_t4_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let c4_i32_570 : BitVec 32 := 4#32
  let v1126 : BitVec 32 := Scalar.muli v877 c4_i32_570
  let c2_i32_571 : BitVec 32 := 2#32
  let v1127 : BitVec 32 := Scalar.addi v1126 c2_i32_571
  let c128_i32_572 : BitVec 32 := 128#32
  let v1128 : BitVec 32 := Scalar.muli v1127 c128_i32_572
  v1128
def k0_mult10 (k0_t4 : Fin k0_t4_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t4
  let c1_i32_466 : BitVec 32 := 1#32
  let v876 : BitVec 32 := Scalar.muli arg23 c1_i32_466
  let v877 : BitVec 32 := Scalar.addi c0_i32_467 v876
  let c4_i32_577 : BitVec 32 := 4#32
  let v1136 : BitVec 32 := Scalar.muli v877 c4_i32_577
  let c3_i32_578 : BitVec 32 := 3#32
  let v1137 : BitVec 32 := Scalar.addi v1136 c3_i32_578
  let c128_i32_579 : BitVec 32 := 128#32
  let v1138 : BitVec 32 := Scalar.muli v1137 c128_i32_579
  v1138
def k0_cond4 (i : grid0.Coords) : BitVec 1 :=
  let arg1 : BitVec 32 := BitVec.ofNat 32 (i 1).val
  let c2_i32 : BitVec 32 := 2#32
  let v833 : BitVec 1 := Scalar.cmpi .eq arg1 c2_i32
  let v834 : BitVec 32 := Scalar.extui v833
  let c0_i32_448 : BitVec 32 := 0#32
  let v835 : BitVec 1 := Scalar.cmpi .ne v834 c0_i32_448
  v835

@[reducible] def k0_t5_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off58 (k0_t5 : Fin k0_t5_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off59 (k0_t5 : Fin k0_t5_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off60 (k0_t5 : Fin k0_t5_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off61 (k0_t5 : Fin k0_t5_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let v974 : Index := Scalar.indexCast v877
  let c0_504 : Index := 0#32
  let c0_505 : Index := 0#32
  ![v974.toNat, 0, 0]
def k0_off62 (k0_t5 : Fin k0_t5_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let v1022 : Index := Scalar.indexCast v877
  let c256_521 : Index := 256#32
  let c0_522 : Index := 0#32
  ![v1022.toNat, 256, 0]
def k0_off63 (k0_t5 : Fin k0_t5_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let v1116 : Index := Scalar.indexCast v877
  let c0_556 : Index := 0#32
  let c0_557 : Index := 0#32
  ![v1116.toNat, 0, 0]
def k0_off64 (k0_t5 : Fin k0_t5_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let v1145 : Index := Scalar.indexCast v877
  let c0_569 : Index := 0#32
  let c256_570 : Index := 256#32
  ![v1145.toNat, 0, 256]
def k0_off65 (k0_t5 : Fin k0_t5_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let v1157 : Index := Scalar.indexCast v877
  let c0_574 : Index := 0#32
  ![v1157.toNat, 0]
def k0_mult11 (k0_t5 : Fin k0_t5_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let c4_i32_580 : BitVec 32 := 4#32
  let v1170 : BitVec 32 := Scalar.muli v877 c4_i32_580
  let c0_i32_581 : BitVec 32 := 0#32
  let v1171 : BitVec 32 := Scalar.addi v1170 c0_i32_581
  let c128_i32 : BitVec 32 := 128#32
  let v1172 : BitVec 32 := Scalar.muli v1171 c128_i32
  v1172
def k0_off66 (k0_t5 : Fin k0_t5_loop.trips) (c0_i32_581 : BitVec 32) : Fin 3 → Nat :=
  let c0_582 : Index := 0#32
  let c0_583 : Index := 0#32
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let c4_i32_580 : BitVec 32 := 4#32
  let v1170 : BitVec 32 := Scalar.muli v877 c4_i32_580
  let v1171 : BitVec 32 := Scalar.addi v1170 c0_i32_581
  let c128_i32 : BitVec 32 := 128#32
  let v1172 : BitVec 32 := Scalar.muli v1171 c128_i32
  let v1173 : BitVec 32 := v1172
  let v1174 : Index := Scalar.indexCast v1173
  ![0, 0, v1174.toNat]
def k0_mult12 (k0_t5 : Fin k0_t5_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let c4_i32_586 : BitVec 32 := 4#32
  let v1180 : BitVec 32 := Scalar.muli v877 c4_i32_586
  let c1_i32_587 : BitVec 32 := 1#32
  let v1181 : BitVec 32 := Scalar.addi v1180 c1_i32_587
  let c128_i32_588 : BitVec 32 := 128#32
  let v1182 : BitVec 32 := Scalar.muli v1181 c128_i32_588
  v1182
def k0_mult13 (k0_t5 : Fin k0_t5_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let c4_i32_593 : BitVec 32 := 4#32
  let v1190 : BitVec 32 := Scalar.muli v877 c4_i32_593
  let c2_i32_594 : BitVec 32 := 2#32
  let v1191 : BitVec 32 := Scalar.addi v1190 c2_i32_594
  let c128_i32_595 : BitVec 32 := 128#32
  let v1192 : BitVec 32 := Scalar.muli v1191 c128_i32_595
  v1192
def k0_mult14 (k0_t5 : Fin k0_t5_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t5
  let c1_i32_466 : BitVec 32 := 1#32
  let v876 : BitVec 32 := Scalar.muli arg23 c1_i32_466
  let v877 : BitVec 32 := Scalar.addi c0_i32_467 v876
  let c4_i32_600 : BitVec 32 := 4#32
  let v1200 : BitVec 32 := Scalar.muli v877 c4_i32_600
  let c3_i32_601 : BitVec 32 := 3#32
  let v1201 : BitVec 32 := Scalar.addi v1200 c3_i32_601
  let c128_i32_602 : BitVec 32 := 128#32
  let v1202 : BitVec 32 := Scalar.muli v1201 c128_i32_602
  v1202
def k0_cond5 (i : grid0.Coords) : BitVec 1 :=
  let arg1 : BitVec 32 := BitVec.ofNat 32 (i 1).val
  let c3_i32 : BitVec 32 := 3#32
  let v836 : BitVec 1 := Scalar.cmpi .eq arg1 c3_i32
  let v837 : BitVec 32 := Scalar.extui v836
  let c0_i32_449 : BitVec 32 := 0#32
  let v838 : BitVec 1 := Scalar.cmpi .ne v837 c0_i32_449
  v838

@[reducible] def k0_t6_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off67 (k0_t6 : Fin k0_t6_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off68 (k0_t6 : Fin k0_t6_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off69 (k0_t6 : Fin k0_t6_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off70 (k0_t6 : Fin k0_t6_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let v978 : Index := Scalar.indexCast v877
  let c0_504 : Index := 0#32
  let c0_505 : Index := 0#32
  ![v978.toNat, 0, 0]
def k0_off71 (k0_t6 : Fin k0_t6_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let v1026 : Index := Scalar.indexCast v877
  let c256_521 : Index := 256#32
  let c0_522 : Index := 0#32
  ![v1026.toNat, 256, 0]
def k0_off72 (k0_t6 : Fin k0_t6_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let v1142 : Index := Scalar.indexCast v877
  let c0_563 : Index := 0#32
  let c0_564 : Index := 0#32
  ![v1142.toNat, 0, 0]
def k0_off73 (k0_t6 : Fin k0_t6_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let v1199 : Index := Scalar.indexCast v877
  let c0_586 : Index := 0#32
  let c256_587 : Index := 256#32
  ![v1199.toNat, 0, 256]
def k0_off74 (k0_t6 : Fin k0_t6_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let v1211 : Index := Scalar.indexCast v877
  let c0_591 : Index := 0#32
  ![v1211.toNat, 0]
def k0_mult15 (k0_t6 : Fin k0_t6_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let c4_i32_597 : BitVec 32 := 4#32
  let v1224 : BitVec 32 := Scalar.muli v877 c4_i32_597
  let c0_i32_598 : BitVec 32 := 0#32
  let v1225 : BitVec 32 := Scalar.addi v1224 c0_i32_598
  let c128_i32 : BitVec 32 := 128#32
  let v1226 : BitVec 32 := Scalar.muli v1225 c128_i32
  v1226
def k0_off75 (k0_t6 : Fin k0_t6_loop.trips) (c0_i32_598 : BitVec 32) : Fin 3 → Nat :=
  let c0_599 : Index := 0#32
  let c0_600 : Index := 0#32
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let c4_i32_597 : BitVec 32 := 4#32
  let v1224 : BitVec 32 := Scalar.muli v877 c4_i32_597
  let v1225 : BitVec 32 := Scalar.addi v1224 c0_i32_598
  let c128_i32 : BitVec 32 := 128#32
  let v1226 : BitVec 32 := Scalar.muli v1225 c128_i32
  let v1227 : BitVec 32 := v1226
  let v1228 : Index := Scalar.indexCast v1227
  ![0, 0, v1228.toNat]
def k0_mult16 (k0_t6 : Fin k0_t6_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let c4_i32_603 : BitVec 32 := 4#32
  let v1234 : BitVec 32 := Scalar.muli v877 c4_i32_603
  let c1_i32_604 : BitVec 32 := 1#32
  let v1235 : BitVec 32 := Scalar.addi v1234 c1_i32_604
  let c128_i32_605 : BitVec 32 := 128#32
  let v1236 : BitVec 32 := Scalar.muli v1235 c128_i32_605
  v1236
def k0_mult17 (k0_t6 : Fin k0_t6_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let c4_i32_610 : BitVec 32 := 4#32
  let v1244 : BitVec 32 := Scalar.muli v877 c4_i32_610
  let c2_i32_611 : BitVec 32 := 2#32
  let v1245 : BitVec 32 := Scalar.addi v1244 c2_i32_611
  let c128_i32_612 : BitVec 32 := 128#32
  let v1246 : BitVec 32 := Scalar.muli v1245 c128_i32_612
  v1246
def k0_mult18 (k0_t6 : Fin k0_t6_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t6
  let c1_i32_466 : BitVec 32 := 1#32
  let v876 : BitVec 32 := Scalar.muli arg23 c1_i32_466
  let v877 : BitVec 32 := Scalar.addi c0_i32_467 v876
  let c4_i32_617 : BitVec 32 := 4#32
  let v1254 : BitVec 32 := Scalar.muli v877 c4_i32_617
  let c3_i32_618 : BitVec 32 := 3#32
  let v1255 : BitVec 32 := Scalar.addi v1254 c3_i32_618
  let c128_i32_619 : BitVec 32 := 128#32
  let v1256 : BitVec 32 := Scalar.muli v1255 c128_i32_619
  v1256
def k0_cond6 (i : grid0.Coords) : BitVec 1 :=
  let arg1 : BitVec 32 := BitVec.ofNat 32 (i 1).val
  let c4_i32 : BitVec 32 := 4#32
  let v839 : BitVec 1 := Scalar.cmpi .eq arg1 c4_i32
  let v840 : BitVec 32 := Scalar.extui v839
  let c0_i32_450 : BitVec 32 := 0#32
  let v841 : BitVec 1 := Scalar.cmpi .ne v840 c0_i32_450
  v841

@[reducible] def k0_t7_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off76 (k0_t7 : Fin k0_t7_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off77 (k0_t7 : Fin k0_t7_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off78 (k0_t7 : Fin k0_t7_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off79 (k0_t7 : Fin k0_t7_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let v982 : Index := Scalar.indexCast v877
  let c0_504 : Index := 0#32
  let c0_505 : Index := 0#32
  ![v982.toNat, 0, 0]
def k0_off80 (k0_t7 : Fin k0_t7_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let v1030 : Index := Scalar.indexCast v877
  let c256_521 : Index := 256#32
  let c0_522 : Index := 0#32
  ![v1030.toNat, 256, 0]
def k0_off81 (k0_t7 : Fin k0_t7_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let v1078 : Index := Scalar.indexCast v877
  let c512_538 : Index := 512#32
  let c0_539 : Index := 0#32
  ![v1078.toNat, 512, 0]
def k0_off82 (k0_t7 : Fin k0_t7_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let v1172 : Index := Scalar.indexCast v877
  let c0_573 : Index := 0#32
  let c0_574 : Index := 0#32
  ![v1172.toNat, 0, 0]
def k0_off83 (k0_t7 : Fin k0_t7_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let v1233 : Index := Scalar.indexCast v877
  let c0_596 : Index := 0#32
  let c256_597 : Index := 256#32
  ![v1233.toNat, 0, 256]
def k0_off84 (k0_t7 : Fin k0_t7_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let v1263 : Index := Scalar.indexCast v877
  let c0_609 : Index := 0#32
  let c512_610 : Index := 512#32
  ![v1263.toNat, 0, 512]
def k0_off85 (k0_t7 : Fin k0_t7_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let v1275 : Index := Scalar.indexCast v877
  let c0_614 : Index := 0#32
  ![v1275.toNat, 0]
def k0_mult19 (k0_t7 : Fin k0_t7_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let c4_i32_620 : BitVec 32 := 4#32
  let v1288 : BitVec 32 := Scalar.muli v877 c4_i32_620
  let c0_i32_621 : BitVec 32 := 0#32
  let v1289 : BitVec 32 := Scalar.addi v1288 c0_i32_621
  let c128_i32 : BitVec 32 := 128#32
  let v1290 : BitVec 32 := Scalar.muli v1289 c128_i32
  v1290
def k0_off86 (k0_t7 : Fin k0_t7_loop.trips) (c0_i32_621 : BitVec 32) : Fin 3 → Nat :=
  let c0_622 : Index := 0#32
  let c0_623 : Index := 0#32
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let c4_i32_620 : BitVec 32 := 4#32
  let v1288 : BitVec 32 := Scalar.muli v877 c4_i32_620
  let v1289 : BitVec 32 := Scalar.addi v1288 c0_i32_621
  let c128_i32 : BitVec 32 := 128#32
  let v1290 : BitVec 32 := Scalar.muli v1289 c128_i32
  let v1291 : BitVec 32 := v1290
  let v1292 : Index := Scalar.indexCast v1291
  ![0, 0, v1292.toNat]
def k0_mult20 (k0_t7 : Fin k0_t7_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let c4_i32_626 : BitVec 32 := 4#32
  let v1298 : BitVec 32 := Scalar.muli v877 c4_i32_626
  let c1_i32_627 : BitVec 32 := 1#32
  let v1299 : BitVec 32 := Scalar.addi v1298 c1_i32_627
  let c128_i32_628 : BitVec 32 := 128#32
  let v1300 : BitVec 32 := Scalar.muli v1299 c128_i32_628
  v1300
def k0_mult21 (k0_t7 : Fin k0_t7_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let c4_i32_633 : BitVec 32 := 4#32
  let v1308 : BitVec 32 := Scalar.muli v877 c4_i32_633
  let c2_i32_634 : BitVec 32 := 2#32
  let v1309 : BitVec 32 := Scalar.addi v1308 c2_i32_634
  let c128_i32_635 : BitVec 32 := 128#32
  let v1310 : BitVec 32 := Scalar.muli v1309 c128_i32_635
  v1310
def k0_mult22 (k0_t7 : Fin k0_t7_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t7
  let c1_i32_466 : BitVec 32 := 1#32
  let v876 : BitVec 32 := Scalar.muli arg23 c1_i32_466
  let v877 : BitVec 32 := Scalar.addi c0_i32_467 v876
  let c4_i32_640 : BitVec 32 := 4#32
  let v1318 : BitVec 32 := Scalar.muli v877 c4_i32_640
  let c3_i32_641 : BitVec 32 := 3#32
  let v1319 : BitVec 32 := Scalar.addi v1318 c3_i32_641
  let c128_i32_642 : BitVec 32 := 128#32
  let v1320 : BitVec 32 := Scalar.muli v1319 c128_i32_642
  v1320
def k0_cond7 (i : grid0.Coords) : BitVec 1 :=
  let arg1 : BitVec 32 := BitVec.ofNat 32 (i 1).val
  let c5_i32 : BitVec 32 := 5#32
  let v842 : BitVec 1 := Scalar.cmpi .eq arg1 c5_i32
  let v843 : BitVec 32 := Scalar.extui v842
  let c0_i32_451 : BitVec 32 := 0#32
  let v844 : BitVec 1 := Scalar.cmpi .ne v843 c0_i32_451
  v844

@[reducible] def k0_t8_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off87 (k0_t8 : Fin k0_t8_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off88 (k0_t8 : Fin k0_t8_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off89 (k0_t8 : Fin k0_t8_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off90 (k0_t8 : Fin k0_t8_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let v986 : Index := Scalar.indexCast v877
  let c0_504 : Index := 0#32
  let c0_505 : Index := 0#32
  ![v986.toNat, 0, 0]
def k0_off91 (k0_t8 : Fin k0_t8_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let v1034 : Index := Scalar.indexCast v877
  let c256_521 : Index := 256#32
  let c0_522 : Index := 0#32
  ![v1034.toNat, 256, 0]
def k0_off92 (k0_t8 : Fin k0_t8_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let v1082 : Index := Scalar.indexCast v877
  let c512_538 : Index := 512#32
  let c0_539 : Index := 0#32
  ![v1082.toNat, 512, 0]
def k0_off93 (k0_t8 : Fin k0_t8_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let v1198 : Index := Scalar.indexCast v877
  let c0_580 : Index := 0#32
  let c0_581 : Index := 0#32
  ![v1198.toNat, 0, 0]
def k0_off94 (k0_t8 : Fin k0_t8_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let v1259 : Index := Scalar.indexCast v877
  let c0_603 : Index := 0#32
  let c256_604 : Index := 256#32
  ![v1259.toNat, 0, 256]
def k0_off95 (k0_t8 : Fin k0_t8_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let v1317 : Index := Scalar.indexCast v877
  let c0_626 : Index := 0#32
  let c512_627 : Index := 512#32
  ![v1317.toNat, 0, 512]
def k0_off96 (k0_t8 : Fin k0_t8_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let v1329 : Index := Scalar.indexCast v877
  let c0_631 : Index := 0#32
  ![v1329.toNat, 0]
def k0_mult23 (k0_t8 : Fin k0_t8_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let c4_i32_637 : BitVec 32 := 4#32
  let v1342 : BitVec 32 := Scalar.muli v877 c4_i32_637
  let c0_i32_638 : BitVec 32 := 0#32
  let v1343 : BitVec 32 := Scalar.addi v1342 c0_i32_638
  let c128_i32 : BitVec 32 := 128#32
  let v1344 : BitVec 32 := Scalar.muli v1343 c128_i32
  v1344
def k0_off97 (k0_t8 : Fin k0_t8_loop.trips) (c0_i32_638 : BitVec 32) : Fin 3 → Nat :=
  let c0_639 : Index := 0#32
  let c0_640 : Index := 0#32
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let c4_i32_637 : BitVec 32 := 4#32
  let v1342 : BitVec 32 := Scalar.muli v877 c4_i32_637
  let v1343 : BitVec 32 := Scalar.addi v1342 c0_i32_638
  let c128_i32 : BitVec 32 := 128#32
  let v1344 : BitVec 32 := Scalar.muli v1343 c128_i32
  let v1345 : BitVec 32 := v1344
  let v1346 : Index := Scalar.indexCast v1345
  ![0, 0, v1346.toNat]
def k0_mult24 (k0_t8 : Fin k0_t8_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let c4_i32_643 : BitVec 32 := 4#32
  let v1352 : BitVec 32 := Scalar.muli v877 c4_i32_643
  let c1_i32_644 : BitVec 32 := 1#32
  let v1353 : BitVec 32 := Scalar.addi v1352 c1_i32_644
  let c128_i32_645 : BitVec 32 := 128#32
  let v1354 : BitVec 32 := Scalar.muli v1353 c128_i32_645
  v1354
def k0_mult25 (k0_t8 : Fin k0_t8_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let c4_i32_650 : BitVec 32 := 4#32
  let v1362 : BitVec 32 := Scalar.muli v877 c4_i32_650
  let c2_i32_651 : BitVec 32 := 2#32
  let v1363 : BitVec 32 := Scalar.addi v1362 c2_i32_651
  let c128_i32_652 : BitVec 32 := 128#32
  let v1364 : BitVec 32 := Scalar.muli v1363 c128_i32_652
  v1364
def k0_mult26 (k0_t8 : Fin k0_t8_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t8
  let c1_i32_466 : BitVec 32 := 1#32
  let v876 : BitVec 32 := Scalar.muli arg23 c1_i32_466
  let v877 : BitVec 32 := Scalar.addi c0_i32_467 v876
  let c4_i32_657 : BitVec 32 := 4#32
  let v1372 : BitVec 32 := Scalar.muli v877 c4_i32_657
  let c3_i32_658 : BitVec 32 := 3#32
  let v1373 : BitVec 32 := Scalar.addi v1372 c3_i32_658
  let c128_i32_659 : BitVec 32 := 128#32
  let v1374 : BitVec 32 := Scalar.muli v1373 c128_i32_659
  v1374
def k0_cond8 (i : grid0.Coords) : BitVec 1 :=
  let arg1 : BitVec 32 := BitVec.ofNat 32 (i 1).val
  let c6_i32 : BitVec 32 := 6#32
  let v845 : BitVec 1 := Scalar.cmpi .eq arg1 c6_i32
  let v846 : BitVec 32 := Scalar.extui v845
  let c0_i32_452 : BitVec 32 := 0#32
  let v847 : BitVec 1 := Scalar.cmpi .ne v846 c0_i32_452
  v847

@[reducible] def k0_t9_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off98 (k0_t9 : Fin k0_t9_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off99 (k0_t9 : Fin k0_t9_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off100 (k0_t9 : Fin k0_t9_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off101 (k0_t9 : Fin k0_t9_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v990 : Index := Scalar.indexCast v877
  let c0_504 : Index := 0#32
  let c0_505 : Index := 0#32
  ![v990.toNat, 0, 0]
def k0_off102 (k0_t9 : Fin k0_t9_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v1038 : Index := Scalar.indexCast v877
  let c256_521 : Index := 256#32
  let c0_522 : Index := 0#32
  ![v1038.toNat, 256, 0]
def k0_off103 (k0_t9 : Fin k0_t9_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v1086 : Index := Scalar.indexCast v877
  let c512_538 : Index := 512#32
  let c0_539 : Index := 0#32
  ![v1086.toNat, 512, 0]
def k0_off104 (k0_t9 : Fin k0_t9_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v1134 : Index := Scalar.indexCast v877
  let c768_555 : Index := 768#32
  let c0_556 : Index := 0#32
  ![v1134.toNat, 768, 0]
def k0_off105 (k0_t9 : Fin k0_t9_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v1228 : Index := Scalar.indexCast v877
  let c0_590 : Index := 0#32
  let c0_591 : Index := 0#32
  ![v1228.toNat, 0, 0]
def k0_off106 (k0_t9 : Fin k0_t9_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v1289 : Index := Scalar.indexCast v877
  let c0_613 : Index := 0#32
  let c256_614 : Index := 256#32
  ![v1289.toNat, 0, 256]
def k0_off107 (k0_t9 : Fin k0_t9_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v1351 : Index := Scalar.indexCast v877
  let c0_636 : Index := 0#32
  let c512_637 : Index := 512#32
  ![v1351.toNat, 0, 512]
def k0_off108 (k0_t9 : Fin k0_t9_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v1381 : Index := Scalar.indexCast v877
  let c0_649 : Index := 0#32
  let c768_650 : Index := 768#32
  ![v1381.toNat, 0, 768]
def k0_off109 (k0_t9 : Fin k0_t9_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let v1393 : Index := Scalar.indexCast v877
  let c0_654 : Index := 0#32
  ![v1393.toNat, 0]
def k0_mult27 (k0_t9 : Fin k0_t9_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let c4_i32_660 : BitVec 32 := 4#32
  let v1406 : BitVec 32 := Scalar.muli v877 c4_i32_660
  let c0_i32_661 : BitVec 32 := 0#32
  let v1407 : BitVec 32 := Scalar.addi v1406 c0_i32_661
  let c128_i32 : BitVec 32 := 128#32
  let v1408 : BitVec 32 := Scalar.muli v1407 c128_i32
  v1408
def k0_off110 (k0_t9 : Fin k0_t9_loop.trips) (c0_i32_661 : BitVec 32) : Fin 3 → Nat :=
  let c0_662 : Index := 0#32
  let c0_663 : Index := 0#32
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let c4_i32_660 : BitVec 32 := 4#32
  let v1406 : BitVec 32 := Scalar.muli v877 c4_i32_660
  let v1407 : BitVec 32 := Scalar.addi v1406 c0_i32_661
  let c128_i32 : BitVec 32 := 128#32
  let v1408 : BitVec 32 := Scalar.muli v1407 c128_i32
  let v1409 : BitVec 32 := v1408
  let v1410 : Index := Scalar.indexCast v1409
  ![0, 0, v1410.toNat]
def k0_mult28 (k0_t9 : Fin k0_t9_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let c4_i32_666 : BitVec 32 := 4#32
  let v1416 : BitVec 32 := Scalar.muli v877 c4_i32_666
  let c1_i32_667 : BitVec 32 := 1#32
  let v1417 : BitVec 32 := Scalar.addi v1416 c1_i32_667
  let c128_i32_668 : BitVec 32 := 128#32
  let v1418 : BitVec 32 := Scalar.muli v1417 c128_i32_668
  v1418
def k0_mult29 (k0_t9 : Fin k0_t9_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let c4_i32_673 : BitVec 32 := 4#32
  let v1426 : BitVec 32 := Scalar.muli v877 c4_i32_673
  let c2_i32_674 : BitVec 32 := 2#32
  let v1427 : BitVec 32 := Scalar.addi v1426 c2_i32_674
  let c128_i32_675 : BitVec 32 := 128#32
  let v1428 : BitVec 32 := Scalar.muli v1427 c128_i32_675
  v1428
def k0_mult30 (k0_t9 : Fin k0_t9_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t9
  let c1_i32_466 : BitVec 32 := 1#32
  let v876 : BitVec 32 := Scalar.muli arg23 c1_i32_466
  let v877 : BitVec 32 := Scalar.addi c0_i32_467 v876
  let c4_i32_680 : BitVec 32 := 4#32
  let v1436 : BitVec 32 := Scalar.muli v877 c4_i32_680
  let c3_i32_681 : BitVec 32 := 3#32
  let v1437 : BitVec 32 := Scalar.addi v1436 c3_i32_681
  let c128_i32_682 : BitVec 32 := 128#32
  let v1438 : BitVec 32 := Scalar.muli v1437 c128_i32_682
  v1438
def k0_cond9 (i : grid0.Coords) : BitVec 1 :=
  let arg1 : BitVec 32 := BitVec.ofNat 32 (i 1).val
  let c7_i32 : BitVec 32 := 7#32
  let v848 : BitVec 1 := Scalar.cmpi .eq arg1 c7_i32
  let v849 : BitVec 32 := Scalar.extui v848
  let c0_i32_453 : BitVec 32 := 0#32
  let v850 : BitVec 1 := Scalar.cmpi .ne v849 c0_i32_453
  v850

@[reducible] def k0_t10_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off111 (k0_t10 : Fin k0_t10_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off112 (k0_t10 : Fin k0_t10_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off113 (k0_t10 : Fin k0_t10_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off114 (k0_t10 : Fin k0_t10_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v994 : Index := Scalar.indexCast v877
  let c0_504 : Index := 0#32
  let c0_505 : Index := 0#32
  ![v994.toNat, 0, 0]
def k0_off115 (k0_t10 : Fin k0_t10_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v1042 : Index := Scalar.indexCast v877
  let c256_521 : Index := 256#32
  let c0_522 : Index := 0#32
  ![v1042.toNat, 256, 0]
def k0_off116 (k0_t10 : Fin k0_t10_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v1090 : Index := Scalar.indexCast v877
  let c512_538 : Index := 512#32
  let c0_539 : Index := 0#32
  ![v1090.toNat, 512, 0]
def k0_off117 (k0_t10 : Fin k0_t10_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v1138 : Index := Scalar.indexCast v877
  let c768_555 : Index := 768#32
  let c0_556 : Index := 0#32
  ![v1138.toNat, 768, 0]
def k0_off118 (k0_t10 : Fin k0_t10_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v1254 : Index := Scalar.indexCast v877
  let c0_597 : Index := 0#32
  let c0_598 : Index := 0#32
  ![v1254.toNat, 0, 0]
def k0_off119 (k0_t10 : Fin k0_t10_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v1315 : Index := Scalar.indexCast v877
  let c0_620 : Index := 0#32
  let c256_621 : Index := 256#32
  ![v1315.toNat, 0, 256]
def k0_off120 (k0_t10 : Fin k0_t10_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v1377 : Index := Scalar.indexCast v877
  let c0_643 : Index := 0#32
  let c512_644 : Index := 512#32
  ![v1377.toNat, 0, 512]
def k0_off121 (k0_t10 : Fin k0_t10_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v1435 : Index := Scalar.indexCast v877
  let c0_666 : Index := 0#32
  let c768_667 : Index := 768#32
  ![v1435.toNat, 0, 768]
def k0_off122 (k0_t10 : Fin k0_t10_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let v1447 : Index := Scalar.indexCast v877
  let c0_671 : Index := 0#32
  ![v1447.toNat, 0]
def k0_mult31 (k0_t10 : Fin k0_t10_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let c4_i32_677 : BitVec 32 := 4#32
  let v1460 : BitVec 32 := Scalar.muli v877 c4_i32_677
  let c0_i32_678 : BitVec 32 := 0#32
  let v1461 : BitVec 32 := Scalar.addi v1460 c0_i32_678
  let c128_i32 : BitVec 32 := 128#32
  let v1462 : BitVec 32 := Scalar.muli v1461 c128_i32
  v1462
def k0_off123 (k0_t10 : Fin k0_t10_loop.trips) (c0_i32_678 : BitVec 32) : Fin 3 → Nat :=
  let c0_679 : Index := 0#32
  let c0_680 : Index := 0#32
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let c4_i32_677 : BitVec 32 := 4#32
  let v1460 : BitVec 32 := Scalar.muli v877 c4_i32_677
  let v1461 : BitVec 32 := Scalar.addi v1460 c0_i32_678
  let c128_i32 : BitVec 32 := 128#32
  let v1462 : BitVec 32 := Scalar.muli v1461 c128_i32
  let v1463 : BitVec 32 := v1462
  let v1464 : Index := Scalar.indexCast v1463
  ![0, 0, v1464.toNat]
def k0_mult32 (k0_t10 : Fin k0_t10_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let c4_i32_683 : BitVec 32 := 4#32
  let v1470 : BitVec 32 := Scalar.muli v877 c4_i32_683
  let c1_i32_684 : BitVec 32 := 1#32
  let v1471 : BitVec 32 := Scalar.addi v1470 c1_i32_684
  let c128_i32_685 : BitVec 32 := 128#32
  let v1472 : BitVec 32 := Scalar.muli v1471 c128_i32_685
  v1472
def k0_mult33 (k0_t10 : Fin k0_t10_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let c4_i32_690 : BitVec 32 := 4#32
  let v1480 : BitVec 32 := Scalar.muli v877 c4_i32_690
  let c2_i32_691 : BitVec 32 := 2#32
  let v1481 : BitVec 32 := Scalar.addi v1480 c2_i32_691
  let c128_i32_692 : BitVec 32 := 128#32
  let v1482 : BitVec 32 := Scalar.muli v1481 c128_i32_692
  v1482
def k0_mult34 (k0_t10 : Fin k0_t10_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t10
  let c1_i32_466 : BitVec 32 := 1#32
  let v876 : BitVec 32 := Scalar.muli arg23 c1_i32_466
  let v877 : BitVec 32 := Scalar.addi c0_i32_467 v876
  let c4_i32_697 : BitVec 32 := 4#32
  let v1490 : BitVec 32 := Scalar.muli v877 c4_i32_697
  let c3_i32_698 : BitVec 32 := 3#32
  let v1491 : BitVec 32 := Scalar.addi v1490 c3_i32_698
  let c128_i32_699 : BitVec 32 := 128#32
  let v1492 : BitVec 32 := Scalar.muli v1491 c128_i32_699
  v1492
def k0_cond10 (i : grid0.Coords) : BitVec 1 :=
  let arg1 : BitVec 32 := BitVec.ofNat 32 (i 1).val
  let c8_i32 : BitVec 32 := 8#32
  let v851 : BitVec 1 := Scalar.cmpi .eq arg1 c8_i32
  let v852 : BitVec 32 := Scalar.extui v851
  let c0_i32_454 : BitVec 32 := 0#32
  let v853 : BitVec 1 := Scalar.cmpi .ne v852 c0_i32_454
  v853

@[reducible] def k0_t11_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off124 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off125 (k0_t11 : Fin k0_t11_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off126 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off127 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v998 : Index := Scalar.indexCast v877
  let c0_504 : Index := 0#32
  let c0_505 : Index := 0#32
  ![v998.toNat, 0, 0]
def k0_off128 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v1046 : Index := Scalar.indexCast v877
  let c256_521 : Index := 256#32
  let c0_522 : Index := 0#32
  ![v1046.toNat, 256, 0]
def k0_off129 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v1094 : Index := Scalar.indexCast v877
  let c512_538 : Index := 512#32
  let c0_539 : Index := 0#32
  ![v1094.toNat, 512, 0]
def k0_off130 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v1142 : Index := Scalar.indexCast v877
  let c768_555 : Index := 768#32
  let c0_556 : Index := 0#32
  ![v1142.toNat, 768, 0]
def k0_off131 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v1190 : Index := Scalar.indexCast v877
  let c1024_572 : Index := 1024#32
  let c0_573 : Index := 0#32
  ![v1190.toNat, 1024, 0]
def k0_off132 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v1284 : Index := Scalar.indexCast v877
  let c0_607 : Index := 0#32
  let c0_608 : Index := 0#32
  ![v1284.toNat, 0, 0]
def k0_off133 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v1345 : Index := Scalar.indexCast v877
  let c0_630 : Index := 0#32
  let c256_631 : Index := 256#32
  ![v1345.toNat, 0, 256]
def k0_off134 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v1407 : Index := Scalar.indexCast v877
  let c0_653 : Index := 0#32
  let c512_654 : Index := 512#32
  ![v1407.toNat, 0, 512]
def k0_off135 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v1469 : Index := Scalar.indexCast v877
  let c0_676 : Index := 0#32
  let c768_677 : Index := 768#32
  ![v1469.toNat, 0, 768]
def k0_off136 (k0_t11 : Fin k0_t11_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v1499 : Index := Scalar.indexCast v877
  let c0_689 : Index := 0#32
  let c1024_690 : Index := 1024#32
  ![v1499.toNat, 0, 1024]
def k0_off137 (k0_t11 : Fin k0_t11_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let v1511 : Index := Scalar.indexCast v877
  let c0_694 : Index := 0#32
  ![v1511.toNat, 0]
def k0_mult35 (k0_t11 : Fin k0_t11_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let c4_i32_700 : BitVec 32 := 4#32
  let v1524 : BitVec 32 := Scalar.muli v877 c4_i32_700
  let c0_i32_701 : BitVec 32 := 0#32
  let v1525 : BitVec 32 := Scalar.addi v1524 c0_i32_701
  let c128_i32 : BitVec 32 := 128#32
  let v1526 : BitVec 32 := Scalar.muli v1525 c128_i32
  v1526
def k0_off138 (k0_t11 : Fin k0_t11_loop.trips) (c0_i32_701 : BitVec 32) : Fin 3 → Nat :=
  let c0_702 : Index := 0#32
  let c0_703 : Index := 0#32
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let c4_i32_700 : BitVec 32 := 4#32
  let v1524 : BitVec 32 := Scalar.muli v877 c4_i32_700
  let v1525 : BitVec 32 := Scalar.addi v1524 c0_i32_701
  let c128_i32 : BitVec 32 := 128#32
  let v1526 : BitVec 32 := Scalar.muli v1525 c128_i32
  let v1527 : BitVec 32 := v1526
  let v1528 : Index := Scalar.indexCast v1527
  ![0, 0, v1528.toNat]
def k0_mult36 (k0_t11 : Fin k0_t11_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let c4_i32_706 : BitVec 32 := 4#32
  let v1534 : BitVec 32 := Scalar.muli v877 c4_i32_706
  let c1_i32_707 : BitVec 32 := 1#32
  let v1535 : BitVec 32 := Scalar.addi v1534 c1_i32_707
  let c128_i32_708 : BitVec 32 := 128#32
  let v1536 : BitVec 32 := Scalar.muli v1535 c128_i32_708
  v1536
def k0_mult37 (k0_t11 : Fin k0_t11_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let c4_i32_713 : BitVec 32 := 4#32
  let v1544 : BitVec 32 := Scalar.muli v877 c4_i32_713
  let c2_i32_714 : BitVec 32 := 2#32
  let v1545 : BitVec 32 := Scalar.addi v1544 c2_i32_714
  let c128_i32_715 : BitVec 32 := 128#32
  let v1546 : BitVec 32 := Scalar.muli v1545 c128_i32_715
  v1546
def k0_mult38 (k0_t11 : Fin k0_t11_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t11
  let c1_i32_466 : BitVec 32 := 1#32
  let v876 : BitVec 32 := Scalar.muli arg23 c1_i32_466
  let v877 : BitVec 32 := Scalar.addi c0_i32_467 v876
  let c4_i32_720 : BitVec 32 := 4#32
  let v1554 : BitVec 32 := Scalar.muli v877 c4_i32_720
  let c3_i32_721 : BitVec 32 := 3#32
  let v1555 : BitVec 32 := Scalar.addi v1554 c3_i32_721
  let c128_i32_722 : BitVec 32 := 128#32
  let v1556 : BitVec 32 := Scalar.muli v1555 c128_i32_722
  v1556
def k0_cond11 (i : grid0.Coords) : BitVec 1 :=
  let arg1 : BitVec 32 := BitVec.ofNat 32 (i 1).val
  let c9_i32 : BitVec 32 := 9#32
  let v854 : BitVec 1 := Scalar.cmpi .eq arg1 c9_i32
  let v855 : BitVec 32 := Scalar.extui v854
  let c0_i32_455 : BitVec 32 := 0#32
  let v856 : BitVec 1 := Scalar.cmpi .ne v855 c0_i32_455
  v856

@[reducible] def k0_t12_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off139 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off140 (k0_t12 : Fin k0_t12_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off141 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off142 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1002 : Index := Scalar.indexCast v877
  let c0_504 : Index := 0#32
  let c0_505 : Index := 0#32
  ![v1002.toNat, 0, 0]
def k0_off143 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1050 : Index := Scalar.indexCast v877
  let c256_521 : Index := 256#32
  let c0_522 : Index := 0#32
  ![v1050.toNat, 256, 0]
def k0_off144 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1098 : Index := Scalar.indexCast v877
  let c512_538 : Index := 512#32
  let c0_539 : Index := 0#32
  ![v1098.toNat, 512, 0]
def k0_off145 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1146 : Index := Scalar.indexCast v877
  let c768_555 : Index := 768#32
  let c0_556 : Index := 0#32
  ![v1146.toNat, 768, 0]
def k0_off146 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1194 : Index := Scalar.indexCast v877
  let c1024_572 : Index := 1024#32
  let c0_573 : Index := 0#32
  ![v1194.toNat, 1024, 0]
def k0_off147 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1310 : Index := Scalar.indexCast v877
  let c0_614 : Index := 0#32
  let c0_615 : Index := 0#32
  ![v1310.toNat, 0, 0]
def k0_off148 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1371 : Index := Scalar.indexCast v877
  let c0_637 : Index := 0#32
  let c256_638 : Index := 256#32
  ![v1371.toNat, 0, 256]
def k0_off149 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1433 : Index := Scalar.indexCast v877
  let c0_660 : Index := 0#32
  let c512_661 : Index := 512#32
  ![v1433.toNat, 0, 512]
def k0_off150 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1495 : Index := Scalar.indexCast v877
  let c0_683 : Index := 0#32
  let c768_684 : Index := 768#32
  ![v1495.toNat, 0, 768]
def k0_off151 (k0_t12 : Fin k0_t12_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1553 : Index := Scalar.indexCast v877
  let c0_706 : Index := 0#32
  let c1024_707 : Index := 1024#32
  ![v1553.toNat, 0, 1024]
def k0_off152 (k0_t12 : Fin k0_t12_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let v1565 : Index := Scalar.indexCast v877
  let c0_711 : Index := 0#32
  ![v1565.toNat, 0]
def k0_mult39 (k0_t12 : Fin k0_t12_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let c4_i32_717 : BitVec 32 := 4#32
  let v1578 : BitVec 32 := Scalar.muli v877 c4_i32_717
  let c0_i32_718 : BitVec 32 := 0#32
  let v1579 : BitVec 32 := Scalar.addi v1578 c0_i32_718
  let c128_i32 : BitVec 32 := 128#32
  let v1580 : BitVec 32 := Scalar.muli v1579 c128_i32
  v1580
def k0_off153 (k0_t12 : Fin k0_t12_loop.trips) (c0_i32_718 : BitVec 32) : Fin 3 → Nat :=
  let c0_719 : Index := 0#32
  let c0_720 : Index := 0#32
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let c4_i32_717 : BitVec 32 := 4#32
  let v1578 : BitVec 32 := Scalar.muli v877 c4_i32_717
  let v1579 : BitVec 32 := Scalar.addi v1578 c0_i32_718
  let c128_i32 : BitVec 32 := 128#32
  let v1580 : BitVec 32 := Scalar.muli v1579 c128_i32
  let v1581 : BitVec 32 := v1580
  let v1582 : Index := Scalar.indexCast v1581
  ![0, 0, v1582.toNat]
def k0_mult40 (k0_t12 : Fin k0_t12_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let c4_i32_723 : BitVec 32 := 4#32
  let v1588 : BitVec 32 := Scalar.muli v877 c4_i32_723
  let c1_i32_724 : BitVec 32 := 1#32
  let v1589 : BitVec 32 := Scalar.addi v1588 c1_i32_724
  let c128_i32_725 : BitVec 32 := 128#32
  let v1590 : BitVec 32 := Scalar.muli v1589 c128_i32_725
  v1590
def k0_mult41 (k0_t12 : Fin k0_t12_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let c4_i32_730 : BitVec 32 := 4#32
  let v1598 : BitVec 32 := Scalar.muli v877 c4_i32_730
  let c2_i32_731 : BitVec 32 := 2#32
  let v1599 : BitVec 32 := Scalar.addi v1598 c2_i32_731
  let c128_i32_732 : BitVec 32 := 128#32
  let v1600 : BitVec 32 := Scalar.muli v1599 c128_i32_732
  v1600
def k0_mult42 (k0_t12 : Fin k0_t12_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t12
  let c1_i32_466 : BitVec 32 := 1#32
  let v876 : BitVec 32 := Scalar.muli arg23 c1_i32_466
  let v877 : BitVec 32 := Scalar.addi c0_i32_467 v876
  let c4_i32_737 : BitVec 32 := 4#32
  let v1608 : BitVec 32 := Scalar.muli v877 c4_i32_737
  let c3_i32_738 : BitVec 32 := 3#32
  let v1609 : BitVec 32 := Scalar.addi v1608 c3_i32_738
  let c128_i32_739 : BitVec 32 := 128#32
  let v1610 : BitVec 32 := Scalar.muli v1609 c128_i32_739
  v1610
def k0_cond12 (i : grid0.Coords) : BitVec 1 :=
  let arg1 : BitVec 32 := BitVec.ofNat 32 (i 1).val
  let c10_i32 : BitVec 32 := 10#32
  let v857 : BitVec 1 := Scalar.cmpi .eq arg1 c10_i32
  let v858 : BitVec 32 := Scalar.extui v857
  let c0_i32_456 : BitVec 32 := 0#32
  let v859 : BitVec 1 := Scalar.cmpi .ne v858 c0_i32_456
  v859

@[reducible] def k0_t13_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off154 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off155 (k0_t13 : Fin k0_t13_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off156 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off157 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1006 : Index := Scalar.indexCast v877
  let c0_504 : Index := 0#32
  let c0_505 : Index := 0#32
  ![v1006.toNat, 0, 0]
def k0_off158 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1054 : Index := Scalar.indexCast v877
  let c256_521 : Index := 256#32
  let c0_522 : Index := 0#32
  ![v1054.toNat, 256, 0]
def k0_off159 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1102 : Index := Scalar.indexCast v877
  let c512_538 : Index := 512#32
  let c0_539 : Index := 0#32
  ![v1102.toNat, 512, 0]
def k0_off160 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1150 : Index := Scalar.indexCast v877
  let c768_555 : Index := 768#32
  let c0_556 : Index := 0#32
  ![v1150.toNat, 768, 0]
def k0_off161 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1198 : Index := Scalar.indexCast v877
  let c1024_572 : Index := 1024#32
  let c0_573 : Index := 0#32
  ![v1198.toNat, 1024, 0]
def k0_off162 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1246 : Index := Scalar.indexCast v877
  let c1280_589 : Index := 1280#32
  let c0_590 : Index := 0#32
  ![v1246.toNat, 1280, 0]
def k0_off163 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1340 : Index := Scalar.indexCast v877
  let c0_624 : Index := 0#32
  let c0_625 : Index := 0#32
  ![v1340.toNat, 0, 0]
def k0_off164 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1401 : Index := Scalar.indexCast v877
  let c0_647 : Index := 0#32
  let c256_648 : Index := 256#32
  ![v1401.toNat, 0, 256]
def k0_off165 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1463 : Index := Scalar.indexCast v877
  let c0_670 : Index := 0#32
  let c512_671 : Index := 512#32
  ![v1463.toNat, 0, 512]
def k0_off166 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1525 : Index := Scalar.indexCast v877
  let c0_693 : Index := 0#32
  let c768_694 : Index := 768#32
  ![v1525.toNat, 0, 768]
def k0_off167 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1587 : Index := Scalar.indexCast v877
  let c0_716 : Index := 0#32
  let c1024_717 : Index := 1024#32
  ![v1587.toNat, 0, 1024]
def k0_off168 (k0_t13 : Fin k0_t13_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1617 : Index := Scalar.indexCast v877
  let c0_729 : Index := 0#32
  let c1280_730 : Index := 1280#32
  ![v1617.toNat, 0, 1280]
def k0_off169 (k0_t13 : Fin k0_t13_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let v1629 : Index := Scalar.indexCast v877
  let c0_734 : Index := 0#32
  ![v1629.toNat, 0]
def k0_mult43 (k0_t13 : Fin k0_t13_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let c4_i32_740 : BitVec 32 := 4#32
  let v1642 : BitVec 32 := Scalar.muli v877 c4_i32_740
  let c0_i32_741 : BitVec 32 := 0#32
  let v1643 : BitVec 32 := Scalar.addi v1642 c0_i32_741
  let c128_i32 : BitVec 32 := 128#32
  let v1644 : BitVec 32 := Scalar.muli v1643 c128_i32
  v1644
def k0_off170 (k0_t13 : Fin k0_t13_loop.trips) (c0_i32_741 : BitVec 32) : Fin 3 → Nat :=
  let c0_742 : Index := 0#32
  let c0_743 : Index := 0#32
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let c4_i32_740 : BitVec 32 := 4#32
  let v1642 : BitVec 32 := Scalar.muli v877 c4_i32_740
  let v1643 : BitVec 32 := Scalar.addi v1642 c0_i32_741
  let c128_i32 : BitVec 32 := 128#32
  let v1644 : BitVec 32 := Scalar.muli v1643 c128_i32
  let v1645 : BitVec 32 := v1644
  let v1646 : Index := Scalar.indexCast v1645
  ![0, 0, v1646.toNat]
def k0_mult44 (k0_t13 : Fin k0_t13_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let c4_i32_746 : BitVec 32 := 4#32
  let v1652 : BitVec 32 := Scalar.muli v877 c4_i32_746
  let c1_i32_747 : BitVec 32 := 1#32
  let v1653 : BitVec 32 := Scalar.addi v1652 c1_i32_747
  let c128_i32_748 : BitVec 32 := 128#32
  let v1654 : BitVec 32 := Scalar.muli v1653 c128_i32_748
  v1654
def k0_mult45 (k0_t13 : Fin k0_t13_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let c4_i32_753 : BitVec 32 := 4#32
  let v1662 : BitVec 32 := Scalar.muli v877 c4_i32_753
  let c2_i32_754 : BitVec 32 := 2#32
  let v1663 : BitVec 32 := Scalar.addi v1662 c2_i32_754
  let c128_i32_755 : BitVec 32 := 128#32
  let v1664 : BitVec 32 := Scalar.muli v1663 c128_i32_755
  v1664
def k0_mult46 (k0_t13 : Fin k0_t13_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t13
  let c1_i32_466 : BitVec 32 := 1#32
  let v876 : BitVec 32 := Scalar.muli arg23 c1_i32_466
  let v877 : BitVec 32 := Scalar.addi c0_i32_467 v876
  let c4_i32_760 : BitVec 32 := 4#32
  let v1672 : BitVec 32 := Scalar.muli v877 c4_i32_760
  let c3_i32_761 : BitVec 32 := 3#32
  let v1673 : BitVec 32 := Scalar.addi v1672 c3_i32_761
  let c128_i32_762 : BitVec 32 := 128#32
  let v1674 : BitVec 32 := Scalar.muli v1673 c128_i32_762
  v1674
def k0_cond13 (i : grid0.Coords) : BitVec 1 :=
  let arg1 : BitVec 32 := BitVec.ofNat 32 (i 1).val
  let c11_i32 : BitVec 32 := 11#32
  let v860 : BitVec 1 := Scalar.cmpi .eq arg1 c11_i32
  let v861 : BitVec 32 := Scalar.extui v860
  let c0_i32_457 : BitVec 32 := 0#32
  let v862 : BitVec 1 := Scalar.cmpi .ne v861 c0_i32_457
  v862

@[reducible] def k0_t14_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off171 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off172 (k0_t14 : Fin k0_t14_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off173 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off174 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1010 : Index := Scalar.indexCast v877
  let c0_504 : Index := 0#32
  let c0_505 : Index := 0#32
  ![v1010.toNat, 0, 0]
def k0_off175 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1058 : Index := Scalar.indexCast v877
  let c256_521 : Index := 256#32
  let c0_522 : Index := 0#32
  ![v1058.toNat, 256, 0]
def k0_off176 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1106 : Index := Scalar.indexCast v877
  let c512_538 : Index := 512#32
  let c0_539 : Index := 0#32
  ![v1106.toNat, 512, 0]
def k0_off177 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1154 : Index := Scalar.indexCast v877
  let c768_555 : Index := 768#32
  let c0_556 : Index := 0#32
  ![v1154.toNat, 768, 0]
def k0_off178 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1202 : Index := Scalar.indexCast v877
  let c1024_572 : Index := 1024#32
  let c0_573 : Index := 0#32
  ![v1202.toNat, 1024, 0]
def k0_off179 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1250 : Index := Scalar.indexCast v877
  let c1280_589 : Index := 1280#32
  let c0_590 : Index := 0#32
  ![v1250.toNat, 1280, 0]
def k0_off180 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1366 : Index := Scalar.indexCast v877
  let c0_631 : Index := 0#32
  let c0_632 : Index := 0#32
  ![v1366.toNat, 0, 0]
def k0_off181 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1427 : Index := Scalar.indexCast v877
  let c0_654 : Index := 0#32
  let c256_655 : Index := 256#32
  ![v1427.toNat, 0, 256]
def k0_off182 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1489 : Index := Scalar.indexCast v877
  let c0_677 : Index := 0#32
  let c512_678 : Index := 512#32
  ![v1489.toNat, 0, 512]
def k0_off183 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1551 : Index := Scalar.indexCast v877
  let c0_700 : Index := 0#32
  let c768_701 : Index := 768#32
  ![v1551.toNat, 0, 768]
def k0_off184 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1613 : Index := Scalar.indexCast v877
  let c0_723 : Index := 0#32
  let c1024_724 : Index := 1024#32
  ![v1613.toNat, 0, 1024]
def k0_off185 (k0_t14 : Fin k0_t14_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1671 : Index := Scalar.indexCast v877
  let c0_746 : Index := 0#32
  let c1280_747 : Index := 1280#32
  ![v1671.toNat, 0, 1280]
def k0_off186 (k0_t14 : Fin k0_t14_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let v1683 : Index := Scalar.indexCast v877
  let c0_751 : Index := 0#32
  ![v1683.toNat, 0]
def k0_mult47 (k0_t14 : Fin k0_t14_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let c4_i32_757 : BitVec 32 := 4#32
  let v1696 : BitVec 32 := Scalar.muli v877 c4_i32_757
  let c0_i32_758 : BitVec 32 := 0#32
  let v1697 : BitVec 32 := Scalar.addi v1696 c0_i32_758
  let c128_i32 : BitVec 32 := 128#32
  let v1698 : BitVec 32 := Scalar.muli v1697 c128_i32
  v1698
def k0_off187 (k0_t14 : Fin k0_t14_loop.trips) (c0_i32_758 : BitVec 32) : Fin 3 → Nat :=
  let c0_759 : Index := 0#32
  let c0_760 : Index := 0#32
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let c4_i32_757 : BitVec 32 := 4#32
  let v1696 : BitVec 32 := Scalar.muli v877 c4_i32_757
  let v1697 : BitVec 32 := Scalar.addi v1696 c0_i32_758
  let c128_i32 : BitVec 32 := 128#32
  let v1698 : BitVec 32 := Scalar.muli v1697 c128_i32
  let v1699 : BitVec 32 := v1698
  let v1700 : Index := Scalar.indexCast v1699
  ![0, 0, v1700.toNat]
def k0_mult48 (k0_t14 : Fin k0_t14_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let c4_i32_763 : BitVec 32 := 4#32
  let v1706 : BitVec 32 := Scalar.muli v877 c4_i32_763
  let c1_i32_764 : BitVec 32 := 1#32
  let v1707 : BitVec 32 := Scalar.addi v1706 c1_i32_764
  let c128_i32_765 : BitVec 32 := 128#32
  let v1708 : BitVec 32 := Scalar.muli v1707 c128_i32_765
  v1708
def k0_mult49 (k0_t14 : Fin k0_t14_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let c4_i32_770 : BitVec 32 := 4#32
  let v1716 : BitVec 32 := Scalar.muli v877 c4_i32_770
  let c2_i32_771 : BitVec 32 := 2#32
  let v1717 : BitVec 32 := Scalar.addi v1716 c2_i32_771
  let c128_i32_772 : BitVec 32 := 128#32
  let v1718 : BitVec 32 := Scalar.muli v1717 c128_i32_772
  v1718
def k0_mult50 (k0_t14 : Fin k0_t14_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t14
  let c1_i32_466 : BitVec 32 := 1#32
  let v876 : BitVec 32 := Scalar.muli arg23 c1_i32_466
  let v877 : BitVec 32 := Scalar.addi c0_i32_467 v876
  let c4_i32_777 : BitVec 32 := 4#32
  let v1726 : BitVec 32 := Scalar.muli v877 c4_i32_777
  let c3_i32_778 : BitVec 32 := 3#32
  let v1727 : BitVec 32 := Scalar.addi v1726 c3_i32_778
  let c128_i32_779 : BitVec 32 := 128#32
  let v1728 : BitVec 32 := Scalar.muli v1727 c128_i32_779
  v1728
def k0_cond14 (i : grid0.Coords) : BitVec 1 :=
  let arg1 : BitVec 32 := BitVec.ofNat 32 (i 1).val
  let c12_i32 : BitVec 32 := 12#32
  let v863 : BitVec 1 := Scalar.cmpi .eq arg1 c12_i32
  let v864 : BitVec 32 := Scalar.extui v863
  let c0_i32_458 : BitVec 32 := 0#32
  let v865 : BitVec 1 := Scalar.cmpi .ne v864 c0_i32_458
  v865

@[reducible] def k0_t15_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off188 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off189 (k0_t15 : Fin k0_t15_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off190 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off191 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1014 : Index := Scalar.indexCast v877
  let c0_504 : Index := 0#32
  let c0_505 : Index := 0#32
  ![v1014.toNat, 0, 0]
def k0_off192 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1062 : Index := Scalar.indexCast v877
  let c256_521 : Index := 256#32
  let c0_522 : Index := 0#32
  ![v1062.toNat, 256, 0]
def k0_off193 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1110 : Index := Scalar.indexCast v877
  let c512_538 : Index := 512#32
  let c0_539 : Index := 0#32
  ![v1110.toNat, 512, 0]
def k0_off194 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1158 : Index := Scalar.indexCast v877
  let c768_555 : Index := 768#32
  let c0_556 : Index := 0#32
  ![v1158.toNat, 768, 0]
def k0_off195 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1206 : Index := Scalar.indexCast v877
  let c1024_572 : Index := 1024#32
  let c0_573 : Index := 0#32
  ![v1206.toNat, 1024, 0]
def k0_off196 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1254 : Index := Scalar.indexCast v877
  let c1280_589 : Index := 1280#32
  let c0_590 : Index := 0#32
  ![v1254.toNat, 1280, 0]
def k0_off197 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1302 : Index := Scalar.indexCast v877
  let c1536_606 : Index := 1536#32
  let c0_607 : Index := 0#32
  ![v1302.toNat, 1536, 0]
def k0_off198 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1396 : Index := Scalar.indexCast v877
  let c0_641 : Index := 0#32
  let c0_642 : Index := 0#32
  ![v1396.toNat, 0, 0]
def k0_off199 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1457 : Index := Scalar.indexCast v877
  let c0_664 : Index := 0#32
  let c256_665 : Index := 256#32
  ![v1457.toNat, 0, 256]
def k0_off200 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1519 : Index := Scalar.indexCast v877
  let c0_687 : Index := 0#32
  let c512_688 : Index := 512#32
  ![v1519.toNat, 0, 512]
def k0_off201 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1581 : Index := Scalar.indexCast v877
  let c0_710 : Index := 0#32
  let c768_711 : Index := 768#32
  ![v1581.toNat, 0, 768]
def k0_off202 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1643 : Index := Scalar.indexCast v877
  let c0_733 : Index := 0#32
  let c1024_734 : Index := 1024#32
  ![v1643.toNat, 0, 1024]
def k0_off203 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1705 : Index := Scalar.indexCast v877
  let c0_756 : Index := 0#32
  let c1280_757 : Index := 1280#32
  ![v1705.toNat, 0, 1280]
def k0_off204 (k0_t15 : Fin k0_t15_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1735 : Index := Scalar.indexCast v877
  let c0_769 : Index := 0#32
  let c1536_770 : Index := 1536#32
  ![v1735.toNat, 0, 1536]
def k0_off205 (k0_t15 : Fin k0_t15_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let v1747 : Index := Scalar.indexCast v877
  let c0_774 : Index := 0#32
  ![v1747.toNat, 0]
def k0_mult51 (k0_t15 : Fin k0_t15_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let c4_i32_780 : BitVec 32 := 4#32
  let v1760 : BitVec 32 := Scalar.muli v877 c4_i32_780
  let c0_i32_781 : BitVec 32 := 0#32
  let v1761 : BitVec 32 := Scalar.addi v1760 c0_i32_781
  let c128_i32 : BitVec 32 := 128#32
  let v1762 : BitVec 32 := Scalar.muli v1761 c128_i32
  v1762
def k0_off206 (k0_t15 : Fin k0_t15_loop.trips) (c0_i32_781 : BitVec 32) : Fin 3 → Nat :=
  let c0_782 : Index := 0#32
  let c0_783 : Index := 0#32
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let c4_i32_780 : BitVec 32 := 4#32
  let v1760 : BitVec 32 := Scalar.muli v877 c4_i32_780
  let v1761 : BitVec 32 := Scalar.addi v1760 c0_i32_781
  let c128_i32 : BitVec 32 := 128#32
  let v1762 : BitVec 32 := Scalar.muli v1761 c128_i32
  let v1763 : BitVec 32 := v1762
  let v1764 : Index := Scalar.indexCast v1763
  ![0, 0, v1764.toNat]
def k0_mult52 (k0_t15 : Fin k0_t15_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let c4_i32_786 : BitVec 32 := 4#32
  let v1770 : BitVec 32 := Scalar.muli v877 c4_i32_786
  let c1_i32_787 : BitVec 32 := 1#32
  let v1771 : BitVec 32 := Scalar.addi v1770 c1_i32_787
  let c128_i32_788 : BitVec 32 := 128#32
  let v1772 : BitVec 32 := Scalar.muli v1771 c128_i32_788
  v1772
def k0_mult53 (k0_t15 : Fin k0_t15_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let c4_i32_793 : BitVec 32 := 4#32
  let v1780 : BitVec 32 := Scalar.muli v877 c4_i32_793
  let c2_i32_794 : BitVec 32 := 2#32
  let v1781 : BitVec 32 := Scalar.addi v1780 c2_i32_794
  let c128_i32_795 : BitVec 32 := 128#32
  let v1782 : BitVec 32 := Scalar.muli v1781 c128_i32_795
  v1782
def k0_mult54 (k0_t15 : Fin k0_t15_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t15
  let c1_i32_466 : BitVec 32 := 1#32
  let v876 : BitVec 32 := Scalar.muli arg23 c1_i32_466
  let v877 : BitVec 32 := Scalar.addi c0_i32_467 v876
  let c4_i32_800 : BitVec 32 := 4#32
  let v1790 : BitVec 32 := Scalar.muli v877 c4_i32_800
  let c3_i32_801 : BitVec 32 := 3#32
  let v1791 : BitVec 32 := Scalar.addi v1790 c3_i32_801
  let c128_i32_802 : BitVec 32 := 128#32
  let v1792 : BitVec 32 := Scalar.muli v1791 c128_i32_802
  v1792
def k0_cond15 (i : grid0.Coords) : BitVec 1 :=
  let arg1 : BitVec 32 := BitVec.ofNat 32 (i 1).val
  let c13_i32 : BitVec 32 := 13#32
  let v866 : BitVec 1 := Scalar.cmpi .eq arg1 c13_i32
  let v867 : BitVec 32 := Scalar.extui v866
  let c0_i32_459 : BitVec 32 := 0#32
  let v868 : BitVec 1 := Scalar.cmpi .ne v867 c0_i32_459
  v868

@[reducible] def k0_t16_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off207 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off208 (k0_t16 : Fin k0_t16_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off209 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off210 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1018 : Index := Scalar.indexCast v877
  let c0_504 : Index := 0#32
  let c0_505 : Index := 0#32
  ![v1018.toNat, 0, 0]
def k0_off211 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1066 : Index := Scalar.indexCast v877
  let c256_521 : Index := 256#32
  let c0_522 : Index := 0#32
  ![v1066.toNat, 256, 0]
def k0_off212 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1114 : Index := Scalar.indexCast v877
  let c512_538 : Index := 512#32
  let c0_539 : Index := 0#32
  ![v1114.toNat, 512, 0]
def k0_off213 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1162 : Index := Scalar.indexCast v877
  let c768_555 : Index := 768#32
  let c0_556 : Index := 0#32
  ![v1162.toNat, 768, 0]
def k0_off214 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1210 : Index := Scalar.indexCast v877
  let c1024_572 : Index := 1024#32
  let c0_573 : Index := 0#32
  ![v1210.toNat, 1024, 0]
def k0_off215 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1258 : Index := Scalar.indexCast v877
  let c1280_589 : Index := 1280#32
  let c0_590 : Index := 0#32
  ![v1258.toNat, 1280, 0]
def k0_off216 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1306 : Index := Scalar.indexCast v877
  let c1536_606 : Index := 1536#32
  let c0_607 : Index := 0#32
  ![v1306.toNat, 1536, 0]
def k0_off217 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1422 : Index := Scalar.indexCast v877
  let c0_648 : Index := 0#32
  let c0_649 : Index := 0#32
  ![v1422.toNat, 0, 0]
def k0_off218 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1483 : Index := Scalar.indexCast v877
  let c0_671 : Index := 0#32
  let c256_672 : Index := 256#32
  ![v1483.toNat, 0, 256]
def k0_off219 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1545 : Index := Scalar.indexCast v877
  let c0_694 : Index := 0#32
  let c512_695 : Index := 512#32
  ![v1545.toNat, 0, 512]
def k0_off220 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1607 : Index := Scalar.indexCast v877
  let c0_717 : Index := 0#32
  let c768_718 : Index := 768#32
  ![v1607.toNat, 0, 768]
def k0_off221 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1669 : Index := Scalar.indexCast v877
  let c0_740 : Index := 0#32
  let c1024_741 : Index := 1024#32
  ![v1669.toNat, 0, 1024]
def k0_off222 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1731 : Index := Scalar.indexCast v877
  let c0_763 : Index := 0#32
  let c1280_764 : Index := 1280#32
  ![v1731.toNat, 0, 1280]
def k0_off223 (k0_t16 : Fin k0_t16_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1789 : Index := Scalar.indexCast v877
  let c0_786 : Index := 0#32
  let c1536_787 : Index := 1536#32
  ![v1789.toNat, 0, 1536]
def k0_off224 (k0_t16 : Fin k0_t16_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let v1801 : Index := Scalar.indexCast v877
  let c0_791 : Index := 0#32
  ![v1801.toNat, 0]
def k0_mult55 (k0_t16 : Fin k0_t16_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let c4_i32_797 : BitVec 32 := 4#32
  let v1814 : BitVec 32 := Scalar.muli v877 c4_i32_797
  let c0_i32_798 : BitVec 32 := 0#32
  let v1815 : BitVec 32 := Scalar.addi v1814 c0_i32_798
  let c128_i32 : BitVec 32 := 128#32
  let v1816 : BitVec 32 := Scalar.muli v1815 c128_i32
  v1816
def k0_off225 (k0_t16 : Fin k0_t16_loop.trips) (c0_i32_798 : BitVec 32) : Fin 3 → Nat :=
  let c0_799 : Index := 0#32
  let c0_800 : Index := 0#32
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let c4_i32_797 : BitVec 32 := 4#32
  let v1814 : BitVec 32 := Scalar.muli v877 c4_i32_797
  let v1815 : BitVec 32 := Scalar.addi v1814 c0_i32_798
  let c128_i32 : BitVec 32 := 128#32
  let v1816 : BitVec 32 := Scalar.muli v1815 c128_i32
  let v1817 : BitVec 32 := v1816
  let v1818 : Index := Scalar.indexCast v1817
  ![0, 0, v1818.toNat]
def k0_mult56 (k0_t16 : Fin k0_t16_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let c4_i32_803 : BitVec 32 := 4#32
  let v1824 : BitVec 32 := Scalar.muli v877 c4_i32_803
  let c1_i32_804 : BitVec 32 := 1#32
  let v1825 : BitVec 32 := Scalar.addi v1824 c1_i32_804
  let c128_i32_805 : BitVec 32 := 128#32
  let v1826 : BitVec 32 := Scalar.muli v1825 c128_i32_805
  v1826
def k0_mult57 (k0_t16 : Fin k0_t16_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let c4_i32_810 : BitVec 32 := 4#32
  let v1834 : BitVec 32 := Scalar.muli v877 c4_i32_810
  let c2_i32_811 : BitVec 32 := 2#32
  let v1835 : BitVec 32 := Scalar.addi v1834 c2_i32_811
  let c128_i32_812 : BitVec 32 := 128#32
  let v1836 : BitVec 32 := Scalar.muli v1835 c128_i32_812
  v1836
def k0_mult58 (k0_t16 : Fin k0_t16_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t16
  let c1_i32_466 : BitVec 32 := 1#32
  let v876 : BitVec 32 := Scalar.muli arg23 c1_i32_466
  let v877 : BitVec 32 := Scalar.addi c0_i32_467 v876
  let c4_i32_817 : BitVec 32 := 4#32
  let v1844 : BitVec 32 := Scalar.muli v877 c4_i32_817
  let c3_i32_818 : BitVec 32 := 3#32
  let v1845 : BitVec 32 := Scalar.addi v1844 c3_i32_818
  let c128_i32_819 : BitVec 32 := 128#32
  let v1846 : BitVec 32 := Scalar.muli v1845 c128_i32_819
  v1846
def k0_cond16 (i : grid0.Coords) : BitVec 1 :=
  let arg1 : BitVec 32 := BitVec.ofNat 32 (i 1).val
  let c14_i32 : BitVec 32 := 14#32
  let v869 : BitVec 1 := Scalar.cmpi .eq arg1 c14_i32
  let v870 : BitVec 32 := Scalar.extui v869
  let c0_i32_460 : BitVec 32 := 0#32
  let v871 : BitVec 1 := Scalar.cmpi .ne v870 c0_i32_460
  v871

@[reducible] def k0_t17_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off226 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off227 (k0_t17 : Fin k0_t17_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off228 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off229 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1022 : Index := Scalar.indexCast v877
  let c0_504 : Index := 0#32
  let c0_505 : Index := 0#32
  ![v1022.toNat, 0, 0]
def k0_off230 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1070 : Index := Scalar.indexCast v877
  let c256_521 : Index := 256#32
  let c0_522 : Index := 0#32
  ![v1070.toNat, 256, 0]
def k0_off231 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1118 : Index := Scalar.indexCast v877
  let c512_538 : Index := 512#32
  let c0_539 : Index := 0#32
  ![v1118.toNat, 512, 0]
def k0_off232 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1166 : Index := Scalar.indexCast v877
  let c768_555 : Index := 768#32
  let c0_556 : Index := 0#32
  ![v1166.toNat, 768, 0]
def k0_off233 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1214 : Index := Scalar.indexCast v877
  let c1024_572 : Index := 1024#32
  let c0_573 : Index := 0#32
  ![v1214.toNat, 1024, 0]
def k0_off234 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1262 : Index := Scalar.indexCast v877
  let c1280_589 : Index := 1280#32
  let c0_590 : Index := 0#32
  ![v1262.toNat, 1280, 0]
def k0_off235 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1310 : Index := Scalar.indexCast v877
  let c1536_606 : Index := 1536#32
  let c0_607 : Index := 0#32
  ![v1310.toNat, 1536, 0]
def k0_off236 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1358 : Index := Scalar.indexCast v877
  let c1792_623 : Index := 1792#32
  let c0_624 : Index := 0#32
  ![v1358.toNat, 1792, 0]
def k0_off237 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1452 : Index := Scalar.indexCast v877
  let c0_658 : Index := 0#32
  let c0_659 : Index := 0#32
  ![v1452.toNat, 0, 0]
def k0_off238 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1513 : Index := Scalar.indexCast v877
  let c0_681 : Index := 0#32
  let c256_682 : Index := 256#32
  ![v1513.toNat, 0, 256]
def k0_off239 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1575 : Index := Scalar.indexCast v877
  let c0_704 : Index := 0#32
  let c512_705 : Index := 512#32
  ![v1575.toNat, 0, 512]
def k0_off240 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1637 : Index := Scalar.indexCast v877
  let c0_727 : Index := 0#32
  let c768_728 : Index := 768#32
  ![v1637.toNat, 0, 768]
def k0_off241 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1699 : Index := Scalar.indexCast v877
  let c0_750 : Index := 0#32
  let c1024_751 : Index := 1024#32
  ![v1699.toNat, 0, 1024]
def k0_off242 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1761 : Index := Scalar.indexCast v877
  let c0_773 : Index := 0#32
  let c1280_774 : Index := 1280#32
  ![v1761.toNat, 0, 1280]
def k0_off243 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1823 : Index := Scalar.indexCast v877
  let c0_796 : Index := 0#32
  let c1536_797 : Index := 1536#32
  ![v1823.toNat, 0, 1536]
def k0_off244 (k0_t17 : Fin k0_t17_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1853 : Index := Scalar.indexCast v877
  let c0_809 : Index := 0#32
  let c1792_810 : Index := 1792#32
  ![v1853.toNat, 0, 1792]
def k0_off245 (k0_t17 : Fin k0_t17_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let v1865 : Index := Scalar.indexCast v877
  let c0_814 : Index := 0#32
  ![v1865.toNat, 0]
def k0_mult59 (k0_t17 : Fin k0_t17_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let c4_i32_820 : BitVec 32 := 4#32
  let v1878 : BitVec 32 := Scalar.muli v877 c4_i32_820
  let c0_i32_821 : BitVec 32 := 0#32
  let v1879 : BitVec 32 := Scalar.addi v1878 c0_i32_821
  let c128_i32 : BitVec 32 := 128#32
  let v1880 : BitVec 32 := Scalar.muli v1879 c128_i32
  v1880
def k0_off246 (k0_t17 : Fin k0_t17_loop.trips) (c0_i32_821 : BitVec 32) : Fin 3 → Nat :=
  let c0_822 : Index := 0#32
  let c0_823 : Index := 0#32
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let c4_i32_820 : BitVec 32 := 4#32
  let v1878 : BitVec 32 := Scalar.muli v877 c4_i32_820
  let v1879 : BitVec 32 := Scalar.addi v1878 c0_i32_821
  let c128_i32 : BitVec 32 := 128#32
  let v1880 : BitVec 32 := Scalar.muli v1879 c128_i32
  let v1881 : BitVec 32 := v1880
  let v1882 : Index := Scalar.indexCast v1881
  ![0, 0, v1882.toNat]
def k0_mult60 (k0_t17 : Fin k0_t17_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let c4_i32_826 : BitVec 32 := 4#32
  let v1888 : BitVec 32 := Scalar.muli v877 c4_i32_826
  let c1_i32_827 : BitVec 32 := 1#32
  let v1889 : BitVec 32 := Scalar.addi v1888 c1_i32_827
  let c128_i32_828 : BitVec 32 := 128#32
  let v1890 : BitVec 32 := Scalar.muli v1889 c128_i32_828
  v1890
def k0_mult61 (k0_t17 : Fin k0_t17_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let c4_i32_833 : BitVec 32 := 4#32
  let v1898 : BitVec 32 := Scalar.muli v877 c4_i32_833
  let c2_i32_834 : BitVec 32 := 2#32
  let v1899 : BitVec 32 := Scalar.addi v1898 c2_i32_834
  let c128_i32_835 : BitVec 32 := 128#32
  let v1900 : BitVec 32 := Scalar.muli v1899 c128_i32_835
  v1900
def k0_mult62 (k0_t17 : Fin k0_t17_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t17
  let c1_i32_466 : BitVec 32 := 1#32
  let v876 : BitVec 32 := Scalar.muli arg23 c1_i32_466
  let v877 : BitVec 32 := Scalar.addi c0_i32_467 v876
  let c4_i32_840 : BitVec 32 := 4#32
  let v1908 : BitVec 32 := Scalar.muli v877 c4_i32_840
  let c3_i32_841 : BitVec 32 := 3#32
  let v1909 : BitVec 32 := Scalar.addi v1908 c3_i32_841
  let c128_i32_842 : BitVec 32 := 128#32
  let v1910 : BitVec 32 := Scalar.muli v1909 c128_i32_842
  v1910
def k0_cond17 (i : grid0.Coords) : BitVec 1 :=
  let arg1 : BitVec 32 := BitVec.ofNat 32 (i 1).val
  let c15_i32 : BitVec 32 := 15#32
  let v872 : BitVec 1 := Scalar.cmpi .eq arg1 c15_i32
  let v873 : BitVec 32 := Scalar.extui v872
  let c0_i32_461 : BitVec 32 := 0#32
  let v874 : BitVec 1 := Scalar.cmpi .ne v873 c0_i32_461
  v874

@[reducible] def k0_t18_loop : Scf.Loop 32 :=
  let c0_i32_462 : BitVec 32 := 0#32
  let c8_i32_463 : BitVec 32 := 8#32
  let v875 : BitVec 32 := Scalar.addi c0_i32_462 c8_i32_463
  let c1_i32_464 : BitVec 32 := 1#32
  ⟨c0_i32_462, v875, c1_i32_464⟩
def k0_off247 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v878 : Index := Scalar.indexCast v877
  let c0_468 : Index := 0#32
  let c0_469 : Index := 0#32
  ![v878.toNat, 0, 0]
def k0_off248 (k0_t18 : Fin k0_t18_loop.trips) (c0_i32_479 : BitVec 32) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let c4_i32_478 : BitVec 32 := 4#32
  let v901 : BitVec 32 := Scalar.muli v877 c4_i32_478
  let v902 : BitVec 32 := Scalar.addi v901 c0_i32_479
  let v903 : Index := Scalar.indexCast v902
  let c0_480 : Index := 0#32
  ![v903.toNat, 0]
def k0_off249 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v929 : Index := Scalar.indexCast v877
  let c0_494 : Index := 0#32
  let c0_495 : Index := 0#32
  ![v929.toNat, 0, 0]
def k0_off250 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1026 : Index := Scalar.indexCast v877
  let c0_504 : Index := 0#32
  let c0_505 : Index := 0#32
  ![v1026.toNat, 0, 0]
def k0_off251 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1074 : Index := Scalar.indexCast v877
  let c256_521 : Index := 256#32
  let c0_522 : Index := 0#32
  ![v1074.toNat, 256, 0]
def k0_off252 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1122 : Index := Scalar.indexCast v877
  let c512_538 : Index := 512#32
  let c0_539 : Index := 0#32
  ![v1122.toNat, 512, 0]
def k0_off253 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1170 : Index := Scalar.indexCast v877
  let c768_555 : Index := 768#32
  let c0_556 : Index := 0#32
  ![v1170.toNat, 768, 0]
def k0_off254 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1218 : Index := Scalar.indexCast v877
  let c1024_572 : Index := 1024#32
  let c0_573 : Index := 0#32
  ![v1218.toNat, 1024, 0]
def k0_off255 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1266 : Index := Scalar.indexCast v877
  let c1280_589 : Index := 1280#32
  let c0_590 : Index := 0#32
  ![v1266.toNat, 1280, 0]
def k0_off256 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1314 : Index := Scalar.indexCast v877
  let c1536_606 : Index := 1536#32
  let c0_607 : Index := 0#32
  ![v1314.toNat, 1536, 0]
def k0_off257 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1362 : Index := Scalar.indexCast v877
  let c1792_623 : Index := 1792#32
  let c0_624 : Index := 0#32
  ![v1362.toNat, 1792, 0]
def k0_off258 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1478 : Index := Scalar.indexCast v877
  let c0_665 : Index := 0#32
  let c0_666 : Index := 0#32
  ![v1478.toNat, 0, 0]
def k0_off259 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1539 : Index := Scalar.indexCast v877
  let c0_688 : Index := 0#32
  let c256_689 : Index := 256#32
  ![v1539.toNat, 0, 256]
def k0_off260 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1601 : Index := Scalar.indexCast v877
  let c0_711 : Index := 0#32
  let c512_712 : Index := 512#32
  ![v1601.toNat, 0, 512]
def k0_off261 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1663 : Index := Scalar.indexCast v877
  let c0_734 : Index := 0#32
  let c768_735 : Index := 768#32
  ![v1663.toNat, 0, 768]
def k0_off262 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1725 : Index := Scalar.indexCast v877
  let c0_757 : Index := 0#32
  let c1024_758 : Index := 1024#32
  ![v1725.toNat, 0, 1024]
def k0_off263 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1787 : Index := Scalar.indexCast v877
  let c0_780 : Index := 0#32
  let c1280_781 : Index := 1280#32
  ![v1787.toNat, 0, 1280]
def k0_off264 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1849 : Index := Scalar.indexCast v877
  let c0_803 : Index := 0#32
  let c1536_804 : Index := 1536#32
  ![v1849.toNat, 0, 1536]
def k0_off265 (k0_t18 : Fin k0_t18_loop.trips) : Fin 3 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1907 : Index := Scalar.indexCast v877
  let c0_826 : Index := 0#32
  let c1792_827 : Index := 1792#32
  ![v1907.toNat, 0, 1792]
def k0_off266 (k0_t18 : Fin k0_t18_loop.trips) : Fin 2 → Nat :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let v1919 : Index := Scalar.indexCast v877
  let c0_831 : Index := 0#32
  ![v1919.toNat, 0]
def k0_mult63 (k0_t18 : Fin k0_t18_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let c4_i32_837 : BitVec 32 := 4#32
  let v1932 : BitVec 32 := Scalar.muli v877 c4_i32_837
  let c0_i32_838 : BitVec 32 := 0#32
  let v1933 : BitVec 32 := Scalar.addi v1932 c0_i32_838
  let c128_i32 : BitVec 32 := 128#32
  let v1934 : BitVec 32 := Scalar.muli v1933 c128_i32
  v1934
def k0_off267 (k0_t18 : Fin k0_t18_loop.trips) (c0_i32_838 : BitVec 32) : Fin 3 → Nat :=
  let c0_839 : Index := 0#32
  let c0_840 : Index := 0#32
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let c4_i32_837 : BitVec 32 := 4#32
  let v1932 : BitVec 32 := Scalar.muli v877 c4_i32_837
  let v1933 : BitVec 32 := Scalar.addi v1932 c0_i32_838
  let c128_i32 : BitVec 32 := 128#32
  let v1934 : BitVec 32 := Scalar.muli v1933 c128_i32
  let v1935 : BitVec 32 := v1934
  let v1936 : Index := Scalar.indexCast v1935
  ![0, 0, v1936.toNat]
def k0_mult64 (k0_t18 : Fin k0_t18_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let c4_i32_843 : BitVec 32 := 4#32
  let v1942 : BitVec 32 := Scalar.muli v877 c4_i32_843
  let c1_i32_844 : BitVec 32 := 1#32
  let v1943 : BitVec 32 := Scalar.addi v1942 c1_i32_844
  let c128_i32_845 : BitVec 32 := 128#32
  let v1944 : BitVec 32 := Scalar.muli v1943 c128_i32_845
  v1944
def k0_mult65 (k0_t18 : Fin k0_t18_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let c4_i32_850 : BitVec 32 := 4#32
  let v1952 : BitVec 32 := Scalar.muli v877 c4_i32_850
  let c2_i32_851 : BitVec 32 := 2#32
  let v1953 : BitVec 32 := Scalar.addi v1952 c2_i32_851
  let c128_i32_852 : BitVec 32 := 128#32
  let v1954 : BitVec 32 := Scalar.muli v1953 c128_i32_852
  v1954
def k0_mult66 (k0_t18 : Fin k0_t18_loop.trips) : BitVec 32 :=
  let c0_i32_467 : BitVec 32 := 0#32
  let c0_i32_462 : BitVec 32 := 0#32
  let c1_i32_464 : BitVec 32 := 1#32
  let arg23 : BitVec 32 := Scf.iv c0_i32_462 c1_i32_464 k0_t18
  let c1_i32_466 : BitVec 32 := 1#32
  let v876 : BitVec 32 := Scalar.muli arg23 c1_i32_466
  let v877 : BitVec 32 := Scalar.addi c0_i32_467 v876
  let c4_i32_857 : BitVec 32 := 4#32
  let v1962 : BitVec 32 := Scalar.muli v877 c4_i32_857
  let c3_i32_858 : BitVec 32 := 3#32
  let v1963 : BitVec 32 := Scalar.addi v1962 c3_i32_858
  let c128_i32_859 : BitVec 32 := 128#32
  let v1964 : BitVec 32 := Scalar.muli v1963 c128_i32_859
  v1964
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x32x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x8x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8x2048x4096 : Shape := ⟨3, ![8, 2048, 4096]⟩
abbrev S8x2048x1024 : Shape := ⟨3, ![8, 2048, 1024]⟩
abbrev S8x2048x32x128 : Shape := ⟨4, ![8, 2048, 32, 128]⟩
abbrev S8x2048x8x128 : Shape := ⟨4, ![8, 2048, 8, 128]⟩
abbrev S_ : Shape := ⟨0, ![]⟩
abbrev S8x8x128 : Shape := ⟨3, ![8, 8, 128]⟩
abbrev S8x1x8x128 : Shape := ⟨4, ![8, 1, 8, 128]⟩
abbrev S8x16x128x32x128 : Shape := ⟨5, ![8, 16, 128, 32, 128]⟩
abbrev S8x16x32x128 : Shape := ⟨4, ![8, 16, 32, 128]⟩
abbrev S8x16x1x32x128 : Shape := ⟨5, ![8, 16, 1, 32, 128]⟩
abbrev S8x16x1x32 : Shape := ⟨4, ![8, 16, 1, 32]⟩
abbrev S8x16x1x32x1 : Shape := ⟨5, ![8, 16, 1, 32, 1]⟩
abbrev S8x32x64x8x128 : Shape := ⟨5, ![8, 32, 64, 8, 128]⟩
abbrev S8x32x8x128 : Shape := ⟨4, ![8, 32, 8, 128]⟩
abbrev S8x32x1x8x128 : Shape := ⟨5, ![8, 32, 1, 8, 128]⟩
abbrev S8x32x1x8 : Shape := ⟨4, ![8, 32, 1, 8]⟩
abbrev S8x32x1x8x1 : Shape := ⟨5, ![8, 32, 1, 8, 1]⟩
abbrev S8x16x32 : Shape := ⟨3, ![8, 16, 32]⟩
abbrev S8x32x16 : Shape := ⟨3, ![8, 32, 16]⟩
abbrev S8x32x8 : Shape := ⟨3, ![8, 32, 8]⟩
abbrev S8x8x32 : Shape := ⟨3, ![8, 8, 32]⟩
abbrev S8x2048x8x4x128 : Shape := ⟨5, ![8, 2048, 8, 4, 128]⟩
abbrev S8x8x2048x2048x4 : Shape := ⟨5, ![8, 8, 2048, 2048, 4]⟩
abbrev S8x8x4x2048x2048 : Shape := ⟨5, ![8, 8, 4, 2048, 2048]⟩
abbrev S8x32x16x128 : Shape := ⟨4, ![8, 32, 16, 128]⟩
abbrev S8x32x2048 : Shape := ⟨3, ![8, 32, 2048]⟩
abbrev S8x8x4x2048 : Shape := ⟨4, ![8, 8, 4, 2048]⟩
abbrev S8x8x32x64 : Shape := ⟨4, ![8, 8, 32, 64]⟩
abbrev S8x8x2048 : Shape := ⟨3, ![8, 8, 2048]⟩
abbrev S8x8x4x2048x1 : Shape := ⟨5, ![8, 8, 4, 2048, 1]⟩
abbrev S8x8x1x1x2048 : Shape := ⟨5, ![8, 8, 1, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x128x4x2048 : Shape := ⟨5, ![8, 8, 128, 4, 2048]⟩
abbrev S8x1x8x1x128 : Shape := ⟨5, ![8, 1, 8, 1, 128]⟩
abbrev S8x2048x8x4 : Shape := ⟨4, ![8, 2048, 8, 4]⟩
abbrev S8x2048x8x4x1 : Shape := ⟨5, ![8, 2048, 8, 4, 1]⟩

abbrev nBuf : Space → Nat
  | .hbm => 253
  | .vmem => 6
  | .smem => 0
  | _ => 0

abbrev hbmTy0_0 (i : Nat) : BufTy := match i % 128 with
  | 0 => ⟨S8x2048x4096, .bf16⟩
  | 1 => ⟨S8x2048x1024, .bf16⟩
  | 2 => ⟨S8x2048x1024, .bf16⟩
  | 3 => ⟨S8x2048x4096, .f32⟩
  | 4 => ⟨S8x2048x32x128, .f32⟩
  | 5 => ⟨S8x2048x1024, .f32⟩
  | 6 => ⟨S8x2048x8x128, .f32⟩
  | 7 => ⟨S8x2048x1024, .f32⟩
  | 8 => ⟨S8x2048x8x128, .f32⟩
  | 9 => ⟨S_, .f32⟩
  | 10 => ⟨S8x8x128, .f32⟩
  | 11 => ⟨S8x1x8x128, .f32⟩
  | 12 => ⟨S_, .f32⟩
  | 13 => ⟨S8x1x8x128, .f32⟩
  | 14 => ⟨S8x1x8x128, .f32⟩
  | 15 => ⟨S_, .f32⟩
  | 16 => ⟨S8x8x128, .f32⟩
  | 17 => ⟨S8x1x8x128, .f32⟩
  | 18 => ⟨S_, .f32⟩
  | 19 => ⟨S8x1x8x128, .f32⟩
  | 20 => ⟨S8x1x8x128, .f32⟩
  | 21 => ⟨S8x16x128x32x128, .f32⟩
  | 22 => ⟨S8x16x128x32x128, .f32⟩
  | 23 => ⟨S_, .f32⟩
  | 24 => ⟨S8x16x32x128, .f32⟩
  | 25 => ⟨S8x16x1x32x128, .f32⟩
  | 26 => ⟨S_, .f32⟩
  | 27 => ⟨S8x16x1x32, .f32⟩
  | 28 => ⟨S8x16x1x32x1, .f32⟩
  | 29 => ⟨S_, .f32⟩
  | 30 => ⟨S8x16x1x32x1, .f32⟩
  | 31 => ⟨S8x16x1x32x1, .f32⟩
  | 32 => ⟨S8x16x1x32x1, .f32⟩
  | 33 => ⟨S_, .f32⟩
  | 34 => ⟨S8x16x1x32x1, .f32⟩
  | 35 => ⟨S8x16x1x32x1, .f32⟩
  | 36 => ⟨S8x16x1x32x1, .f32⟩
  | 37 => ⟨S8x16x1x32x1, .f32⟩
  | 38 => ⟨S_, .f32⟩
  | 39 => ⟨S8x16x1x32x1, .f32⟩
  | 40 => ⟨S8x16x1x32x1, .i1⟩
  | 41 => ⟨S_, .f32⟩
  | 42 => ⟨S8x16x1x32x1, .f32⟩
  | 43 => ⟨S8x16x1x32x1, .f32⟩
  | 44 => ⟨S_, .f32⟩
  | 45 => ⟨S8x16x1x32x1, .f32⟩
  | 46 => ⟨S8x16x1x32x1, .f32⟩
  | 47 => ⟨S_, .f32⟩
  | 48 => ⟨S_, .f32⟩
  | 49 => ⟨S8x16x1x32x1, .f32⟩
  | 50 => ⟨S8x16x1x32x1, .f32⟩
  | 51 => ⟨S8x16x1x32x1, .f32⟩
  | 52 => ⟨S_, .f32⟩
  | 53 => ⟨S8x16x1x32x1, .f32⟩
  | 54 => ⟨S8x16x1x32x1, .f32⟩
  | 55 => ⟨S8x16x1x32x1, .f32⟩
  | 56 => ⟨S8x16x1x32x1, .f32⟩
  | 57 => ⟨S8x16x128x32x128, .f32⟩
  | 58 => ⟨S8x16x128x32x128, .f32⟩
  | 59 => ⟨S_, .f32⟩
  | 60 => ⟨S_, .f32⟩
  | 61 => ⟨S_, .f32⟩
  | 62 => ⟨S8x16x128x32x128, .f32⟩
  | 63 => ⟨S8x16x128x32x128, .f32⟩
  | 64 => ⟨S_, .f32⟩
  | 65 => ⟨S8x16x128x32x128, .f32⟩
  | 66 => ⟨S8x16x128x32x128, .f32⟩
  | 67 => ⟨S_, .f32⟩
  | 68 => ⟨S8x16x1x32x1, .f32⟩
  | 69 => ⟨S8x16x1x32x1, .f32⟩
  | 70 => ⟨S8x16x1x32x1, .f32⟩
  | 71 => ⟨S8x16x1x32x1, .f32⟩
  | 72 => ⟨S8x2048x8x128, .f32⟩
  | 73 => ⟨S8x2048x8x128, .f32⟩
  | 74 => ⟨S8x32x64x8x128, .f32⟩
  | 75 => ⟨S8x32x64x8x128, .f32⟩
  | 76 => ⟨S_, .f32⟩
  | 77 => ⟨S8x32x8x128, .f32⟩
  | 78 => ⟨S8x32x1x8x128, .f32⟩
  | 79 => ⟨S_, .f32⟩
  | 80 => ⟨S8x32x1x8, .f32⟩
  | 81 => ⟨S8x32x1x8x1, .f32⟩
  | 82 => ⟨S_, .f32⟩
  | 83 => ⟨S8x32x1x8x1, .f32⟩
  | 84 => ⟨S8x32x1x8x1, .f32⟩
  | 85 => ⟨S8x32x1x8x1, .f32⟩
  | 86 => ⟨S_, .f32⟩
  | 87 => ⟨S8x32x1x8x1, .f32⟩
  | 88 => ⟨S8x32x1x8x1, .f32⟩
  | 89 => ⟨S8x32x1x8x1, .f32⟩
  | 90 => ⟨S8x32x1x8x1, .f32⟩
  | 91 => ⟨S_, .f32⟩
  | 92 => ⟨S8x32x1x8x1, .f32⟩
  | 93 => ⟨S8x32x1x8x1, .i1⟩
  | 94 => ⟨S_, .f32⟩
  | 95 => ⟨S8x32x1x8x1, .f32⟩
  | 96 => ⟨S8x32x1x8x1, .f32⟩
  | 97 => ⟨S_, .f32⟩
  | 98 => ⟨S8x32x1x8x1, .f32⟩
  | 99 => ⟨S8x32x1x8x1, .f32⟩
  | 100 => ⟨S_, .f32⟩
  | 101 => ⟨S_, .f32⟩
  | 102 => ⟨S8x32x1x8x1, .f32⟩
  | 103 => ⟨S8x32x1x8x1, .f32⟩
  | 104 => ⟨S8x32x1x8x1, .f32⟩
  | 105 => ⟨S_, .f32⟩
  | 106 => ⟨S8x32x1x8x1, .f32⟩
  | 107 => ⟨S8x32x1x8x1, .f32⟩
  | 108 => ⟨S8x32x1x8x1, .f32⟩
  | 109 => ⟨S8x32x1x8x1, .f32⟩
  | 110 => ⟨S8x32x64x8x128, .f32⟩
  | 111 => ⟨S8x32x64x8x128, .f32⟩
  | 112 => ⟨S_, .f32⟩
  | 113 => ⟨S_, .f32⟩
  | 114 => ⟨S_, .f32⟩
  | 115 => ⟨S8x32x64x8x128, .f32⟩
  | 116 => ⟨S8x32x64x8x128, .f32⟩
  | 117 => ⟨S_, .f32⟩
  | 118 => ⟨S8x32x64x8x128, .f32⟩
  | 119 => ⟨S8x32x64x8x128, .f32⟩
  | 120 => ⟨S_, .f32⟩
  | 121 => ⟨S8x32x1x8x1, .f32⟩
  | 122 => ⟨S8x32x1x8x1, .f32⟩
  | 123 => ⟨S8x32x1x8x1, .f32⟩
  | 124 => ⟨S8x32x1x8x1, .f32⟩
  | 125 => ⟨S8x2048x8x128, .f32⟩
  | 126 => ⟨S8x2048x8x128, .f32⟩
  | 127 => ⟨S8x2048x8x128, .f32⟩
  | _ => ⟨S8x2048x4096, .bf16⟩

abbrev hbmTy0_1 (i : Nat) : BufTy := match i % 128 with
  | 0 => ⟨S_, .f32⟩
  | 1 => ⟨S8x8x128, .f32⟩
  | 2 => ⟨S8x1x8x128, .f32⟩
  | 3 => ⟨S_, .f32⟩
  | 4 => ⟨S8x1x8x128, .f32⟩
  | 5 => ⟨S8x1x8x128, .f32⟩
  | 6 => ⟨S8x1x8x128, .f32⟩
  | 7 => ⟨S_, .f32⟩
  | 8 => ⟨S8x1x8x128, .f32⟩
  | 9 => ⟨S8x1x8x128, .f32⟩
  | 10 => ⟨S8x1x8x128, .f32⟩
  | 11 => ⟨S8x1x8x128, .f32⟩
  | 12 => ⟨S_, .f32⟩
  | 13 => ⟨S8x1x8x128, .f32⟩
  | 14 => ⟨S8x1x8x128, .i1⟩
  | 15 => ⟨S_, .f32⟩
  | 16 => ⟨S8x1x8x128, .f32⟩
  | 17 => ⟨S8x1x8x128, .f32⟩
  | 18 => ⟨S_, .f32⟩
  | 19 => ⟨S8x1x8x128, .f32⟩
  | 20 => ⟨S8x1x8x128, .f32⟩
  | 21 => ⟨S_, .f32⟩
  | 22 => ⟨S_, .f32⟩
  | 23 => ⟨S8x1x8x128, .f32⟩
  | 24 => ⟨S8x1x8x128, .f32⟩
  | 25 => ⟨S8x1x8x128, .f32⟩
  | 26 => ⟨S_, .f32⟩
  | 27 => ⟨S8x1x8x128, .f32⟩
  | 28 => ⟨S8x1x8x128, .f32⟩
  | 29 => ⟨S8x1x8x128, .f32⟩
  | 30 => ⟨S8x1x8x128, .f32⟩
  | 31 => ⟨S8x2048x8x128, .f32⟩
  | 32 => ⟨S8x2048x8x128, .f32⟩
  | 33 => ⟨S_, .f32⟩
  | 34 => ⟨S_, .f32⟩
  | 35 => ⟨S_, .f32⟩
  | 36 => ⟨S8x2048x8x128, .f32⟩
  | 37 => ⟨S8x2048x8x128, .f32⟩
  | 38 => ⟨S_, .f32⟩
  | 39 => ⟨S8x2048x8x128, .f32⟩
  | 40 => ⟨S8x2048x8x128, .f32⟩
  | 41 => ⟨S_, .f32⟩
  | 42 => ⟨S8x1x8x128, .f32⟩
  | 43 => ⟨S8x1x8x128, .f32⟩
  | 44 => ⟨S8x1x8x128, .f32⟩
  | 45 => ⟨S8x1x8x128, .f32⟩
  | 46 => ⟨S8x16x32, .f32⟩
  | 47 => ⟨S8x32x16, .f32⟩
  | 48 => ⟨S8x32x8, .f32⟩
  | 49 => ⟨S8x8x32, .f32⟩
  | 50 => ⟨S8x8x128, .f32⟩
  | 51 => ⟨S8x2048x32x128, .f32⟩
  | 52 => ⟨S8x2048x8x128, .f32⟩
  | 53 => ⟨S8x2048x8x4x128, .f32⟩
  | 54 => ⟨S8x8x2048x2048x4, .f32⟩
  | 55 => ⟨S8x8x4x2048x2048, .f32⟩
  | 56 => ⟨S8x32x16x128, .f32⟩
  | 57 => ⟨S8x32x2048, .f32⟩
  | 58 => ⟨S_, .f32⟩
  | 59 => ⟨S8x32x2048, .f32⟩
  | 60 => ⟨S8x32x2048, .f32⟩
  | 61 => ⟨S8x8x4x2048, .f32⟩
  | 62 => ⟨S8x8x32x64, .f32⟩
  | 63 => ⟨S8x8x2048, .f32⟩
  | 64 => ⟨S8x8x4x2048x1, .f32⟩
  | 65 => ⟨S8x8x4x2048x2048, .f32⟩
  | 66 => ⟨S8x8x4x2048x2048, .f32⟩
  | 67 => ⟨S8x8x1x1x2048, .f32⟩
  | 68 => ⟨S8x8x4x2048x2048, .f32⟩
  | 69 => ⟨S8x8x4x2048x2048, .f32⟩
  | 70 => ⟨S2048, .i32⟩
  | 71 => ⟨S1x2048, .i32⟩
  | 72 => ⟨S2048, .i32⟩
  | 73 => ⟨S2048x1, .i32⟩
  | 74 => ⟨S2048x2048, .i32⟩
  | 75 => ⟨S2048x2048, .i32⟩
  | 76 => ⟨S2048x2048, .i1⟩
  | 77 => ⟨S_, .f32⟩
  | 78 => ⟨S_, .f32⟩
  | 79 => ⟨S8x8x4x2048x2048, .i1⟩
  | 80 => ⟨S8x8x4x2048x2048, .f32⟩
  | 81 => ⟨S8x8x4x2048x2048, .f32⟩
  | 82 => ⟨S_, .f32⟩
  | 83 => ⟨S8x8x4x2048, .f32⟩
  | 84 => ⟨S8x8x4x2048x1, .f32⟩
  | 85 => ⟨S8x8x4x2048x2048, .f32⟩
  | 86 => ⟨S8x8x4x2048x2048, .f32⟩
  | 87 => ⟨S_, .f32⟩
  | 88 => ⟨S8x8x4x2048x2048, .f32⟩
  | 89 => ⟨S8x8x4x2048x2048, .f32⟩
  | 90 => ⟨S8x8x4x2048x2048, .f32⟩
  | 91 => ⟨S8x8x4x2048x2048, .f32⟩
  | 92 => ⟨S_, .f32⟩
  | 93 => ⟨S8x8x4x2048, .f32⟩
  | 94 => ⟨S_, .f32⟩
  | 95 => ⟨S8x8x4x2048x2048, .f32⟩
  | 96 => ⟨S8x8x4x2048x2048, .f32⟩
  | 97 => ⟨S_, .f32⟩
  | 98 => ⟨S_, .f32⟩
  | 99 => ⟨S_, .f32⟩
  | 100 => ⟨S8x8x4x2048x2048, .f32⟩
  | 101 => ⟨S8x8x4x2048x2048, .f32⟩
  | 102 => ⟨S_, .f32⟩
  | 103 => ⟨S8x8x4x2048x2048, .f32⟩
  | 104 => ⟨S8x8x4x2048x2048, .f32⟩
  | 105 => ⟨S8x8x128x4x2048, .f32⟩
  | 106 => ⟨S8x2048x8x4x128, .f32⟩
  | 107 => ⟨S8x1x8x1x128, .f32⟩
  | 108 => ⟨S_, .f32⟩
  | 109 => ⟨S8x1x8x1x128, .f32⟩
  | 110 => ⟨S8x1x8x1x128, .f32⟩
  | 111 => ⟨S8x2048x8x4x128, .f32⟩
  | 112 => ⟨S8x2048x8x4x128, .f32⟩
  | 113 => ⟨S8x2048x8x4, .f32⟩
  | 114 => ⟨S8x2048x8x4x1, .f32⟩
  | 115 => ⟨S8x2048x8x4x128, .f32⟩
  | 116 => ⟨S8x2048x8x4x128, .f32⟩
  | 117 => ⟨S8x1x8x1x128, .f32⟩
  | 118 => ⟨S8x2048x8x4x128, .f32⟩
  | 119 => ⟨S8x2048x8x4x128, .f32⟩
  | 120 => ⟨S8x2048x4096, .f32⟩
  | 121 => ⟨S8x2048x4096, .bf16⟩
  | 122 => ⟨S8x2048x32x128, .fp8e4m3⟩
  | 123 => ⟨S8x2048x8x128, .fp8e4m3⟩
  | 124 => ⟨S8x2048x8x128, .fp8e4m3⟩
  | _ => ⟨S8x2048x4096, .bf16⟩

abbrev hbmTy (i : Nat) : BufTy := match i / 128 with
  | 0 => hbmTy0_0 i
  | 1 => hbmTy0_1 i
  | _ => ⟨S8x2048x4096, .bf16⟩

abbrev bufTy : (tb : Table) → Fin (tcTables nBuf tb) → BufTy
  | .hbm, ⟨i, _⟩ => hbmTy i
  | .local _ .vmem, ⟨0, _⟩ => ⟨S8x2048x32x128, .f32⟩
  | .local _ .vmem, ⟨1, _⟩ => ⟨S8x2048x8x128, .f32⟩
  | .local _ .vmem, ⟨2, _⟩ => ⟨S8x2048x8x128, .f32⟩
  | .local _ .vmem, ⟨3, _⟩ => ⟨S8x2048x32x128, .fp8e4m3⟩
  | .local _ .vmem, ⟨4, _⟩ => ⟨S8x2048x8x128, .fp8e4m3⟩
  | .local _ .vmem, ⟨5, _⟩ => ⟨S8x2048x8x128, .fp8e4m3⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_call0_v0 : Ref sig .tc := ⟨.hbm, 48, rfl⟩
abbrev main_call0_v1 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_cst_13 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_v52 : Ref sig .tc := ⟨.hbm, 80, rfl⟩
abbrev main_v53 : Ref sig .tc := ⟨.hbm, 81, rfl⟩
abbrev main_cst_17 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_18 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_19 : Ref sig .tc := ⟨.hbm, 91, rfl⟩
abbrev main_v61 : Ref sig .tc := ⟨.hbm, 92, rfl⟩
abbrev main_v62 : Ref sig .tc := ⟨.hbm, 93, rfl⟩
abbrev main_cst_20 : Ref sig .tc := ⟨.hbm, 94, rfl⟩
abbrev main_v63 : Ref sig .tc := ⟨.hbm, 95, rfl⟩
abbrev main_v64 : Ref sig .tc := ⟨.hbm, 96, rfl⟩
abbrev main_cst_21 : Ref sig .tc := ⟨.hbm, 97, rfl⟩
abbrev main_v65 : Ref sig .tc := ⟨.hbm, 98, rfl⟩
abbrev main_v66 : Ref sig .tc := ⟨.hbm, 99, rfl⟩
abbrev main_cst_22 : Ref sig .tc := ⟨.hbm, 100, rfl⟩
abbrev main_call2_v0 : Ref sig .tc := ⟨.hbm, 101, rfl⟩
abbrev main_call2_v1 : Ref sig .tc := ⟨.hbm, 102, rfl⟩
abbrev main_v67 : Ref sig .tc := ⟨.hbm, 103, rfl⟩
abbrev main_v68 : Ref sig .tc := ⟨.hbm, 104, rfl⟩
abbrev main_cst_23 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_24 : Ref sig .tc := ⟨.hbm, 112, rfl⟩
abbrev main_cst_25 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v75 : Ref sig .tc := ⟨.hbm, 119, rfl⟩
abbrev main_cst_26 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_27 : Ref sig .tc := ⟨.hbm, 128, rfl⟩
abbrev main_v83 : Ref sig .tc := ⟨.hbm, 129, rfl⟩
abbrev main_v84 : Ref sig .tc := ⟨.hbm, 130, rfl⟩
abbrev main_cst_28 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_29 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_30 : Ref sig .tc := ⟨.hbm, 140, rfl⟩
abbrev main_v92 : Ref sig .tc := ⟨.hbm, 141, rfl⟩
abbrev main_v93 : Ref sig .tc := ⟨.hbm, 142, rfl⟩
abbrev main_cst_31 : Ref sig .tc := ⟨.hbm, 143, rfl⟩
abbrev main_v94 : Ref sig .tc := ⟨.hbm, 144, rfl⟩
abbrev main_v95 : Ref sig .tc := ⟨.hbm, 145, rfl⟩
abbrev main_cst_32 : Ref sig .tc := ⟨.hbm, 146, rfl⟩
abbrev main_v96 : Ref sig .tc := ⟨.hbm, 147, rfl⟩
abbrev main_v97 : Ref sig .tc := ⟨.hbm, 148, rfl⟩
abbrev main_cst_33 : Ref sig .tc := ⟨.hbm, 149, rfl⟩
abbrev main_call4_v0 : Ref sig .tc := ⟨.hbm, 150, rfl⟩
abbrev main_call4_v1 : Ref sig .tc := ⟨.hbm, 151, rfl⟩
abbrev main_v98 : Ref sig .tc := ⟨.hbm, 152, rfl⟩
abbrev main_v99 : Ref sig .tc := ⟨.hbm, 153, rfl⟩
abbrev main_cst_34 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_35 : Ref sig .tc := ⟨.hbm, 161, rfl⟩
abbrev main_cst_36 : Ref sig .tc := ⟨.hbm, 162, rfl⟩
abbrev main_call5_v0 : Ref sig .tc := ⟨.hbm, 163, rfl⟩
abbrev main_call5_v1 : Ref sig .tc := ⟨.hbm, 164, rfl⟩
abbrev main_call5_v2 : Ref sig .tc := ⟨.hbm, 165, rfl⟩
abbrev main_call5_v3 : Ref sig .tc := ⟨.hbm, 166, rfl⟩
abbrev main_call5_v4 : Ref sig .tc := ⟨.hbm, 167, rfl⟩
abbrev main_v106 : Ref sig .tc := ⟨.hbm, 168, rfl⟩
abbrev main_cst_37 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_38 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_cst_39 : Ref sig .tc := ⟨.hbm, 205, rfl⟩
abbrev main_call6_v0 : Ref sig .tc := ⟨.hbm, 206, rfl⟩
abbrev main_call6_v1 : Ref sig .tc := ⟨.hbm, 207, rfl⟩
abbrev main_call6_v2 : Ref sig .tc := ⟨.hbm, 208, rfl⟩
abbrev main_v141 : Ref sig .tc := ⟨.hbm, 209, rfl⟩
abbrev main_cst_40 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_41 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_cst_42 : Ref sig .tc := ⟨.hbm, 220, rfl⟩
abbrev main_v150 : Ref sig .tc := ⟨.hbm, 221, rfl⟩
abbrev main_cst_43 : Ref sig .tc := ⟨.hbm, 222, rfl⟩
abbrev main_v151 : Ref sig .tc := ⟨.hbm, 223, rfl⟩
abbrev main_v152 : Ref sig .tc := ⟨.hbm, 224, rfl⟩
abbrev main_cst_44 : Ref sig .tc := ⟨.hbm, 225, rfl⟩
abbrev main_cst_45 : Ref sig .tc := ⟨.hbm, 226, rfl⟩
abbrev main_call7_v0 : Ref sig .tc := ⟨.hbm, 227, rfl⟩
abbrev main_call7_v1 : Ref sig .tc := ⟨.hbm, 228, rfl⟩
abbrev main_call7_v2 : Ref sig .tc := ⟨.hbm, 229, rfl⟩
abbrev main_call7_v3 : Ref sig .tc := ⟨.hbm, 230, rfl⟩
abbrev main_call7_v4 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_cst_46 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170_0 : Ref sig .tc := ⟨.hbm, 250, rfl⟩
abbrev main_v170_1 : Ref sig .tc := ⟨.hbm, 251, rfl⟩
abbrev main_v170_2 : Ref sig .tc := ⟨.hbm, 252, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x32x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x8x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x8x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Runs.lean ====
module

public import Idealize.ShloMosaic.Lib.Pipeline
public import Idealize.ShloMosaic.Lib.Scf
public import Idealize.ShloMosaic.Lib.Memref
public import Idealize.ShloMosaic.PureOps

@[expose] public section

set_option maxRecDepth 16384

noncomputable section

namespace Sage

open Idealize.ShloMosaic Idealize.SL.Sem
open Idealize.SL Idealize.SL.RA Idealize.SL.ProofMode
open Idealize.SL.BI (sProp bigSep bigSep_erase bigSep_congr)
open scoped Idealize.SL.BI
open TcCoe
open Idealize.SL.BI.BIBase Idealize.SL.BI.Laws

/-- The arrays the kernel body works on: three inputs, seven outputs, eleven scratch buffers. -/
inductive Nm where
  | x | k | v | out | qc | qsc | kco | ksc | vco | vsc
  | kc | vt | ks | vs | vm | qw | qs | am | tmp | s | o
  deriving DecidableEq

instance : Fintype Nm where
  elems := {.x, .k, .v, .out, .qc, .qsc, .kco, .ksc, .vco, .vsc, .kc, .vt, .ks, .vs, .vm, .qw, .qs, .am, .tmp, .s, .o}
  complete n := by cases n <;> decide

/-- The shape of each array. -/
@[reducible] def shp : Nm → Shape
  | .x => ⟨3, ![1, 128, 4096]⟩
  | .k => ⟨3, ![1, 2048, 1024]⟩
  | .v => ⟨3, ![1, 2048, 1024]⟩
  | .out => ⟨3, ![1, 128, 4096]⟩
  | .qc => ⟨4, ![1, 128, 32, 128]⟩
  | .qsc => ⟨3, ![1, 32, 16]⟩
  | .kco => ⟨4, ![1, 2048, 8, 128]⟩
  | .ksc => ⟨3, ![1, 8, 32]⟩
  | .vco => ⟨4, ![1, 2048, 8, 128]⟩
  | .vsc => ⟨3, ![1, 8, 128]⟩
  | .kc => ⟨3, ![8, 2048, 128]⟩
  | .vt => ⟨3, ![8, 128, 2048]⟩
  | .ks => ⟨3, ![8, 32, 128]⟩
  | .vs => ⟨2, ![8, 128]⟩
  | .vm => ⟨2, ![8, 128]⟩
  | .qw => ⟨3, ![8, 512, 128]⟩
  | .qs => ⟨2, ![32, 128]⟩
  | .am => ⟨2, ![32, 128]⟩
  | .tmp => ⟨2, ![1024, 128]⟩
  | .s => ⟨2, ![2048, 512]⟩
  | .o => ⟨2, ![512, 128]⟩

/-- The element type of each array. -/
@[reducible] def ety : Nm → EltTy
  | .x => .bf16
  | .k => .bf16
  | .v => .bf16
  | .out => .bf16
  | .qc => .fp8e4m3
  | .kco => .fp8e4m3
  | .vco => .fp8e4m3
  | .kc => .fp8e4m3
  | .vt => .fp8e4m3
  | .qw => .fp8e4m3
  | _ => .f32

/-- The contents of every array. -/
abbrev St (Val : EltTy → Type) := ∀ n : Nm, (shp n).Idx → Val (ety n)

/-- Array `n` replaced. -/
def St.set {Val : EltTy → Type} (σ : St Val) (n : Nm) (X : (shp n).Idx → Val (ety n)) : St Val := Function.update σ n X

@[simp] theorem St.set_same {Val : EltTy → Type} (σ : St Val) (n : Nm) (X : (shp n).Idx → Val (ety n)) : σ.set n X n = X := by
  simp [St.set]

theorem St.set_ne {Val : EltTy → Type} (σ : St Val) {n n' : Nm} (X : (shp n).Idx → Val (ety n)) (h : n' ≠ n) : σ.set n X n' = σ n' := by
  simp [St.set, h]

variable {nD : Nat} {τ : Topo} {sig : RefSig} {Val : EltTy → Type} {Λ : Labels}

/-- One memory reference per array. -/
abbrev Mems (sig : RefSig) := ∀ n : Nm, Memref sig .tc .vmem (shp n) (ety n)

/-- A load's value. -/
def ld (σ : St Val) (n : Nm) (r : LoadRect (shp n)) : r.shape.Idx → Val (ety n) := fun j => σ n (r.idx j)

/-- A store's new state. -/
def stv (σ : St Val) (n : Nm) (r : Rect (shp n)) (w : r.shape.Idx → Val (ety n)) : St Val := σ.set n (r.overlay (σ n) w)

section Hoare

variable {Ix : Type} [DecidableEq Ix] {Name : Type} [DecidableEq Name] {U : Type} [URA U] {Lvl : Type} [Preorder Lvl]
local notation "𝕄" => MT nD τ sig Ix Val Name U Lvl
variable (defs : Defs nD τ sig Val Λ) (𝒱 : Variants) (c : Dev nD) (bd : Option 𝒱.V) (E : Set Name) (A : Mems sig)

/-- Every array owned at its contents. -/
def own (σ : St Val) : sProp 𝕄 := bigSep Finset.univ fun n => owns (c : Thread nD τ) (A n) fullShare (σ n)

/-- Every array but `n`. -/
def ownRest (n : Nm) (σ : St Val) : sProp 𝕄 := bigSep (Finset.univ.erase n) fun n => owns (c : Thread nD τ) (A n) fullShare (σ n)

theorem own_split (n : Nm) (σ : St Val) :
    (own c A σ : sProp 𝕄) = iprop(owns (c : Thread nD τ) (A n) fullShare (σ n) ∗ ownRest c A n σ) :=
  bigSep_erase (Finset.mem_univ n)

theorem ownRest_set (n : Nm) (σ : St Val) (X : (shp n).Idx → Val (ety n)) :
    (ownRest c A n (σ.set n X) : sProp 𝕄) = ownRest c A n σ :=
  bigSep_congr fun i hi => by rw [St.set_ne σ X (Finset.ne_of_mem_erase hi)]

/-- Program `p`, run with every array owned, ends with the value and the contents `f` gives. -/
def Runs {α : Type} (p : Prog (TpuEff nD τ sig Val Λ .tc) α) (f : St Val → α × St Val) : Prop :=
  ∀ (σ : St Val) (Q : α → sProp 𝕄), iprop(own c A σ ∗ (own c A (f σ).2 -∗ Q (f σ).1))
    ⊢ wp frame (wpE defs 𝒱 (c : Thread nD τ) bd) E p Q

local notation "Runs'" => Runs (Ix := Ix) (Name := Name) (U := U) (Lvl := Lvl) defs 𝒱 c bd E A

theorem runs_ret {α : Type} (a : α) : Runs' (.ret a) (fun σ => (a, σ)) := by
  intro σ Q
  rw [wp_ret]
  iintro ⟨H, HQ⟩
  imodintro
  iapply HQ; iexact H

theorem runs_bind {α β : Type} {p : Prog (TpuEff nD τ sig Val Λ .tc) α} {q : α → Prog (TpuEff nD τ sig Val Λ .tc) β}
    {f : St Val → α × St Val} {g : α → St Val → β × St Val} (hp : Runs' p f) (hq : ∀ a, Runs' (q a) (g a)) :
    Runs' (p >>= q) (fun σ => g (f σ).1 (f σ).2) := by
  intro σ Q
  rw [wp_bind]
  refine .trans ?_ (hp σ _)
  iintro ⟨H, HQ⟩
  isplitl [H]; · iexact H
  iintro H
  iapply (hq (f σ).1 (f σ).2 Q)
  isplitl [H]; · iexact H
  iexact HQ

theorem runs_load (n : Nm) (r : LoadRect (shp n)) (hl : (A n).view.LoadsAt r) :
    Runs' (Prog.lift (.load (A n) r hl)) (fun σ => (ld σ n r, σ)) := by
  intro σ Q
  rw [own_split c A n]
  unfold owns
  iintro ⟨⟨⟨%f, %hf, H⟩, R⟩, HQ⟩
  iapply (wp_load 𝒱 (c : Thread nD τ) bd E (View.setOn_subset_set _ _)) $$ H
  iintro H
  have e : (A n).view.readAt Val r f = ld σ n r := by funext j; rw [View.readAt_apply, hf]; rfl
  rw [e, wp_ret]
  imodintro
  iapply HQ
  isplitl [H]
  · iexists f; isplitr
    · ipureintro; exact hf
    · iexact H
  · iexact R

theorem read_write {sp : Space} {sh : Shape} {e : EltTy} (m : Memref sig .tc sp sh e) (r : Rect sh) (f : m.view.ty.Contents Val) (w : r.shape.Idx → Val e) :
    m.view.read Val ((m.access r).write Val f w Finset.univ) = r.overlay (m.view.read Val f) w := by
  funext j
  by_cases h : j ∈ r.set
  · obtain ⟨i, rfl⟩ : ∃ i, r.emb i = j := by
      rw [← Rect.map_emb_univ] at h
      obtain ⟨i, -, hi⟩ := Finset.mem_map.mp h
      exact ⟨i, hi⟩
    rw [View.read_slice_write_emb r f w (Finset.mem_univ i), Rect.overlay_emb]
  · rw [View.read_slice_write_of_not_mem r f w _ (by rw [Rect.map_emb_univ]; exact h), Rect.overlay_of_not_mem _ _ _ h]

theorem runs_store (n : Nm) (r : Rect (shp n)) (w : r.shape.Idx → Val (ety n)) (hx : ((A n).access r).Stores Finset.univ)
    (hm : (Finset.univ : Finset r.shape.Idx) = Finset.univ ∨ ∀ a, r.stride a = 1) :
    Runs' (Prog.lift (.store (A n) r w Finset.univ hx hm)) (fun σ => (⟨⟩, stv σ n r w)) := by
  intro σ Q
  rw [own_split c A n, own_split c A n]
  unfold owns
  iintro ⟨⟨⟨%f, %hf, H⟩, R⟩, HQ⟩
  have hS : ((A n).access r).setOn Finset.univ ⊆ (A n).view.set := by
    rw [View.setOn_univ, View.set_slice]; exact View.setOn_subset_set _ _
  iapply (wp_store (f := f) 𝒱 (c : Thread nD τ) bd E hS) $$ [H]
  · iexact H
  iintro H
  rw [wp_ret]
  imodintro
  iapply HQ
  isplitl [H]
  · iexists _; isplitr
    · ipureintro; exact (read_write (A n) r f w).trans (by rw [hf]; exact (St.set_same σ n _).symm)
    · iexact H
  · unfold stv; rw [ownRest_set]; iexact R

/-- A loop's value: the trips' values one after another. -/
def iter {n : Nat} {α : Type} (f : Fin n → α → St Val → α × St Val) : List (Fin n) → α → St Val → α × St Val
  | [], a, σ => (a, σ)
  | t :: l, a, σ => iter f l (f t a σ).1 (f t a σ).2

theorem runs_for {w : Nat} (lb ub st : BitVec w) (hok : Scf.OK lb ub st) {α : Type} (init : α)
    {body : Fin (Scf.trips lb ub st) → α → Prog (TpuEff nD τ sig Val Λ .tc) α}
    {f : Fin (Scf.trips lb ub st) → α → St Val → α × St Val} (h : ∀ t a, Runs' (body t a) (f t a)) :
    Runs' (Scf.for lb ub st hok init body) (iter f (List.finRange _) init) := by
  rw [Scf.for_eq]
  generalize List.finRange (Scf.trips lb ub st) = l
  induction l generalizing init with
  | nil => exact runs_ret defs 𝒱 c bd E A init
  | cons t l ih =>
    rw [Scf.forFrom_cons]
    exact runs_bind defs 𝒱 c bd E A (h t init) (fun a => ih a)

theorem runs_dite {P : Prop} [Decidable P] {α : Type} {p : P → Prog (TpuEff nD τ sig Val Λ .tc) α} {q : ¬P → Prog (TpuEff nD τ sig Val Λ .tc) α}
    {f g : St Val → α × St Val} (hp : ∀ h, Runs' (p h) f) (hq : ∀ h, Runs' (q h) g) :
    Runs' (dite P p q) (fun σ => if P then f σ else g σ) := by
  by_cases h : P
  · simp only [h, dite_true, if_true]; exact hp h
  · simp only [h, dite_false, if_false]; exact hq h

end Hoare

end Sage
-- ==== Proof.Cmd.lean ====
module

public import proofs.«01_k».proof.Proof.Runs

@[expose] public section

set_option maxRecDepth 16384

noncomputable section

namespace Sage

open Idealize.ShloMosaic Idealize.SL.Sem
open Idealize.SL Idealize.SL.RA

/-- The kernel body's commands: loads, stores, counted loops and conditionals over the named arrays. -/
inductive Cmd (Val : EltTy → Type) : Type → Type 1 where
  | ret {α : Type} (a : α) : Cmd Val α
  | ld {α : Type} (n : Nm) (r : LoadRect (shp n)) (h : 0 < r.shape.numel) (k : (r.shape.Idx → Val (ety n)) → Cmd Val α) : Cmd Val α
  | st {α : Type} (n : Nm) (r : Rect (shp n)) (w : r.shape.Idx → Val (ety n)) (h : 0 < r.shape.numel)
      (hp : (ety n).bits = 32 ∨ r.PackedRows (ety n).packing) (k : Cmd Val α) : Cmd Val α
  | loop {α β : Type} (l : Scf.Loop 32) (ok : l.OK) (init : β) (body : Fin l.trips → β → Cmd Val β) (k : β → Cmd Val α) : Cmd Val α
  | cond {α : Type} (b : BitVec 1) (p q : Cmd Val α) : Cmd Val α
  | bnd {α β : Type} (p : Cmd Val β) (k : β → Cmd Val α) : Cmd Val α

theorem stores_ok {sig : RefSig} {n : Nm} (m : Memref sig .tc .vmem (shp n) (ety n)) (hm : m.IsWhole) (r : Rect (shp n))
    (h : 0 < r.shape.numel) (hp : (ety n).bits = 32 ∨ r.PackedRows (ety n).packing) : (m.access r).Stores Finset.univ :=
  hp.elim (fun he => View.stores_vmem_bits_univ h he)
    fun hr => View.stores_vmem h (hm.storeExact_slice rfl r hr) (fun _ => rfl)

variable {nD : Nat} {τ : Topo} {sig : RefSig} {Val : EltTy → Type} {Λ : Labels}

/-- The program of a command over given memory references. -/
def Cmd.prog (A : Mems sig) (hA : ∀ n, (A n).IsWhole) : ∀ {α : Type}, Cmd Val α → Prog (TpuEff nD τ sig Val Λ .tc) α :=
  fun {_} c => Cmd.rec (motive := fun α _ => Prog (TpuEff nD τ sig Val Λ .tc) α)
    (fun a => .ret a)
    (fun n r h _ k => .op (.load (A n) r (View.loadsAt_vmem h)) k)
    (fun n r w h hp _ k => .op (.store (A n) r w Finset.univ (stores_ok (A n) (hA n) r h hp) (.inl rfl)) fun _ => k)
    (fun l ok init _ _ body k => Scf.Loop.for l ok init body >>= k)
    (fun b _ _ p q => dite (b = 1#1) (fun _ => p) (fun _ => q))
    (fun _ _ p k => p >>= k) c

/-- What a command computes: its value and the arrays' contents after it. -/
def Cmd.sem : ∀ {α : Type}, Cmd Val α → St Val → α × St Val :=
  fun {_} c => Cmd.rec (motive := fun α _ => St Val → α × St Val)
    (fun a σ => (a, σ))
    (fun n r _ _ k σ => k (Sage.ld σ n r) σ)
    (fun n r w _ _ _ k σ => k (stv σ n r w))
    (fun l _ init _ _ body k σ => k (iter body (List.finRange l.trips) init σ).1 (iter body (List.finRange l.trips) init σ).2)
    (fun b _ _ p q σ => if b = 1#1 then p σ else q σ)
    (fun _ _ p k σ => k (p σ).1 (p σ).2) c

@[simp] theorem sem_ret {α : Type} (a : α) (σ : St Val) : (Cmd.ret a).sem σ = (a, σ) := rfl
@[simp] theorem sem_ld {α : Type} (n : Nm) (r : LoadRect (shp n)) (h : 0 < r.shape.numel) (k : (r.shape.Idx → Val (ety n)) → Cmd Val α) (σ : St Val) :
    (Cmd.ld n r h k).sem σ = (k (Sage.ld σ n r)).sem σ := rfl
@[simp] theorem sem_st {α : Type} (n : Nm) (r : Rect (shp n)) (w : r.shape.Idx → Val (ety n)) (h : 0 < r.shape.numel)
    (hp : (ety n).bits = 32 ∨ r.PackedRows (ety n).packing) (k : Cmd Val α) (σ : St Val) :
    (Cmd.st n r w h hp k).sem σ = k.sem (stv σ n r w) := rfl
theorem sem_loop {α β : Type} (l : Scf.Loop 32) (ok : l.OK) (init : β) (body : Fin l.trips → β → Cmd Val β) (k : β → Cmd Val α) (σ : St Val) :
    (Cmd.loop l ok init body k).sem σ = (k (iter (fun t b => (body t b).sem) (List.finRange l.trips) init σ).1).sem
      (iter (fun t b => (body t b).sem) (List.finRange l.trips) init σ).2 := rfl
theorem sem_cond {α : Type} (b : BitVec 1) (p q : Cmd Val α) (σ : St Val) :
    (Cmd.cond b p q).sem σ = if b = 1#1 then p.sem σ else q.sem σ := rfl
theorem sem_bnd {α β : Type} (p : Cmd Val β) (k : β → Cmd Val α) (σ : St Val) :
    (Cmd.bnd p k).sem σ = (k (p.sem σ).1).sem (p.sem σ).2 := rfl

section Hoare

variable {Ix : Type} [DecidableEq Ix] {Name : Type} [DecidableEq Name] {U : Type} [URA U] {Lvl : Type} [Preorder Lvl]
variable (defs : Defs nD τ sig Val Λ) (𝒱 : Variants) (c : Dev nD) (bd : Option 𝒱.V) (E : Set Name) (A : Mems sig)

/-- A command's program computes what the command says. -/
theorem runs_cmd (hA : ∀ n, (A n).IsWhole) {α : Type} (p : Cmd Val α) :
    Runs (Ix := Ix) (Name := Name) (U := U) (Lvl := Lvl) defs 𝒱 c bd E A (p.prog A hA) p.sem := by
  induction p with
  | ret a => exact runs_ret defs 𝒱 c bd E A a
  | ld n r h k ih =>
    have h1 := runs_load (Ix := Ix) (Name := Name) (U := U) (Lvl := Lvl) defs 𝒱 c bd E A n r (View.loadsAt_vmem h)
    exact runs_bind (f := fun σ => (Sage.ld σ n r, σ)) (g := fun v => (k v).sem) defs 𝒱 c bd E A h1 ih
  | st n r w h hp k ih =>
    have h1 := runs_store (Ix := Ix) (Name := Name) (U := U) (Lvl := Lvl) defs 𝒱 c bd E A n r w (stores_ok (A n) (hA n) r h hp) (.inl rfl)
    exact runs_bind (f := fun σ => (PUnit.unit, stv σ n r w)) (g := fun _ => k.sem) defs 𝒱 c bd E A h1 (fun _ => ih)
  | loop l ok init body k ihb ihk =>
    have h1 := runs_for (Ix := Ix) (Name := Name) (U := U) (Lvl := Lvl) defs 𝒱 c bd E A l.lb l.ub l.st ok init
      (body := fun t b => (body t b).prog A hA) (f := fun t b => (body t b).sem) ihb
    exact runs_bind (f := iter (fun t b => (body t b).sem) (List.finRange l.trips) init) (g := fun v => (k v).sem) defs 𝒱 c bd E A h1 ihk
  | cond b p q ihp ihq =>
    exact runs_dite (Ix := Ix) (Name := Name) (U := U) (Lvl := Lvl) defs 𝒱 c bd E A (P := b = 1#1) (p := fun _ => p.prog A hA)
      (q := fun _ => q.prog A hA) (f := p.sem) (g := q.sem) (fun _ => ihp) (fun _ => ihq)
  | bnd p k ihp ihk => exact runs_bind (f := p.sem) (g := fun v => (k v).sem) defs 𝒱 c bd E A ihp ihk

end Hoare

end Sage
-- ==== Proof.Vals.lean ====
module

public import proofs.«01_k».proof.Proof.Cmd

@[expose] public section

set_option maxRecDepth 16384

noncomputable section

namespace Sage

open Idealize.ShloMosaic Idealize.SL.Sem

abbrev S1024x128 : Shape := ⟨2, ![1024, 128]⟩
abbrev S128 : Shape := ⟨1, ![128]⟩
abbrev S128x128 : Shape := ⟨2, ![128, 128]⟩
abbrev S128x256 : Shape := ⟨2, ![128, 256]⟩
abbrev S128x32 : Shape := ⟨2, ![128, 32]⟩
abbrev S128x4x128 : Shape := ⟨3, ![128, 4, 128]⟩
abbrev S128x512 : Shape := ⟨2, ![128, 512]⟩
abbrev S128x8x128 : Shape := ⟨3, ![128, 8, 128]⟩
abbrev S1x128 : Shape := ⟨2, ![1, 128]⟩
abbrev S1x128x128 : Shape := ⟨3, ![1, 128, 128]⟩
abbrev S1x128x256 : Shape := ⟨3, ![1, 128, 256]⟩
abbrev S1x128x32x128 : Shape := ⟨4, ![1, 128, 32, 128]⟩
abbrev S1x128x4x128 : Shape := ⟨4, ![1, 128, 4, 128]⟩
abbrev S1x128x8x128 : Shape := ⟨4, ![1, 128, 8, 128]⟩
abbrev S1x2048x1024 : Shape := ⟨3, ![1, 2048, 1024]⟩
abbrev S1x2048x8x128 : Shape := ⟨4, ![1, 2048, 8, 128]⟩
abbrev S1x256x128 : Shape := ⟨3, ![1, 256, 128]⟩
abbrev S1x32x128 : Shape := ⟨3, ![1, 32, 128]⟩
abbrev S1x32x16 : Shape := ⟨3, ![1, 32, 16]⟩
abbrev S1x512 : Shape := ⟨2, ![1, 512]⟩
abbrev S1x512x128 : Shape := ⟨3, ![1, 512, 128]⟩
abbrev S1x8x128 : Shape := ⟨3, ![1, 8, 128]⟩
abbrev S1x8x32 : Shape := ⟨3, ![1, 8, 32]⟩
abbrev S2048x512 : Shape := ⟨2, ![2048, 512]⟩
abbrev S256x128 : Shape := ⟨2, ![256, 128]⟩
abbrev S256x512 : Shape := ⟨2, ![256, 512]⟩
abbrev S32 : Shape := ⟨1, ![32]⟩
abbrev S32x1 : Shape := ⟨2, ![32, 1]⟩
abbrev S32x128 : Shape := ⟨2, ![32, 128]⟩
abbrev S32x16 : Shape := ⟨2, ![32, 16]⟩
abbrev S32x8x128 : Shape := ⟨3, ![32, 8, 128]⟩
abbrev S4x128 : Shape := ⟨2, ![4, 128]⟩
abbrev S4x1x128 : Shape := ⟨3, ![4, 1, 128]⟩
abbrev S4x64x128 : Shape := ⟨3, ![4, 64, 128]⟩
abbrev S512 : Shape := ⟨1, ![512]⟩
abbrev S512x128 : Shape := ⟨2, ![512, 128]⟩
abbrev S64x512 : Shape := ⟨2, ![64, 512]⟩
abbrev S8x128 : Shape := ⟨2, ![8, 128]⟩
abbrev S8x128x2048 : Shape := ⟨3, ![8, 128, 2048]⟩
abbrev S8x2048x128 : Shape := ⟨3, ![8, 2048, 128]⟩
abbrev S8x32 : Shape := ⟨2, ![8, 32]⟩
abbrev S8x32x128 : Shape := ⟨3, ![8, 32, 128]⟩
abbrev S8x512 : Shape := ⟨2, ![8, 512]⟩
abbrev S8x512x128 : Shape := ⟨3, ![8, 512, 128]⟩
abbrev S8x8x512 : Shape := ⟨3, ![8, 8, 512]⟩

theorem catRow : Shape.Concatenates [S1x128, S1x128, S1x128, S1x128] S1x512 1 := by decide
theorem catTwo : Shape.Concatenates [S64x512, S64x512] S128x512 0 := by decide
theorem catFour : Shape.Concatenates [S64x512, S64x512, S64x512, S64x512] S256x512 0 := by decide
theorem catEight : Shape.Concatenates [S4x128, S4x128, S4x128, S4x128, S4x128, S4x128, S4x128, S4x128] S32x128 0 := by decide

/-! The values the kernel's body computes, each as a function of the values it reads. -/

section
variable {F : FTy → Type} [FloatOps F]

/-- Scores of 128 or 256 key rows against the 512 query rows of a group. -/
def dotH : DotDims S128x128 S512x128 S128x512 := ⟨[1], [1], [0], [0], [], [], by decide⟩
def dotF : DotDims S256x128 S512x128 S256x512 := ⟨[1], [1], [0], [0], [], [], by decide⟩
/-- Values times probabilities. -/
def dotVH : DotDims S128x128 S128x512 S128x512 := ⟨[1], [0], [0], [1], [], [], by decide⟩
def dotVF : DotDims S128x256 S256x512 S128x512 := ⟨[1], [0], [0], [1], [], [], by decide⟩

/-- The remainder of a lane's number by the number of groups. -/
def laneMod : IVec S1x128 32 :=
  let d := Scalar.select (Scalar.cmpi .eq 4#32 0#32) 1#32 4#32
  let r := remsi (iota .tc S1x128 32 [1]) (broadcast S1x128 d)
  select (andi (xori (cmpi .slt r (broadcast S1x128 0#32)) (broadcastTo S1x128 (broadcast S1x128 (Scalar.cmpi .slt d 0#32)) (by decide)))
    (cmpi .ne r (broadcast S1x128 0#32))) (addi r (broadcast S1x128 d)) r

/-- One step of picking a lane's query scale: lane residue `j` takes row `j`. -/
def pickQ (j : BitVec 32) (row prev : FVec F S1x128 .f32) : FVec F S1x128 .f32 :=
  select (cmpi .eq laneMod (broadcast S1x128 j)) row prev

/-- A group's query scales per lane, times the softmax factor. -/
def qcol (r0 r1 r2 r3 : FVec F S1x128 .f32) : FVec F S1x128 .f32 :=
  mulf (pickQ 3#32 r3 (pickQ 2#32 r2 (pickQ 1#32 r1 (pickQ 0#32 r0 (broadcast S1x128 (Scalar.ofBits .f32 0x00000000#32))))))
    (broadcast S1x128 (Scalar.ofBits .f32 0x3E0293EE#32))

/-- Key scale times query scale, for every key block and lane. -/
def kqs (ksv : FVec F S1x32x128 .f32) (q : FVec F S1x128 .f32) : FVec F S32x128 .f32 :=
  mulf (shapeCast S32x128 ksv (by decide)) (broadcastTo S32x128 q (by decide))

theorem slices_row (b : Fin 32) : S32x128.Slices ![b.val, 0] S1x128 := by revert b; decide

/-- The scale row of key block `b`, over the 512 query rows. -/
def crow (b : Fin 32) (m : FVec F S32x128 .f32) : FVec F S1x512 .f32 :=
  let v := extractStridedSlice S1x128 ![b.val, 0] m (slices_row b)
  concatenate S1x512 1 [⟨S1x128, v⟩, ⟨S1x128, v⟩, ⟨S1x128, v⟩, ⟨S1x128, v⟩] catRow

/-- Key position not after query position, within the diagonal's 128 rows. -/
def causal : IVec S128x512 1 :=
  let c := iota .tc S128x512 32 [1]
  let d := divsi c (broadcast S128x512 4#32)
  let sg := subi (extui 32 (cmpi .sgt c (broadcast S128x512 0#32)) (by decide)) (extui 32 (cmpi .slt c (broadcast S128x512 0#32)) (by decide))
  let s4 := Scalar.subi (Scalar.extui (Scalar.cmpi .sgt 4#32 0#32)) (Scalar.extui (Scalar.cmpi .slt 4#32 0#32))
  cmpi .sle (iota .tc S128x512 32 [0])
    (select (andi (cmpi .ne sg (broadcast S128x512 s4)) (cmpi .ne (remsi c (broadcast S128x512 4#32)) (broadcast S128x512 0#32)))
      (subi d (broadcast S128x512 1#32)) d)

/-- Scores of a chunk of 128 keys. -/
def scoreH (kv : FVec F S1x128x128 .fp8e4m3) (q : FVec F S512x128 .fp8e4m3) : FVec F S128x512 .f32 :=
  matmul dotH none (shapeCast S128x128 kv (by decide)) q (constant S128x512 .f32 0x00000000#32)
/-- Scores of a chunk of 256 keys. -/
def scoreF (kv : FVec F S1x256x128 .fp8e4m3) (q : FVec F S512x128 .fp8e4m3) : FVec F S256x512 .f32 :=
  matmul dotF none (shapeCast S256x128 kv (by decide)) q (constant S256x512 .f32 0x00000000#32)

theorem slicesH (j : Fin 2) : S128x512.Slices ![64 * j.val, 0] S64x512 := by revert j; decide
theorem slicesF (j : Fin 4) : S256x512.Slices ![64 * j.val, 0] S64x512 := by revert j; decide

/-- Block `j` of 64 keys in a chunk's scores. -/
def blkH (j : Fin 2) (s : FVec F S128x512 .f32) : FVec F S64x512 .f32 :=
  mulf (extractStridedSlice S64x512 ![64 * j.val, 0] s (slicesH j)) (broadcast S64x512 (Scalar.ofBits .f32 0x3F800000#32))
def blkF (j : Fin 4) (s : FVec F S256x512 .f32) : FVec F S64x512 .f32 :=
  mulf (extractStridedSlice S64x512 ![64 * j.val, 0] s (slicesF j)) (broadcast S64x512 (Scalar.ofBits .f32 0x3F800000#32))

/-- Largest of each group of eight rows. -/
def max8 (s : FVec F S64x512 .f32) : FVec F S8x512 .f32 :=
  multiReduction .maximumf [0] S8x512 (shapeCast S8x8x512 s (by decide)) 0xFF800000#32 (by decide) (.inl rfl) rfl
/-- Sum of each group of eight rows. -/
def add8 (s : FVec F S64x512 .f32) : FVec F S8x512 .f32 :=
  multiReduction .add [0] S8x512 (shapeCast S8x8x512 s (by decide)) 0x00000000#32 (by decide) (.inl rfl) rfl

/-- Masked and scaled scores of diagonal block `j`. -/
def diagB (j : Fin 2) (s : FVec F S64x512 .f32) (c : FVec F S1x512 .f32) : FVec F S64x512 .f32 :=
  select (extractStridedSlice S64x512 ![64 * j.val, 0] causal (slicesH j)) (mulf s (broadcastTo S64x512 c (by decide)))
    (broadcast S64x512 (Scalar.ofBits .f32 0xFF800000#32))

/-- Running maximum past an unmasked block. -/
def maxN (m : FVec F S8x512 .f32) (s : FVec F S64x512 .f32) (c : FVec F S1x512 .f32) : FVec F S8x512 .f32 :=
  maximumf m (mulf (max8 s) (broadcastTo S8x512 c (by decide)))
/-- Running maximum past a masked block. -/
def maxD (m : FVec F S8x512 .f32) (s : FVec F S64x512 .f32) : FVec F S8x512 .f32 := maximumf m (max8 s)

/-- The shift of the exponent: column maximum less eight. -/
def shiftOf (m : FVec F S8x512 .f32) : FVec F S1x512 .f32 :=
  subf (shapeCast S1x512 (multiReduction .maximumf [0] S512 m 0xFF800000#32 (by decide) (.inl rfl) rfl) (by decide))
    (broadcast S1x512 (Scalar.ofBits .f32 0x41000000#32))

/-- Probabilities of a scaled block. -/
def probD (s : FVec F S64x512 .f32) (m : FVec F S1x512 .f32) : FVec F S64x512 .f32 :=
  exp2 (subf s (broadcastTo S64x512 m (by decide)))
/-- Probabilities of an unscaled block. -/
def probN (s : FVec F S64x512 .f32) (c m : FVec F S1x512 .f32) : FVec F S64x512 .f32 :=
  probD (mulf s (broadcastTo S64x512 c (by decide))) m

/-- Clip to the range of the eight-bit format. -/
def clip {S : Shape} (p : FVec F S .f32) : FVec F S .f32 :=
  minimumf (broadcast S (Scalar.ofBits .f32 0x43E00000#32)) (maximumf (broadcast S (Scalar.ofBits .f32 0xC3E00000#32)) p)
/-- Clip, then cast to eight bits. -/
def q8 {S : Shape} (p : FVec F S .f32) : FVec F S .fp8e4m3 := truncf .fp8e4m3 (clip p) (by decide)

/-- Two or four blocks of probabilities as one chunk. -/
def catH (a b : FVec F S64x512 .fp8e4m3) : FVec F S128x512 .fp8e4m3 :=
  concatenate S128x512 0 [⟨S64x512, a⟩, ⟨S64x512, b⟩] catTwo
def catF (a b c d : FVec F S64x512 .fp8e4m3) : FVec F S256x512 .fp8e4m3 :=
  concatenate S256x512 0 [⟨S64x512, a⟩, ⟨S64x512, b⟩, ⟨S64x512, c⟩, ⟨S64x512, d⟩] catFour

def pvH (v : FVec F S1x128x128 .fp8e4m3) (p : FVec F S128x512 .fp8e4m3) : FVec F S128x512 .f32 :=
  matmul dotVH none (shapeCast S128x128 v (by decide)) p (constant S128x512 .f32 0x00000000#32)
def pvF (v : FVec F S1x128x256 .fp8e4m3) (p : FVec F S256x512 .fp8e4m3) : FVec F S128x512 .f32 :=
  matmul dotVF none (shapeCast S128x256 v (by decide)) p (constant S128x512 .f32 0x00000000#32)

/-- Normalised result, transposed to query rows. -/
def normT (acc : FVec F S128x512 .f32) (l : FVec F S8x512 .f32) : FVec F S512x128 .f32 :=
  transpose S512x128 [1, 0] (mulf acc (broadcastTo S128x512 (divf (broadcast S1x512 (Scalar.ofBits .f32 0x3F800000#32))
    (shapeCast S1x512 (multiReduction .add [0] S512 l 0x00000000#32 (by decide) (.inl rfl) rfl) (by decide))) (by decide))) (by decide)

def mulRow (a : FVec F S512x128 .f32) (r : FVec F S1x128 .f32) : FVec F S512x128 .f32 := mulf a (broadcastTo S512x128 r (by decide))
def addRow (a : FVec F S512x128 .f32) (r : FVec F S1x128 .f32) : FVec F S512x128 .f32 := addf a (broadcastTo S512x128 r (by decide))

/-! ### The quantiser -/

/-- The exponent a largest magnitude gives. -/
def expo {S : Shape} (amax : FVec F S .f32) : IVec S 32 :=
  let y := mulf amax (broadcast S (Scalar.ofBits .f32 0x3B124925#32))
  let l := divf (log y) (log (broadcast S (Scalar.ofBits .f32 0x40000000#32)))
  let f := minimumf (broadcast S (Scalar.ofBits .f32 0x42EE0000#32)) (maximumf (broadcast S (Scalar.ofBits .f32 0xC2FE0000#32)) (floor l))
  let b := fptosi 32 (addf f (broadcast S (Scalar.ofBits .f32 0x42FE0000#32)))
  select (cmpi .eq b (broadcast S 0#32)) (broadcast S 0#32) (subi b (broadcast S 126#32))

/-- Two to an exponent, and its reciprocal. -/
def scaleUp {S : Shape} (e : IVec S 32) : FVec F S .f32 :=
  bitcastToFloat .f32 (shli (addi e (broadcast S 127#32)) (broadcast S 23#32))
def scaleDn {S : Shape} (e : IVec S 32) : FVec F S .f32 :=
  bitcastToFloat .f32 (shli (subi (broadcast S 127#32) e) (broadcast S 23#32))

/-- Largest of the rows' 128 lanes, on every lane. -/
def rowMax (a : FVec F S32x128 .f32) : FVec F S32x128 .f32 :=
  broadcastTo S32x128 (shapeCast S32x1 (shapeCast S32x1 (multiReduction .maximumf [1] S32 a 0xFF800000#32 (by decide) (.inl rfl) rfl) (by decide)) (by decide)) (by decide)
/-- Largest of eight rows. -/
def colMax (a : FVec F S8x128 .f32) : FVec F S1x128 .f32 :=
  shapeCast S1x128 (multiReduction .maximumf [0] S128 a 0xFF800000#32 (by decide) (.inl rfl) rfl) (by decide)

/-- A chunk of 256 rows at full precision. -/
def up256 (v : FVec F S1x256x128 .bf16) : FVec F S256x128 .f32 := extf .f32 (shapeCast S256x128 v (by decide)) (by decide)
/-- Running sum over a chunk. -/
def sumStep (acc : FVec F S8x128 .f32) (a : FVec F S256x128 .f32) : FVec F S8x128 .f32 :=
  addf acc (multiReduction .add [0] S8x128 (shapeCast S32x8x128 a (by decide)) 0x00000000#32 (by decide) (.inl rfl) rfl)
/-- The mean over the sequence, from eight partial sums. -/
def meanOf (a : FVec F S8x128 .f32) : FVec F S1x128 .f32 :=
  mulf (shapeCast S1x128 (multiReduction .add [0] S128 a 0x00000000#32 (by decide) (.inl rfl) rfl) (by decide))
    (broadcast S1x128 (Scalar.ofBits .f32 0x3A000000#32))
/-- A chunk less its mean. -/
def centre (a : FVec F S256x128 .f32) (m : FVec F S1x128 .f32) : FVec F S256x128 .f32 := subf a (broadcastTo S256x128 m (by decide))
/-- Running largest magnitude over a chunk. -/
def maxStep (acc : FVec F S8x128 .f32) (a : FVec F S256x128 .f32) : FVec F S8x128 .f32 :=
  maximumf acc (multiReduction .maximumf [0] S8x128 (shapeCast S32x8x128 (absf a) (by decide)) 0xFF800000#32 (by decide) (.inl rfl) rfl)
/-- Largest magnitude of each of a chunk's four key blocks. -/
def blkMax (a : FVec F S256x128 .f32) : FVec F S4x128 .f32 :=
  multiReduction .maximumf [1] S4x128 (shapeCast S4x64x128 (absf a) (by decide)) 0xFF800000#32 (by decide) (.inl rfl) rfl
def cat8 (a0 a1 a2 a3 a4 a5 a6 a7 : FVec F S4x128 .f32) : FVec F S32x128 .f32 :=
  concatenate S32x128 0 [⟨S4x128, a0⟩, ⟨S4x128, a1⟩, ⟨S4x128, a2⟩, ⟨S4x128, a3⟩, ⟨S4x128, a4⟩, ⟨S4x128, a5⟩, ⟨S4x128, a6⟩, ⟨S4x128, a7⟩] catEight

theorem slices4 (c : Fin 8) : S32x128.Slices ![4 * c.val, 0] S4x128 := by revert c; decide

/-- A chunk's keys in eight bits: each block of 64 rows times its scale. -/
def kq (c : Fin 8) (a : FVec F S256x128 .f32) (inv : FVec F S32x128 .f32) : FVec F S256x128 .fp8e4m3 :=
  q8 (shapeCast S256x128 (mulf (shapeCast S4x64x128 a (by decide))
    (broadcastTo S4x64x128 (shapeCast S4x1x128 (extractStridedSlice S4x128 ![4 * c.val, 0] inv (slices4 c)) (by decide)) (by decide))) (by decide))
/-- A chunk's values in eight bits, transposed. -/
def vq (a : FVec F S256x128 .f32) (inv : FVec F S1x128 .f32) : FVec F S128x256 .fp8e4m3 :=
  truncf .fp8e4m3 (transpose S128x256 [1, 0] (clip (mulf a (broadcastTo S256x128 inv (by decide)))) (by decide)) (by decide)

/-- The key scales as columns: column `t` takes the head's scales. -/
def putCol (t : BitVec 32) (s prev : FVec F S32x128 .f32) : FVec F S32x128 .f32 :=
  select (cmpi .eq (iota .tc S32x128 32 [1]) (broadcast S32x128 t)) s prev
def kscOut (a : FVec F S32x128 .f32) : FVec F S8x32 .f32 :=
  extractStridedSlice S8x32 ![0, 0] (transpose S128x32 [1, 0] a (by decide)) (by decide)

/-- Largest magnitude of a query head's rows, per lane. -/
def qabs (v : FVec F S1x128x128 .bf16) : FVec F S1x128 .f32 :=
  extf .f32 (shapeCast S1x128 (multiReduction .maximumf [0] S128 (absf (shapeCast S128x128 v (by decide))) 0xFF80#16 (by decide) (.inr rfl) rfl) (by decide)) (by decide)
/-- A query head's rows times its reciprocal scale, clipped. -/
def qscaled (h : Fin 32) (v : FVec F S1x128x128 .bf16) (inv : FVec F S32x128 .f32) : FVec F S128x128 .f32 :=
  clip (mulf (extf .f32 (shapeCast S128x128 v (by decide)) (by decide))
    (broadcastTo S128x128 (extractStridedSlice S1x128 ![h.val, 0] inv (slices_row h)) (by decide)))
/-- The query scales with column `n` written. -/
def qscOut (n : BitVec 32) (s : FVec F S32x128 .f32) (old : FVec F S1x32x16 .f32) : FVec F S32x16 .f32 :=
  select (cmpi .eq (iota .tc S32x16 32 [1]) (broadcast S32x16 n)) (extractStridedSlice S32x16 ![0, 0] s (by decide))
    (shapeCast S32x16 old (by decide))

end

end Sage
-- ==== Proof.Kern.lean ====
module

public import proofs.«01_k».proof.Proof.Vals

@[expose] public section

set_option maxRecDepth 16384

noncomputable section

namespace Sage

open Idealize.ShloMosaic Idealize.SL.Sem

abbrev S1x128x4096 : Shape := ⟨3, ![1, 128, 4096]⟩

/-! ### Loops and offsets -/

/-- The loop over the eight key heads. -/
@[reducible] def headLoop : Scf.Loop 32 := ⟨0#32, Scalar.addi 0#32 8#32, 1#32⟩
/-- The loop over sixteen chunks of 128 rows. -/
@[reducible] def seqLoop : Scf.Loop 32 := ⟨0#32, Scalar.addi 0#32 16#32, 1#32⟩
theorem headLoop_ok : headLoop.OK := by decide
theorem seqLoop_ok : seqLoop.OK := by decide

/-- A loop's counter. -/
def hd (t : Fin headLoop.trips) : BitVec 32 := Scf.iv 0#32 1#32 t
/-- The counter as the attention loops compute it. -/
def hdA (t : Fin headLoop.trips) : BitVec 32 := Scalar.addi 0#32 (Scalar.muli (Scf.iv 0#32 1#32 t) 1#32)
def hN (t : Fin headLoop.trips) : Nat := (Scalar.indexCast (hd t)).toNat
def lN (t : Fin headLoop.trips) : Nat := (Scalar.indexCast (Scalar.muli (hd t) 128#32)).toNat
def sN (t : Fin seqLoop.trips) : Nat := (Scalar.indexCast (Scalar.muli (Scf.iv 0#32 1#32 t) 128#32)).toNat
@[reducible] def aN (t : Fin headLoop.trips) : Nat := (Scalar.indexCast (hdA t)).toNat
def qN (t : Fin headLoop.trips) (r : BitVec 32) : Nat := (Scalar.indexCast (Scalar.addi (Scalar.muli (hdA t) 4#32) r)).toNat
def oN (t : Fin headLoop.trips) (r : BitVec 32) : Nat :=
  (Scalar.indexCast (Scalar.muli (Scalar.addi (Scalar.muli (hdA t) 4#32) r) 128#32)).toNat

theorem head_trips : headLoop.trips = 8 := by decide +kernel
theorem seq_trips : seqLoop.trips = 16 := by decide +kernel
theorem hN_eq : ∀ t, hN t = t.val := by decide +kernel
theorem lN_eq : ∀ t, lN t = 128 * t.val := by decide +kernel
theorem sN_eq : ∀ t, sN t = 128 * t.val := by decide +kernel
theorem aN_eq : ∀ t, aN t = t.val := by decide +kernel
theorem qN_eq : ∀ t (r : Fin 4), qN t (BitVec.ofNat 32 r.val) = 4 * t.val + r.val := by decide +kernel
theorem oN_eq : ∀ t (r : Fin 4), oN t (BitVec.ofNat 32 r.val) = 128 * (4 * t.val + r.val) := by decide +kernel
theorem hd_lt (t : Fin headLoop.trips) : t.val < 8 := head_trips ▸ t.isLt
theorem sq_lt (t : Fin seqLoop.trips) : t.val < 16 := seq_trips ▸ t.isLt

theorem inb3 {d off size : Fin 3 → Nat} (h0 : off 0 + size 0 ≤ d 0) (h1 : off 1 + size 1 ≤ d 1) (h2 : off 2 + size 2 ≤ d 2) :
    ∀ a, off a + size a ≤ (⟨3, d⟩ : Shape).size a := fun a => by
  fin_cases a
  · exact h0
  · exact h1
  · exact h2
theorem inb4 {d off size : Fin 4 → Nat} (h0 : off 0 + size 0 ≤ d 0) (h1 : off 1 + size 1 ≤ d 1) (h2 : off 2 + size 2 ≤ d 2)
    (h3 : off 3 + size 3 ≤ d 3) : ∀ a, off a + size a ≤ (⟨4, d⟩ : Shape).size a := fun a => by
  fin_cases a
  · exact h0
  · exact h1
  · exact h2
  · exact h3

/-- A chunk of 256 rows and one head of the keys' or values' block. -/
@[reducible] def rIn (t : Fin headLoop.trips) (c : Fin 8) : Rect S1x2048x1024 :=
  Rect.unit (s := S1x2048x1024) ![0, 256 * c.val, lN t] S1x256x128.size (inb3 (Nat.le_of_ble_eq_true rfl)
    (by show 256 * c.val + 256 ≤ 2048; omega) (by show lN t + 128 ≤ 1024; have := lN_eq t; have := hd_lt t; omega))
/-- A head's row of an 8 by 128 array. -/
@[reducible] def rRow (t : Fin headLoop.trips) : Rect S8x128 :=
  Rect.unit (s := S8x128) ![hN t, 0] S1x128.size (Rect.inb₂ (by show hN t + 1 ≤ 8; have := hN_eq t; have := hd_lt t; omega) (Nat.le_of_ble_eq_true rfl))
@[reducible] def rKs (t : Fin headLoop.trips) : Rect S8x32x128 :=
  Rect.unit (s := S8x32x128) ![hN t, 0, 0] S1x32x128.size (inb3 (by show hN t + 1 ≤ 8; have := hN_eq t; have := hd_lt t; omega) (Nat.le_of_ble_eq_true rfl) (Nat.le_of_ble_eq_true rfl))
@[reducible] def rKc (t : Fin headLoop.trips) (c : Fin 8) : Rect S8x2048x128 :=
  Rect.unit (s := S8x2048x128) ![hN t, 256 * c.val, 0] S1x256x128.size (inb3 (by show hN t + 1 ≤ 8; have := hN_eq t; have := hd_lt t; omega)
    (by show 256 * c.val + 256 ≤ 2048; omega) (Nat.le_of_ble_eq_true rfl))
@[reducible] def rVt (t : Fin headLoop.trips) (c : Fin 8) : Rect S8x128x2048 :=
  Rect.unit (s := S8x128x2048) ![hN t, 0, 256 * c.val] S1x128x256.size (inb3 (by show hN t + 1 ≤ 8; have := hN_eq t; have := hd_lt t; omega)
    (Nat.le_of_ble_eq_true rfl) (by show 256 * c.val + 256 ≤ 2048; omega))
/-- Head `h`'s 128 rows of a sequence chunk. -/
@[reducible] def rKcS (h : Fin 8) (t : Fin seqLoop.trips) : Rect S8x2048x128 :=
  Rect.unit (s := S8x2048x128) ![h.val, sN t, 0] S1x128x128.size (inb3 (by show h.val + 1 ≤ 8; omega)
    (by show sN t + 128 ≤ 2048; have := sN_eq t; have := sq_lt t; omega) (Nat.le_of_ble_eq_true rfl))
@[reducible] def rVtS (h : Fin 8) (t : Fin seqLoop.trips) : Rect S8x128x2048 :=
  Rect.unit (s := S8x128x2048) ![h.val, 0, sN t] S1x128x128.size (inb3 (by show h.val + 1 ≤ 8; omega)
    (Nat.le_of_ble_eq_true rfl) (by show sN t + 128 ≤ 2048; have := sN_eq t; have := sq_lt t; omega))
@[reducible] def rCo (t : Fin seqLoop.trips) : Rect S1x2048x8x128 :=
  Rect.unit (s := S1x2048x8x128) ![0, sN t, 0, 0] S1x128x8x128.size (inb4 (Nat.le_of_ble_eq_true rfl)
    (by show sN t + 128 ≤ 2048; have := sN_eq t; have := sq_lt t; omega) (Nat.le_of_ble_eq_true rfl) (Nat.le_of_ble_eq_true rfl))
/-- Every eighth row of the staging buffer, from row `h`. -/
@[reducible] def rT8 (h : Fin 8) : Rect S1024x128 :=
  ⟨(⟨![h.val, 0], S128x128.size, ![8, 1], by revert h; decide⟩ : LoadRect S1024x128), by show ∀ a : Fin 2, 0 < (![8, 1] : Fin 2 → ℕ) a; decide⟩
/-- Every fourth row of the staging buffer, from row `r`. -/
@[reducible] def rT4 (r : Fin 4) : Rect S1024x128 :=
  ⟨(⟨![r.val, 0], S128x128.size, ![4, 1], by revert r; decide⟩ : LoadRect S1024x128), by show ∀ a : Fin 2, 0 < (![4, 1] : Fin 2 → ℕ) a; decide⟩
@[reducible] def rTall : Rect S1024x128 := Rect.unit (s := S1024x128) ![0, 0] S1024x128.size (by decide)
@[reducible] def rT512 : Rect S1024x128 := Rect.unit (s := S1024x128) ![0, 0] S512x128.size (by decide)
@[reducible] def rKsc : Rect S1x8x32 := Rect.unit (s := S1x8x32) ![0, 0, 0] S1x8x32.size (by decide)
@[reducible] def rVs : Rect S8x128 := Rect.unit (s := S8x128) ![0, 0] S8x128.size (by decide)
@[reducible] def rVsc : Rect S1x8x128 := Rect.unit (s := S1x8x128) ![0, 0, 0] S1x8x128.size (by decide)
@[reducible] def rQsc : Rect S1x32x16 := Rect.unit (s := S1x32x16) ![0, 0, 0] S1x32x16.size (by decide)
/-- Query head `h` of the block's rows. -/
@[reducible] def rX (h : Fin 32) : Rect S1x128x4096 :=
  Rect.unit (s := S1x128x4096) ![0, 0, 128 * h.val] S1x128x128.size (inb3 (Nat.le_of_ble_eq_true rfl) (Nat.le_of_ble_eq_true rfl) (by show 128 * h.val + 128 ≤ 4096; omega))
@[reducible] def rAm (h : Fin 32) : Rect S32x128 :=
  Rect.unit (s := S32x128) ![h.val, 0] S1x128.size (Rect.inb₂ (by show h.val + 1 ≤ 32; omega) (Nat.le_of_ble_eq_true rfl))
@[reducible] def rAll : Rect S32x128 := Rect.unit (s := S32x128) ![0, 0] S32x128.size (by decide)
@[reducible] def rQw (g : Fin 8) : Rect S8x512x128 :=
  Rect.unit (s := S8x512x128) ![g.val, 0, 0] S1x512x128.size (inb3 (by show g.val + 1 ≤ 8; omega) (Nat.le_of_ble_eq_true rfl) (Nat.le_of_ble_eq_true rfl))
@[reducible] def rQc (g : Fin 8) : Rect S1x128x32x128 :=
  Rect.unit (s := S1x128x32x128) ![0, 0, 4 * g.val, 0] S1x128x4x128.size (inb4 (Nat.le_of_ble_eq_true rfl) (Nat.le_of_ble_eq_true rfl) (by show 4 * g.val + 4 ≤ 32; omega) (Nat.le_of_ble_eq_true rfl))

/-- The attention loops' accesses. -/
@[reducible] def aQw (t : Fin headLoop.trips) : Rect S8x512x128 :=
  Rect.unit (s := S8x512x128) ![aN t, 0, 0] S1x512x128.size (inb3 (by show aN t + 1 ≤ 8; have := aN_eq t; have := hd_lt t; omega) (Nat.le_of_ble_eq_true rfl) (Nat.le_of_ble_eq_true rfl))
@[reducible] def aQs (t : Fin headLoop.trips) (r : Fin 4) : Rect S32x128 :=
  Rect.unit (s := S32x128) ![qN t (BitVec.ofNat 32 r.val), 0] S1x128.size
    (Rect.inb₂ (by show qN t (BitVec.ofNat 32 r.val) + 1 ≤ 32; have := qN_eq t r; have := hd_lt t; omega) (Nat.le_of_ble_eq_true rfl))
@[reducible] def aKs (t : Fin headLoop.trips) : Rect S8x32x128 :=
  Rect.unit (s := S8x32x128) ![aN t, 0, 0] S1x32x128.size (inb3 (by show aN t + 1 ≤ 8; have := aN_eq t; have := hd_lt t; omega) (Nat.le_of_ble_eq_true rfl) (Nat.le_of_ble_eq_true rfl))
@[reducible] def aKcF (t : Fin headLoop.trips) (c : Fin 8) : Rect S8x2048x128 :=
  Rect.unit (s := S8x2048x128) ![aN t, 256 * c.val, 0] S1x256x128.size (inb3 (by show aN t + 1 ≤ 8; have := aN_eq t; have := hd_lt t; omega)
    (by show 256 * c.val + 256 ≤ 2048; omega) (Nat.le_of_ble_eq_true rfl))
@[reducible] def aKcH (t : Fin headLoop.trips) (c : Fin 8) : Rect S8x2048x128 :=
  Rect.unit (s := S8x2048x128) ![aN t, 256 * c.val, 0] S1x128x128.size (inb3 (by show aN t + 1 ≤ 8; have := aN_eq t; have := hd_lt t; omega)
    (by show 256 * c.val + 128 ≤ 2048; omega) (Nat.le_of_ble_eq_true rfl))
@[reducible] def aVtF (t : Fin headLoop.trips) (c : Fin 8) : Rect S8x128x2048 :=
  Rect.unit (s := S8x128x2048) ![aN t, 0, 256 * c.val] S1x128x256.size (inb3 (by show aN t + 1 ≤ 8; have := aN_eq t; have := hd_lt t; omega)
    (Nat.le_of_ble_eq_true rfl) (by show 256 * c.val + 256 ≤ 2048; omega))
@[reducible] def aVtH (t : Fin headLoop.trips) (c : Fin 8) : Rect S8x128x2048 :=
  Rect.unit (s := S8x128x2048) ![aN t, 0, 256 * c.val] S1x128x128.size (inb3 (by show aN t + 1 ≤ 8; have := aN_eq t; have := hd_lt t; omega)
    (Nat.le_of_ble_eq_true rfl) (by show 256 * c.val + 128 ≤ 2048; omega))
@[reducible] def aRow (t : Fin headLoop.trips) : Rect S8x128 :=
  Rect.unit (s := S8x128) ![aN t, 0] S1x128.size (Rect.inb₂ (by show aN t + 1 ≤ 8; have := aN_eq t; have := hd_lt t; omega) (Nat.le_of_ble_eq_true rfl))
/-- Block `b` of 64 key rows of the score buffer. -/
@[reducible] def aS (b : Fin 32) : Rect S2048x512 :=
  Rect.unit (s := S2048x512) ![64 * b.val, 0] S64x512.size (Rect.inb₂ (by show 64 * b.val + 64 ≤ 2048; omega) (Nat.le_of_ble_eq_true rfl))
@[reducible] def aOall : Rect S512x128 := Rect.unit (s := S512x128) ![0, 0] S512x128.size (by decide)
@[reducible] def aO (r : Fin 4) : LoadRect S512x128 := ⟨![r.val, 0], S128x128.size, ![4, 1], by revert r; decide⟩
@[reducible] def aOut (t : Fin headLoop.trips) (r : Fin 4) : Rect S1x128x4096 :=
  Rect.unit (s := S1x128x4096) ![0, 0, oN t (BitVec.ofNat 32 r.val)] S1x128x128.size (inb3 (Nat.le_of_ble_eq_true rfl) (Nat.le_of_ble_eq_true rfl)
    (by show oN t (BitVec.ofNat 32 r.val) + 128 ≤ 4096; have := oN_eq t r; have := hd_lt t; omega))

section
variable {F : FTy → Type} [FloatOps F]
variable {α β : Type}

/-- A store preceded by the load of its place that the kernel makes and drops. -/
def Cmd.std (n : Nm) (r : Rect (shp n)) (w : r.shape.Idx → Elt F (ety n)) (h : 0 < r.shape.numel)
    (hp : (ety n).bits = 32 ∨ r.PackedRows (ety n).packing) (k : Cmd (Elt F) α) : Cmd (Elt F) α :=
  .ld n r.toLoadRect h fun _ => .st n r w h hp k

/-- Steps `0, 1, …, f - 1` in order, a value carried. -/
def upto : (f : ℕ) → f ≤ 8 → (Fin 8 → β → (β → Cmd (Elt F) α) → Cmd (Elt F) α) → β → (β → Cmd (Elt F) α) → Cmd (Elt F) α
  | 0, _, _, b, k => k b
  | f + 1, h, g, b, k => upto f (Nat.le_of_succ_le h) g b fun b' => g ⟨f, h⟩ b' k

/-- A sequence's value at one place replaced. -/
def upd (g : ℕ → β) (c : ℕ) (x : β) : ℕ → β := fun i => if i = c then x else g i

/-! ### Preparation of keys and values -/

def prepSums (t : Fin headLoop.trips) (k : FVec F S8x128 .f32 × FVec F S8x128 .f32 → Cmd (Elt F) α) : Cmd (Elt F) α :=
  upto 8 (le_refl 8) (fun c b k =>
    .ld .k (rIn t c).toLoadRect (show 0 < S1x256x128.numel by decide) fun kv =>
    .ld .v (rIn t c).toLoadRect (show 0 < S1x256x128.numel by decide) fun vv =>
    k (sumStep b.1 (up256 kv), sumStep b.2 (up256 vv)))
    (broadcast S8x128 (Scalar.ofBits .f32 0x00000000#32), broadcast S8x128 (Scalar.ofBits .f32 0x00000000#32)) k

def prepMaxs (t : Fin headLoop.trips) (km vm : FVec F S1x128 .f32) (k : FVec F S8x128 .f32 × (ℕ → FVec F S4x128 .f32) → Cmd (Elt F) α) :
    Cmd (Elt F) α :=
  upto 8 (le_refl 8) (fun c b k =>
    .ld .k (rIn t c).toLoadRect (show 0 < S1x256x128.numel by decide) fun kv =>
    .ld .v (rIn t c).toLoadRect (show 0 < S1x256x128.numel by decide) fun vv =>
    k (maxStep b.1 (centre (up256 vv) vm), upd b.2 c.val (blkMax (centre (up256 kv) km))))
    (broadcast S8x128 (Scalar.ofBits .f32 0x00000000#32), fun _ => broadcast S4x128 (Scalar.ofBits .f32 0x00000000#32)) k

def prepCodes (t : Fin headLoop.trips) (km vm : FVec F S1x128 .f32) (ek : IVec S32x128 32) (ev : IVec S1x128 32)
    (k : PUnit → Cmd (Elt F) α) : Cmd (Elt F) α :=
  upto 8 (le_refl 8) (fun c _ k =>
    .ld .k (rIn t c).toLoadRect (show 0 < S1x256x128.numel by decide) fun kv =>
    .std .kc (rKc t c) (shapeCast S1x256x128 (kq c (centre (up256 kv) km) (scaleDn ek)) (by decide)) (show 0 < S1x256x128.numel by decide)
      (.inr (.inr ⟨by decide, rfl, .inl ⟨⟨64 * c.val, by show 256 * c.val = 4 * (64 * c.val); omega⟩, ⟨64, rfl⟩⟩⟩)) <|
    .ld .v (rIn t c).toLoadRect (show 0 < S1x256x128.numel by decide) fun vv =>
    .std .vt (rVt t c) (shapeCast S1x128x256 (vq (centre (up256 vv) vm) (scaleDn ev)) (by decide)) (show 0 < S1x128x256.numel by decide)
      (.inr (.inr ⟨by decide, rfl, .inl ⟨⟨0, rfl⟩, ⟨32, rfl⟩⟩⟩)) <|
    k PUnit.unit) PUnit.unit k

/-- One head's keys and values: means, scales, codes. -/
def prepHead (t : Fin headLoop.trips) (prev : FVec F S32x128 .f32) : Cmd (Elt F) (FVec F S32x128 .f32) :=
  prepSums t fun sm =>
  .std .vm (rRow t) (shapeCast S1x128 (meanOf sm.2) (by decide)) (show 0 < S1x128.numel by decide) (.inl rfl) <|
  prepMaxs t (meanOf sm.1) (meanOf sm.2) fun mx =>
  .std .ks (rKs t) (shapeCast S1x32x128 (scaleUp (expo (rowMax (cat8 (mx.2 0) (mx.2 1) (mx.2 2) (mx.2 3) (mx.2 4) (mx.2 5) (mx.2 6) (mx.2 7))))) (by decide))
    (show 0 < S1x32x128.numel by decide) (.inl rfl) <|
  .std .vs (rRow t) (shapeCast S1x128 (scaleUp (expo (colMax mx.1))) (by decide)) (show 0 < S1x128.numel by decide) (.inl rfl) <|
  prepCodes t (meanOf sm.1) (meanOf sm.2) (expo (rowMax (cat8 (mx.2 0) (mx.2 1) (mx.2 2) (mx.2 3) (mx.2 4) (mx.2 5) (mx.2 6) (mx.2 7))))
    (expo (colMax mx.1)) fun _ =>
  .ret (putCol (hd t) (scaleUp (expo (rowMax (cat8 (mx.2 0) (mx.2 1) (mx.2 2) (mx.2 3) (mx.2 4) (mx.2 5) (mx.2 6) (mx.2 7))))) prev)

/-- A chunk of 128 rows of the key and value codes written out, head by head through the staging buffer. -/
def codesOut (t : Fin seqLoop.trips) : Cmd (Elt F) PUnit :=
  upto 8 (le_refl 8) (fun h _ k =>
    .ld .kc (rKcS h t).toLoadRect (show 0 < S1x128x128.numel by decide) fun v =>
    .std .tmp (rT8 h) (shapeCast S128x128 (extf (φ := .fp8e4m3) .f32 (shapeCast (s := S1x128x128) S128x128 v (by decide)) (by decide)) (by decide))
      (show 0 < S128x128.numel by decide) (.inl rfl) <| k PUnit.unit) PUnit.unit fun _ =>
  .ld .tmp rTall.toLoadRect (show 0 < S1024x128.numel by decide) fun v =>
  .std .kco (rCo t) (shapeCast S1x128x8x128 (shapeCast S128x8x128 (truncf (φ := .f32) .fp8e4m3 v (by decide)) (by decide)) (by decide))
    (show 0 < S1x128x8x128.numel by decide) (.inr (.inr ⟨by decide, rfl, .inl ⟨⟨0, rfl⟩, ⟨2, rfl⟩⟩⟩)) <|
  upto 8 (le_refl 8) (fun h _ k =>
    .ld .vt (rVtS h t).toLoadRect (show 0 < S1x128x128.numel by decide) fun v =>
    .std .tmp (rT8 h) (shapeCast S128x128 (transpose S128x128 [1, 0] (extf (φ := .fp8e4m3) .f32 (shapeCast (s := S1x128x128) S128x128 v (by decide)) (by decide)) (by decide)) (by decide))
      (show 0 < S128x128.numel by decide) (.inl rfl) <| k PUnit.unit) PUnit.unit fun _ =>
  .ld .tmp rTall.toLoadRect (show 0 < S1024x128.numel by decide) fun v =>
  .std .vco (rCo t) (shapeCast S1x128x8x128 (shapeCast S128x8x128 (truncf (φ := .f32) .fp8e4m3 v (by decide)) (by decide)) (by decide))
    (show 0 < S1x128x8x128.numel by decide) (.inr (.inr ⟨by decide, rfl, .inl ⟨⟨0, rfl⟩, ⟨2, rfl⟩⟩⟩)) <|
  .ret PUnit.unit

/-- The first query block's work on keys and values. -/
def prep (k : Cmd (Elt F) α) : Cmd (Elt F) α :=
  .loop headLoop headLoop_ok (broadcast S32x128 (Scalar.ofBits .f32 0x00000000#32)) prepHead fun a =>
  .std .ksc rKsc (shapeCast S1x8x32 (kscOut a) (by decide)) (show 0 < S1x8x32.numel by decide) (.inl rfl) <|
  .ld .vs rVs.toLoadRect (show 0 < S8x128.numel by decide) fun v =>
  .std .vsc rVsc (shapeCast S1x8x128 (s := S8x128) v (by decide)) (show 0 < S1x8x128.numel by decide) (.inl rfl) <|
  .loop seqLoop seqLoop_ok PUnit.unit (fun t _ => codesOut t) fun _ =>
  .std .qsc rQsc (broadcast S1x32x16 (Scalar.ofBits .f32 0x00000000#32)) (show 0 < S1x32x16.numel by decide) (.inl rfl) k

/-! ### Quantisation of a query block -/

/-- The largest magnitudes of query heads `a, a + 1, …`, `f` of them. -/
def absRow (h : Fin 32) (v : FVec F S1x128x128 .bf16) (k : Cmd (Elt F) α) : Cmd (Elt F) α :=
  .std .am (rAm h) (shapeCast S1x128 (qabs v) (by decide)) (show 0 < S1x128.numel by decide) (.inl rfl) k

def absRows : List (Fin 32) → Cmd (Elt F) α → Cmd (Elt F) α
  | [], k => k
  | h :: hs, k => .ld .x (rX h).toLoadRect (show 0 < S1x128x128.numel by decide) fun v => absRow h v (absRows hs k)

def quantCodes (e : IVec S32x128 32) (k : Cmd (Elt F) α) : Cmd (Elt F) α :=
  let row (g : Fin 8) (r : Fin 4) (k : Cmd (Elt F) α) : Cmd (Elt F) α :=
    .ld .x (rX ⟨4 * g.val + r.val, by omega⟩).toLoadRect (show 0 < S1x128x128.numel by decide) fun v =>
    .std .tmp (rT4 r) (shapeCast S128x128 (qscaled ⟨4 * g.val + r.val, by omega⟩ v (scaleDn e)) (by decide)) (show 0 < S128x128.numel by decide) (.inl rfl) k
  upto 8 (le_refl 8) (fun g _ k =>
    row g 0 <| row g 1 <| row g 2 <| row g 3 <|
    .ld .tmp rT512.toLoadRect (show 0 < S512x128.numel by decide) fun v =>
    .std .qw (rQw g) (shapeCast S1x512x128 (truncf (φ := .f32) (s := S512x128) .fp8e4m3 v (by decide)) (by decide)) (show 0 < S1x512x128.numel by decide)
      (.inr (.inr ⟨by decide, rfl, .inl ⟨⟨0, rfl⟩, ⟨128, rfl⟩⟩⟩)) <|
    .std .qc (rQc g) (shapeCast S1x128x4x128 (shapeCast S128x4x128 (truncf (φ := .f32) (s := S512x128) .fp8e4m3 v (by decide)) (by decide)) (by decide))
      (show 0 < S1x128x4x128.numel by decide) (.inr (.inr ⟨by decide, rfl, .inl ⟨⟨g.val, rfl⟩, ⟨1, rfl⟩⟩⟩)) <|
    k PUnit.unit) PUnit.unit fun _ => k

/-- Scales and codes of the block's queries, once the largest magnitudes are in place. -/
def quantRest (n : BitVec 32) (k : Cmd (Elt F) α) : Cmd (Elt F) α :=
  .ld .am rAll.toLoadRect (show 0 < S32x128.numel by decide) fun a =>
  .std .qs rAll (shapeCast S32x128 (scaleUp (expo (rowMax a))) (by decide)) (show 0 < S32x128.numel by decide) (.inl rfl) <|
  .ld .qsc rQsc.toLoadRect (show 0 < S1x32x16.numel by decide) fun old =>
  .std .qsc rQsc (shapeCast S1x32x16 (qscOut n (scaleUp (expo (rowMax a))) old) (by decide)) (show 0 < S1x32x16.numel by decide) (.inl rfl) <|
  quantCodes (expo (rowMax a)) k

/-! ### Attention -/

/-- An unmasked block of scores: the running maximum, and the block kept. -/
def stepN (b : Fin 32) (sb : FVec F S64x512 .f32) (ksq : FVec F S32x128 .f32) (m : FVec F S8x512 .f32) (k : FVec F S8x512 .f32 → Cmd (Elt F) α) : Cmd (Elt F) α :=
  .std .s (aS b) (shapeCast S64x512 sb (by decide)) (show 0 < S64x512.numel by decide) (.inl rfl) (k (maxN m sb (crow b ksq)))
/-- A masked block of scores. -/
def stepD (j : Fin 2) (b : Fin 32) (sb : FVec F S64x512 .f32) (ksq : FVec F S32x128 .f32) (m : FVec F S8x512 .f32) (k : FVec F S8x512 .f32 → Cmd (Elt F) α) :
    Cmd (Elt F) α :=
  .std .s (aS b) (shapeCast S64x512 (diagB j sb (crow b ksq)) (by decide)) (show 0 < S64x512.numel by decide) (.inl rfl)
    (k (maxD m (diagB j sb (crow b ksq))))

/-- Block `4 c + j`. -/
def bk (c : Fin 8) (j : Fin 4) : Fin 32 := ⟨4 * c.val + j.val, by omega⟩

def scoresF (t : Fin headLoop.trips) (q : FVec F S512x128 .fp8e4m3) (ksq : FVec F S32x128 .f32) (c : Fin 8) (m : FVec F S8x512 .f32)
    (k : FVec F S8x512 .f32 → Cmd (Elt F) α) : Cmd (Elt F) α :=
  .ld .kc (aKcF t c).toLoadRect (show 0 < S1x256x128.numel by decide) fun kv =>
  stepN (bk c 0) (blkF 0 (scoreF kv q)) ksq m fun m =>
  stepN (bk c 1) (blkF 1 (scoreF kv q)) ksq m fun m =>
  stepN (bk c 2) (blkF 2 (scoreF kv q)) ksq m fun m =>
  stepN (bk c 3) (blkF 3 (scoreF kv q)) ksq m k

/-- The last chunk's scores: 128 masked rows, after 128 unmasked ones when the block's number is odd. -/
def scoresL (t : Fin headLoop.trips) (q : FVec F S512x128 .fp8e4m3) (ksq : FVec F S32x128 .f32) (f : Fin 8) (m : FVec F S8x512 .f32)
    (k : FVec F S8x512 .f32 → Cmd (Elt F) α) (half : Bool) : Cmd (Elt F) α :=
  match half with
  | true =>
    .ld .kc (aKcH t f).toLoadRect (show 0 < S1x128x128.numel by decide) fun kv =>
    stepD 0 (bk f 0) (blkH 0 (scoreH kv q)) ksq m fun m =>
    stepD 1 (bk f 1) (blkH 1 (scoreH kv q)) ksq m k
  | false =>
    .ld .kc (aKcF t f).toLoadRect (show 0 < S1x256x128.numel by decide) fun kv =>
    stepN (bk f 0) (blkF 0 (scoreF kv q)) ksq m fun m =>
    stepN (bk f 1) (blkF 1 (scoreF kv q)) ksq m fun m =>
    stepD 0 (bk f 2) (blkF 2 (scoreF kv q)) ksq m fun m =>
    stepD 1 (bk f 3) (blkF 3 (scoreF kv q)) ksq m k

def ldS (b : Fin 32) (k : FVec F S64x512 .f32 → Cmd (Elt F) α) : Cmd (Elt F) α :=
  .ld .s (aS b).toLoadRect (show 0 < S64x512.numel by decide) k

/-- Accumulate, from nothing or from a sum. -/
def acc : Option (FVec F S128x512 .f32) → FVec F S128x512 .f32 → FVec F S128x512 .f32
  | none, d => d
  | some a, d => addf a d

def valuesF (t : Fin headLoop.trips) (ksq : FVec F S32x128 .f32) (m : FVec F S1x512 .f32) (c : Fin 8)
    (b : Option (FVec F S128x512 .f32) × FVec F S8x512 .f32)
    (k : Option (FVec F S128x512 .f32) × FVec F S8x512 .f32 → Cmd (Elt F) α) : Cmd (Elt F) α :=
  ldS (bk c 0) fun s0 => ldS (bk c 1) fun s1 => ldS (bk c 2) fun s2 => ldS (bk c 3) fun s3 =>
  let p0 := probN s0 (crow (bk c 0) ksq) m
  let p1 := probN s1 (crow (bk c 1) ksq) m
  let p2 := probN s2 (crow (bk c 2) ksq) m
  let p3 := probN s3 (crow (bk c 3) ksq) m
  .ld .vt (aVtF t c).toLoadRect (show 0 < S1x128x256.numel by decide) fun vv =>
  k (some (acc b.1 (pvF vv (catF (q8 p0) (q8 p1) (q8 p2) (q8 p3)))), addf (addf (addf (addf b.2 (add8 p0)) (add8 p1)) (add8 p2)) (add8 p3))

def valuesL (t : Fin headLoop.trips) (ksq : FVec F S32x128 .f32) (m : FVec F S1x512 .f32) (f : Fin 8)
    (b : Option (FVec F S128x512 .f32) × FVec F S8x512 .f32)
    (k : FVec F S128x512 .f32 → FVec F S8x512 .f32 → Cmd (Elt F) α) (half : Bool) : Cmd (Elt F) α :=
  match half with
  | true =>
    ldS (bk f 0) fun s0 => ldS (bk f 1) fun s1 =>
    let p0 := probD s0 m
    let p1 := probD s1 m
    .ld .vt (aVtH t f).toLoadRect (show 0 < S1x128x128.numel by decide) fun vv =>
    k (acc b.1 (pvH vv (catH (q8 p0) (q8 p1)))) (addf (addf b.2 (add8 p0)) (add8 p1))
  | false =>
    ldS (bk f 0) fun s0 => ldS (bk f 1) fun s1 => ldS (bk f 2) fun s2 => ldS (bk f 3) fun s3 =>
    let p0 := probN s0 (crow (bk f 0) ksq) m
    let p1 := probN s1 (crow (bk f 1) ksq) m
    let p2 := probD s2 m
    let p3 := probD s3 m
    .ld .vt (aVtF t f).toLoadRect (show 0 < S1x128x256.numel by decide) fun vv =>
    k (acc b.1 (pvF vv (catF (q8 p0) (q8 p1) (q8 p2) (q8 p3)))) (addf (addf (addf (addf b.2 (add8 p0)) (add8 p1)) (add8 p2)) (add8 p3))

def outHead (t : Fin headLoop.trips) (r : Fin 4) (k : Cmd (Elt F) α) : Cmd (Elt F) α :=
  .ld .o (aO r) (show 0 < S128x128.numel by decide) fun v =>
  .std .out (aOut t r) (shapeCast S1x128x128 (truncf (φ := .f32) (s := S128x128) .bf16 v (by decide)) (by decide)) (show 0 < S1x128x128.numel by decide)
    (.inr (.inr ⟨by decide, rfl, .inl ⟨⟨0, rfl⟩, ⟨64, rfl⟩⟩⟩)) k

/-- A group's attention over the first `256 f + 128` keys (or `256 f + 256`), the last 128 of them masked. -/
def attend (f : Fin 8) (half : Bool) (t : Fin headLoop.trips) : Cmd (Elt F) PUnit :=
  .ld .qw (aQw t).toLoadRect (show 0 < S1x512x128.numel by decide) fun qv =>
  .ld .qs (aQs t 0).toLoadRect (show 0 < S1x128.numel by decide) fun r0 =>
  .ld .qs (aQs t 1).toLoadRect (show 0 < S1x128.numel by decide) fun r1 =>
  .ld .qs (aQs t 2).toLoadRect (show 0 < S1x128.numel by decide) fun r2 =>
  .ld .qs (aQs t 3).toLoadRect (show 0 < S1x128.numel by decide) fun r3 =>
  .ld .ks (aKs t).toLoadRect (show 0 < S1x32x128.numel by decide) fun ksv =>
  let q : FVec F S512x128 .fp8e4m3 := shapeCast S512x128 (s := S1x512x128) qv (by decide)
  let ksq := kqs ksv (qcol r0 r1 r2 r3)
  upto f.val (Nat.le_of_lt f.isLt) (scoresF t q ksq) (broadcast S8x512 (Scalar.ofBits .f32 0xFF800000#32)) fun m8 =>
  scoresL t q ksq f m8 (half := half) fun m8 =>
  let m := shiftOf m8
  upto f.val (Nat.le_of_lt f.isLt) (valuesF t ksq m) (none, broadcast S8x512 (Scalar.ofBits .f32 0x00000000#32)) fun b =>
  valuesL t ksq m f b (half := half) fun ac l =>
  .ld .vs (aRow t).toLoadRect (show 0 < S1x128.numel by decide) fun vs =>
  .ld .vm (aRow t).toLoadRect (show 0 < S1x128.numel by decide) fun vm =>
  .std .o aOall (shapeCast S512x128 (addRow (mulRow (normT ac l) vs) vm) (by decide)) (show 0 < S512x128.numel by decide) (.inl rfl) <|
  outHead t 0 <| outHead t 1 <| outHead t 2 <| outHead t 3 <| .ret PUnit.unit

/-! ### The whole body -/

/-- The condition that the query block's number is `m`. -/
def isBlk (n m : BitVec 32) : BitVec 1 := Scalar.cmpi .ne (Scalar.extui (Scalar.cmpi .eq n m) : BitVec 32) 0#32

def attCond (n m : BitVec 32) (f : Fin 8) (half : Bool) (k : Cmd (Elt F) α) : Cmd (Elt F) α :=
  .cond (isBlk n m) (.loop headLoop headLoop_ok PUnit.unit (fun t _ => attend f half t) fun _ => k) k

/-- Heads of a query block whose largest magnitudes are taken after the first four. -/
def heads4 : List (Fin 32) := [4, 5, 6, 7, 8, 9, 10, 11, 12, 13, 14, 15, 16, 17, 18, 19, 20, 21, 22, 23, 24, 25, 26, 27, 28, 29, 30, 31]

/-- The first part: keys and values at a sequence's first block, then three query heads, and the fourth one's rows. -/
def start (n : BitVec 32) : Cmd (Elt F) (Σ' (_ : BitVec 32), Vec F S1x128x128 .bf16) :=
  let k := absRows [0, 1, 2] <| .ld .x (rX 3).toLoadRect (show 0 < S1x128x128.numel by decide) fun v => .ret ⟨n, v⟩
  .cond (isBlk n 0#32) (prep k) k

/-- The second part: the rest of the queries' quantisation, and attention at the first two blocks. -/
def mid (n n' : BitVec 32) (v : Vec F S1x128x128 .bf16) (k : BitVec 32 → Cmd (Elt F) α) : Cmd (Elt F) α :=
  absRow 3 v <| absRows heads4 <| quantRest n' <| .bnd
    (attCond n 0#32 0 true <| attCond n 1#32 0 false <| .ret (Scalar.extui (Scalar.cmpi .eq n' 2#32))) k

/-- Attention at the next ten blocks. -/
def ten (n n' : BitVec 32) : Cmd (Elt F) (BitVec 32) :=
  attCond n 2#32 1 true <| attCond n 3#32 1 false <| attCond n 4#32 2 true <| attCond n 5#32 2 false <|
  attCond n 6#32 3 true <| attCond n 7#32 3 false <| attCond n 8#32 4 true <| attCond n 9#32 4 false <|
  attCond n 10#32 5 true <| attCond n 11#32 5 false <| .ret (Scalar.extui (Scalar.cmpi .eq n' 12#32))

/-- The kernel's body at query block `n`. -/
def body (n : BitVec 32) : Cmd (Elt F) PUnit :=
  .bnd (start n) fun x => mid n x.1 x.2 fun _ => .bnd (ten n x.1) fun _ =>
  attCond n 12#32 6 true <| attCond n 13#32 6 false <| attCond n 14#32 7 true <| attCond n 15#32 7 false <| .ret PUnit.unit

end

end Sage
-- ==== Proof.EqK.lean ====
module

public import proofs.«01_k».proof.Proof.Kern
public import proofs.«01_k».proof.Proof.Gen.Kernel.Launch

@[expose] public section

set_option maxRecDepth 16384

noncomputable section

namespace Cert.Kernel

open Idealize.ShloMosaic Idealize.SL.Sem Facts₀ Facts

variable {F : FTy → Type} [FloatOps F]

/-- The body's arrays under their names. -/
def mems (arg2 : Memref sig .tc .vmem S1x128x4096 .bf16) (arg3 : Memref sig .tc .vmem S1x2048x1024 .bf16) (arg4 : Memref sig .tc .vmem S1x2048x1024 .bf16)
    (arg5 : Memref sig .tc .vmem S1x128x4096 .bf16) (arg6 : Memref sig .tc .vmem S1x128x32x128 .fp8e4m3) (arg7 : Memref sig .tc .vmem S1x32x16 .f32)
    (arg8 : Memref sig .tc .vmem S1x2048x8x128 .fp8e4m3) (arg9 : Memref sig .tc .vmem S1x8x32 .f32)
    (arg10 : Memref sig .tc .vmem S1x2048x8x128 .fp8e4m3) (arg11 : Memref sig .tc .vmem S1x8x128 .f32)
    (arg12 : Memref sig .tc .vmem S8x2048x128 .fp8e4m3) (arg13 : Memref sig .tc .vmem S8x128x2048 .fp8e4m3)
    (arg14 : Memref sig .tc .vmem S8x32x128 .f32) (arg15 : Memref sig .tc .vmem S8x128 .f32) (arg16 : Memref sig .tc .vmem S8x128 .f32)
    (arg17 : Memref sig .tc .vmem S8x512x128 .fp8e4m3) (arg18 : Memref sig .tc .vmem S32x128 .f32) (arg19 : Memref sig .tc .vmem S32x128 .f32)
    (arg20 : Memref sig .tc .vmem S1024x128 .f32) (arg21 : Memref sig .tc .vmem S2048x512 .f32) (arg22 : Memref sig .tc .vmem S512x128 .f32) : Sage.Mems sig
  | .x => arg2
  | .k => arg3
  | .v => arg4
  | .out => arg5
  | .qc => arg6
  | .qsc => arg7
  | .kco => arg8
  | .ksc => arg9
  | .vco => arg10
  | .vsc => arg11
  | .kc => arg12
  | .vt => arg13
  | .ks => arg14
  | .vs => arg15
  | .vm => arg16
  | .qw => arg17
  | .qs => arg18
  | .am => arg19
  | .tmp => arg20
  | .s => arg21
  | .o => arg22

theorem mems_whole (arg2 : Memref sig .tc .vmem S1x128x4096 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x128x4096 .bf16) (harg5 : arg5.IsWhole)
    (arg6 : Memref sig .tc .vmem S1x128x32x128 .fp8e4m3) (harg6 : arg6.IsWhole) (arg7 : Memref sig .tc .vmem S1x32x16 .f32) (harg7 : arg7.IsWhole)
    (arg8 : Memref sig .tc .vmem S1x2048x8x128 .fp8e4m3) (harg8 : arg8.IsWhole) (arg9 : Memref sig .tc .vmem S1x8x32 .f32) (harg9 : arg9.IsWhole)
    (arg10 : Memref sig .tc .vmem S1x2048x8x128 .fp8e4m3) (harg10 : arg10.IsWhole) (arg11 : Memref sig .tc .vmem S1x8x128 .f32)
    (harg11 : arg11.IsWhole) (arg12 : Memref sig .tc .vmem S8x2048x128 .fp8e4m3) (harg12 : arg12.IsWhole)
    (arg13 : Memref sig .tc .vmem S8x128x2048 .fp8e4m3) (harg13 : arg13.IsWhole) (arg14 : Memref sig .tc .vmem S8x32x128 .f32) (harg14 : arg14.IsWhole)
    (arg15 : Memref sig .tc .vmem S8x128 .f32) (harg15 : arg15.IsWhole) (arg16 : Memref sig .tc .vmem S8x128 .f32) (harg16 : arg16.IsWhole)
    (arg17 : Memref sig .tc .vmem S8x512x128 .fp8e4m3) (harg17 : arg17.IsWhole) (arg18 : Memref sig .tc .vmem S32x128 .f32) (harg18 : arg18.IsWhole)
    (arg19 : Memref sig .tc .vmem S32x128 .f32) (harg19 : arg19.IsWhole) (arg20 : Memref sig .tc .vmem S1024x128 .f32) (harg20 : arg20.IsWhole)
    (arg21 : Memref sig .tc .vmem S2048x512 .f32) (harg21 : arg21.IsWhole) (arg22 : Memref sig .tc .vmem S512x128 .f32) (harg22 : arg22.IsWhole) :
    ∀ n, (mems arg2 arg3 arg4 arg5 arg6 arg7 arg8 arg9 arg10 arg11 arg12 arg13 arg14 arg15 arg16 arg17 arg18 arg19 arg20 arg21 arg22 n).IsWhole
  | .x => harg2
  | .k => harg3
  | .v => harg4
  | .out => harg5
  | .qc => harg6
  | .qsc => harg7
  | .kco => harg8
  | .ksc => harg9
  | .vco => harg10
  | .vsc => harg11
  | .kc => harg12
  | .vt => harg13
  | .ks => harg14
  | .vs => harg15
  | .vm => harg16
  | .qw => harg17
  | .qs => harg18
  | .am => harg19
  | .tmp => harg20
  | .s => harg21
  | .o => harg22

/-- The printed body is the program of the commands. -/
theorem body_eq [Facts] (i : grid0.Coords) (arg2 : Memref sig .tc .vmem S1x128x4096 .bf16) (harg2 : arg2.IsWhole) (arg3 : Memref sig .tc .vmem S1x2048x1024 .bf16)
    (harg3 : arg3.IsWhole) (arg4 : Memref sig .tc .vmem S1x2048x1024 .bf16) (harg4 : arg4.IsWhole) (arg5 : Memref sig .tc .vmem S1x128x4096 .bf16)
    (harg5 : arg5.IsWhole) (arg6 : Memref sig .tc .vmem S1x128x32x128 .fp8e4m3) (harg6 : arg6.IsWhole) (arg7 : Memref sig .tc .vmem S1x32x16 .f32)
    (harg7 : arg7.IsWhole) (arg8 : Memref sig .tc .vmem S1x2048x8x128 .fp8e4m3) (harg8 : arg8.IsWhole) (arg9 : Memref sig .tc .vmem S1x8x32 .f32)
    (harg9 : arg9.IsWhole) (arg10 : Memref sig .tc .vmem S1x2048x8x128 .fp8e4m3) (harg10 : arg10.IsWhole) (arg11 : Memref sig .tc .vmem S1x8x128 .f32)
    (harg11 : arg11.IsWhole) (arg12 : Memref sig .tc .vmem S8x2048x128 .fp8e4m3) (harg12 : arg12.IsWhole)
    (arg13 : Memref sig .tc .vmem S8x128x2048 .fp8e4m3) (harg13 : arg13.IsWhole) (arg14 : Memref sig .tc .vmem S8x32x128 .f32) (harg14 : arg14.IsWhole)
    (arg15 : Memref sig .tc .vmem S8x128 .f32) (harg15 : arg15.IsWhole) (arg16 : Memref sig .tc .vmem S8x128 .f32) (harg16 : arg16.IsWhole)
    (arg17 : Memref sig .tc .vmem S8x512x128 .fp8e4m3) (harg17 : arg17.IsWhole) (arg18 : Memref sig .tc .vmem S32x128 .f32) (harg18 : arg18.IsWhole)
    (arg19 : Memref sig .tc .vmem S32x128 .f32) (harg19 : arg19.IsWhole) (arg20 : Memref sig .tc .vmem S1024x128 .f32) (harg20 : arg20.IsWhole)
    (arg21 : Memref sig .tc .vmem S2048x512 .f32) (harg21 : arg21.IsWhole) (arg22 : Memref sig .tc .vmem S512x128 .f32) (harg22 : arg22.IsWhole) :
    cc0_sage_fp8_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 =
      (Sage.body (BitVec.ofNat 32 (i 1).val)).prog (mems arg2 arg3 arg4 arg5 arg6 arg7 arg8 arg9 arg10 arg11 arg12 arg13 arg14 arg15 arg16 arg17 arg18 arg19 arg20 arg21 arg22)
        (mems_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  chain_rfl

end Cert.Kernel
-- ==== Proof.Only.lean ====
module

public import proofs.«01_k».proof.Proof.Kern

@[expose] public section

set_option maxRecDepth 16384

noncomputable section

namespace Sage

open Idealize.ShloMosaic Idealize.SL.Sem

variable {Val : EltTy → Type}

/-- A command stores to arrays of `S` only. -/
def Cmd.Only (S : Nm → Bool) : ∀ {α : Type}, Cmd Val α → Prop :=
  fun {_} c => Cmd.rec (motive := fun _ _ => Prop)
    (fun _ => True)
    (fun _ _ _ _ k => ∀ v, k v)
    (fun n _ _ _ _ _ k => S n = true ∧ k)
    (fun _ _ _ _ _ body k => (∀ t b, body t b) ∧ ∀ b, k b)
    (fun _ _ _ p q => p ∧ q)
    (fun _ _ p k => p ∧ ∀ b, k b) c

theorem iter_keeps {n : Nat} {α : Type} (m : Nm) {f : Fin n → α → St Val → α × St Val} (h : ∀ t a σ, (f t a σ).2 m = σ m) :
    ∀ (l : List (Fin n)) (a : α) (σ : St Val), (iter f l a σ).2 m = σ m
  | [], _, _ => rfl
  | t :: l, a, σ => (iter_keeps m h l (f t a σ).1 (f t a σ).2).trans (h t a σ)

/-- What a command does not store to keeps its contents. -/
theorem sem_keeps {S : Nm → Bool} {m : Nm} (hm : S m = false) {α : Type} (p : Cmd Val α) (h : p.Only S) : ∀ σ : St Val, (p.sem σ).2 m = σ m := by
  induction p with
  | ret a => exact fun σ => rfl
  | ld n r hr k ih => exact fun σ => ih _ (h _) σ
  | st n r w hw hp k ih =>
    intro σ
    have hn : m ≠ n := fun e => by rw [e, h.1] at hm; cases hm
    exact (ih h.2 _).trans (St.set_ne σ _ hn)
  | loop l ok init body k ihb ihk => exact fun σ => (ihk _ (h.2 _) _).trans (iter_keeps m (fun t a σ => ihb t a (h.1 t a) σ) _ _ _)
  | cond b p q ihp ihq =>
    intro σ
    show (if b = 1#1 then p.sem σ else q.sem σ).2 m = σ m
    split
    · exact ihp h.1 σ
    · exact ihq h.2 σ
  | bnd p k ihp ihk => exact fun σ => (ihk _ (h.2 _) _).trans (ihp h.1 σ)

section
variable {F : FTy → Type} [FloatOps F] {α β : Type} {S : Nm → Bool}

theorem only_ret (a : α) : (Cmd.ret a : Cmd (Elt F) α).Only S := trivial
theorem only_ld {n : Nm} {r : LoadRect (shp n)} {h : 0 < r.shape.numel} {k : (r.shape.Idx → Elt F (ety n)) → Cmd (Elt F) α}
    (hk : ∀ v, (k v).Only S) : (Cmd.ld n r h k).Only S := hk
theorem only_std {n : Nm} {r : Rect (shp n)} {w : r.shape.Idx → Elt F (ety n)} {h : 0 < r.shape.numel}
    {hp : (ety n).bits = 32 ∨ r.PackedRows (ety n).packing} {k : Cmd (Elt F) α} (hn : S n = true) (hk : k.Only S) : (Cmd.std n r w h hp k).Only S :=
  fun _ => ⟨hn, hk⟩
theorem only_loop {l : Scf.Loop 32} {ok : l.OK} {init : β} {body : Fin l.trips → β → Cmd (Elt F) β} {k : β → Cmd (Elt F) α}
    (hb : ∀ t b, (body t b).Only S) (hk : ∀ b, (k b).Only S) : (Cmd.loop l ok init body k).Only S := ⟨hb, hk⟩
theorem only_cond {b : BitVec 1} {p q : Cmd (Elt F) α} (hp : p.Only S) (hq : q.Only S) : (Cmd.cond b p q).Only S := ⟨hp, hq⟩
theorem only_bnd {p : Cmd (Elt F) β} {k : β → Cmd (Elt F) α} (hp : p.Only S) (hk : ∀ b, (k b).Only S) : (Cmd.bnd p k).Only S := ⟨hp, hk⟩

theorem only_upto {g : Fin 8 → β → (β → Cmd (Elt F) α) → Cmd (Elt F) α} {f : ℕ} {hf : f ≤ 8} {b : β} {k : β → Cmd (Elt F) α}
    (hg : ∀ c b k, (∀ b, (k b).Only S) → (g c b k).Only S) (hk : ∀ b, (k b).Only S) : (upto f hf g b k).Only S := by
  induction f generalizing b k with
  | zero => exact hk b
  | succ f ih => exact ih fun _ => hg _ _ _ hk

theorem only_absRows (hn : S .am = true) {k : Cmd (Elt F) α} (hk : k.Only S) : ∀ l, (absRows l k).Only S
  | [] => hk
  | _ :: l => only_ld fun _ => only_std hn (only_absRows hn hk l)

/-- The arrays a preparation stores to. -/
def prepW : Nm → Bool
  | .vm | .ks | .vs | .kc | .vt | .ksc | .vsc | .tmp | .kco | .vco | .qsc => true
  | _ => false
/-- The arrays the quantisation of queries stores to, the largest magnitudes apart. -/
def quantW : Nm → Bool
  | .qs | .qsc | .tmp | .qw | .qc => true
  | _ => false
/-- The arrays attention stores to. -/
def attW : Nm → Bool
  | .s | .o | .out => true
  | _ => false

theorem only_prepHead (h : ∀ n, prepW n = true → S n = true) (t : Fin headLoop.trips) (a : FVec F S32x128 .f32) : (prepHead t a).Only S := by
  unfold prepHead prepSums prepMaxs prepCodes
  repeat' first | exact h _ rfl | assumption | apply_assumption | apply only_ret | apply only_std | apply only_ld | apply only_upto | intro _

theorem only_codesOut (h : ∀ n, prepW n = true → S n = true) (t : Fin seqLoop.trips) : (codesOut (F := F) t).Only S := by
  unfold codesOut
  repeat' first | exact h _ rfl | assumption | apply_assumption | apply only_ret | apply only_std | apply only_ld | apply only_upto | intro _

theorem only_prep (h : ∀ n, prepW n = true → S n = true) {k : Cmd (Elt F) α} (hk : k.Only S) : (prep k).Only S :=
  only_loop (fun t a => only_prepHead h t a) fun _ => only_std (h _ rfl) <| only_ld fun _ => only_std (h _ rfl) <|
    only_loop (fun t _ => only_codesOut h t) fun _ => only_std (h _ rfl) hk

theorem only_quantRest (h : ∀ n, quantW n = true → S n = true) (n : BitVec 32) {k : Cmd (Elt F) α} (hk : k.Only S) : (quantRest n k).Only S := by
  unfold quantRest quantCodes
  repeat' first | exact h _ rfl | assumption | apply_assumption | apply only_std | apply only_ld | apply only_upto | intro _

theorem only_outHead (h : S .out = true) (t : Fin headLoop.trips) (r : Fin 4) {k : Cmd (Elt F) α} (hk : k.Only S) : (outHead t r k).Only S :=
  only_ld fun _ => only_std h hk

theorem only_scoresL (hs : S .s = true) (t : Fin headLoop.trips) (q : FVec F S512x128 .fp8e4m3) (ksq : FVec F S32x128 .f32) (f : Fin 8)
    (m : FVec F S8x512 .f32) {k : FVec F S8x512 .f32 → Cmd (Elt F) α} (hk : ∀ m, (k m).Only S) (half : Bool) : (scoresL t q ksq f m k half).Only S := by
  cases half
  · exact only_ld fun _ => only_std hs <| only_std hs <| only_std hs <| only_std hs (hk _)
  · exact only_ld fun _ => only_std hs <| only_std hs (hk _)

theorem only_valuesL (t : Fin headLoop.trips) (ksq : FVec F S32x128 .f32) (m : FVec F S1x512 .f32) (f : Fin 8)
    (b : Option (FVec F S128x512 .f32) × FVec F S8x512 .f32) {k : FVec F S128x512 .f32 → FVec F S8x512 .f32 → Cmd (Elt F) α}
    (hk : ∀ a l, (k a l).Only S) (half : Bool) : (valuesL t ksq m f b k half).Only S := by
  cases half
  · exact only_ld fun _ => only_ld fun _ => only_ld fun _ => only_ld fun _ => only_ld fun _ => hk _ _
  · exact only_ld fun _ => only_ld fun _ => only_ld fun _ => hk _ _

theorem only_attend (h : ∀ n, attW n = true → S n = true) (f : Fin 8) (half : Bool) (t : Fin headLoop.trips) : (attend (F := F) f half t).Only S := by
  have hs : S .s = true := h _ rfl
  unfold attend
  refine only_ld fun _ => only_ld fun _ => only_ld fun _ => only_ld fun _ => only_ld fun _ => only_ld fun _ => ?_
  refine only_upto (fun _ _ _ hk => only_ld fun _ => only_std hs <| only_std hs <| only_std hs <| only_std hs (hk _)) fun _ => ?_
  refine only_scoresL hs _ _ _ _ _ (fun _ => ?_) _
  refine only_upto (fun _ _ _ hk => only_ld fun _ => only_ld fun _ => only_ld fun _ => only_ld fun _ => only_ld fun _ => hk _) fun _ => ?_
  refine only_valuesL _ _ _ _ _ (fun _ _ => ?_) _
  exact only_ld fun _ => only_ld fun _ => only_std (h _ rfl) <| only_outHead (h _ rfl) _ _ <| only_outHead (h _ rfl) _ _ <|
    only_outHead (h _ rfl) _ _ <| only_outHead (h _ rfl) _ _ (only_ret _)

theorem only_attCond (h : ∀ n, attW n = true → S n = true) {n m : BitVec 32} {f : Fin 8} {half : Bool} {k : Cmd (Elt F) α} (hk : k.Only S) :
    (attCond n m f half k).Only S := only_cond (only_loop (fun t _ => only_attend h f half t) fun _ => hk) hk

/-- The arrays the body may store to: all but the three operands. -/
def notIn : Nm → Bool
  | .x | .k | .v => false
  | _ => true

theorem only_start (h : ∀ n, prepW n = true → S n = true) (h' : S .am = true) (n : BitVec 32) : (start (F := F) n).Only S := by
  unfold start
  have hk := only_absRows (S := S) h' (show Cmd.Only S (.ld .x (rX 3).toLoadRect (show 0 < S1x128x128.numel by decide) fun v =>
    .ret (⟨n, v⟩ : Σ' (_ : BitVec 32), Vec F S1x128x128 .bf16)) from fun _ => trivial) [0, 1, 2]
  exact only_cond (only_prep h hk) hk

theorem only_body (n : BitVec 32) : (body (F := F) n).Only notIn := by
  have h1 : ∀ n, prepW n = true → notIn n = true := by intro n; cases n <;> decide
  have h2 : ∀ n, quantW n = true → notIn n = true := by intro n; cases n <;> decide
  have h3 : ∀ n, attW n = true → notIn n = true := by intro n; cases n <;> decide
  unfold body mid ten absRow
  refine only_bnd (only_start h1 rfl n) fun x => only_std rfl <| only_absRows rfl (only_quantRest h2 _ ?_) _
  repeat' first | apply only_ret | apply only_attCond h3 | apply only_bnd | intro _

end

end Sage
-- ==== Proof.AtK.lean ====
module

public import proofs.«01_k».proof.Proof.EqK
public import proofs.«01_k».proof.Proof.Only
public import proofs.«01_k».proof.Proof.Gen.Kernel.Frame

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Sage Gen

variable {F : FTy → Type} [FloatOps F]

local notation "𝕄" => MT nD τ sig Unit (Elt F) ℕ (UR sig nD τ) ℕ

/-- The arrays the body works on at point `t`. -/
abbrev at_ (t : Fin cfg0.N) : Sage.Mems sig :=
  mems (st0_0 t) (st0_1 t) (st0_2 t) (st0_3 t) (st0_4 t) (st0_5 t) (st0_6 t) (st0_7 t) (st0_8 t) (st0_9 t)
    (Memref.whole cc0_scratch0) (Memref.whole cc0_scratch1) (Memref.whole cc0_scratch2) (Memref.whole cc0_scratch3) (Memref.whole cc0_scratch4)
    (Memref.whole cc0_scratch5) (Memref.whole cc0_scratch6) (Memref.whole cc0_scratch7) (Memref.whole cc0_scratch8) (Memref.whole cc0_scratch9)
    (Memref.whole cc0_scratch10)

/-- The ten windows' buffers at the contents `σ`. -/
def wins (c : Dev nD) (t : Fin cfg0.N) (σ : St (Elt F)) : sProp 𝕄 :=
  iprop(owns (c : Thread nD τ) (st0_0 t) fullShare (σ .x) ∗ owns (c : Thread nD τ) (st0_1 t) fullShare (σ .k)
    ∗ owns (c : Thread nD τ) (st0_2 t) fullShare (σ .v) ∗ owns (c : Thread nD τ) (st0_3 t) fullShare (σ .out)
    ∗ owns (c : Thread nD τ) (st0_4 t) fullShare (σ .qc) ∗ owns (c : Thread nD τ) (st0_5 t) fullShare (σ .qsc)
    ∗ owns (c : Thread nD τ) (st0_6 t) fullShare (σ .kco) ∗ owns (c : Thread nD τ) (st0_7 t) fullShare (σ .ksc)
    ∗ owns (c : Thread nD τ) (st0_8 t) fullShare (σ .vco) ∗ owns (c : Thread nD τ) (st0_9 t) fullShare (σ .vsc))

/-- The eleven scratch buffers at the contents `σ`. -/
def scr (c : Dev nD) (σ : St (Elt F)) : sProp 𝕄 :=
  iprop((((c : Thread nD τ).loc cc0_scratch0) ↦{fullShare} (σ .kc)) ∗ (((c : Thread nD τ).loc cc0_scratch1) ↦{fullShare} (σ .vt))
    ∗ (((c : Thread nD τ).loc cc0_scratch2) ↦{fullShare} (σ .ks)) ∗ (((c : Thread nD τ).loc cc0_scratch3) ↦{fullShare} (σ .vs))
    ∗ (((c : Thread nD τ).loc cc0_scratch4) ↦{fullShare} (σ .vm)) ∗ (((c : Thread nD τ).loc cc0_scratch5) ↦{fullShare} (σ .qw))
    ∗ (((c : Thread nD τ).loc cc0_scratch6) ↦{fullShare} (σ .qs)) ∗ (((c : Thread nD τ).loc cc0_scratch7) ↦{fullShare} (σ .am))
    ∗ (((c : Thread nD τ).loc cc0_scratch8) ↦{fullShare} (σ .tmp)) ∗ (((c : Thread nD τ).loc cc0_scratch9) ↦{fullShare} (σ .s))
    ∗ (((c : Thread nD τ).loc cc0_scratch10) ↦{fullShare} (σ .o)))

theorem sep_assoc_eq {M : Type _} [RA M] (P Q R : sProp M) : iprop((P ∗ Q) ∗ R) = iprop(P ∗ Q ∗ R) :=
  equiv_iff.mp ⟨BI.sep_assoc, BI.sep_assoc'⟩

theorem own_at (c : Dev nD) (t : Fin cfg0.N) (σ : St (Elt F)) :
    (Sage.own c (at_ t) σ : sProp 𝕄) = iprop(wins c t σ ∗ scr c σ) := by
  unfold Sage.own wins scr
  rw [bigSep_univ_eq_bigSepL [Nm.x, .k, .v, .out, .qc, .qsc, .kco, .ksc, .vco, .vsc, .kc, .vt, .ks, .vs, .vm, .qw, .qs, .am, .tmp, .s, .o] (by decide) (by decide)]
  simp only [sep_assoc_eq]
  show iprop(_ ∗ _ ∗ _ ∗ _ ∗ _ ∗ _ ∗ _ ∗ _ ∗ _ ∗ _ ∗ _ ∗ _ ∗ _ ∗ _ ∗ _ ∗ _ ∗ _ ∗ _ ∗ _ ∗ _ ∗ owns (c : Thread nD τ) (at_ t .o) fullShare (σ .o)) = _
  simp only [mems, owns_whole]

theorem body_at (c : Dev nD) (t : Fin cfg0.N) (σ : St (Elt F)) (Q : PUnit → sProp 𝕄) :
    iprop(wins c t σ ∗ scr c σ
        ∗ (wins c t ((Sage.body (BitVec.ofNat 32 ((grid0.coords t) 1).val)).sem σ).2
            ∗ scr c ((Sage.body (BitVec.ofNat 32 ((grid0.coords t) 1).val)).sem σ).2 -∗ Q ⟨⟩))
      ⊢ wp frame (wpE (defs₀ (F := F)) Variants.none c none) Set.univ (bodyAt0 t) Q := by
  unfold bodyAt0
  rw [body_eq]
  refine BIBase.Entails.trans ?_ (runs_cmd (defs₀ (F := F)) Variants.none c none Set.univ (at_ t) _ (Sage.body (BitVec.ofNat 32 ((grid0.coords t) 1).val)) σ Q)
  rw [own_at, own_at]
  iintro ⟨Hw, Hs, HQ⟩
  isplitl [Hw Hs]
  · isplitl [Hw]; · iexact Hw
    iexact Hs
  iexact HQ

end Cert.Kernel

end
-- ==== Proof.FrameK.lean ====
module

public import proofs.«01_k».proof.Proof.AtK

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Sage Gen

variable {F : FTy → Type} [FloatOps F]

local notation "𝕄" => MT nD τ sig Unit (Elt F) ℕ (UR sig nD τ) ℕ

variable (m : (ℓ : Loc nD τ sig) → Buf (Elt F) ℓ)

/-- The windows whose contents the frame says nothing of: the seven outputs. -/
def outs (w : Fin 10) : Bool := match w with | 0 => false | 1 => false | 2 => false | _ => true

/-- What the body leaves in each window: each input's block; of an output nothing is said. -/
def aftF (c : Dev nD) (w : Fin cfg0.W) (t : Fin cfg0.N) : (cfg0.win w).block.Idx → Elt F (cfg0.win w).elt :=
  match w with
  | 0 => iblk m c 0 t
  | 1 => iblk m c 1 t
  | 2 => iblk m c 2 t
  | w => Dat.unnamed (cfg := cfg0) w t

/-- The frame's proof data: the scratch buffers hold anything between points. -/
def datF (c : Dev nD) : Dat τ (Elt F) Unit ℕ (UR sig nD τ) ℕ cfg0 c where
  A w := V m c (Pipeline.arrRef spec0 w)
  after := aftF m c
  Φ _ := Pipeline.ΦA spec0 c
  q _ := fullShare
  owed _ := 0

def datsF : (p : Fin 1) → (c : Dev nD) → Dat τ (Elt F) Unit ℕ (UR sig nD τ) ℕ (cfgs p) c
  | 0, c => datF m c

theorem defs₀_row (t : Fin cfg0.N) :
    defs₀ (F := F) .tc cfg0.body (cfg0.bodyArgs t (cfg0.slots t)) = bodyAt0 t := by
  unfold defs₀; rw [Defs.onTc_tc]

/-- Contents nothing names. -/
def dflt {S : Shape} {e : EltTy} : S.Idx → Elt F e := fun _ => Classical.arbitrary (Elt F e)

/-- The contents at hand when the body starts. -/
def mk (x : (shp .x).Idx → Elt F .bf16) (k : (shp .k).Idx → Elt F .bf16) (v : (shp .v).Idx → Elt F .bf16)
    (out : (shp .out).Idx → Elt F .bf16) (qc : (shp .qc).Idx → Elt F .fp8e4m3) (qsc : (shp .qsc).Idx → Elt F .f32)
    (kco : (shp .kco).Idx → Elt F .fp8e4m3) (ksc : (shp .ksc).Idx → Elt F .f32) (vco : (shp .vco).Idx → Elt F .fp8e4m3)
    (vsc : (shp .vsc).Idx → Elt F .f32) (kc : (shp .kc).Idx → Elt F .fp8e4m3) (vt : (shp .vt).Idx → Elt F .fp8e4m3)
    (ks : (shp .ks).Idx → Elt F .f32) (vs : (shp .vs).Idx → Elt F .f32) (vm : (shp .vm).Idx → Elt F .f32)
    (qw : (shp .qw).Idx → Elt F .fp8e4m3) (qs : (shp .qs).Idx → Elt F .f32) (am : (shp .am).Idx → Elt F .f32)
    (tmp : (shp .tmp).Idx → Elt F .f32) (s : (shp .s).Idx → Elt F .f32) (o : (shp .o).Idx → Elt F .f32) : St (Elt F)
  | .x => x | .k => k | .v => v | .out => out | .qc => qc | .qsc => qsc | .kco => kco | .ksc => ksc | .vco => vco | .vsc => vsc
  | .kc => kc | .vt => vt | .ks => ks | .vs => vs | .vm => vm | .qw => qw | .qs => qs | .am => am | .tmp => tmp | .s => s | .o => o

theorem scratch_elim (c : Dev nD) :
    (Pipeline.ΦA spec0 c : sProp 𝕄) ⊢ iprop(∃ σ : St (Elt F), scr c σ ∗ ∃ r, prngReg c r) := by
  unfold Pipeline.ΦA
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, Hg⟩
  iexists (mk dflt dflt dflt dflt
    dflt dflt dflt dflt
    dflt dflt f0 f1 f2 f3 f4 f5 f6 f7 f8 f9 f10)
  isplitr [Hg]
  · unfold scr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

theorem scratch_intro (c : Dev nD) (σ : St (Elt F)) :
    iprop(scr c σ ∗ ∃ r, prngReg c r) ⊢ (Pipeline.ΦA spec0 c : sProp 𝕄) := by
  unfold Pipeline.ΦA scr
  rw [scopedRest0_eq]
  iintro ⟨⟨H0, H1, H2, H3, H4, H5, H6, H7, H8, H9, H10⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10
  iexact Hg

/-- The contents `σ`, the ten windows' from `τ'`. -/
def withWins (σ ω : St (Elt F)) : St (Elt F) :=
  mk (ω .x) (ω .k) (ω .v) (ω .out) (ω .qc) (ω .qsc) (ω .kco) (ω .ksc) (ω .vco) (ω .vsc)
    (σ .kc) (σ .vt) (σ .ks) (σ .vs) (σ .vm) (σ .qw) (σ .qs) (σ .am) (σ .tmp) (σ .s) (σ .o)

/-- The windows alone, the scratch arbitrary. -/
def mkW (x : (shp .x).Idx → Elt F .bf16) (k : (shp .k).Idx → Elt F .bf16) (v : (shp .v).Idx → Elt F .bf16)
    (out : (shp .out).Idx → Elt F .bf16) (qc : (shp .qc).Idx → Elt F .fp8e4m3) (qsc : (shp .qsc).Idx → Elt F .f32)
    (kco : (shp .kco).Idx → Elt F .fp8e4m3) (ksc : (shp .ksc).Idx → Elt F .f32) (vco : (shp .vco).Idx → Elt F .fp8e4m3)
    (vsc : (shp .vsc).Idx → Elt F .f32) : St (Elt F) :=
  mk x k v out qc qsc kco ksc vco vsc dflt dflt dflt
    dflt dflt dflt dflt
    dflt dflt dflt dflt

theorem wins_with (c : Dev nD) (t : Fin cfg0.N) (σ ω : St (Elt F)) : (wins c t (withWins σ ω) : sProp 𝕄) = wins c t ω := rfl
theorem scr_with (c : Dev nD) (σ ω : St (Elt F)) : (scr c (withWins σ ω) : sProp 𝕄) = scr c σ := rfl

/-- The windows before the body: the inputs at their blocks, the outputs at anything. -/
def preF (c : Dev nD) (t : Fin cfg0.N) : sProp 𝕄 :=
  iprop(Pipeline.ΦA spec0 c ∗ (datF m c).owesAt () t.castSucc
    ∗ (∃ d, owns (c : Thread nD τ) (st0_0 t) fullShare ((datF m c).before 0 t d))
    ∗ (∃ d, owns (c : Thread nD τ) (st0_1 t) fullShare ((datF m c).before 1 t d))
    ∗ (∃ d, owns (c : Thread nD τ) (st0_2 t) fullShare ((datF m c).before 2 t d))
    ∗ (∃ X, owns (c : Thread nD τ) (st0_3 t) fullShare X) ∗ (∃ X, owns (c : Thread nD τ) (st0_4 t) fullShare X)
    ∗ (∃ X, owns (c : Thread nD τ) (st0_5 t) fullShare X) ∗ (∃ X, owns (c : Thread nD τ) (st0_6 t) fullShare X)
    ∗ (∃ X, owns (c : Thread nD τ) (st0_7 t) fullShare X) ∗ (∃ X, owns (c : Thread nD τ) (st0_8 t) fullShare X)
    ∗ (∃ X, owns (c : Thread nD τ) (st0_9 t) fullShare X))

def postF (c : Dev nD) (t : Fin cfg0.N) : sProp 𝕄 :=
  iprop(Pipeline.ΦA spec0 c ∗ (datF m c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, owns (c : Thread nD τ) (st0_3 t) fullShare X) ∗ (∃ X, owns (c : Thread nD τ) (st0_4 t) fullShare X)
    ∗ (∃ X, owns (c : Thread nD τ) (st0_5 t) fullShare X) ∗ (∃ X, owns (c : Thread nD τ) (st0_6 t) fullShare X)
    ∗ (∃ X, owns (c : Thread nD τ) (st0_7 t) fullShare X) ∗ (∃ X, owns (c : Thread nD τ) (st0_8 t) fullShare X)
    ∗ (∃ X, owns (c : Thread nD τ) (st0_9 t) fullShare X))

theorem sound_F (c : Dev nD) (t : Fin cfg0.N) :
    preF m c t ⊢ wp frame (wpE (defs₀ (F := F)) Variants.none c none) Set.univ (bodyAt0 t) (fun _ => postF m c t) := by
  unfold preF
  iintro ⟨HΦ, HW, ⟨%d0, H0⟩, ⟨%d1, H1⟩, ⟨%d2, H2⟩, ⟨%X3, H3⟩, ⟨%X4, H4⟩, ⟨%X5, H5⟩, ⟨%X6, H6⟩, ⟨%X7, H7⟩, ⟨%X8, H8⟩, ⟨%X9, H9⟩⟩
  rw [before0_0_of m (datF m c) rfl (fun _ => rfl) t d0, before0_1_of m (datF m c) rfl (fun _ => rfl) t d1,
    before0_2_of m (datF m c) rfl (fun _ => rfl) t d2]
  ihave HS := scratch_elim (F := F) c $$ HΦ
  icases HS with ⟨%σ, HS, Hg⟩
  iapply (body_at c t (withWins σ (mkW (iblk m c 0 t) (iblk m c 1 t) (iblk m c 2 t) X3 X4 X5 X6 X7 X8 X9)) (fun _ => postF m c t))
  rw [wins_with, scr_with]
  generalize hσ : (withWins σ (mkW (iblk m c 0 t) (iblk m c 1 t) (iblk m c 2 t) X3 X4 X5 X6 X7 X8 X9)) = ρ
  have hx := (sem_keeps (m := .x) rfl _ (only_body (F := F) (BitVec.ofNat 32 ((grid0.coords t) 1).val)) ρ).trans (show ρ .x = iblk m c 0 t from hσ ▸ rfl)
  have hk := (sem_keeps (m := .k) rfl _ (only_body (F := F) (BitVec.ofNat 32 ((grid0.coords t) 1).val)) ρ).trans (show ρ .k = iblk m c 1 t from hσ ▸ rfl)
  have hv := (sem_keeps (m := .v) rfl _ (only_body (F := F) (BitVec.ofNat 32 ((grid0.coords t) 1).val)) ρ).trans (show ρ .v = iblk m c 2 t from hσ ▸ rfl)
  generalize ((Sage.body (BitVec.ofNat 32 ((grid0.coords t) 1).val)).sem ρ).2 = ρ' at hx hk hv ⊢
  isplitl [H0 H1 H2 H3 H4 H5 H6 H7 H8 H9]
  · unfold wins mkW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]; · iexact HS
  unfold postF wins
  iintro ⟨⟨H0, H1, H2, H3, H4, H5, H6, H7, H8, H9⟩, HS⟩
  isplitl [HS Hg]
  · iapply scratch_intro (F := F) c ρ'
    isplitl [HS]; · iexact HS
    iexact Hg
  isplitl [HW]
  · iexact HW
  rw [hx, hk, hv]
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

theorem obligation_F (c : Dev nD) :
    BodyObligation (datsF (F := F) m 0 c) (defs₀ (F := F)) Variants.none () Set.univ outs := fun t => by
  rw [bigSep_W0, bigSep_W0, defs₀_row]
  exact triple_restated (sound_F m c t) rfl .rfl fun _ => .rfl

set_option backward.isDefEq.respectTransparency.types false in
/-- The program runs, nothing faults, its arguments end unchanged and every counter is zero again. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (datsF m) (0 : Fin 1) launch0 defs₀ Variants.none outs m ρ main
    (hbody := fun c => (obligation_F m c).loose) (hshare := fun c => (datsF m 0 c).share_full fun _ => rfl)
    (howed := fun _ _ => rfl) (V := V m) (hmain := hmain m Variants.none) (hA := fun _ _ => rfl) (hΦ := fun _ _ => rfl)
    (Q' := _) (hQ' := fun r h => ⟨fun c =>
      ⟨((Dat.toRForget_arrAt_iff (datsF m 0 c) (fgt := outs) (w := 0) rfl _ _).mp ((h.1 c).1 0)).trans ((datsF m 0 c).arrAt_in 0 rfl _),
       ((Dat.toRForget_arrAt_iff (datsF m 0 c) (fgt := outs) (w := 1) rfl _ _).mp ((h.1 c).1 1)).trans ((datsF m 0 c).arrAt_in 1 rfl _),
       ((Dat.toRForget_arrAt_iff (datsF m 0 c) (fgt := outs) (w := 2) rfl _ _).mp ((h.1 c).1 2)).trans ((datsF m 0 c).arrAt_in 2 rfl _)⟩, h.2⟩)

end Cert.Kernel

end
-- ==== Proof.EqI.lean ====
module

public import proofs.«01_k».proof.Proof.Kern
public import proofs.«01_k».proof.Proof.Gen.KernelIdeal.Launch

@[expose] public section

set_option maxRecDepth 16384

noncomputable section

namespace Cert.KernelIdeal

open Idealize.ShloMosaic Idealize.SL.Sem Facts₀ Facts

variable {F : FTy → Type} [FloatOps F]

/-- The body's arrays under their names. -/
def mems (arg2 : Memref sig .tc .vmem S1x128x4096 .bf16) (arg3 : Memref sig .tc .vmem S1x2048x1024 .bf16) (arg4 : Memref sig .tc .vmem S1x2048x1024 .bf16)
    (arg5 : Memref sig .tc .vmem S1x128x4096 .bf16) (arg6 : Memref sig .tc .vmem S1x128x32x128 .fp8e4m3) (arg7 : Memref sig .tc .vmem S1x32x16 .f32)
    (arg8 : Memref sig .tc .vmem S1x2048x8x128 .fp8e4m3) (arg9 : Memref sig .tc .vmem S1x8x32 .f32)
    (arg10 : Memref sig .tc .vmem S1x2048x8x128 .fp8e4m3) (arg11 : Memref sig .tc .vmem S1x8x128 .f32)
    (arg12 : Memref sig .tc .vmem S8x2048x128 .fp8e4m3) (arg13 : Memref sig .tc .vmem S8x128x2048 .fp8e4m3)
    (arg14 : Memref sig .tc .vmem S8x32x128 .f32) (arg15 : Memref sig .tc .vmem S8x128 .f32) (arg16 : Memref sig .tc .vmem S8x128 .f32)
    (arg17 : Memref sig .tc .vmem S8x512x128 .fp8e4m3) (arg18 : Memref sig .tc .vmem S32x128 .f32) (arg19 : Memref sig .tc .vmem S32x128 .f32)
    (arg20 : Memref sig .tc .vmem S1024x128 .f32) (arg21 : Memref sig .tc .vmem S2048x512 .f32) (arg22 : Memref sig .tc .vmem S512x128 .f32) : Sage.Mems sig
  | .x => arg2
  | .k => arg3
  | .v => arg4
  | .out => arg5
  | .qc => arg6
  | .qsc => arg7
  | .kco => arg8
  | .ksc => arg9
  | .vco => arg10
  | .vsc => arg11
  | .kc => arg12
  | .vt => arg13
  | .ks => arg14
  | .vs => arg15
  | .vm => arg16
  | .qw => arg17
  | .qs => arg18
  | .am => arg19
  | .tmp => arg20
  | .s => arg21
  | .o => arg22

theorem mems_whole (arg2 : Memref sig .tc .vmem S1x128x4096 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x128x4096 .bf16) (harg5 : arg5.IsWhole)
    (arg6 : Memref sig .tc .vmem S1x128x32x128 .fp8e4m3) (harg6 : arg6.IsWhole) (arg7 : Memref sig .tc .vmem S1x32x16 .f32) (harg7 : arg7.IsWhole)
    (arg8 : Memref sig .tc .vmem S1x2048x8x128 .fp8e4m3) (harg8 : arg8.IsWhole) (arg9 : Memref sig .tc .vmem S1x8x32 .f32) (harg9 : arg9.IsWhole)
    (arg10 : Memref sig .tc .vmem S1x2048x8x128 .fp8e4m3) (harg10 : arg10.IsWhole) (arg11 : Memref sig .tc .vmem S1x8x128 .f32)
    (harg11 : arg11.IsWhole) (arg12 : Memref sig .tc .vmem S8x2048x128 .fp8e4m3) (harg12 : arg12.IsWhole)
    (arg13 : Memref sig .tc .vmem S8x128x2048 .fp8e4m3) (harg13 : arg13.IsWhole) (arg14 : Memref sig .tc .vmem S8x32x128 .f32) (harg14 : arg14.IsWhole)
    (arg15 : Memref sig .tc .vmem S8x128 .f32) (harg15 : arg15.IsWhole) (arg16 : Memref sig .tc .vmem S8x128 .f32) (harg16 : arg16.IsWhole)
    (arg17 : Memref sig .tc .vmem S8x512x128 .fp8e4m3) (harg17 : arg17.IsWhole) (arg18 : Memref sig .tc .vmem S32x128 .f32) (harg18 : arg18.IsWhole)
    (arg19 : Memref sig .tc .vmem S32x128 .f32) (harg19 : arg19.IsWhole) (arg20 : Memref sig .tc .vmem S1024x128 .f32) (harg20 : arg20.IsWhole)
    (arg21 : Memref sig .tc .vmem S2048x512 .f32) (harg21 : arg21.IsWhole) (arg22 : Memref sig .tc .vmem S512x128 .f32) (harg22 : arg22.IsWhole) :
    ∀ n, (mems arg2 arg3 arg4 arg5 arg6 arg7 arg8 arg9 arg10 arg11 arg12 arg13 arg14 arg15 arg16 arg17 arg18 arg19 arg20 arg21 arg22 n).IsWhole
  | .x => harg2
  | .k => harg3
  | .v => harg4
  | .out => harg5
  | .qc => harg6
  | .qsc => harg7
  | .kco => harg8
  | .ksc => harg9
  | .vco => harg10
  | .vsc => harg11
  | .kc => harg12
  | .vt => harg13
  | .ks => harg14
  | .vs => harg15
  | .vm => harg16
  | .qw => harg17
  | .qs => harg18
  | .am => harg19
  | .tmp => harg20
  | .s => harg21
  | .o => harg22

/-- The printed body is the program of the commands. -/
theorem body_eq [Facts] (i : grid0.Coords) (arg2 : Memref sig .tc .vmem S1x128x4096 .bf16) (harg2 : arg2.IsWhole) (arg3 : Memref sig .tc .vmem S1x2048x1024 .bf16)
    (harg3 : arg3.IsWhole) (arg4 : Memref sig .tc .vmem S1x2048x1024 .bf16) (harg4 : arg4.IsWhole) (arg5 : Memref sig .tc .vmem S1x128x4096 .bf16)
    (harg5 : arg5.IsWhole) (arg6 : Memref sig .tc .vmem S1x128x32x128 .fp8e4m3) (harg6 : arg6.IsWhole) (arg7 : Memref sig .tc .vmem S1x32x16 .f32)
    (harg7 : arg7.IsWhole) (arg8 : Memref sig .tc .vmem S1x2048x8x128 .fp8e4m3) (harg8 : arg8.IsWhole) (arg9 : Memref sig .tc .vmem S1x8x32 .f32)
    (harg9 : arg9.IsWhole) (arg10 : Memref sig .tc .vmem S1x2048x8x128 .fp8e4m3) (harg10 : arg10.IsWhole) (arg11 : Memref sig .tc .vmem S1x8x128 .f32)
    (harg11 : arg11.IsWhole) (arg12 : Memref sig .tc .vmem S8x2048x128 .fp8e4m3) (harg12 : arg12.IsWhole)
    (arg13 : Memref sig .tc .vmem S8x128x2048 .fp8e4m3) (harg13 : arg13.IsWhole) (arg14 : Memref sig .tc .vmem S8x32x128 .f32) (harg14 : arg14.IsWhole)
    (arg15 : Memref sig .tc .vmem S8x128 .f32) (harg15 : arg15.IsWhole) (arg16 : Memref sig .tc .vmem S8x128 .f32) (harg16 : arg16.IsWhole)
    (arg17 : Memref sig .tc .vmem S8x512x128 .fp8e4m3) (harg17 : arg17.IsWhole) (arg18 : Memref sig .tc .vmem S32x128 .f32) (harg18 : arg18.IsWhole)
    (arg19 : Memref sig .tc .vmem S32x128 .f32) (harg19 : arg19.IsWhole) (arg20 : Memref sig .tc .vmem S1024x128 .f32) (harg20 : arg20.IsWhole)
    (arg21 : Memref sig .tc .vmem S2048x512 .f32) (harg21 : arg21.IsWhole) (arg22 : Memref sig .tc .vmem S512x128 .f32) (harg22 : arg22.IsWhole) :
    cc0_sage_fp8_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 =
      (Sage.body (BitVec.ofNat 32 (i 1).val)).prog (mems arg2 arg3 arg4 arg5 arg6 arg7 arg8 arg9 arg10 arg11 arg12 arg13 arg14 arg15 arg16 arg17 arg18 arg19 arg20 arg21 arg22)
        (mems_whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  chain_rfl

end Cert.KernelIdeal
-- ==== Proof.AtI.lean ====
module

public import proofs.«01_k».proof.Proof.EqI
public import proofs.«01_k».proof.Proof.Only
public import proofs.«01_k».proof.Proof.Gen.KernelIdeal.Frame

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Sage Gen

variable {F : FTy → Type} [FloatOps F]

local notation "𝕄" => MT nD τ sig Unit (Elt F) ℕ (UR sig nD τ) ℕ

/-- The arrays the body works on at point `t`. -/
abbrev at_ (t : Fin cfg0.N) : Sage.Mems sig :=
  mems (st0_0 t) (st0_1 t) (st0_2 t) (st0_3 t) (st0_4 t) (st0_5 t) (st0_6 t) (st0_7 t) (st0_8 t) (st0_9 t)
    (Memref.whole cc0_scratch0) (Memref.whole cc0_scratch1) (Memref.whole cc0_scratch2) (Memref.whole cc0_scratch3) (Memref.whole cc0_scratch4)
    (Memref.whole cc0_scratch5) (Memref.whole cc0_scratch6) (Memref.whole cc0_scratch7) (Memref.whole cc0_scratch8) (Memref.whole cc0_scratch9)
    (Memref.whole cc0_scratch10)

/-- The ten windows' buffers at the contents `σ`. -/
def wins (c : Dev nD) (t : Fin cfg0.N) (σ : St (Elt F)) : sProp 𝕄 :=
  iprop(owns (c : Thread nD τ) (st0_0 t) fullShare (σ .x) ∗ owns (c : Thread nD τ) (st0_1 t) fullShare (σ .k)
    ∗ owns (c : Thread nD τ) (st0_2 t) fullShare (σ .v) ∗ owns (c : Thread nD τ) (st0_3 t) fullShare (σ .out)
    ∗ owns (c : Thread nD τ) (st0_4 t) fullShare (σ .qc) ∗ owns (c : Thread nD τ) (st0_5 t) fullShare (σ .qsc)
    ∗ owns (c : Thread nD τ) (st0_6 t) fullShare (σ .kco) ∗ owns (c : Thread nD τ) (st0_7 t) fullShare (σ .ksc)
    ∗ owns (c : Thread nD τ) (st0_8 t) fullShare (σ .vco) ∗ owns (c : Thread nD τ) (st0_9 t) fullShare (σ .vsc))

/-- The eleven scratch buffers at the contents `σ`. -/
def scr (c : Dev nD) (σ : St (Elt F)) : sProp 𝕄 :=
  iprop((((c : Thread nD τ).loc cc0_scratch0) ↦{fullShare} (σ .kc)) ∗ (((c : Thread nD τ).loc cc0_scratch1) ↦{fullShare} (σ .vt))
    ∗ (((c : Thread nD τ).loc cc0_scratch2) ↦{fullShare} (σ .ks)) ∗ (((c : Thread nD τ).loc cc0_scratch3) ↦{fullShare} (σ .vs))
    ∗ (((c : Thread nD τ).loc cc0_scratch4) ↦{fullShare} (σ .vm)) ∗ (((c : Thread nD τ).loc cc0_scratch5) ↦{fullShare} (σ .qw))
    ∗ (((c : Thread nD τ).loc cc0_scratch6) ↦{fullShare} (σ .qs)) ∗ (((c : Thread nD τ).loc cc0_scratch7) ↦{fullShare} (σ .am))
    ∗ (((c : Thread nD τ).loc cc0_scratch8) ↦{fullShare} (σ .tmp)) ∗ (((c : Thread nD τ).loc cc0_scratch9) ↦{fullShare} (σ .s))
    ∗ (((c : Thread nD τ).loc cc0_scratch10) ↦{fullShare} (σ .o)))

theorem sep_assoc_eq {M : Type _} [RA M] (P Q R : sProp M) : iprop((P ∗ Q) ∗ R) = iprop(P ∗ Q ∗ R) :=
  equiv_iff.mp ⟨BI.sep_assoc, BI.sep_assoc'⟩

theorem own_at (c : Dev nD) (t : Fin cfg0.N) (σ : St (Elt F)) :
    (Sage.own c (at_ t) σ : sProp 𝕄) = iprop(wins c t σ ∗ scr c σ) := by
  unfold Sage.own wins scr
  rw [bigSep_univ_eq_bigSepL [Nm.x, .k, .v, .out, .qc, .qsc, .kco, .ksc, .vco, .vsc, .kc, .vt, .ks, .vs, .vm, .qw, .qs, .am, .tmp, .s, .o] (by decide) (by decide)]
  simp only [sep_assoc_eq]
  show iprop(_ ∗ _ ∗ _ ∗ _ ∗ _ ∗ _ ∗ _ ∗ _ ∗ _ ∗ _ ∗ _ ∗ _ ∗ _ ∗ _ ∗ _ ∗ _ ∗ _ ∗ _ ∗ _ ∗ _ ∗ owns (c : Thread nD τ) (at_ t .o) fullShare (σ .o)) = _
  simp only [mems, owns_whole]

theorem body_at (c : Dev nD) (t : Fin cfg0.N) (σ : St (Elt F)) (Q : PUnit → sProp 𝕄) :
    iprop(wins c t σ ∗ scr c σ
        ∗ (wins c t ((Sage.body (BitVec.ofNat 32 ((grid0.coords t) 1).val)).sem σ).2
            ∗ scr c ((Sage.body (BitVec.ofNat 32 ((grid0.coords t) 1).val)).sem σ).2 -∗ Q ⟨⟩))
      ⊢ wp frame (wpE (defs₀ (F := F)) Variants.none c none) Set.univ (bodyAt0 t) Q := by
  unfold bodyAt0
  rw [body_eq]
  refine BIBase.Entails.trans ?_ (runs_cmd (defs₀ (F := F)) Variants.none c none Set.univ (at_ t) _ (Sage.body (BitVec.ofNat 32 ((grid0.coords t) 1).val)) σ Q)
  rw [own_at, own_at]
  iintro ⟨Hw, Hs, HQ⟩
  isplitl [Hw Hs]
  · isplitl [Hw]; · iexact Hw
    iexact Hs
  iexact HQ

end Cert.KernelIdeal

end
-- ==== Proof.FrameI.lean ====
module

public import proofs.«01_k».proof.Proof.AtI

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Sage Gen

variable {F : FTy → Type} [FloatOps F]

local notation "𝕄" => MT nD τ sig Unit (Elt F) ℕ (UR sig nD τ) ℕ

variable (m : (ℓ : Loc nD τ sig) → Buf (Elt F) ℓ)

/-- The windows whose contents the frame says nothing of: the seven outputs. -/
def outs (w : Fin 10) : Bool := match w with | 0 => false | 1 => false | 2 => false | _ => true

/-- What the body leaves in each window: each input's block; of an output nothing is said. -/
def aftF (c : Dev nD) (w : Fin cfg0.W) (t : Fin cfg0.N) : (cfg0.win w).block.Idx → Elt F (cfg0.win w).elt :=
  match w with
  | 0 => iblk m c 0 t
  | 1 => iblk m c 1 t
  | 2 => iblk m c 2 t
  | w => Dat.unnamed (cfg := cfg0) w t

/-- The frame's proof data: the scratch buffers hold anything between points. -/
def datF (c : Dev nD) : Dat τ (Elt F) Unit ℕ (UR sig nD τ) ℕ cfg0 c where
  A w := V m c (Pipeline.arrRef spec0 w)
  after := aftF m c
  Φ _ := Pipeline.ΦA spec0 c
  q _ := fullShare
  owed _ := 0

def datsF : (p : Fin 1) → (c : Dev nD) → Dat τ (Elt F) Unit ℕ (UR sig nD τ) ℕ (cfgs p) c
  | 0, c => datF m c

theorem defs₀_row (t : Fin cfg0.N) :
    defs₀ (F := F) .tc cfg0.body (cfg0.bodyArgs t (cfg0.slots t)) = bodyAt0 t := by
  unfold defs₀; rw [Defs.onTc_tc]

/-- Contents nothing names. -/
def dflt {S : Shape} {e : EltTy} : S.Idx → Elt F e := fun _ => Classical.arbitrary (Elt F e)

/-- The contents at hand when the body starts. -/
def mk (x : (shp .x).Idx → Elt F .bf16) (k : (shp .k).Idx → Elt F .bf16) (v : (shp .v).Idx → Elt F .bf16)
    (out : (shp .out).Idx → Elt F .bf16) (qc : (shp .qc).Idx → Elt F .fp8e4m3) (qsc : (shp .qsc).Idx → Elt F .f32)
    (kco : (shp .kco).Idx → Elt F .fp8e4m3) (ksc : (shp .ksc).Idx → Elt F .f32) (vco : (shp .vco).Idx → Elt F .fp8e4m3)
    (vsc : (shp .vsc).Idx → Elt F .f32) (kc : (shp .kc).Idx → Elt F .fp8e4m3) (vt : (shp .vt).Idx → Elt F .fp8e4m3)
    (ks : (shp .ks).Idx → Elt F .f32) (vs : (shp .vs).Idx → Elt F .f32) (vm : (shp .vm).Idx → Elt F .f32)
    (qw : (shp .qw).Idx → Elt F .fp8e4m3) (qs : (shp .qs).Idx → Elt F .f32) (am : (shp .am).Idx → Elt F .f32)
    (tmp : (shp .tmp).Idx → Elt F .f32) (s : (shp .s).Idx → Elt F .f32) (o : (shp .o).Idx → Elt F .f32) : St (Elt F)
  | .x => x | .k => k | .v => v | .out => out | .qc => qc | .qsc => qsc | .kco => kco | .ksc => ksc | .vco => vco | .vsc => vsc
  | .kc => kc | .vt => vt | .ks => ks | .vs => vs | .vm => vm | .qw => qw | .qs => qs | .am => am | .tmp => tmp | .s => s | .o => o

theorem scratch_elim (c : Dev nD) :
    (Pipeline.ΦA spec0 c : sProp 𝕄) ⊢ iprop(∃ σ : St (Elt F), scr c σ ∗ ∃ r, prngReg c r) := by
  unfold Pipeline.ΦA
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, Hg⟩
  iexists (mk dflt dflt dflt dflt
    dflt dflt dflt dflt
    dflt dflt f0 f1 f2 f3 f4 f5 f6 f7 f8 f9 f10)
  isplitr [Hg]
  · unfold scr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

theorem scratch_intro (c : Dev nD) (σ : St (Elt F)) :
    iprop(scr c σ ∗ ∃ r, prngReg c r) ⊢ (Pipeline.ΦA spec0 c : sProp 𝕄) := by
  unfold Pipeline.ΦA scr
  rw [scopedRest0_eq]
  iintro ⟨⟨H0, H1, H2, H3, H4, H5, H6, H7, H8, H9, H10⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10
  iexact Hg

/-- The contents `σ`, the ten windows' from `τ'`. -/
def withWins (σ ω : St (Elt F)) : St (Elt F) :=
  mk (ω .x) (ω .k) (ω .v) (ω .out) (ω .qc) (ω .qsc) (ω .kco) (ω .ksc) (ω .vco) (ω .vsc)
    (σ .kc) (σ .vt) (σ .ks) (σ .vs) (σ .vm) (σ .qw) (σ .qs) (σ .am) (σ .tmp) (σ .s) (σ .o)

/-- The windows alone, the scratch arbitrary. -/
def mkW (x : (shp .x).Idx → Elt F .bf16) (k : (shp .k).Idx → Elt F .bf16) (v : (shp .v).Idx → Elt F .bf16)
    (out : (shp .out).Idx → Elt F .bf16) (qc : (shp .qc).Idx → Elt F .fp8e4m3) (qsc : (shp .qsc).Idx → Elt F .f32)
    (kco : (shp .kco).Idx → Elt F .fp8e4m3) (ksc : (shp .ksc).Idx → Elt F .f32) (vco : (shp .vco).Idx → Elt F .fp8e4m3)
    (vsc : (shp .vsc).Idx → Elt F .f32) : St (Elt F) :=
  mk x k v out qc qsc kco ksc vco vsc dflt dflt dflt
    dflt dflt dflt dflt
    dflt dflt dflt dflt

theorem wins_with (c : Dev nD) (t : Fin cfg0.N) (σ ω : St (Elt F)) : (wins c t (withWins σ ω) : sProp 𝕄) = wins c t ω := rfl
theorem scr_with (c : Dev nD) (σ ω : St (Elt F)) : (scr c (withWins σ ω) : sProp 𝕄) = scr c σ := rfl

/-- The windows before the body: the inputs at their blocks, the outputs at anything. -/
def preF (c : Dev nD) (t : Fin cfg0.N) : sProp 𝕄 :=
  iprop(Pipeline.ΦA spec0 c ∗ (datF m c).owesAt () t.castSucc
    ∗ (∃ d, owns (c : Thread nD τ) (st0_0 t) fullShare ((datF m c).before 0 t d))
    ∗ (∃ d, owns (c : Thread nD τ) (st0_1 t) fullShare ((datF m c).before 1 t d))
    ∗ (∃ d, owns (c : Thread nD τ) (st0_2 t) fullShare ((datF m c).before 2 t d))
    ∗ (∃ X, owns (c : Thread nD τ) (st0_3 t) fullShare X) ∗ (∃ X, owns (c : Thread nD τ) (st0_4 t) fullShare X)
    ∗ (∃ X, owns (c : Thread nD τ) (st0_5 t) fullShare X) ∗ (∃ X, owns (c : Thread nD τ) (st0_6 t) fullShare X)
    ∗ (∃ X, owns (c : Thread nD τ) (st0_7 t) fullShare X) ∗ (∃ X, owns (c : Thread nD τ) (st0_8 t) fullShare X)
    ∗ (∃ X, owns (c : Thread nD τ) (st0_9 t) fullShare X))

def postF (c : Dev nD) (t : Fin cfg0.N) : sProp 𝕄 :=
  iprop(Pipeline.ΦA spec0 c ∗ (datF m c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, owns (c : Thread nD τ) (st0_3 t) fullShare X) ∗ (∃ X, owns (c : Thread nD τ) (st0_4 t) fullShare X)
    ∗ (∃ X, owns (c : Thread nD τ) (st0_5 t) fullShare X) ∗ (∃ X, owns (c : Thread nD τ) (st0_6 t) fullShare X)
    ∗ (∃ X, owns (c : Thread nD τ) (st0_7 t) fullShare X) ∗ (∃ X, owns (c : Thread nD τ) (st0_8 t) fullShare X)
    ∗ (∃ X, owns (c : Thread nD τ) (st0_9 t) fullShare X))

theorem sound_F (c : Dev nD) (t : Fin cfg0.N) :
    preF m c t ⊢ wp frame (wpE (defs₀ (F := F)) Variants.none c none) Set.univ (bodyAt0 t) (fun _ => postF m c t) := by
  unfold preF
  iintro ⟨HΦ, HW, ⟨%d0, H0⟩, ⟨%d1, H1⟩, ⟨%d2, H2⟩, ⟨%X3, H3⟩, ⟨%X4, H4⟩, ⟨%X5, H5⟩, ⟨%X6, H6⟩, ⟨%X7, H7⟩, ⟨%X8, H8⟩, ⟨%X9, H9⟩⟩
  rw [before0_0_of m (datF m c) rfl (fun _ => rfl) t d0, before0_1_of m (datF m c) rfl (fun _ => rfl) t d1,
    before0_2_of m (datF m c) rfl (fun _ => rfl) t d2]
  ihave HS := scratch_elim (F := F) c $$ HΦ
  icases HS with ⟨%σ, HS, Hg⟩
  iapply (body_at c t (withWins σ (mkW (iblk m c 0 t) (iblk m c 1 t) (iblk m c 2 t) X3 X4 X5 X6 X7 X8 X9)) (fun _ => postF m c t))
  rw [wins_with, scr_with]
  generalize hσ : (withWins σ (mkW (iblk m c 0 t) (iblk m c 1 t) (iblk m c 2 t) X3 X4 X5 X6 X7 X8 X9)) = ρ
  have hx := (sem_keeps (m := .x) rfl _ (only_body (F := F) (BitVec.ofNat 32 ((grid0.coords t) 1).val)) ρ).trans (show ρ .x = iblk m c 0 t from hσ ▸ rfl)
  have hk := (sem_keeps (m := .k) rfl _ (only_body (F := F) (BitVec.ofNat 32 ((grid0.coords t) 1).val)) ρ).trans (show ρ .k = iblk m c 1 t from hσ ▸ rfl)
  have hv := (sem_keeps (m := .v) rfl _ (only_body (F := F) (BitVec.ofNat 32 ((grid0.coords t) 1).val)) ρ).trans (show ρ .v = iblk m c 2 t from hσ ▸ rfl)
  generalize ((Sage.body (BitVec.ofNat 32 ((grid0.coords t) 1).val)).sem ρ).2 = ρ' at hx hk hv ⊢
  isplitl [H0 H1 H2 H3 H4 H5 H6 H7 H8 H9]
  · unfold wins mkW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]; · iexact HS
  unfold postF wins
  iintro ⟨⟨H0, H1, H2, H3, H4, H5, H6, H7, H8, H9⟩, HS⟩
  isplitl [HS Hg]
  · iapply scratch_intro (F := F) c ρ'
    isplitl [HS]; · iexact HS
    iexact Hg
  isplitl [HW]
  · iexact HW
  rw [hx, hk, hv]
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

theorem obligation_F (c : Dev nD) :
    BodyObligation (datsF (F := F) m 0 c) (defs₀ (F := F)) Variants.none () Set.univ outs := fun t => by
  rw [bigSep_W0, bigSep_W0, defs₀_row]
  exact triple_restated (sound_F m c t) rfl .rfl fun _ => .rfl

set_option backward.isDefEq.respectTransparency.types false in
/-- The program runs, nothing faults, its arguments end unchanged and every counter is zero again. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (datsF m) (0 : Fin 1) launch0 defs₀ Variants.none outs m ρ main
    (hbody := fun c => (obligation_F m c).loose) (hshare := fun c => (datsF m 0 c).share_full fun _ => rfl)
    (howed := fun _ _ => rfl) (V := V m) (hmain := hmain m Variants.none) (hA := fun _ _ => rfl) (hΦ := fun _ _ => rfl)
    (Q' := _) (hQ' := fun r h => ⟨fun c =>
      ⟨((Dat.toRForget_arrAt_iff (datsF m 0 c) (fgt := outs) (w := 0) rfl _ _).mp ((h.1 c).1 0)).trans ((datsF m 0 c).arrAt_in 0 rfl _),
       ((Dat.toRForget_arrAt_iff (datsF m 0 c) (fgt := outs) (w := 1) rfl _ _).mp ((h.1 c).1 1)).trans ((datsF m 0 c).arrAt_in 1 rfl _),
       ((Dat.toRForget_arrAt_iff (datsF m 0 c) (fgt := outs) (w := 2) rfl _ _).mp ((h.1 c).1 2)).trans ((datsF m 0 c).arrAt_in 2 rfl _)⟩, h.2⟩)

end Cert.KernelIdeal

end
-- ==== Proof.ValI.lean ====
module

public import proofs.«01_k».proof.Proof.Vals
public import Idealize.ShloMosaic.Lib.Pointwise

@[expose] public section

set_option maxRecDepth 16384

noncomputable section

namespace Sage

open Idealize.ShloMosaic

theorem ninf32 : Ideal.ofBits .f32 0xFF800000#32 = ⊥ := by simp [Ideal.ofBits, Ideal.ieee]
theorem ninf16 : Ideal.ofBits .bf16 0xFF80#16 = ⊥ := by simp [Ideal.ofBits, Ideal.ieee]
theorem fold32 {n : ℕ} (f : Fin n → EReal) : Finset.fold max (Ideal.ofBits .f32 0xFF800000#32) f Finset.univ = Finset.univ.sup f := by
  rw [ninf32]; rfl
theorem fold16 {n : ℕ} (f : Fin n → EReal) : Finset.fold max (Ideal.ofBits .bf16 0xFF80#16) f Finset.univ = Finset.univ.sup f := by
  rw [ninf16]; rfl
theorem sel_eq (a b : BitVec 32) (x y : EReal) : Scalar.select (IntOp.cmpi .eq a b) x y = if a = b then x else y := by
  by_cases h : a = b
  · subst h; simp [Scalar.select, IntOp.cmpi]
  · have h' : (a == b) = false := by simpa using h
    simp [Scalar.select, IntOp.cmpi, h, h']

/-! The kernel's values read at an index, a float an extended real. -/

theorem scoreH_ap (kv : FVec Ideal S1x128x128 .fp8e4m3) (q : FVec Ideal S512x128 .fp8e4m3) (r : Fin 128) (i : Fin 512) :
    scoreH kv q (ix2 r i) = ∑ d : Fin 128, kv (ix3 0 r d) * q (ix2 i d) := by pointwise [scoreH, dotH]
theorem scoreF_ap (kv : FVec Ideal S1x256x128 .fp8e4m3) (q : FVec Ideal S512x128 .fp8e4m3) (r : Fin 256) (i : Fin 512) :
    scoreF kv q (ix2 r i) = ∑ d : Fin 128, kv (ix3 0 r d) * q (ix2 i d) := by pointwise [scoreF, dotF]
theorem blkH_ap (j : Fin 2) (s : FVec Ideal S128x512 .f32) (r : Fin 64) (i : Fin 512) :
    blkH j s (ix2 r i) = s (ix2 ⟨64 * j.val + r.val, by omega⟩ i) := by pointwise [blkH]
theorem blkF_ap (j : Fin 4) (s : FVec Ideal S256x512 .f32) (r : Fin 64) (i : Fin 512) :
    blkF j s (ix2 r i) = s (ix2 ⟨64 * j.val + r.val, by omega⟩ i) := by pointwise [blkF]
theorem crow_ap (b : Fin 32) (m : FVec Ideal S32x128 .f32) (z : Fin 1) (i : Fin 512) :
    crow b m (ix2 z i) = m (ix2 b ⟨i.val % 128, Nat.mod_lt _ (by decide)⟩) := by
  pointwise [crow]
  split_ifs <;> congr 2 <;> exact Fin.ext (by show _ = i.val % 128; simp only []; omega)
theorem max8_ap (s : FVec Ideal S64x512 .f32) (r : Fin 8) (i : Fin 512) :
    max8 s (ix2 r i) = Finset.univ.sup fun a : Fin 8 => s (ix2 ⟨a.val * 8 + r.val, by omega⟩ i) := by
  pointwise [max8]
  simp only [fold32]
theorem add8_ap (s : FVec Ideal S64x512 .f32) (r : Fin 8) (i : Fin 512) :
    add8 s (ix2 r i) = ∑ a : Fin 8, s (ix2 ⟨a.val * 8 + r.val, by omega⟩ i) := by pointwise [add8]
theorem shiftOf_ap (m : FVec Ideal S8x512 .f32) (z : Fin 1) (i : Fin 512) :
    shiftOf m (ix2 z i) = (Finset.univ.sup fun a : Fin 8 => m (ix2 a i)) - Ideal.ofBits .f32 0x41000000#32 := by
  pointwise [shiftOf]
  simp only [fold32]
theorem maxN_ap (m : FVec Ideal S8x512 .f32) (s : FVec Ideal S64x512 .f32) (c : FVec Ideal S1x512 .f32) (r : Fin 8) (i : Fin 512) :
    maxN m s c (ix2 r i) = max (m (ix2 r i)) (max8 s (ix2 r i) * c (ix2 0 i)) := by pointwise [maxN]
theorem maxD_ap (m : FVec Ideal S8x512 .f32) (s : FVec Ideal S64x512 .f32) (r : Fin 8) (i : Fin 512) :
    maxD m s (ix2 r i) = max (m (ix2 r i)) (max8 s (ix2 r i)) := by pointwise [maxD]
theorem probD_ap (s : FVec Ideal S64x512 .f32) (m : FVec Ideal S1x512 .f32) (r : Fin 64) (i : Fin 512) :
    probD s m (ix2 r i) = Ideal.exp2 (s (ix2 r i) - m (ix2 0 i)) := by
  pointwise [probD]
  rfl
theorem probN_ap (s : FVec Ideal S64x512 .f32) (c m : FVec Ideal S1x512 .f32) (r : Fin 64) (i : Fin 512) :
    probN s c m (ix2 r i) = Ideal.exp2 (s (ix2 r i) * c (ix2 0 i) - m (ix2 0 i)) := by
  pointwise [probN, probD]
  rfl
theorem pvH_ap (v : FVec Ideal S1x128x128 .fp8e4m3) (p : FVec Ideal S128x512 .fp8e4m3) (d : Fin 128) (i : Fin 512) :
    pvH v p (ix2 d i) = ∑ s : Fin 128, v (ix3 0 d s) * p (ix2 s i) := by pointwise [pvH, dotVH]
theorem pvF_ap (v : FVec Ideal S1x128x256 .fp8e4m3) (p : FVec Ideal S256x512 .fp8e4m3) (d : Fin 128) (i : Fin 512) :
    pvF v p (ix2 d i) = ∑ s : Fin 256, v (ix3 0 d s) * p (ix2 s i) := by pointwise [pvF, dotVF]
theorem diag_ap (j : Fin 2) (s : FVec Ideal S64x512 .f32) (c : FVec Ideal S1x512 .f32) (r : Fin 64) (i : Fin 512) :
    diagB j s c (ix2 r i) = if causal (ix2 ⟨64 * j.val + r.val, by omega⟩ i) = 1#1 then s (ix2 r i) * c (ix2 0 i) else ⊥ := by
  pointwise [diagB]
  rw [ninf32]
  rfl
theorem normT_ap (a : FVec Ideal S128x512 .f32) (l : FVec Ideal S8x512 .f32) (i : Fin 512) (d : Fin 128) :
    normT a l (ix2 i d) = a (ix2 d i) * Ideal.div 1 (∑ r : Fin 8, l (ix2 r i)) := by pointwise [normT]
theorem mulRow_ap (a : FVec Ideal S512x128 .f32) (r : FVec Ideal S1x128 .f32) (i : Fin 512) (d : Fin 128) :
    mulRow a r (ix2 i d) = a (ix2 i d) * r (ix2 0 d) := by pointwise [mulRow]
theorem addRow_ap (a : FVec Ideal S512x128 .f32) (r : FVec Ideal S1x128 .f32) (i : Fin 512) (d : Fin 128) :
    addRow a r (ix2 i d) = a (ix2 i d) + r (ix2 0 d) := by pointwise [addRow]
theorem kqs_ap (k : FVec Ideal S1x32x128 .f32) (q : FVec Ideal S1x128 .f32) (b : Fin 32) (l : Fin 128) :
    kqs k q (ix2 b l) = k (ix3 0 b l) * q (ix2 0 l) := by pointwise [kqs]
theorem rowMax_ap (a : FVec Ideal S32x128 .f32) (r : Fin 32) (l : Fin 128) :
    rowMax a (ix2 r l) = Finset.univ.sup fun x : Fin 128 => a (ix2 r x) := by
  pointwise [rowMax]
  simp only [fold32]
theorem colMax_ap (a : FVec Ideal S8x128 .f32) (z : Fin 1) (l : Fin 128) :
    colMax a (ix2 z l) = Finset.univ.sup fun x : Fin 8 => a (ix2 x l) := by
  pointwise [colMax]
  simp only [fold32]
theorem up256_ap (v : FVec Ideal S1x256x128 .bf16) (r : Fin 256) (l : Fin 128) : up256 v (ix2 r l) = v (ix3 0 r l) := by pointwise [up256]
theorem sumStep_ap (acc : FVec Ideal S8x128 .f32) (a : FVec Ideal S256x128 .f32) (r : Fin 8) (l : Fin 128) :
    sumStep acc a (ix2 r l) = acc (ix2 r l) + ∑ x : Fin 32, a (ix2 ⟨x.val * 8 + r.val, by omega⟩ l) := by pointwise [sumStep]
theorem meanOf_ap (a : FVec Ideal S8x128 .f32) (z : Fin 1) (l : Fin 128) :
    meanOf a (ix2 z l) = (∑ r : Fin 8, a (ix2 r l)) * Ideal.ofBits .f32 0x3A000000#32 := by pointwise [meanOf]
theorem centre_ap (a : FVec Ideal S256x128 .f32) (m : FVec Ideal S1x128 .f32) (r : Fin 256) (l : Fin 128) :
    centre a m (ix2 r l) = a (ix2 r l) - m (ix2 0 l) := by pointwise [centre]
theorem maxStep_ap (acc : FVec Ideal S8x128 .f32) (a : FVec Ideal S256x128 .f32) (r : Fin 8) (l : Fin 128) :
    maxStep acc a (ix2 r l) = max (acc (ix2 r l)) (Finset.univ.sup fun x : Fin 32 => max (a (ix2 ⟨x.val * 8 + r.val, by omega⟩ l)) (-a (ix2 ⟨x.val * 8 + r.val, by omega⟩ l))) := by
  pointwise [maxStep]
  simp only [fold32]
  rfl
theorem blkMax_ap (a : FVec Ideal S256x128 .f32) (r : Fin 4) (l : Fin 128) :
    blkMax a (ix2 r l) = Finset.univ.sup fun x : Fin 64 => max (a (ix2 ⟨r.val * 64 + x.val, by omega⟩ l)) (-a (ix2 ⟨r.val * 64 + x.val, by omega⟩ l)) := by
  pointwise [blkMax]
  simp only [fold32]
  rfl
theorem clip_ap {S : Shape} (p : FVec Ideal S .f32) (j : S.Idx) :
    clip p j = min (Ideal.ofBits .f32 0x43E00000#32) (max (Ideal.ofBits .f32 0xC3E00000#32) (p j)) := rfl
theorem q8_ap {S : Shape} (p : FVec Ideal S .f32) (j : S.Idx) :
    q8 p j = min (Ideal.ofBits .f32 0x43E00000#32) (max (Ideal.ofBits .f32 0xC3E00000#32) (p j)) := rfl
theorem kq_ap (c : Fin 8) (a : FVec Ideal S256x128 .f32) (inv : FVec Ideal S32x128 .f32) (r : Fin 256) (l : Fin 128) :
    kq c a inv (ix2 r l) = min (Ideal.ofBits .f32 0x43E00000#32) (max (Ideal.ofBits .f32 0xC3E00000#32)
      (a (ix2 r l) * inv (ix2 ⟨4 * c.val + r.val / 64, by omega⟩ l))) := by pointwise [kq, q8, clip]
theorem vq_ap (a : FVec Ideal S256x128 .f32) (inv : FVec Ideal S1x128 .f32) (d : Fin 128) (r : Fin 256) :
    vq a inv (ix2 d r) = min (Ideal.ofBits .f32 0x43E00000#32) (max (Ideal.ofBits .f32 0xC3E00000#32)
      (a (ix2 r d) * inv (ix2 0 d))) := by pointwise [vq, clip]
theorem kscOut_ap (a : FVec Ideal S32x128 .f32) (h : Fin 8) (b : Fin 32) : kscOut a (ix2 h b) = a (ix2 b ⟨h.val, by omega⟩) := by
  pointwise [kscOut]
theorem qabs_ap (v : FVec Ideal S1x128x128 .bf16) (z : Fin 1) (l : Fin 128) :
    qabs v (ix2 z l) = Finset.univ.sup fun r : Fin 128 => max (v (ix3 0 r l)) (-v (ix3 0 r l)) := by
  pointwise [qabs]
  simp only [fold16]
  rfl
theorem qscaled_ap (h : Fin 32) (v : FVec Ideal S1x128x128 .bf16) (inv : FVec Ideal S32x128 .f32) (r l : Fin 128) :
    qscaled h v inv (ix2 r l) = min (Ideal.ofBits .f32 0x43E00000#32) (max (Ideal.ofBits .f32 0xC3E00000#32)
      (v (ix3 0 r l) * inv (ix2 h l))) := by pointwise [qscaled, clip]
theorem qscOut_ap (n : BitVec 32) (s : FVec Ideal S32x128 .f32) (old : FVec Ideal S1x32x16 .f32) (h : Fin 32) (c : Fin 16) :
    qscOut n s old (ix2 h c) = if BitVec.ofNat 32 c.val = n then s (ix2 h ⟨c.val, by omega⟩) else old (ix3 0 h c) := by
  pointwise [qscOut]
  rw [sel_eq]
theorem putCol_ap (t : BitVec 32) (s prev : FVec Ideal S32x128 .f32) (b : Fin 32) (l : Fin 128) :
    putCol t s prev (ix2 b l) = if BitVec.ofNat 32 l.val = t then s (ix2 b l) else prev (ix2 b l) := by
  pointwise [putCol]
  rw [sel_eq]
theorem catH_ap (a b : FVec Ideal S64x512 .fp8e4m3) (r : Fin 128) (i : Fin 512) : catH a b (ix2 r i) =
    if h : r.val < 64 then a (ix2 ⟨r.val, h⟩ i) else b (ix2 ⟨r.val - 64, by omega⟩ i) := by pointwise [catH]
theorem catF_ap (a b c d : FVec Ideal S64x512 .fp8e4m3) (r : Fin 256) (i : Fin 512) : catF a b c d (ix2 r i) =
    if h : r.val < 64 then a (ix2 ⟨r.val, h⟩ i) else if h : r.val - 64 < 64 then b (ix2 ⟨r.val - 64, h⟩ i) else
    if h : r.val - 64 - 64 < 64 then c (ix2 ⟨r.val - 64 - 64, h⟩ i) else d (ix2 ⟨r.val - 64 - 64 - 64, by omega⟩ i) := by pointwise [catF]

/-- Row `r` of the eight blocks of four rows. -/
theorem cat8_ap (a : ℕ → FVec Ideal S4x128 .f32) (r : Fin 32) (i : Fin 128) :
    cat8 (a 0) (a 1) (a 2) (a 3) (a 4) (a 5) (a 6) (a 7) (ix2 r i) = a (r.val / 4) (ix2 ⟨r.val % 4, Nat.mod_lt _ (by decide)⟩ i) := by
  pointwise [cat8]
  fin_cases r <;> rfl

theorem lane_ap : ∀ l : Fin 128, laneMod (ix2 0 l) = BitVec.ofNat 32 (l.val % 4) := by
  intro l
  pointwise [laneMod]
  revert l
  decide +kernel

theorem pickQ_ap (j : BitVec 32) (row prev : FVec Ideal S1x128 .f32) (l : Fin 128) :
    pickQ j row prev (ix2 0 l) = if BitVec.ofNat 32 (l.val % 4) = j then row (ix2 0 l) else prev (ix2 0 l) := by
  have h : pickQ j row prev (ix2 0 l) = Scalar.select (IntOp.cmpi .eq (laneMod (ix2 0 l)) j) (row (ix2 0 l)) (prev (ix2 0 l)) := rfl
  rw [h, lane_ap, sel_eq]

theorem qcol_ap (rows : Fin 4 → FVec Ideal S1x128 .f32) (l : Fin 128) : qcol (rows 0) (rows 1) (rows 2) (rows 3) (ix2 0 l) =
    rows ⟨l.val % 4, Nat.mod_lt _ (by decide)⟩ (ix2 0 l) * Ideal.ofBits .f32 0x3E0293EE#32 := by
  have h : qcol (rows 0) (rows 1) (rows 2) (rows 3) (ix2 0 l) =
    pickQ 3#32 (rows 3) (pickQ 2#32 (rows 2) (pickQ 1#32 (rows 1) (pickQ 0#32 (rows 0) (broadcast S1x128 (Scalar.ofBits .f32 0x00000000#32))))) (ix2 0 l)
      * Ideal.ofBits .f32 0x3E0293EE#32 := rfl
  rw [h, pickQ_ap, pickQ_ap, pickQ_ap, pickQ_ap]
  congr 1
  have h4 : ∀ m : Fin 4, (if BitVec.ofNat 32 m.val = 3#32 then rows 3 (ix2 0 l) else if BitVec.ofNat 32 m.val = 2#32 then rows 2 (ix2 0 l) else
      if BitVec.ofNat 32 m.val = 1#32 then rows 1 (ix2 0 l) else if BitVec.ofNat 32 m.val = 0#32 then rows 0 (ix2 0 l) else
        broadcast S1x128 (FloatOps.ofBits FTy.f32 0#32) (ix2 0 l)) = rows m (ix2 0 l) := by
    intro m
    fin_cases m <;> rfl
  exact h4 ⟨l.val % 4, Nat.mod_lt _ (by decide)⟩

theorem causal_ap (r : Fin 128) (i : Fin 512) : causal (ix2 r i) = if r.val ≤ i.val / 4 then 1#1 else 0#1 := by
  pointwise [causal]
  have hd : ∀ i : Fin 512, (Scalar.select
        (IntOp.andi
          (IntOp.cmpi CmpIPredicate.ne
            (IntOp.subi (BitVec.setWidth 32 (IntOp.cmpi CmpIPredicate.sgt (BitVec.ofNat 32 ↑i) 0#32))
              (BitVec.setWidth 32 (IntOp.cmpi CmpIPredicate.slt (BitVec.ofNat 32 ↑i) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 ↑i) 4#32) 0#32))
        (IntOp.subi (IntOp.divsi ArithUnit.vector (BitVec.ofNat 32 ↑i) 4#32) 1#32)
        (IntOp.divsi ArithUnit.vector (BitVec.ofNat 32 ↑i) 4#32)) = BitVec.ofNat 32 (i.val / 4) := by decide +kernel
  rw [hd i]
  have hs : ∀ r q : Fin 128, IntOp.cmpi .sle (BitVec.ofNat 32 r.val) (BitVec.ofNat 32 q.val) = if r.val ≤ q.val then 1#1 else 0#1 := by decide +kernel
  exact hs r ⟨i.val / 4, by omega⟩

/-! ### Scalars of the quantiser -/

/-- The exponent of one largest magnitude. -/
def expo1 (x : EReal) : BitVec 32 := expo (F := Ideal) (S := ⟨0, ![]⟩) (fun _ => x) fun a => a.elim0
def up1 (x : EReal) : EReal := scaleUp (F := Ideal) (S := ⟨0, ![]⟩) (fun _ => expo1 x) fun a => a.elim0
def dn1 (x : EReal) : EReal := scaleDn (F := Ideal) (S := ⟨0, ![]⟩) (fun _ => expo1 x) fun a => a.elim0
theorem up_ap {S : Shape} (a : FVec Ideal S .f32) (j : S.Idx) : scaleUp (F := Ideal) (expo a) j = up1 (a j) := rfl
theorem dn_ap {S : Shape} (a : FVec Ideal S .f32) (j : S.Idx) : scaleDn (F := Ideal) (expo a) j = dn1 (a j) := rfl

end Sage
-- ==== Proof.Quant.lean ====
module

public import proofs.«01_k».proof.Proof.ValI

@[expose] public section

set_option maxRecDepth 16384

noncomputable section

namespace Sage

open Idealize.ShloMosaic

theorem c448 : Ideal.ofBits .f32 0x43E00000#32 = ((448 : ℝ) : EReal) := by simp [Ideal.ofBits, Ideal.ieee, -EReal.coe_mul]; norm_num
theorem cm448 : Ideal.ofBits .f32 0xC3E00000#32 = ((-448 : ℝ) : EReal) := by simp [Ideal.ofBits, Ideal.ieee, -EReal.coe_mul]; norm_num
theorem c119 : Ideal.ofBits .f32 0x42EE0000#32 = ((119 : ℝ) : EReal) := by simp [Ideal.ofBits, Ideal.ieee, -EReal.coe_mul]; norm_num
theorem cm127 : Ideal.ofBits .f32 0xC2FE0000#32 = ((-127 : ℝ) : EReal) := by simp [Ideal.ofBits, Ideal.ieee, -EReal.coe_mul]; norm_num
theorem c127 : Ideal.ofBits .f32 0x42FE0000#32 = ((127 : ℝ) : EReal) := by simp [Ideal.ofBits, Ideal.ieee, -EReal.coe_mul]; norm_num
theorem cm126 : Ideal.ofBits .f32 0xC2FC0000#32 = ((-126 : ℝ) : EReal) := by simp [Ideal.ofBits, Ideal.ieee, -EReal.coe_mul]; norm_num
theorem c1 : Ideal.ofBits .f32 0x3F800000#32 = ((1 : ℝ) : EReal) := by simp [Ideal.ofBits, Ideal.ieee, -EReal.coe_mul]; norm_num
theorem c2 : Ideal.ofBits .f32 0x40000000#32 = ((2 : ℝ) : EReal) := by simp [Ideal.ofBits, Ideal.ieee, -EReal.coe_mul]; norm_num
theorem c8 : Ideal.ofBits .f32 0x41000000#32 = ((8 : ℝ) : EReal) := by simp [Ideal.ofBits, Ideal.ieee, -EReal.coe_mul]; norm_num
theorem c256 : Ideal.ofBits .f32 0x43800000#32 = ((256 : ℝ) : EReal) := by simp [Ideal.ofBits, Ideal.ieee, -EReal.coe_mul]; norm_num
theorem ci256 : Ideal.ofBits .f32 0x3B800000#32 = ((1 / 256 : ℝ) : EReal) := by simp [Ideal.ofBits, Ideal.ieee, -EReal.coe_mul]; norm_num
theorem ci2048 : Ideal.ofBits .f32 0x3A000000#32 = ((1 / 2048 : ℝ) : EReal) := by simp [Ideal.ofBits, Ideal.ieee, -EReal.coe_mul]; norm_num
theorem c2048 : Ideal.ofBits .f32 0x45000000#32 = ((2048 : ℝ) : EReal) := by simp [Ideal.ofBits, Ideal.ieee, -EReal.coe_mul]; norm_num

/-- The floor of the base-two logarithm of a largest magnitude over 448. -/
def lgf (x : EReal) : EReal := Ideal.liftRound Int.floor (Ideal.div (Ideal.log (x * Ideal.ofBits .f32 0x3B124925#32)) (Ideal.log (Ideal.ofBits .f32 0x40000000#32)))

theorem floor_cases (x : EReal) : Ideal.liftRound Int.floor x = ⊥ ∨ Ideal.liftRound Int.floor x = ⊤ ∨ ∃ k : ℤ, Ideal.liftRound Int.floor x = ((k : ℝ) : EReal) := by
  induction x with
  | bot => exact .inl rfl
  | top => exact .inr (.inl rfl)
  | coe r => exact .inr (.inr ⟨⌊r⌋, rfl⟩)

/-- The exponent as an integer. -/
def eInt (x : EReal) : ℤ := if lgf x < ((-126 : ℝ) : EReal) then 0 else ⌊(min (lgf x) ((119 : ℝ) : EReal)).toReal⌋ + 1

theorem clampInt (k : ℤ) : Ideal.fptosi 32 (((k : ℝ) : EReal)) = BitVec.ofInt 32 (max (-2147483648) (min 2147483647 k)) := by
  unfold Ideal.fptosi
  rw [Ideal.toIntClamped_coe, Int.floor_intCast, Int.ceil_intCast, ite_self]
  norm_num

theorem min119 (x : EReal) : ∃ k : ℤ, -127 ≤ k ∧ k ≤ 119 ∧ min ((119 : ℝ) : EReal) (max ((-127 : ℝ) : EReal) (lgf x)) = ((k : ℝ) : EReal) ∧
    eInt x = (if k = -127 then 0 else k + 1) ∧
    (if lgf x < ((-126 : ℝ) : EReal) then (0 : EReal) else min (lgf x) ((119 : ℝ) : EReal) + ((1 : ℝ) : EReal)) = ((eInt x : ℝ) : EReal) := by
  unfold eInt
  rcases floor_cases (Ideal.div (Ideal.log (x * Ideal.ofBits .f32 0x3B124925#32)) (Ideal.log (Ideal.ofBits .f32 0x40000000#32))) with h | h | ⟨k, h⟩
  · rw [show lgf x = ⊥ from h]
    refine ⟨-127, le_refl _, by norm_num, ?_, ?_, ?_⟩
    · rw [max_eq_left bot_le, min_eq_right (by exact_mod_cast (by norm_num : (-127 : ℝ) ≤ 119))]; norm_num
    · rw [if_pos (EReal.bot_lt_coe _), if_pos rfl]
    · rw [if_pos (EReal.bot_lt_coe _), if_pos (EReal.bot_lt_coe _)]; norm_num
  · rw [show lgf x = ⊤ from h]
    have hn : ¬ (⊤ : EReal) < ((-126 : ℝ) : EReal) := not_top_lt
    refine ⟨119, by norm_num, le_refl _, ?_, ?_, ?_⟩
    · rw [max_eq_right (le_top (α := EReal)), min_eq_left (le_top (α := EReal))]; norm_num
    · rw [if_neg hn, min_eq_right (le_top (α := EReal)), EReal.toReal_coe]; norm_num
    · rw [if_neg hn, if_neg hn, min_eq_right (le_top (α := EReal)), EReal.toReal_coe, ← EReal.coe_add]
      norm_num
  · rw [show lgf x = ((k : ℝ) : EReal) from h]
    have e1 : min (((k : ℝ) : EReal)) ((119 : ℝ) : EReal) = (((min k 119 : ℤ) : ℝ) : EReal) := by
      push_cast; exact (EReal.coe_strictMono.monotone.map_min (a := (k : ℝ)) (b := 119)).symm
    have e2 : min ((119 : ℝ) : EReal) (max ((-127 : ℝ) : EReal) ((k : ℝ) : EReal)) = (((min 119 (max (-127) k) : ℤ) : ℝ) : EReal) := by
      have : (((min 119 (max (-127) k) : ℤ) : ℝ)) = min (119 : ℝ) (max (-127 : ℝ) (k : ℝ)) := by push_cast; rfl
      rw [this, EReal.coe_strictMono.monotone.map_min, EReal.coe_strictMono.monotone.map_max]
    have e3 : (((k : ℝ) : EReal) < ((-126 : ℝ) : EReal)) ↔ k < -126 := by
      rw [EReal.coe_lt_coe_iff]
      constructor
      · intro h; exact_mod_cast h
      · intro h; exact_mod_cast h
    refine ⟨min 119 (max (-127) k), by omega, by omega, e2, ?_, ?_⟩
    · rw [e1, EReal.toReal_coe, Int.floor_intCast]
      by_cases hk : k < -126
      · rw [if_pos (e3.2 hk), if_pos (by omega)]
      · rw [if_neg (fun h => hk (e3.1 h)), if_neg (by omega)]; omega
    · rw [e1, EReal.toReal_coe, Int.floor_intCast]
      by_cases hk : k < -126
      · rw [if_pos (e3.2 hk), if_pos (e3.2 hk)]; norm_num
      · rw [if_neg (fun h => hk (e3.1 h)), if_neg (fun h => hk (e3.1 h)), ← EReal.coe_add]; push_cast; rfl

theorem eInt_bounds (x : EReal) : -126 ≤ eInt x ∧ eInt x ≤ 120 := by
  obtain ⟨k, h1, h2, -, h3, -⟩ := min119 x
  rw [h3]; split <;> omega

theorem expo1_eq (x : EReal) : expo1 x = BitVec.ofInt 32 (eInt x) := by
  obtain ⟨k, h1, h2, h3, h4, -⟩ := min119 x
  have he : expo1 x = Scalar.select (IntOp.cmpi .eq (Ideal.fptosi 32 (min (Ideal.ofBits FTy.f32 1122893824#32)
                    (max (Ideal.ofBits FTy.f32 3271426048#32) (lgf x)) + Ideal.ofBits FTy.f32 1123942400#32)) 0#32) (0#32)
      (Ideal.fptosi 32 (min (Ideal.ofBits FTy.f32 1122893824#32)
                    (max (Ideal.ofBits FTy.f32 3271426048#32) (lgf x)) + Ideal.ofBits FTy.f32 1123942400#32) - 126#32) := rfl
  rw [he, c119, cm127, h3, c127, ← EReal.coe_add, h4]
  have hk : ((k : ℝ) + 127) = ((k + 127 : ℤ) : ℝ) := by push_cast; rfl
  rw [hk, clampInt]
  have hm : max (-2147483648) (min 2147483647 (k + 127)) = k + 127 := by omega
  rw [hm]
  have hd : ∀ m : Fin 247, Scalar.select (IntOp.cmpi .eq (BitVec.ofInt 32 ((m.val : ℤ) - 127 + 127)) 0#32) (0#32) (BitVec.ofInt 32 ((m.val : ℤ) - 127 + 127) - 126#32)
      = BitVec.ofInt 32 (if (m.val : ℤ) - 127 = -127 then 0 else (m.val : ℤ) - 127 + 1) := by decide +kernel
  have := hd ⟨(k + 127).toNat, by omega⟩
  rw [show (((⟨(k + 127).toNat, by omega⟩ : Fin 247).val : ℕ) : ℤ) - 127 = k by show (((k + 127).toNat : ℕ) : ℤ) - 127 = k; omega] at this
  exact this

theorem bits_pow (n : ℕ) (h0 : 1 ≤ n) (h1 : n ≤ 254) : Ideal.ofBits .f32 (BitVec.ofNat 32 (n * 8388608)) = (((2 : ℝ) ^ ((n : ℤ) - 127) : ℝ) : EReal) := by
  have e1 : ∀ n : Fin 255, ((BitVec.ofNat 32 (n.val * 8388608)).extractLsb' 23 8).toNat = n.val := by decide +kernel
  have e2 : ∀ n : Fin 255, ((BitVec.ofNat 32 (n.val * 8388608)).extractLsb' 0 23).toNat = 0 := by decide +kernel
  have e3 : ∀ n : Fin 255, ((BitVec.ofNat 32 (n.val * 8388608)).extractLsb' (8 + 23) 1 == 1#1) = false := by decide +kernel
  replace e1 := e1 ⟨n, by omega⟩
  replace e2 := e2 ⟨n, by omega⟩
  replace e3 := e3 ⟨n, by omega⟩
  simp only at e1 e2 e3
  unfold Ideal.ofBits Ideal.ieee
  simp only [e1, e2, e3]
  rw [if_neg (by omega), if_neg (by omega)]
  congr 1
  have : (2 : ℝ) ^ ((n : ℤ) - 127) = 2 ^ (23 : ℕ) * 2 ^ ((n : ℤ) - (2 ^ (8 - 1) - 1) - (23 : ℕ)) := by
    rw [← zpow_natCast, ← zpow_add₀ (by norm_num)]
    congr 1
    norm_num
  rw [this]
  norm_num

theorem up1_eq (x : EReal) : up1 x = (((2 : ℝ) ^ eInt x : ℝ) : EReal) := by
  have h : up1 x = Ideal.ofBits .f32 (IntOp.shli .vector (IntOp.addi (expo1 x) 127#32) 23#32) := rfl
  obtain ⟨h1, h2⟩ := eInt_bounds x
  rw [h, expo1_eq]
  generalize eInt x = k at h1 h2
  have hb : IntOp.shli .vector (IntOp.addi (BitVec.ofInt 32 k) 127#32) 23#32 = BitVec.ofNat 32 ((k + 127).toNat * 8388608) := by
    have hd : ∀ m : Fin 247, IntOp.shli .vector (IntOp.addi (BitVec.ofInt 32 ((m.val : ℤ) - 126)) 127#32) 23#32
        = BitVec.ofNat 32 (((m.val : ℤ) - 126 + 127).toNat * 8388608) := by decide +kernel
    have := hd ⟨(k + 126).toNat, by omega⟩
    rw [show (((⟨(k + 126).toNat, by omega⟩ : Fin 247).val : ℕ) : ℤ) - 126 = k by show (((k + 126).toNat : ℕ) : ℤ) - 126 = k; omega] at this
    exact this
  rw [hb, bits_pow _ (by omega) (by omega)]
  congr 2
  omega

theorem dn1_eq (x : EReal) : dn1 x = (((2 : ℝ) ^ (-eInt x) : ℝ) : EReal) := by
  have h : dn1 x = Ideal.ofBits .f32 (IntOp.shli .vector (IntOp.subi 127#32 (expo1 x)) 23#32) := rfl
  obtain ⟨h1, h2⟩ := eInt_bounds x
  rw [h, expo1_eq]
  generalize eInt x = k at h1 h2
  have hb : IntOp.shli .vector (IntOp.subi 127#32 (BitVec.ofInt 32 k)) 23#32 = BitVec.ofNat 32 ((127 - k).toNat * 8388608) := by
    have hd : ∀ m : Fin 247, IntOp.shli .vector (IntOp.subi 127#32 (BitVec.ofInt 32 ((m.val : ℤ) - 126))) 23#32
        = BitVec.ofNat 32 ((127 - ((m.val : ℤ) - 126)).toNat * 8388608) := by decide +kernel
    have := hd ⟨(k + 126).toNat, by omega⟩
    rw [show (((⟨(k + 126).toNat, by omega⟩ : Fin 247).val : ℕ) : ℤ) - 126 = k by show (((k + 126).toNat : ℕ) : ℤ) - 126 = k; omega] at this
    exact this
  rw [hb, bits_pow _ (by omega) (by omega)]
  congr 2
  omega

/-- The exponential of an integer multiple of the logarithm of two. -/
theorem exp_log2 (k : ℤ) : Ideal.exp (((k : ℝ) : EReal) * Ideal.log (Ideal.ofBits .f32 0x40000000#32)) = (((2 : ℝ) ^ k : ℝ) : EReal) := by
  rw [c2, Ideal.log_coe, if_neg (by norm_num), ← EReal.coe_mul]
  show ((Real.exp ((k : ℝ) * Real.log 2) : ℝ) : EReal) = _
  congr 1
  rw [mul_comm, Real.exp_mul, Real.exp_log (by norm_num), Real.rpow_intCast]

end Sage
-- ==== Proof.Sem.lean ====
module

public import proofs.«01_k».proof.Proof.Only
public import proofs.«01_k».proof.Proof.Quant

@[expose] public section

set_option maxRecDepth 16384

noncomputable section

namespace Sage

open Idealize.ShloMosaic Idealize.SL.Sem

/-! ### Stores and loads at an index -/

section
variable {Val : EltTy → Type}

theorem stv_same (σ : St Val) (n : Nm) (r : Rect (shp n)) (w : r.shape.Idx → Val (ety n)) : stv σ n r w n = r.overlay (σ n) w := St.set_same σ n _
theorem stv_ne (σ : St Val) {n n' : Nm} (r : Rect (shp n)) (w : r.shape.Idx → Val (ety n)) (h : n' ≠ n) : stv σ n r w n' = σ n' := St.set_ne σ _ h

theorem ov_in {s : Shape} {α : Type} (r : Rect s) (X : s.Idx → α) (w : r.shape.Idx → α) (j : r.shape.Idx) {i : s.Idx} (h : r.toLoadRect.idx j = i) :
    r.overlay X w i = w j := by
  subst h
  exact Rect.overlay_emb r X w j

theorem ov_out {s : Shape} {α : Type} {off size : Fin s.rank → ℕ} {inb} (X : s.Idx → α) (w : (Rect.unit (s := s) off size inb).shape.Idx → α) {i : s.Idx}
    (a : Fin s.rank) (h : (i a).val < off a ∨ off a + size a ≤ (i a).val) : (Rect.unit (s := s) off size inb).overlay X w i = X i := by
  refine Rect.overlay_of_not_mem _ _ _ fun hm => ?_
  have := Rect.mem_set_unit.mp hm a
  omega

theorem idx2 {d : Fin 2 → ℕ} (r : LoadRect ⟨2, d⟩) (j : r.shape.Idx) (i : (⟨2, d⟩ : Shape).Idx) (h0 : r.off 0 + r.stride 0 * (j 0).val = (i 0).val)
    (h1 : r.off 1 + r.stride 1 * (j 1).val = (i 1).val) : r.idx j = i := by
  funext a
  apply Fin.ext
  fin_cases a
  · exact h0
  · exact h1
theorem idx3 {d : Fin 3 → ℕ} (r : LoadRect ⟨3, d⟩) (j : r.shape.Idx) (i : (⟨3, d⟩ : Shape).Idx) (h0 : r.off 0 + r.stride 0 * (j 0).val = (i 0).val)
    (h1 : r.off 1 + r.stride 1 * (j 1).val = (i 1).val) (h2 : r.off 2 + r.stride 2 * (j 2).val = (i 2).val) : r.idx j = i := by
  funext a
  apply Fin.ext
  fin_cases a
  · exact h0
  · exact h1
  · exact h2
theorem idx4 {d : Fin 4 → ℕ} (r : LoadRect ⟨4, d⟩) (j : r.shape.Idx) (i : (⟨4, d⟩ : Shape).Idx) (h0 : r.off 0 + r.stride 0 * (j 0).val = (i 0).val)
    (h1 : r.off 1 + r.stride 1 * (j 1).val = (i 1).val) (h2 : r.off 2 + r.stride 2 * (j 2).val = (i 2).val)
    (h3 : r.off 3 + r.stride 3 * (j 3).val = (i 3).val) : r.idx j = i := by
  funext a
  apply Fin.ext
  fin_cases a
  · exact h0
  · exact h1
  · exact h2
  · exact h3
end

/-! ### Rules -/

section
variable {F : FTy → Type} [FloatOps F] {α β : Type}

theorem sem_std (n : Nm) (r : Rect (shp n)) (w : r.shape.Idx → Elt F (ety n)) (h : 0 < r.shape.numel)
    (hp : (ety n).bits = 32 ∨ r.PackedRows (ety n).packing) (k : Cmd (Elt F) α) (σ : St (Elt F)) :
    (Cmd.std n r w h hp k).sem σ = k.sem (stv σ n r w) := rfl

theorem upto_inv (Post : α × St (Elt F) → Prop) (I : ℕ → β → St (Elt F) → Prop) {g : Fin 8 → β → (β → Cmd (Elt F) α) → Cmd (Elt F) α}
    (f : ℕ) (hf : f ≤ 8)
    (hg : ∀ (c : Fin 8) (b : β) (σ : St (Elt F)), c.val < f → I c.val b σ → ∀ k : β → Cmd (Elt F) α,
      (∀ b' σ', I (c.val + 1) b' σ' → Post ((k b').sem σ')) → Post ((g c b k).sem σ))
    {b : β} {σ : St (Elt F)} (h0 : I 0 b σ) {k : β → Cmd (Elt F) α} (hk : ∀ b' σ', I f b' σ' → Post ((k b').sem σ')) :
    Post ((upto f hf g b k).sem σ) := by
  induction f generalizing k with
  | zero => exact hk b σ h0
  | succ f ih =>
    refine ih (Nat.le_of_succ_le hf) (fun c b σ hc => hg c b σ (Nat.lt_succ_of_lt hc)) fun b' σ' h' => ?_
    exact hg ⟨f, hf⟩ b' σ' (Nat.lt_succ_self f) h' k hk

theorem iter_inv {n : ℕ} (I : ℕ → β → St (Elt F) → Prop) {f : Fin n → β → St (Elt F) → β × St (Elt F)}
    (hf : ∀ (t : Fin n) b σ, I t.val b σ → I (t.val + 1) (f t b σ).1 (f t b σ).2) {b : β} {σ : St (Elt F)} (h0 : I 0 b σ) :
    I n (iter f (List.finRange n) b σ).1 (iter f (List.finRange n) b σ).2 := by
  have key : ∀ (l : List (Fin n)) (p : ℕ) (b : β) (σ : St (Elt F)), (∀ i (h : i < l.length), (l[i]).val = p + i) → I p b σ →
      I (p + l.length) (iter f l b σ).1 (iter f l b σ).2 := by
    intro l
    induction l with
    | nil => intro p b σ _ h; exact h
    | cons t l ih =>
      intro p b σ hl h
      have ht : t.val = p := hl 0 (by simp)
      have := ih (p + 1) (f t b σ).1 (f t b σ).2 (fun i hi => by
        have := hl (i + 1) (by simpa using hi)
        simp only [List.getElem_cons_succ] at this
        omega) (ht ▸ hf t b σ (ht.symm ▸ h))
      simpa [iter, Nat.add_assoc, Nat.add_comm 1] using this
  have := key (List.finRange n) 0 b σ (fun i hi => by simp) h0
  simpa using this
end

/-! ### Sums and maxima in parts -/

theorem sum_mul {M : Type} [AddCommMonoid M] (f : ℕ → M) (n p : ℕ) :
    ∑ i ∈ Finset.range (n * p), f i = ∑ a ∈ Finset.range n, ∑ b ∈ Finset.range p, f (a * p + b) := by
  induction n with
  | zero => simp
  | succ n ih => rw [Nat.succ_mul, Finset.sum_range_add, ih, Finset.sum_range_succ]

/-- A bounded sequence as one over all naturals. -/
def ext0 {n : ℕ} (f : Fin n → EReal) (i : ℕ) : EReal := if h : i < n then f ⟨i, h⟩ else 0
theorem ext0_lt {n : ℕ} (f : Fin n → EReal) {i : ℕ} (h : i < n) : ext0 f i = f ⟨i, h⟩ := dif_pos h
theorem sum_ext0 {n : ℕ} (f : Fin n → EReal) : ∑ i ∈ Finset.range n, ext0 f i = ∑ i, f i := by
  rw [← Fin.sum_univ_eq_sum_range]
  exact Finset.sum_congr rfl fun i _ => ext0_lt f i.isLt

end Sage
-- ==== Proof.Spec.lean ====
module

public import proofs.«01_k».proof.Proof.Sem

@[expose] public section

set_option maxRecDepth 16384

noncomputable section

namespace Sage

open Idealize.ShloMosaic Idealize.SL.Sem

/-! What the quantiser and the attention compute, over extended reals. -/

/-- Clipped to the range of the eight-bit format. -/
def clp (x : EReal) : EReal := min (Ideal.ofBits .f32 0x43E00000#32) (max (Ideal.ofBits .f32 0xC3E00000#32) x)
/-- A magnitude. -/
def mag (x : EReal) : EReal := max x (-x)

/-- One head's tokens by lanes. -/
abbrev Hd := Fin 2048 → Fin 128 → EReal

def meanS (f : Hd) (d : Fin 128) : EReal := (∑ s, f s d) * Ideal.ofBits .f32 0x3A000000#32
def cenS (f : Hd) (s : Fin 2048) (d : Fin 128) : EReal := f s d - meanS f d
/-- Largest magnitude of key block `b`. -/
def kA (f : Hd) (b : Fin 32) : EReal := Finset.univ.sup fun d : Fin 128 => Finset.univ.sup fun r : Fin 64 => mag (cenS f ⟨64 * b.val + r.val, by omega⟩ d)
def kS (f : Hd) (b : Fin 32) : EReal := up1 (kA f b)
def kC (f : Hd) (s : Fin 2048) (d : Fin 128) : EReal := clp (cenS f s d * dn1 (kA f ⟨s.val / 64, by omega⟩))
def vA (f : Hd) (d : Fin 128) : EReal := Finset.univ.sup fun s => mag (cenS f s d)
def vS (f : Hd) (d : Fin 128) : EReal := up1 (vA f d)
def vC (f : Hd) (s : Fin 2048) (d : Fin 128) : EReal := clp (cenS f s d * dn1 (vA f d))
/-- One query head's block of rows. -/
abbrev Qd := Fin 128 → Fin 128 → EReal
def qA (g : Qd) : EReal := Finset.univ.sup fun d : Fin 128 => Finset.univ.sup fun r : Fin 128 => mag (g r d)
def qS (g : Qd) : EReal := up1 (qA g)
def qC (g : Qd) (r d : Fin 128) : EReal := clp (g r d * dn1 (qA g))

/-- Head `h` of a sequence's keys or values. -/
def hdOf (k : S1x2048x1024.Idx → EReal) (h : Fin 8) : Hd := fun s d => k (ix3 0 s ⟨128 * h.val + d.val, by omega⟩)
/-- Query head `h` of a block of queries. -/
def qdOf (x : (⟨3, ![1, 128, 4096]⟩ : Shape).Idx → EReal) (h : Fin 32) : Qd := fun r d => x (ix3 0 r ⟨128 * h.val + d.val, by omega⟩)

theorem mag_nonneg (x : EReal) : 0 ≤ mag x := by
  unfold mag
  rcases le_total 0 x with h | h
  · exact h.trans (le_max_left _ _)
  · exact (by simpa using EReal.neg_le_neg_iff.mpr h : (0 : EReal) ≤ -x).trans (le_max_right _ _)

/-! ### Attention of one query row over its keys -/

/-- One query head at one token: the scores' products `raw`, the key scales per token `kt`, the query scale `q`. -/
def scoreS (raw kt : Fin 2048 → EReal) (q : EReal) (p : Fin 2048) (s : Fin 2048) : EReal :=
  if s.val ≤ p.val then raw s * (kt s * (q * Ideal.ofBits .f32 0x3E0293EE#32)) else ⊥
def peak (sc : Fin 2048 → EReal) : EReal := Finset.univ.sup sc
def prob (sc : Fin 2048 → EReal) (s : Fin 2048) : EReal := Ideal.exp2 (sc s - (peak sc - Ideal.ofBits .f32 0x41000000#32))
def attS (sc v : Fin 2048 → EReal) (vs vm : EReal) : EReal :=
  (∑ s, v s * clp (prob sc s)) * Ideal.div 1 (∑ s, prob sc s) * vs + vm

/-- The scores of query row `r` of block `n`, query head `4 h + g`. -/
def scOf (n : Fin 16) (g : Qd) (f : Hd) (r : Fin 128) : Fin 2048 → EReal :=
  scoreS (fun s => ∑ d, kC f s d * qC g r d) (fun s => kS f ⟨s.val / 64, by omega⟩) (qS g) ⟨128 * n.val + r.val, by omega⟩
def outS (n : Fin 16) (g : Qd) (f v : Hd) (r d : Fin 128) : EReal :=
  attS (scOf n g f r) (fun s => vC v s d) (vS v d) (meanS v d)

end Sage
-- ==== Proof.RefA.lean ====
module

public import proofs.«01_k».proof.Proof.ValI
public import proofs.«01_k».proof.Proof.Quant
public import proofs.«01_k».proof.Proof.Spec
public import proofs.«01_k».proof.Proof.Gen.ReferenceIdeal.Value
public import Idealize.ShloMosaic.Lib.StableHlo.ReadAt
public import Idealize.ShloMosaic.Lib.IdealHost

@[expose] public section

set_option maxRecDepth 16384

noncomputable section

namespace Sage.Ref

open Idealize.ShloMosaic Idealize.ShloMosaic.TcCoe Idealize.SL.Sem Cert.ReferenceIdeal Cert.ReferenceIdeal.Gen

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons o l ih => exact ih _

variable (m : (ℓ : Loc nD τ sig) → Buf (Elt Ideal) ℓ) (c : Dev nD)

/-- The contents before the reference's operations. -/
abbrev m0 : Valuation τ sig (Elt Ideal) := fun b => m (c, b)

theorem split (A B : List (List (HloOp τ sig (Elt Ideal)))) (V : Valuation τ sig (Elt Ideal)) (b : DevRef τ sig) :
    StableHlo.after (A ++ B).flatten V b = StableHlo.after B.flatten (StableHlo.after A.flatten V) b := by
  rw [List.flatten_append, after_append]

theorem V2 (b : Ref sig .tc) : Gen.V m c b = StableHlo.after (List.flatten [hostOps0_2, hostOps0_3, hostOps0_4, hostOps0_5, hostOps0_6, hostOps0_7, hostOps0_8, hostOps0_9, hostOps0_10, hostOps0_11, hostOps0_12, hostOps0_13, hostOps0_14, hostOps0_15, hostOps0_16]) (StableHlo.after (List.flatten [hostOps0, hostOps0_1]) (m0 m c)) b :=
  split [hostOps0, hostOps0_1] [hostOps0_2, hostOps0_3, hostOps0_4, hostOps0_5, hostOps0_6, hostOps0_7, hostOps0_8, hostOps0_9, hostOps0_10, hostOps0_11, hostOps0_12, hostOps0_13, hostOps0_14, hostOps0_15, hostOps0_16] (m0 m c) b

theorem V4 (b : Ref sig .tc) : Gen.V m c b = StableHlo.after (List.flatten [hostOps0_4, hostOps0_5, hostOps0_6, hostOps0_7, hostOps0_8, hostOps0_9, hostOps0_10, hostOps0_11, hostOps0_12, hostOps0_13, hostOps0_14, hostOps0_15, hostOps0_16]) (StableHlo.after (List.flatten [hostOps0, hostOps0_1, hostOps0_2, hostOps0_3]) (m0 m c)) b :=
  split [hostOps0, hostOps0_1, hostOps0_2, hostOps0_3] [hostOps0_4, hostOps0_5, hostOps0_6, hostOps0_7, hostOps0_8, hostOps0_9, hostOps0_10, hostOps0_11, hostOps0_12, hostOps0_13, hostOps0_14, hostOps0_15, hostOps0_16] (m0 m c) b

theorem V6 (b : Ref sig .tc) : Gen.V m c b = StableHlo.after (List.flatten [hostOps0_6, hostOps0_7, hostOps0_8, hostOps0_9, hostOps0_10, hostOps0_11, hostOps0_12, hostOps0_13, hostOps0_14, hostOps0_15, hostOps0_16]) (StableHlo.after (List.flatten [hostOps0, hostOps0_1, hostOps0_2, hostOps0_3, hostOps0_4, hostOps0_5]) (m0 m c)) b :=
  split [hostOps0, hostOps0_1, hostOps0_2, hostOps0_3, hostOps0_4, hostOps0_5] [hostOps0_6, hostOps0_7, hostOps0_8, hostOps0_9, hostOps0_10, hostOps0_11, hostOps0_12, hostOps0_13, hostOps0_14, hostOps0_15, hostOps0_16] (m0 m c) b

theorem V8 (b : Ref sig .tc) : Gen.V m c b = StableHlo.after (List.flatten [hostOps0_8, hostOps0_9, hostOps0_10, hostOps0_11, hostOps0_12, hostOps0_13, hostOps0_14, hostOps0_15, hostOps0_16]) (StableHlo.after (List.flatten [hostOps0, hostOps0_1, hostOps0_2, hostOps0_3, hostOps0_4, hostOps0_5, hostOps0_6, hostOps0_7]) (m0 m c)) b :=
  split [hostOps0, hostOps0_1, hostOps0_2, hostOps0_3, hostOps0_4, hostOps0_5, hostOps0_6, hostOps0_7] [hostOps0_8, hostOps0_9, hostOps0_10, hostOps0_11, hostOps0_12, hostOps0_13, hostOps0_14, hostOps0_15, hostOps0_16] (m0 m c) b

theorem V10 (b : Ref sig .tc) : Gen.V m c b = StableHlo.after (List.flatten [hostOps0_10, hostOps0_11, hostOps0_12, hostOps0_13, hostOps0_14, hostOps0_15, hostOps0_16]) (StableHlo.after (List.flatten [hostOps0, hostOps0_1, hostOps0_2, hostOps0_3, hostOps0_4, hostOps0_5, hostOps0_6, hostOps0_7, hostOps0_8, hostOps0_9]) (m0 m c)) b :=
  split [hostOps0, hostOps0_1, hostOps0_2, hostOps0_3, hostOps0_4, hostOps0_5, hostOps0_6, hostOps0_7, hostOps0_8, hostOps0_9] [hostOps0_10, hostOps0_11, hostOps0_12, hostOps0_13, hostOps0_14, hostOps0_15, hostOps0_16] (m0 m c) b

theorem V12 (b : Ref sig .tc) : Gen.V m c b = StableHlo.after (List.flatten [hostOps0_12, hostOps0_13, hostOps0_14, hostOps0_15, hostOps0_16]) (StableHlo.after (List.flatten [hostOps0, hostOps0_1, hostOps0_2, hostOps0_3, hostOps0_4, hostOps0_5, hostOps0_6, hostOps0_7, hostOps0_8, hostOps0_9, hostOps0_10, hostOps0_11]) (m0 m c)) b :=
  split [hostOps0, hostOps0_1, hostOps0_2, hostOps0_3, hostOps0_4, hostOps0_5, hostOps0_6, hostOps0_7, hostOps0_8, hostOps0_9, hostOps0_10, hostOps0_11] [hostOps0_12, hostOps0_13, hostOps0_14, hostOps0_15, hostOps0_16] (m0 m c) b

theorem V14 (b : Ref sig .tc) : Gen.V m c b = StableHlo.after (List.flatten [hostOps0_14, hostOps0_15, hostOps0_16]) (StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (m0 m c)) b :=
  split [hostOps0, hostOps0_1, hostOps0_2, hostOps0_3, hostOps0_4, hostOps0_5, hostOps0_6, hostOps0_7, hostOps0_8, hostOps0_9, hostOps0_10, hostOps0_11, hostOps0_12, hostOps0_13] [hostOps0_14, hostOps0_15, hostOps0_16] (m0 m c) b

theorem V16 (b : Ref sig .tc) : Gen.V m c b = StableHlo.after (List.flatten [hostOps0_16]) (StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (m0 m c)) b :=
  split [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] [hostOps0_16] (m0 m c) b

/-- The argument arrays of one device. -/
abbrev A0 (i : S8x2048x4096.Idx) : EReal := m (c, Proc.tc.devRef main_arg0) i
abbrev A1 (i : S8x2048x1024.Idx) : EReal := m (c, Proc.tc.devRef main_arg1) i
abbrev A2 (i : S8x2048x1024.Idx) : EReal := m (c, Proc.tc.devRef main_arg2) i

/-- The logarithm of two, as the reference computes it. -/
def lg2 : EReal := Ideal.log (Ideal.ofBits .f32 0x40000000#32)
/-- The reference's exponent of a block with largest magnitude `x`. -/
def refE (x : EReal) : EReal := if lgf x < Ideal.ofBits .f32 0xC2FC0000#32 then Ideal.ofBits .f32 0#32 else min (lgf x) (Ideal.ofBits .f32 0x42EE0000#32) + Ideal.ofBits .f32 0x3F800000#32
/-- The maximum of finitely many values, from minus infinity. -/
abbrev mx {n : ℕ} (f : Fin n → EReal) : EReal := Finset.fold max (Ideal.ofBits .f32 0xFF800000#32) f Finset.univ

theorem one_bits : Ideal.ofBits .f32 0x3F800000#32 = 1 := by rw [c1]; rfl

theorem zero_bits : Ideal.ofBits .f32 0#32 = 0 := by simp [Ideal.ofBits, Ideal.ieee]

/-! What the reference's buffers hold, at an index. -/

def x14 (b : Fin 8) (n : Fin 16) (r : Fin 128) (h : Fin 32) (d : Fin 128) : EReal := Gen.V m c main_v14 (ix5 b n r h d)
def x1 (b : Fin 8) (s : Fin 2048) (h : Fin 32) (d : Fin 128) : EReal := Gen.V m c main_v1 (ix4 b s h d)
def x3 (b : Fin 8) (s : Fin 2048) (h : Fin 8) (d : Fin 128) : EReal := Gen.V m c main_v3 (ix4 b s h d)
def x5 (b : Fin 8) (s : Fin 2048) (h : Fin 8) (d : Fin 128) : EReal := Gen.V m c main_v5 (ix4 b s h d)
def x9 (b : Fin 8) (h : Fin 8) (d : Fin 128) : EReal := Gen.V m c main_v9 (ix4 b 0 h d)
def x13 (b : Fin 8) (h : Fin 8) (d : Fin 128) : EReal := Gen.V m c main_v13 (ix4 b 0 h d)
def x33 (b : Fin 8) (n : Fin 16) (h : Fin 32) : EReal := Gen.V m c main_v33 (ix5 b n 0 h 0)
def x41 (b : Fin 8) (n : Fin 16) (r : Fin 128) (h : Fin 32) (d : Fin 128) : EReal := Gen.V m c main_v41 (ix5 b n r h d)
def x45 (b : Fin 8) (n : Fin 16) (h : Fin 32) : EReal := Gen.V m c main_v45 (ix5 b n 0 h 0)
def x48 (b : Fin 8) (n : Fin 32) (r : Fin 64) (h : Fin 8) (d : Fin 128) : EReal := Gen.V m c main_v48 (ix5 b n r h d)
def x67 (b : Fin 8) (n : Fin 32) (h : Fin 8) : EReal := Gen.V m c main_v67 (ix5 b n 0 h 0)
def x75 (b : Fin 8) (n : Fin 32) (r : Fin 64) (h : Fin 8) (d : Fin 128) : EReal := Gen.V m c main_v75 (ix5 b n r h d)
def x79 (b : Fin 8) (n : Fin 32) (h : Fin 8) : EReal := Gen.V m c main_v79 (ix5 b n 0 h 0)
def x81 (b : Fin 8) (s : Fin 2048) (h : Fin 8) (d : Fin 128) : EReal := Gen.V m c main_v81 (ix4 b s h d)
def x82 (b : Fin 8) (s : Fin 2048) (h : Fin 8) (d : Fin 128) : EReal := Gen.V m c main_v82 (ix4 b s h d)
def x83 (b : Fin 8) (h : Fin 8) (d : Fin 128) : EReal := Gen.V m c main_v83 (ix3 b h d)
def x98 (b : Fin 8) (h : Fin 8) (d : Fin 128) : EReal := Gen.V m c main_v98 (ix4 b 0 h d)
def x106 (b : Fin 8) (s : Fin 2048) (h : Fin 8) (d : Fin 128) : EReal := Gen.V m c main_v106 (ix4 b s h d)
def x110 (b : Fin 8) (h : Fin 8) (d : Fin 128) : EReal := Gen.V m c main_v110 (ix4 b 0 h d)
def x112 (b : Fin 8) (h : Fin 32) (n : Fin 16) : EReal := Gen.V m c main_v112 (ix3 b h n)
def x114 (b : Fin 8) (h : Fin 8) (n : Fin 32) : EReal := Gen.V m c main_v114 (ix3 b h n)
def x115 (b : Fin 8) (h : Fin 8) (d : Fin 128) : EReal := Gen.V m c main_v115 (ix3 b h d)
def x116 (b : Fin 8) (s : Fin 2048) (h : Fin 32) (d : Fin 128) : EReal := Gen.V m c main_v116 (ix4 b s h d)
def x117 (b : Fin 8) (s : Fin 2048) (h : Fin 8) (d : Fin 128) : EReal := Gen.V m c main_v117 (ix4 b s h d)
def x141 (b : Fin 8) (h : Fin 8) (g : Fin 4) (p : Fin 2048) (s : Fin 2048) : EReal := Gen.V m c main_v141 (ix5 b h g p s)
def x149 (b : Fin 8) (h : Fin 8) (g : Fin 4) (p : Fin 2048) (s : Fin 2048) : EReal := Gen.V m c main_v149 (ix5 b h g p s)
def x150 (b : Fin 8) (h : Fin 8) (g : Fin 4) (p : Fin 2048) : EReal := Gen.V m c main_v150 (ix4 b h g p)
def x153 (b : Fin 8) (h : Fin 8) (g : Fin 4) (p : Fin 2048) (s : Fin 2048) : EReal := Gen.V m c main_v153 (ix5 b h g p s)
def x167 (b : Fin 8) (p : Fin 2048) (h : Fin 8) (g : Fin 4) (d : Fin 128) : EReal := Gen.V m c main_v167 (ix5 b p h g d)
def x169 (b : Fin 8) (p : Fin 2048) (e : Fin 4096) : EReal := Gen.V m c main_v169 (ix3 b p e)

end Sage.Ref

end
-- ==== Proof.RefP.lean ====
module

public import proofs.«01_k».proof.Proof.RefA
public import Idealize.ShloMosaic.Lib.Pipeline.ValueKit

@[expose] public section

set_option maxRecDepth 16384

noncomputable section

namespace Sage.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-! The reference's last call casts the codes and changes nothing else. -/

theorem out3_at (x0 : Vec Ideal S8x2048x32x128 .f32) (x1 x2 : Vec Ideal S8x2048x8x128 .f32) (y : S8x2048x32x128.Idx) : (out0_3 x0 x1 x2 y : EReal) = x0 y := by
  refine (Cert.ReferenceIdeal.Value.canon3_eq _ y).trans ?_
  show x0 _ = x0 y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega

theorem iblk0_at (t : Fin cfg0.N) : iblk m c 0 t = ((cfg0.win 0).blk t).view.read (Elt Ideal) (Gen.V m c main_v116) := rfl

theorem arr3_of (w : S8x2048x32x128.Idx → EReal) (hw : @Eq (S8x2048x32x128.Idx → EReal) (Gen.V m c main_v116) w) : (dats m 0 c).arrAt 3 cfg0.N = w := by
  refine (dats m 0 c).arrAt_eq_of_covers 3 _ (by decide +kernel) fun t hf y => ?_
  rw [after0_3, iblk0_at]
  generalize iblk m c 1 t = x1
  generalize iblk m c 2 t = x2
  have hw' : Gen.V m c main_v116 = w := hw
  rw [hw']
  blk_simp
  exact (out3_at _ x1 x2 _).trans rfl

theorem out4_at (x0 : Vec Ideal S8x2048x32x128 .f32) (x1 x2 : Vec Ideal S8x2048x8x128 .f32) (y : S8x2048x8x128.Idx) : (out0_4 x0 x1 x2 y : EReal) = x1 y := by
  refine (Cert.ReferenceIdeal.Value.canon4_eq _ y).trans ?_
  show x1 _ = x1 y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega

theorem iblk1_at (t : Fin cfg0.N) : iblk m c 1 t = ((cfg0.win 1).blk t).view.read (Elt Ideal) (Gen.V m c main_v117) := rfl

theorem arr4_of (w : S8x2048x8x128.Idx → EReal) (hw : @Eq (S8x2048x8x128.Idx → EReal) (Gen.V m c main_v117) w) : (dats m 0 c).arrAt 4 cfg0.N = w := by
  refine (dats m 0 c).arrAt_eq_of_covers 4 _ (by decide +kernel) fun t hf y => ?_
  rw [after0_4, iblk1_at]
  generalize iblk m c 0 t = x0
  generalize iblk m c 2 t = x2
  have hw' : Gen.V m c main_v117 = w := hw
  rw [hw']
  blk_simp
  exact (out4_at x0 _ x2 _).trans rfl

theorem out5_at (x0 : Vec Ideal S8x2048x32x128 .f32) (x1 x2 : Vec Ideal S8x2048x8x128 .f32) (y : S8x2048x8x128.Idx) : (out0_5 x0 x1 x2 y : EReal) = x2 y := by
  refine (Cert.ReferenceIdeal.Value.canon5_eq _ y).trans ?_
  show x2 _ = x2 y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega

theorem iblk2_at (t : Fin cfg0.N) : iblk m c 2 t = ((cfg0.win 2).blk t).view.read (Elt Ideal) (Gen.V m c main_v106) := rfl

theorem arr5_of (w : S8x2048x8x128.Idx → EReal) (hw : @Eq (S8x2048x8x128.Idx → EReal) (Gen.V m c main_v106) w) : (dats m 0 c).arrAt 5 cfg0.N = w := by
  refine (dats m 0 c).arrAt_eq_of_covers 5 _ (by decide +kernel) fun t hf y => ?_
  rw [after0_5, iblk2_at]
  generalize iblk m c 0 t = x0
  generalize iblk m c 1 t = x1
  have hw' : Gen.V m c main_v106 = w := hw
  rw [hw']
  blk_simp
  exact (out5_at x0 x1 _ _).trans rfl

end Sage.Ref

end
-- ==== Proof.RefB.lean ====
module

public import proofs.«01_k».proof.Proof.RefA

@[expose] public section

set_option maxRecDepth 16384

noncomputable section

namespace Sage.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

theorem e1 (b : Fin 8) (s : Fin 2048) (h : Fin 32) (d : Fin 128) : x1 m c b s h d = A0 m c (ix3 b s ⟨h.val * 128 + d.val, by omega⟩) := by
  unfold x1
  rw [V2 m c main_v1]
  generalize hw : StableHlo.after (List.flatten [hostOps0, hostOps0_1]) (m0 m c) = w
  after_reads_at
  subst hw
  after_reads_at <;> rfl

theorem f14 : (Gen.V m c main_v14 : FVec Ideal S8x16x128x32x128 .f32) = shapeCast S8x16x128x32x128 (Gen.V m c main_v1 : FVec Ideal S8x2048x32x128 .f32) shapeCasts_S8x2048x32x128_S8x16x128x32x128 := by
  rw [V2 m c main_v14, V2 m c main_v1]
  generalize hw : StableHlo.after (List.flatten [hostOps0, hostOps0_1]) (m0 m c) = w
  after_reads_simp
  try simp -implicitDefEqProofs only [StableHlo.TRef.toBuf, StableHlo.TRef.ofBuf, cast_cast, cast_eq]
  subst hw
  after_reads_simp
  try simp -implicitDefEqProofs only [StableHlo.TRef.toBuf, StableHlo.TRef.ofBuf, cast_cast, cast_eq]
  try rfl

theorem cast14 (x : FVec Ideal S8x2048x32x128 .f32) (b : Fin 8) (n : Fin 16) (r : Fin 128) (h : Fin 32) (d : Fin 128) : (shapeCast S8x16x128x32x128 x shapeCasts_S8x2048x32x128_S8x16x128x32x128) (ix5 b n r h d) = x (ix4 b ⟨n.val * 128 + r.val, by omega⟩ h d) := by
  pointwise

theorem e14 (b : Fin 8) (n : Fin 16) (r : Fin 128) (h : Fin 32) (d : Fin 128) : x14 m c b n r h d = A0 m c (ix3 b ⟨n.val * 128 + r.val, by omega⟩ ⟨h.val * 128 + d.val, by omega⟩) :=
  ((congrFun (f14 m c) (ix5 b n r h d)).trans (cast14 _ b n r h d)).trans (e1 m c _ _ _ _)

theorem e3 (b : Fin 8) (s : Fin 2048) (h : Fin 8) (d : Fin 128) : x3 m c b s h d = A1 m c (ix3 b s ⟨h.val * 128 + d.val, by omega⟩) := by
  unfold x3
  rw [V2 m c main_v3]
  generalize hw : StableHlo.after (List.flatten [hostOps0, hostOps0_1]) (m0 m c) = w
  after_reads_at
  subst hw
  after_reads_at <;> rfl

theorem e5 (b : Fin 8) (s : Fin 2048) (h : Fin 8) (d : Fin 128) : x5 m c b s h d = A2 m c (ix3 b s ⟨h.val * 128 + d.val, by omega⟩) := by
  unfold x5
  rw [V2 m c main_v5]
  generalize hw : StableHlo.after (List.flatten [hostOps0, hostOps0_1]) (m0 m c) = w
  after_reads_at
  subst hw
  after_reads_at <;> rfl

theorem e9 (b : Fin 8) (h : Fin 8) (d : Fin 128) : x9 m c b h d = Ideal.div (∑ s : Fin 2048, A1 m c (ix3 b s ⟨h.val * 128 + d.val, by omega⟩)) (Ideal.ofBits .f32 0x45000000#32) := by
  unfold x9
  rw [V2 m c main_v9]
  generalize hw : StableHlo.after (List.flatten [hostOps0, hostOps0_1]) (m0 m c) = w
  after_reads_at
  subst hw
  after_reads_at <;> rfl

theorem e13 (b : Fin 8) (h : Fin 8) (d : Fin 128) : x13 m c b h d = Ideal.div (∑ s : Fin 2048, A2 m c (ix3 b s ⟨h.val * 128 + d.val, by omega⟩)) (Ideal.ofBits .f32 0x45000000#32) := by
  unfold x13
  rw [V2 m c main_v13]
  generalize hw : StableHlo.after (List.flatten [hostOps0, hostOps0_1]) (m0 m c) = w
  after_reads_at
  subst hw
  after_reads_at <;> rfl

end Sage.Ref

end
-- ==== Proof.RefC.lean ====
module

public import proofs.«01_k».proof.Proof.RefA

@[expose] public section

set_option maxRecDepth 16384

noncomputable section

namespace Sage.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-- The exponents from the largest magnitudes, as arrays. -/
def eArrQ (x : FVec Ideal S8x16x1x32x1 .f32) : FVec Ideal S8x16x1x32x1 .f32 :=
  select (cmpf CmpFPredicate.olt (Host.floor (Host.divf (Host.log (mulf x (broadcastInDim S8x16x1x32x1 ![] bcast_S_S8x16x1x32x1 (constant S_ FTy.f32 991054117#32)))) (Host.log (broadcastInDim S8x16x1x32x1 ![] bcast_S_S8x16x1x32x1 (constant S_ FTy.f32 1073741824#32))))) (broadcastInDim S8x16x1x32x1 ![] bcast_S_S8x16x1x32x1 (constant S_ FTy.f32 3271294976#32))) (broadcastInDim S8x16x1x32x1 ![] bcast_S_S8x16x1x32x1 (constant S_ FTy.f32 0#32))
    (addf (minimumf (Host.floor (Host.divf (Host.log (mulf x (broadcastInDim S8x16x1x32x1 ![] bcast_S_S8x16x1x32x1 (constant S_ FTy.f32 991054117#32)))) (Host.log (broadcastInDim S8x16x1x32x1 ![] bcast_S_S8x16x1x32x1 (constant S_ FTy.f32 1073741824#32))))) (broadcastInDim S8x16x1x32x1 ![] bcast_S_S8x16x1x32x1 (constant S_ FTy.f32 1122893824#32))) (broadcastInDim S8x16x1x32x1 ![] bcast_S_S8x16x1x32x1 (constant S_ FTy.f32 1065353216#32)))

/-- The largest magnitudes, as arrays. -/
def mArrQ (x : FVec Ideal S8x16x128x32x128 .f32) : FVec Ideal S8x16x1x32x1 .f32 :=
  broadcastInDim S8x16x1x32x1 ![0, 1, 2, 3] bcast_S8x16x1x32_S8x16x1x32x1_0_1_2_3 (Host.reduce FloatOps.maximumf (broadcastInDim S8x16x1x32x128 ![0, 1, 3, 4] bcast_S8x16x32x128_S8x16x1x32x128_0_1_3_4 (Host.reduce FloatOps.maximumf (Host.absf x) (constant S_ .f32 0xFF800000#32 : FVec Ideal S_ .f32) reducesTo_S8x16x128x32x128_S8x16x32x128_d2 h_S_)) (constant S_ .f32 0xFF800000#32 : FVec Ideal S_ .f32) reducesTo_S8x16x1x32x128_S8x16x1x32_d4 h_S_)

theorem eArrQ_at (x : FVec Ideal S8x16x1x32x1 .f32) (b : Fin 8) (n : Fin 16) (h : Fin 32) : eArrQ x (ix5 b n 0 h 0) = refE (x (ix5 b n 0 h 0)) := by
  unfold eArrQ refE lgf
  pointwise <;> rfl

theorem mArrQ_at (x : FVec Ideal S8x16x128x32x128 .f32) (b : Fin 8) (n : Fin 16) (h : Fin 32) : mArrQ x (ix5 b n 0 h 0) = mx fun d : Fin 128 => mx fun r : Fin 128 => mag (x (ix5 b n r h d)) := by
  unfold mArrQ
  pointwise <;> rfl

theorem f33 : (Gen.V m c main_v33 : FVec Ideal S8x16x1x32x1 .f32) = eArrQ (Gen.V m c main_v19 : FVec Ideal S8x16x1x32x1 .f32) := by
  rw [V2 m c main_v33, V2 m c main_v19]
  generalize hw : StableHlo.after (List.flatten [hostOps0, hostOps0_1]) (m0 m c) = w
  after_reads_simp
  try simp -implicitDefEqProofs only [StableHlo.TRef.toBuf, StableHlo.TRef.ofBuf, cast_cast, cast_eq]
  subst hw
  after_reads_simp
  try simp -implicitDefEqProofs only [StableHlo.TRef.toBuf, StableHlo.TRef.ofBuf, cast_cast, cast_eq]
  try rfl

theorem f19 : (Gen.V m c main_v19 : FVec Ideal S8x16x1x32x1 .f32) = mArrQ (Gen.V m c main_v14 : FVec Ideal S8x16x128x32x128 .f32) := by
  rw [V2 m c main_v19, V2 m c main_v14]
  generalize hw : StableHlo.after (List.flatten [hostOps0, hostOps0_1]) (m0 m c) = w
  after_reads_simp
  try simp -implicitDefEqProofs only [StableHlo.TRef.toBuf, StableHlo.TRef.ofBuf, cast_cast, cast_eq]
  subst hw
  after_reads_simp
  try simp -implicitDefEqProofs only [StableHlo.TRef.toBuf, StableHlo.TRef.ofBuf, cast_cast, cast_eq]
  try rfl

theorem e33 (b : Fin 8) (n : Fin 16) (h : Fin 32) : x33 m c b n h = refE (mx fun d : Fin 128 => mx fun r : Fin 128 => mag (x14 m c b n r h d)) :=
  (congrFun (f33 m c) (ix5 b n 0 h 0)).trans ((eArrQ_at _ b n h).trans (congrArg refE ((congrFun (f19 m c) (ix5 b n 0 h 0)).trans (mArrQ_at _ b n h))))

end Sage.Ref

end
-- ==== Proof.RefD.lean ====
module

public import proofs.«01_k».proof.Proof.RefA

@[expose] public section

set_option maxRecDepth 16384

noncomputable section

namespace Sage.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

theorem e41 (b : Fin 8) (n : Fin 16) (r : Fin 128) (h : Fin 32) (d : Fin 128) : x41 m c b n r h d = clp (x14 m c b n r h d * Ideal.exp (-x33 m c b n h * lg2)) := by
  unfold x41 x14 x33 clp lg2
  rw [V2 m c main_v41, V2 m c main_v14, V2 m c main_v33]
  generalize StableHlo.after (List.flatten [hostOps0, hostOps0_1]) (m0 m c) = w
  after_reads_at <;> rfl

theorem e45 (b : Fin 8) (n : Fin 16) (h : Fin 32) : x45 m c b n h = Ideal.exp (x33 m c b n h * lg2) := by
  unfold x45 x33 lg2
  rw [V4 m c main_v45, V4 m c main_v33]
  generalize StableHlo.after (List.flatten [hostOps0, hostOps0_1, hostOps0_2, hostOps0_3]) (m0 m c) = w
  after_reads_at <;> rfl

theorem e48 (b : Fin 8) (n : Fin 32) (r : Fin 64) (h : Fin 8) (d : Fin 128) : x48 m c b n r h d = x3 m c b ⟨n.val * 64 + r.val, by omega⟩ h d - x9 m c b h d := by
  unfold x48 x3 x9
  rw [V4 m c main_v48, V4 m c main_v3, V4 m c main_v9]
  generalize StableHlo.after (List.flatten [hostOps0, hostOps0_1, hostOps0_2, hostOps0_3]) (m0 m c) = w
  after_reads_at <;> rfl

theorem e75 (b : Fin 8) (n : Fin 32) (r : Fin 64) (h : Fin 8) (d : Fin 128) : x75 m c b n r h d = clp (x48 m c b n r h d * Ideal.exp (-x67 m c b n h * lg2)) := by
  unfold x75 x48 x67 clp lg2
  rw [V6 m c main_v75, V6 m c main_v48, V6 m c main_v67]
  generalize StableHlo.after (List.flatten [hostOps0, hostOps0_1, hostOps0_2, hostOps0_3, hostOps0_4, hostOps0_5]) (m0 m c) = w
  after_reads_at <;> rfl

theorem e79 (b : Fin 8) (n : Fin 32) (h : Fin 8) : x79 m c b n h = Ideal.exp (x67 m c b n h * lg2) := by
  unfold x79 x67 lg2
  rw [V8 m c main_v79, V8 m c main_v67]
  generalize StableHlo.after (List.flatten [hostOps0, hostOps0_1, hostOps0_2, hostOps0_3, hostOps0_4, hostOps0_5, hostOps0_6, hostOps0_7]) (m0 m c) = w
  after_reads_at <;> rfl

theorem e81 (b : Fin 8) (s : Fin 2048) (h : Fin 8) (d : Fin 128) : x81 m c b s h d = x5 m c b s h d - x13 m c b h d := by
  unfold x81 x5 x13
  rw [V8 m c main_v81, V8 m c main_v5, V8 m c main_v13]
  generalize StableHlo.after (List.flatten [hostOps0, hostOps0_1, hostOps0_2, hostOps0_3, hostOps0_4, hostOps0_5, hostOps0_6, hostOps0_7]) (m0 m c) = w
  after_reads_at <;> rfl

theorem e106 (b : Fin 8) (s : Fin 2048) (h : Fin 8) (d : Fin 128) : x106 m c b s h d = clp (x81 m c b s h d * Ideal.exp (-x98 m c b h d * lg2)) := by
  unfold x106 x81 x98 clp lg2
  rw [V10 m c main_v106, V10 m c main_v81, V10 m c main_v98]
  generalize StableHlo.after (List.flatten [hostOps0, hostOps0_1, hostOps0_2, hostOps0_3, hostOps0_4, hostOps0_5, hostOps0_6, hostOps0_7, hostOps0_8, hostOps0_9]) (m0 m c) = w
  after_reads_at <;> rfl

theorem e110 (b : Fin 8) (h : Fin 8) (d : Fin 128) : x110 m c b h d = Ideal.exp (x98 m c b h d * lg2) := by
  unfold x110 x98 lg2
  rw [V12 m c main_v110, V12 m c main_v98]
  generalize StableHlo.after (List.flatten [hostOps0, hostOps0_1, hostOps0_2, hostOps0_3, hostOps0_4, hostOps0_5, hostOps0_6, hostOps0_7, hostOps0_8, hostOps0_9, hostOps0_10, hostOps0_11]) (m0 m c) = w
  after_reads_at <;> rfl

end Sage.Ref

end
-- ==== Proof.RefE.lean ====
module

public import proofs.«01_k».proof.Proof.RefA

@[expose] public section

set_option maxRecDepth 16384

noncomputable section

namespace Sage.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-- The exponents from the largest magnitudes, as arrays. -/
def eArrK (x : FVec Ideal S8x32x1x8x1 .f32) : FVec Ideal S8x32x1x8x1 .f32 :=
  select (cmpf CmpFPredicate.olt (Host.floor (Host.divf (Host.log (mulf x (broadcastInDim S8x32x1x8x1 ![] bcast_S_S8x32x1x8x1 (constant S_ FTy.f32 991054117#32)))) (Host.log (broadcastInDim S8x32x1x8x1 ![] bcast_S_S8x32x1x8x1 (constant S_ FTy.f32 1073741824#32))))) (broadcastInDim S8x32x1x8x1 ![] bcast_S_S8x32x1x8x1 (constant S_ FTy.f32 3271294976#32))) (broadcastInDim S8x32x1x8x1 ![] bcast_S_S8x32x1x8x1 (constant S_ FTy.f32 0#32))
    (addf (minimumf (Host.floor (Host.divf (Host.log (mulf x (broadcastInDim S8x32x1x8x1 ![] bcast_S_S8x32x1x8x1 (constant S_ FTy.f32 991054117#32)))) (Host.log (broadcastInDim S8x32x1x8x1 ![] bcast_S_S8x32x1x8x1 (constant S_ FTy.f32 1073741824#32))))) (broadcastInDim S8x32x1x8x1 ![] bcast_S_S8x32x1x8x1 (constant S_ FTy.f32 1122893824#32))) (broadcastInDim S8x32x1x8x1 ![] bcast_S_S8x32x1x8x1 (constant S_ FTy.f32 1065353216#32)))

/-- The largest magnitudes, as arrays. -/
def mArrK (x : FVec Ideal S8x32x64x8x128 .f32) : FVec Ideal S8x32x1x8x1 .f32 :=
  broadcastInDim S8x32x1x8x1 ![0, 1, 2, 3] bcast_S8x32x1x8_S8x32x1x8x1_0_1_2_3 (Host.reduce FloatOps.maximumf (broadcastInDim S8x32x1x8x128 ![0, 1, 3, 4] bcast_S8x32x8x128_S8x32x1x8x128_0_1_3_4 (Host.reduce FloatOps.maximumf (Host.absf x) (constant S_ .f32 0xFF800000#32 : FVec Ideal S_ .f32) reducesTo_S8x32x64x8x128_S8x32x8x128_d2 h_S_)) (constant S_ .f32 0xFF800000#32 : FVec Ideal S_ .f32) reducesTo_S8x32x1x8x128_S8x32x1x8_d4 h_S_)

theorem eArrK_at (x : FVec Ideal S8x32x1x8x1 .f32) (b : Fin 8) (n : Fin 32) (h : Fin 8) : eArrK x (ix5 b n 0 h 0) = refE (x (ix5 b n 0 h 0)) := by
  unfold eArrK refE lgf
  pointwise <;> rfl

theorem mArrK_at (x : FVec Ideal S8x32x64x8x128 .f32) (b : Fin 8) (n : Fin 32) (h : Fin 8) : mArrK x (ix5 b n 0 h 0) = mx fun d : Fin 128 => mx fun r : Fin 64 => mag (x (ix5 b n r h d)) := by
  unfold mArrK
  pointwise <;> rfl

theorem f67 : (Gen.V m c main_v67 : FVec Ideal S8x32x1x8x1 .f32) = eArrK (Gen.V m c main_v53 : FVec Ideal S8x32x1x8x1 .f32) := by
  rw [V4 m c main_v67, V4 m c main_v53]
  generalize hw : StableHlo.after (List.flatten [hostOps0, hostOps0_1, hostOps0_2, hostOps0_3]) (m0 m c) = w
  after_reads_simp
  try simp -implicitDefEqProofs only [StableHlo.TRef.toBuf, StableHlo.TRef.ofBuf, cast_cast, cast_eq]
  try rfl

theorem f53 : (Gen.V m c main_v53 : FVec Ideal S8x32x1x8x1 .f32) = mArrK (Gen.V m c main_v48 : FVec Ideal S8x32x64x8x128 .f32) := by
  rw [V4 m c main_v53, V4 m c main_v48]
  generalize hw : StableHlo.after (List.flatten [hostOps0, hostOps0_1, hostOps0_2, hostOps0_3]) (m0 m c) = w
  after_reads_simp
  try simp -implicitDefEqProofs only [StableHlo.TRef.toBuf, StableHlo.TRef.ofBuf, cast_cast, cast_eq]
  try rfl

theorem e67 (b : Fin 8) (n : Fin 32) (h : Fin 8) : x67 m c b n h = refE (mx fun d : Fin 128 => mx fun r : Fin 64 => mag (x48 m c b n r h d)) :=
  (congrFun (f67 m c) (ix5 b n 0 h 0)).trans ((eArrK_at _ b n h).trans (congrArg refE ((congrFun (f53 m c) (ix5 b n 0 h 0)).trans (mArrK_at _ b n h))))

end Sage.Ref

end
-- ==== Proof.RefF.lean ====
module

public import proofs.«01_k».proof.Proof.RefA

@[expose] public section

set_option maxRecDepth 16384

noncomputable section

namespace Sage.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

theorem f83 : (Gen.V m c main_v83 : FVec Ideal S8x8x128 .f32) = Host.reduce FloatOps.maximumf (Gen.V m c main_v82 : FVec Ideal S8x2048x8x128 .f32) (constant S_ .f32 0xFF800000#32 : FVec Ideal S_ .f32) reducesTo_S8x2048x8x128_S8x8x128_d1 h_S_ := by
  rw [V8 m c main_v83, V8 m c main_v82]
  generalize hw : StableHlo.after (List.flatten [hostOps0, hostOps0_1, hostOps0_2, hostOps0_3, hostOps0_4, hostOps0_5, hostOps0_6, hostOps0_7]) (m0 m c) = w
  after_reads_simp
  try simp -implicitDefEqProofs only [StableHlo.TRef.toBuf, StableHlo.TRef.ofBuf, cast_cast, cast_eq]
  try rfl

theorem red83 (x : FVec Ideal S8x2048x8x128 .f32) (b : Fin 8) (h : Fin 8) (d : Fin 128) : (Host.reduce FloatOps.maximumf x (constant S_ .f32 0xFF800000#32 : FVec Ideal S_ .f32) reducesTo_S8x2048x8x128_S8x8x128_d1 h_S_) (ix3 b h d) = mx fun s : Fin 2048 => x (ix4 b s h d) := by
  pointwise

theorem e82 (b : Fin 8) (s : Fin 2048) (h : Fin 8) (d : Fin 128) : x82 m c b s h d = mag (x81 m c b s h d) := by
  unfold x82 x81
  rw [V8 m c main_v82, V8 m c main_v81]
  generalize StableHlo.after (List.flatten [hostOps0, hostOps0_1, hostOps0_2, hostOps0_3, hostOps0_4, hostOps0_5, hostOps0_6, hostOps0_7]) (m0 m c) = w
  after_reads_at <;> rfl

theorem e83 (b : Fin 8) (h : Fin 8) (d : Fin 128) : x83 m c b h d = mx fun s : Fin 2048 => mag (x81 m c b s h d) := by
  simp only [← e82]
  exact (congrFun (f83 m c) (ix3 b h d)).trans (red83 _ b h d)

/-- The exponents from the largest magnitudes, as arrays. -/
def eArr (x : FVec Ideal S8x8x128 .f32) : FVec Ideal S8x1x8x128 .f32 :=
  select
      (cmpf CmpFPredicate.olt
        (Host.floor
          (Host.divf
            (Host.log
              (mulf
                (broadcastInDim S8x1x8x128 ![0, 2, 3] bcast_S8x8x128_S8x1x8x128_0_2_3 x)
                (broadcastInDim S8x1x8x128 ![] bcast_S_S8x1x8x128 (constant S_ FTy.f32 991054117#32))))
            (Host.log (broadcastInDim S8x1x8x128 ![] bcast_S_S8x1x8x128 (constant S_ FTy.f32 1073741824#32)))))
        (broadcastInDim S8x1x8x128 ![] bcast_S_S8x1x8x128 (constant S_ FTy.f32 3271294976#32)))
      (broadcastInDim S8x1x8x128 ![] bcast_S_S8x1x8x128 (constant S_ FTy.f32 0#32))
      (addf
        (minimumf
          (Host.floor
            (Host.divf
              (Host.log
                (mulf
                  (broadcastInDim S8x1x8x128 ![0, 2, 3] bcast_S8x8x128_S8x1x8x128_0_2_3 x)
                  (broadcastInDim S8x1x8x128 ![] bcast_S_S8x1x8x128 (constant S_ FTy.f32 991054117#32))))
              (Host.log (broadcastInDim S8x1x8x128 ![] bcast_S_S8x1x8x128 (constant S_ FTy.f32 1073741824#32)))))
          (broadcastInDim S8x1x8x128 ![] bcast_S_S8x1x8x128 (constant S_ FTy.f32 1122893824#32)))
        (broadcastInDim S8x1x8x128 ![] bcast_S_S8x1x8x128 (constant S_ FTy.f32 1065353216#32)))

theorem f98 : (Gen.V m c main_v98 : FVec Ideal S8x1x8x128 .f32) = eArr (Gen.V m c main_v83 : FVec Ideal S8x8x128 .f32) := by
  rw [V8 m c main_v98, V8 m c main_v83]
  generalize hw : StableHlo.after (List.flatten [hostOps0, hostOps0_1, hostOps0_2, hostOps0_3, hostOps0_4, hostOps0_5, hostOps0_6, hostOps0_7]) (m0 m c) = w
  after_reads_simp
  try simp -implicitDefEqProofs only [StableHlo.TRef.toBuf, StableHlo.TRef.ofBuf, cast_cast, cast_eq]
  try rfl

theorem eArr_at (x : FVec Ideal S8x8x128 .f32) (b : Fin 8) (h : Fin 8) (d : Fin 128) : eArr x (ix4 b 0 h d) = refE (x (ix3 b h d)) := by
  unfold eArr refE lgf
  pointwise <;> rfl

theorem e98 (b : Fin 8) (h : Fin 8) (d : Fin 128) : x98 m c b h d = refE (x83 m c b h d) :=
  (congrFun (f98 m c) (ix4 b 0 h d)).trans (eArr_at _ b h d)

end Sage.Ref

end
-- ==== Proof.RefG.lean ====
module

public import proofs.«01_k».proof.Proof.RefA

@[expose] public section

set_option maxRecDepth 16384

noncomputable section

namespace Sage.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

theorem e112 (b : Fin 8) (h : Fin 32) (n : Fin 16) : x112 m c b h n = x45 m c b n h := by
  unfold x112 x45
  rw [V12 m c main_v112, V12 m c main_v45]
  generalize StableHlo.after (List.flatten [hostOps0, hostOps0_1, hostOps0_2, hostOps0_3, hostOps0_4, hostOps0_5, hostOps0_6, hostOps0_7, hostOps0_8, hostOps0_9, hostOps0_10, hostOps0_11]) (m0 m c) = w
  after_reads_at <;> rfl

theorem e114 (b : Fin 8) (h : Fin 8) (n : Fin 32) : x114 m c b h n = x79 m c b n h := by
  unfold x114 x79
  rw [V12 m c main_v114, V12 m c main_v79]
  generalize StableHlo.after (List.flatten [hostOps0, hostOps0_1, hostOps0_2, hostOps0_3, hostOps0_4, hostOps0_5, hostOps0_6, hostOps0_7, hostOps0_8, hostOps0_9, hostOps0_10, hostOps0_11]) (m0 m c) = w
  after_reads_at <;> rfl

theorem e115 (b : Fin 8) (h : Fin 8) (d : Fin 128) : x115 m c b h d = x110 m c b h d := by
  unfold x115 x110
  rw [V12 m c main_v115, V12 m c main_v110]
  generalize StableHlo.after (List.flatten [hostOps0, hostOps0_1, hostOps0_2, hostOps0_3, hostOps0_4, hostOps0_5, hostOps0_6, hostOps0_7, hostOps0_8, hostOps0_9, hostOps0_10, hostOps0_11]) (m0 m c) = w
  after_reads_at <;> rfl

theorem e116 (b : Fin 8) (s : Fin 2048) (h : Fin 32) (d : Fin 128) : x116 m c b s h d = x41 m c b ⟨s.val / 128, by omega⟩ ⟨s.val % 128, by omega⟩ h d := by
  unfold x116 x41
  rw [V12 m c main_v116, V12 m c main_v41]
  generalize StableHlo.after (List.flatten [hostOps0, hostOps0_1, hostOps0_2, hostOps0_3, hostOps0_4, hostOps0_5, hostOps0_6, hostOps0_7, hostOps0_8, hostOps0_9, hostOps0_10, hostOps0_11]) (m0 m c) = w
  after_reads_at <;> rfl

theorem e117 (b : Fin 8) (s : Fin 2048) (h : Fin 8) (d : Fin 128) : x117 m c b s h d = x75 m c b ⟨s.val / 64, by omega⟩ ⟨s.val % 64, by omega⟩ h d := by
  unfold x117 x75
  rw [V12 m c main_v117, V12 m c main_v75]
  generalize StableHlo.after (List.flatten [hostOps0, hostOps0_1, hostOps0_2, hostOps0_3, hostOps0_4, hostOps0_5, hostOps0_6, hostOps0_7, hostOps0_8, hostOps0_9, hostOps0_10, hostOps0_11]) (m0 m c) = w
  after_reads_at <;> rfl

theorem e141 (b : Fin 8) (h : Fin 8) (g : Fin 4) (p : Fin 2048) (s : Fin 2048) : x141 m c b h g p s = Scalar.select (IntOp.cmpi CmpIPredicate.sle (BitVec.ofNat 32 s.val) (BitVec.ofNat 32 p.val))
      ((∑ d : Fin 128, x75 m c b ⟨s.val / 64, by omega⟩ ⟨s.val % 64, by omega⟩ h d * x41 m c b ⟨p.val / 128, by omega⟩ ⟨p.val % 128, by omega⟩ ⟨h.val * 4 + g.val, by omega⟩ d) *
        (x45 m c b ⟨p.val / 128, by omega⟩ ⟨h.val * 4 + g.val, by omega⟩ * Ideal.ofBits .f32 0x3E0293EE#32) * x79 m c b ⟨s.val / 64, by omega⟩ h)
      (Ideal.ofBits .f32 0xFF800000#32) := by
  unfold x141 x75 x41 x45 x79
  rw [V12 m c main_v141, V12 m c main_v75, V12 m c main_v41, V12 m c main_v45, V12 m c main_v79]
  generalize StableHlo.after (List.flatten [hostOps0, hostOps0_1, hostOps0_2, hostOps0_3, hostOps0_4, hostOps0_5, hostOps0_6, hostOps0_7, hostOps0_8, hostOps0_9, hostOps0_10, hostOps0_11]) (m0 m c) = w
  after_reads_at <;> rfl

end Sage.Ref

end
-- ==== Proof.RefH.lean ====
module

public import proofs.«01_k».proof.Proof.RefA

@[expose] public section

set_option maxRecDepth 16384

noncomputable section

namespace Sage.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

theorem e149 (b : Fin 8) (h : Fin 8) (g : Fin 4) (p : Fin 2048) (s : Fin 2048) : x149 m c b h g p s = Ideal.exp ((x141 m c b h g p s - mx (fun t : Fin 2048 => x141 m c b h g p t)) * lg2) := by
  unfold x149 x141 lg2
  rw [V14 m c main_v149, V14 m c main_v141]
  generalize StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (m0 m c) = w
  after_reads_at <;> rfl

theorem e150 (b : Fin 8) (h : Fin 8) (g : Fin 4) (p : Fin 2048) : x150 m c b h g p = ∑ s : Fin 2048, x149 m c b h g p s := by
  unfold x150 x149
  rw [V14 m c main_v150, V14 m c main_v149]
  generalize StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (m0 m c) = w
  after_reads_at <;> rfl

theorem e153 (b : Fin 8) (h : Fin 8) (g : Fin 4) (p : Fin 2048) (s : Fin 2048) : x153 m c b h g p s = clp (x149 m c b h g p s * Ideal.ofBits .f32 0x43800000#32) := by
  unfold x153 x149 clp
  rw [V14 m c main_v153, V14 m c main_v149]
  generalize StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (m0 m c) = w
  after_reads_at <;> rfl

end Sage.Ref

end
-- ==== Proof.RefI.lean ====
module

public import proofs.«01_k».proof.Proof.RefA

@[expose] public section

set_option maxRecDepth 16384

noncomputable section

namespace Sage.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

theorem e167 (b : Fin 8) (p : Fin 2048) (h : Fin 8) (g : Fin 4) (d : Fin 128) : x167 m c b p h g d = Ideal.div ((∑ s : Fin 2048, x106 m c b s h d * x153 m c b h g p s) * (Ideal.ofBits .f32 0x3B800000#32 * x115 m c b h d)) (x150 m c b h g p) + x13 m c b h d := by
  unfold x167 x106 x153 x115 x150 x13
  rw [V16 m c main_v167, V16 m c main_v106, V16 m c main_v153, V16 m c main_v115, V16 m c main_v150, V16 m c main_v13]
  generalize StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (m0 m c) = w
  after_reads_at <;> rfl

theorem f169 : @Eq (FVec Ideal S8x2048x4096 .bf16) (Gen.V m c main_v169) (truncf .bf16 (shapeCast S8x2048x4096 (Gen.V m c main_v167 : FVec Ideal S8x2048x8x4x128 .f32) shapeCasts_S8x2048x8x4x128_S8x2048x4096) bitsLt_bf16_f32) := by
  rw [V16 m c main_v169, V16 m c main_v167]
  generalize hw : StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (m0 m c) = w
  after_reads_simp
  try simp -implicitDefEqProofs only [StableHlo.TRef.toBuf, StableHlo.TRef.ofBuf, cast_cast, cast_eq]
  try rfl

theorem cast169 (x : FVec Ideal S8x2048x8x4x128 .f32) (b : Fin 8) (p : Fin 2048) (e : Fin 4096) :
    ((truncf .bf16 (shapeCast S8x2048x4096 x shapeCasts_S8x2048x8x4x128_S8x2048x4096) bitsLt_bf16_f32) (ix3 b p e) : EReal) = x (ix5 b p ⟨e.val / 512, by omega⟩ ⟨e.val / 128 % 4, by omega⟩ ⟨e.val % 128, by omega⟩) := by
  pointwise

theorem e169 (b : Fin 8) (p : Fin 2048) (e : Fin 4096) : x169 m c b p e = x167 m c b p ⟨e.val / 512, by omega⟩ ⟨e.val / 128 % 4, by omega⟩ ⟨e.val % 128, by omega⟩ :=
  (congrFun (f169 m c) (ix3 b p e)).trans (cast169 _ b p e)

end Sage.Ref

end
-- ==== Proof.PrepV.lean ====
module

public import proofs.«01_k».proof.Proof.Spec
public import proofs.«01_k».proof.Proof.ValI

@[expose] public section

set_option maxRecDepth 16384

noncomputable section

namespace Sage

open Idealize.ShloMosaic Idealize.SL.Sem

/-- The arrays' contents, a float an extended real. -/
abbrev Sg := St (Elt Ideal)

/-- A loop's head. -/
def hF (t : Fin headLoop.trips) : Fin 8 := ⟨t.val, hd_lt t⟩

/-! ### Accesses of the preparation -/

theorem ld_in (σ : Sg) (t : Fin headLoop.trips) (c : Fin 8) (r : Fin 256) (l : Fin 128) :
    ld σ .k (rIn t c).toLoadRect (ix3 0 r l) = hdOf (σ .k) (hF t) ⟨256 * c.val + r.val, by omega⟩ l := by
  refine congrArg (σ .k) (idx3 _ _ _ rfl ?_ ?_)
  · show 256 * c.val + 1 * r.val = 256 * c.val + r.val; omega
  · show lN t + 1 * l.val = 128 * t.val + l.val; rw [lN_eq]; omega
theorem ld_in_v (σ : Sg) (t : Fin headLoop.trips) (c : Fin 8) (r : Fin 256) (l : Fin 128) :
    ld σ .v (rIn t c).toLoadRect (ix3 0 r l) = hdOf (σ .v) (hF t) ⟨256 * c.val + r.val, by omega⟩ l := by
  refine congrArg (σ .v) (idx3 _ _ _ rfl ?_ ?_)
  · show 256 * c.val + 1 * r.val = 256 * c.val + r.val; omega
  · show lN t + 1 * l.val = 128 * t.val + l.val; rw [lN_eq]; omega

theorem ov_row (t : Fin headLoop.trips) (X : S8x128.Idx → EReal) (w : S1x128.Idx → EReal) (h : Fin 8) (d : Fin 128) :
    (rRow t).overlay X w (ix2 h d) = if h = hF t then w (ix2 0 d) else X (ix2 h d) := by
  split
  · next e =>
    subst e
    refine ov_in (rRow t) X w (ix2 0 d : S1x128.Idx) (idx2 _ _ _ ?_ ?_)
    · show hN t + 1 * 0 = t.val; rw [hN_eq]; rfl
    · show 0 + 1 * d.val = d.val; omega
  · next e =>
    refine ov_out X w 0 ?_
    have : h.val ≠ t.val := fun e' => e (Fin.ext e')
    show h.val < hN t ∨ hN t + 1 ≤ h.val
    rw [hN_eq]; omega
theorem ov_ks (t : Fin headLoop.trips) (X : S8x32x128.Idx → EReal) (w : S1x32x128.Idx → EReal) (h : Fin 8) (b : Fin 32) (d : Fin 128) :
    (rKs t).overlay X w (ix3 h b d) = if h = hF t then w (ix3 0 b d) else X (ix3 h b d) := by
  split
  · next e =>
    subst e
    refine ov_in (rKs t) X w (ix3 0 b d : S1x32x128.Idx) (idx3 _ _ _ ?_ ?_ ?_)
    · show hN t + 1 * 0 = t.val; rw [hN_eq]; rfl
    · show 0 + 1 * b.val = b.val; omega
    · show 0 + 1 * d.val = d.val; omega
  · next e =>
    refine ov_out X w 0 ?_
    have : h.val ≠ t.val := fun e' => e (Fin.ext e')
    show h.val < hN t ∨ hN t + 1 ≤ h.val
    rw [hN_eq]; omega
theorem ov_kc (t : Fin headLoop.trips) (c : Fin 8) (X : S8x2048x128.Idx → EReal) (w : S1x256x128.Idx → EReal) (h : Fin 8) (s : Fin 2048) (d : Fin 128) :
    (rKc t c).overlay X w (ix3 h s d) =
      if e : h = hF t ∧ 256 * c.val ≤ s.val ∧ s.val < 256 * c.val + 256 then w (ix3 0 ⟨s.val - 256 * c.val, by omega⟩ d) else X (ix3 h s d) := by
  split
  · next e =>
    obtain ⟨e, e1, e2⟩ := e
    subst e
    refine ov_in (rKc t c) X w (ix3 0 ⟨s.val - 256 * c.val, by omega⟩ d : S1x256x128.Idx) (idx3 _ _ _ ?_ ?_ ?_)
    · show hN t + 1 * 0 = t.val; rw [hN_eq]; rfl
    · show 256 * c.val + 1 * (s.val - 256 * c.val) = s.val; omega
    · show 0 + 1 * d.val = d.val; omega
  · next e =>
    by_cases e0 : h = hF t
    · refine ov_out X w 1 ?_
      show s.val < 256 * c.val ∨ 256 * c.val + 256 ≤ s.val
      by_contra e1
      exact e ⟨e0, by omega⟩
    · refine ov_out X w 0 ?_
      have : h.val ≠ t.val := fun e' => e0 (Fin.ext e')
      show h.val < hN t ∨ hN t + 1 ≤ h.val
      rw [hN_eq]; omega
theorem ov_vt (t : Fin headLoop.trips) (c : Fin 8) (X : S8x128x2048.Idx → EReal) (w : S1x128x256.Idx → EReal) (h : Fin 8) (d : Fin 128) (s : Fin 2048) :
    (rVt t c).overlay X w (ix3 h d s) =
      if e : h = hF t ∧ 256 * c.val ≤ s.val ∧ s.val < 256 * c.val + 256 then w (ix3 0 d ⟨s.val - 256 * c.val, by omega⟩) else X (ix3 h d s) := by
  split
  · next e =>
    obtain ⟨e, e1, e2⟩ := e
    subst e
    refine ov_in (rVt t c) X w (ix3 0 d ⟨s.val - 256 * c.val, by omega⟩ : S1x128x256.Idx) (idx3 _ _ _ ?_ ?_ ?_)
    · show hN t + 1 * 0 = t.val; rw [hN_eq]; rfl
    · show 0 + 1 * d.val = d.val; omega
    · show 256 * c.val + 1 * (s.val - 256 * c.val) = s.val; omega
  · next e =>
    by_cases e0 : h = hF t
    · refine ov_out X w 2 ?_
      show s.val < 256 * c.val ∨ 256 * c.val + 256 ≤ s.val
      by_contra e1
      exact e ⟨e0, by omega⟩
    · refine ov_out X w 0 ?_
      have : h.val ≠ t.val := fun e' => e0 (Fin.ext e')
      show h.val < hN t ∨ hN t + 1 ≤ h.val
      rw [hN_eq]; omega

/-! Casts between shapes with the same order of elements. -/
section
variable {φ : FTy}
theorem cast_row (w : FVec Ideal S1x128 φ) (h) (d : Fin 128) : shapeCast S1x128 w h (ix2 0 d) = w (ix2 0 d) := by pointwise []
theorem cast_ks (w : FVec Ideal S32x128 φ) (h) (b : Fin 32) (d : Fin 128) : shapeCast S1x32x128 w h (ix3 0 b d) = w (ix2 b d) := by pointwise []
theorem cast_kc (w : FVec Ideal S256x128 φ) (h) (s : Fin 256) (d : Fin 128) : shapeCast S1x256x128 w h (ix3 0 s d) = w (ix2 s d) := by pointwise []
theorem cast_vt (w : FVec Ideal S128x256 φ) (h) (d : Fin 128) (s : Fin 256) : shapeCast S1x128x256 w h (ix3 0 d s) = w (ix2 d s) := by pointwise []
end

/-! ### Sums, maxima and codes of one head -/

theorem sums_spec (Post : FVec Ideal S32x128 .f32 × Sg → Prop) (t : Fin headLoop.trips) (σ : Sg)
    {k : FVec Ideal S8x128 .f32 × FVec Ideal S8x128 .f32 → Cmd (Elt Ideal) (FVec Ideal S32x128 .f32)}
    (hk : ∀ sm, (∀ d, meanOf sm.1 (ix2 0 d) = meanS (hdOf (σ .k) (hF t)) d) → (∀ d, meanOf sm.2 (ix2 0 d) = meanS (hdOf (σ .v) (hF t)) d) →
      Post ((k sm).sem σ)) : Post ((prepSums t k).sem σ) := by
  unfold prepSums
  have z : Ideal.ofBits .f32 0x00000000#32 = 0 := by simp [Ideal.ofBits, Ideal.ieee]
  have part : ∀ (f : Hd) (r : Fin 8) (l : Fin 128) (c : Fin 8) (a : FVec Ideal S256x128 .f32),
      (∀ (r : Fin 256) l, a (ix2 r l) = f ⟨256 * c.val + r.val, by omega⟩ l) →
      ∑ x : Fin 32, a (ix2 ⟨x.val * 8 + r.val, by omega⟩ l) = ∑ x ∈ Finset.range 32, ext0 (fun s => f s l) (c.val * 256 + (x * 8 + r.val)) := by
    intro f r l c a ha
    rw [← Fin.sum_univ_eq_sum_range (fun x => ext0 (fun s => f s l) (c.val * 256 + (x * 8 + r.val))) 32]
    refine Finset.sum_congr rfl fun x _ => ?_
    rw [ha, ext0_lt _ (by omega)]
    congr 2
    show 256 * c.val + (x.val * 8 + r.val) = _
    omega
  have whole : ∀ (f : Hd) (b : FVec Ideal S8x128 .f32), (∀ (r : Fin 8) l, b (ix2 r l) =
      ∑ c ∈ Finset.range 8, ∑ x ∈ Finset.range 32, ext0 (fun s => f s l) (c * 256 + (x * 8 + r.val))) → ∀ d, meanOf b (ix2 0 d) = meanS f d := by
    intro f b hb d
    rw [meanOf_ap, meanS, ← sum_ext0 fun s => f s d]
    congr 1
    refine Eq.trans ?_ (sum_mul (ext0 fun s => f s d) 8 256).symm
    simp only [hb]
    rw [Fin.sum_univ_eq_sum_range (fun r => ∑ c ∈ Finset.range 8, ∑ x ∈ Finset.range 32, ext0 (fun s => f s d) (c * 256 + (x * 8 + r))) 8, Finset.sum_comm]
    refine Finset.sum_congr rfl fun c _ => ?_
    rw [Finset.sum_comm, show (256 : ℕ) = 32 * 8 from rfl, sum_mul]
  refine upto_inv Post (fun c b σ' => σ' = σ ∧
      (∀ (r : Fin 8) l, b.1 (ix2 r l) = ∑ c ∈ Finset.range c, ∑ x ∈ Finset.range 32, ext0 (fun s => hdOf (σ .k) (hF t) s l) (c * 256 + (x * 8 + r.val))) ∧
      (∀ (r : Fin 8) l, b.2 (ix2 r l) = ∑ c ∈ Finset.range c, ∑ x ∈ Finset.range 32, ext0 (fun s => hdOf (σ .v) (hF t) s l) (c * 256 + (x * 8 + r.val))))
    8 (le_refl 8) ?_ ⟨rfl, fun r l => z, fun r l => z⟩ ?_
  · rintro c b σ' hc ⟨rfl, h1, h2⟩ k hk
    refine hk _ _ ⟨rfl, fun r l => ?_, fun r l => ?_⟩
    · dsimp only
      rw [sumStep_ap, h1, Finset.sum_range_succ, part _ r l c _ fun r l => (up256_ap _ r l).trans (ld_in σ' t c r l)]
    · dsimp only
      rw [sumStep_ap, h2, Finset.sum_range_succ, part _ r l c _ fun r l => (up256_ap _ r l).trans (ld_in_v σ' t c r l)]
  · rintro b σ' ⟨rfl, h1, h2⟩
    exact hk b (whole _ _ h1) (whole _ _ h2)

theorem centre_in (σ : Sg) (t : Fin headLoop.trips) (c : Fin 8) {km : FVec Ideal S1x128 .f32} (hm : ∀ d, km (ix2 0 d) = meanS (hdOf (σ .k) (hF t)) d)
    (r : Fin 256) (l : Fin 128) : centre (up256 (ld σ .k (rIn t c).toLoadRect)) km (ix2 r l) = cenS (hdOf (σ .k) (hF t)) ⟨256 * c.val + r.val, by omega⟩ l := by
  rw [centre_ap, up256_ap, ld_in, hm]; rfl
theorem centre_in_v (σ : Sg) (t : Fin headLoop.trips) (c : Fin 8) {km : FVec Ideal S1x128 .f32} (hm : ∀ d, km (ix2 0 d) = meanS (hdOf (σ .v) (hF t)) d)
    (r : Fin 256) (l : Fin 128) : centre (up256 (ld σ .v (rIn t c).toLoadRect)) km (ix2 r l) = cenS (hdOf (σ .v) (hF t)) ⟨256 * c.val + r.val, by omega⟩ l := by
  rw [centre_ap, up256_ap, ld_in_v, hm]; rfl

theorem maxs_spec (Post : FVec Ideal S32x128 .f32 × Sg → Prop) (t : Fin headLoop.trips) (σ : Sg) {km vm : FVec Ideal S1x128 .f32}
    (hkm : ∀ d, km (ix2 0 d) = meanS (hdOf (σ .k) (hF t)) d) (hvm : ∀ d, vm (ix2 0 d) = meanS (hdOf (σ .v) (hF t)) d)
    {k : FVec Ideal S8x128 .f32 × (ℕ → FVec Ideal S4x128 .f32) → Cmd (Elt Ideal) (FVec Ideal S32x128 .f32)}
    (hk : ∀ mx : FVec Ideal S8x128 .f32 × (ℕ → FVec Ideal S4x128 .f32),
      (∀ b l, rowMax (cat8 (mx.2 0) (mx.2 1) (mx.2 2) (mx.2 3) (mx.2 4) (mx.2 5) (mx.2 6) (mx.2 7)) (ix2 b l) = kA (hdOf (σ .k) (hF t)) b) →
      (∀ l, colMax mx.1 (ix2 0 l) = vA (hdOf (σ .v) (hF t)) l) → Post ((k mx).sem σ)) : Post ((prepMaxs t km vm k).sem σ) := by
  unfold prepMaxs
  have z : Ideal.ofBits .f32 0x00000000#32 = 0 := by simp [Ideal.ofBits, Ideal.ieee]
  refine upto_inv Post (fun c b σ' => σ' = σ ∧
      (∀ (r : Fin 8) l y, b.1 (ix2 r l) ≤ y ↔ 0 ≤ y ∧ ∀ (s : Fin 2048), s.val < 256 * c → s.val % 8 = r.val → mag (cenS (hdOf (σ .v) (hF t)) s l) ≤ y) ∧
      (∀ i (hi : i < 8), i < c → ∀ (r : Fin 4) l, b.2 i (ix2 r l) =
        Finset.univ.sup fun x : Fin 64 => mag (cenS (hdOf (σ .k) (hF t)) ⟨256 * i + (r.val * 64 + x.val), by omega⟩ l)))
    8 (le_refl 8) ?_ ⟨rfl, fun r l y => ?_, fun i _ hi => absurd hi (Nat.not_lt_zero _)⟩ ?_
  · rintro c b σ' hc ⟨rfl, h1, h2⟩ k hk
    refine hk _ _ ⟨rfl, fun r l y => ?_, fun i hi8 hi r l => ?_⟩
    · dsimp only
      rw [maxStep_ap, max_le_iff, h1, Finset.sup_le_iff]
      simp only [centre_in_v σ' t c hvm, Finset.mem_univ, true_implies]
      constructor
      · rintro ⟨⟨h0, ha⟩, hb⟩
        refine ⟨h0, fun s hs hr => ?_⟩
        by_cases hl : s.val < 256 * c.val
        · exact ha s hl hr
        · have := hb ⟨(s.val - 256 * c.val) / 8, by omega⟩
          have e : (⟨256 * c.val + ((s.val - 256 * c.val) / 8 * 8 + r.val), by omega⟩ : Fin 2048) = s := Fin.ext (by show _ = s.val; simp only []; omega)
          rw [e] at this
          exact this
      · rintro ⟨h0, ha⟩
        refine ⟨⟨h0, fun s hs hr => ha s (by omega) hr⟩, fun x => ha _ ?_ ?_⟩
        · show 256 * c.val + (x.val * 8 + r.val) < _; omega
        · show (256 * c.val + (x.val * 8 + r.val)) % 8 = _; omega
    · show upd b.2 c.val _ i (ix2 r l) = _
      unfold upd
      split
      · next e =>
        subst e
        rw [blkMax_ap]
        simp only [centre_in σ' t c hkm]
        rfl
      · exact h2 i hi8 (by omega) r l
  · show Ideal.ofBits .f32 0x00000000#32 ≤ y ↔ _
    rw [z]
    exact ⟨fun h => ⟨h, fun s hs => absurd hs (by omega)⟩, fun h => h.1⟩
  · rintro b σ' ⟨rfl, h1, h2⟩
    refine hk b (fun q l => ?_) fun l => ?_
    · rw [rowMax_ap, kA]
      refine Finset.sup_congr rfl fun x _ => ?_
      rw [cat8_ap b.2 q x, h2 _ (by omega) (by omega)]
      refine Finset.sup_congr rfl fun r _ => ?_
      congr 3
      show 256 * (q.val / 4) + (q.val % 4 * 64 + r.val) = 64 * q.val + r.val
      omega
    · rw [colMax_ap, vA]
      refine eq_of_forall_ge_iff fun y => ?_
      simp only [Finset.sup_le_iff, Finset.mem_univ, true_implies, h1]
      constructor
      · intro h s
        exact (h ⟨s.val % 8, by omega⟩).2 s (by omega) rfl
      · intro h r
        exact ⟨(mag_nonneg _).trans (h 0), fun s _ _ => h s⟩

/-- The arrays the preparation of a head stores to. -/
def headW : Nm → Bool
  | .vm | .ks | .vs | .kc | .vt => true
  | _ => false

theorem codes_spec (Post : FVec Ideal S32x128 .f32 × Sg → Prop) (t : Fin headLoop.trips) (σ : Sg) {km vm : FVec Ideal S1x128 .f32}
    {ak : FVec Ideal S32x128 .f32} {av : FVec Ideal S1x128 .f32}
    (hkm : ∀ d, km (ix2 0 d) = meanS (hdOf (σ .k) (hF t)) d) (hvm : ∀ d, vm (ix2 0 d) = meanS (hdOf (σ .v) (hF t)) d)
    (hak : ∀ b l, ak (ix2 b l) = kA (hdOf (σ .k) (hF t)) b) (hav : ∀ l, av (ix2 0 l) = vA (hdOf (σ .v) (hF t)) l)
    {k : PUnit → Cmd (Elt Ideal) (FVec Ideal S32x128 .f32)}
    (hk : ∀ σ' : Sg, (∀ n, n ≠ .kc → n ≠ .vt → σ' n = σ n) →
      (∀ h s d, σ' .kc (ix3 h s d) = if h = hF t then kC (hdOf (σ .k) (hF t)) s d else σ .kc (ix3 h s d)) →
      (∀ h d s, σ' .vt (ix3 h d s) = if h = hF t then vC (hdOf (σ .v) (hF t)) s d else σ .vt (ix3 h d s)) → Post ((k PUnit.unit).sem σ')) :
    Post ((prepCodes t km vm (expo ak) (expo av) k).sem σ) := by
  unfold prepCodes
  refine upto_inv Post (fun c _ σ' => (∀ n, n ≠ .kc → n ≠ .vt → σ' n = σ n) ∧
      (∀ h s d, σ' .kc (ix3 h s d) = if h = hF t ∧ s.val < 256 * c then kC (hdOf (σ .k) (hF t)) s d else σ .kc (ix3 h s d)) ∧
      (∀ h d s, σ' .vt (ix3 h d s) = if h = hF t ∧ s.val < 256 * c then vC (hdOf (σ .v) (hF t)) s d else σ .vt (ix3 h d s)))
    8 (le_refl 8) ?_ ⟨fun _ _ _ => rfl, fun h s d => (if_neg (by omega)).symm, fun h d s => (if_neg (by omega)).symm⟩ ?_
  · rintro c _ σ' hc ⟨h0, h1, h2⟩ k hk
    have e1 := h0 .k (by decide) (by decide)
    have e2 := h0 .v (by decide) (by decide)
    rw [sem_ld, sem_std, sem_ld, sem_std]
    refine hk _ _ ⟨fun n n1 n2 => ?_, fun h s d => ?_, fun h d s => ?_⟩
    · rw [stv_ne _ _ _ n2, stv_ne _ _ _ n1, h0 n n1 n2]
    · rw [stv_ne _ _ _ (by decide), stv_same]
      refine (ov_kc t c _ _ h s d).trans ?_
      split
      · next e =>
        rw [cast_kc, kq_ap, if_pos ⟨e.1, by omega⟩, dn_ap, hak, centre_in σ' t c (by rw [e1]; exact hkm), e1]
        have e' : (⟨256 * c.val + (s.val - 256 * c.val), by omega⟩ : Fin 2048) = s := Fin.ext (by show _ = s.val; simp only []; omega)
        have e'' : (⟨4 * c.val + (s.val - 256 * c.val) / 64, by omega⟩ : Fin 32) = ⟨s.val / 64, by omega⟩ := Fin.ext (by show _ = s.val / 64; simp only []; omega)
        simp only [e', e'']
        rfl
      · next e =>
        rw [h1]
        by_cases hh : h = hF t ∧ s.val < 256 * c.val
        · rw [if_pos hh, if_pos ⟨hh.1, by omega⟩]
        · rw [if_neg hh, if_neg fun x => (by
            rcases x with ⟨x1, x2⟩
            exact e ⟨x1, by by_contra hc; exact hh ⟨x1, by omega⟩, by omega⟩)]
    · rw [stv_same, stv_ne _ _ _ (by decide)]
      refine (ov_vt t c _ _ h d s).trans ?_
      split
      · next e =>
        have e3 : stv σ' .kc (rKc t c) (shapeCast S1x256x128 (kq c (centre (up256 (ld σ' .k (rIn t c).toLoadRect)) km) (scaleDn (expo ak))) (by decide)) .v = σ .v := by
          rw [stv_ne _ _ _ (by decide)]; exact e2
        rw [cast_vt, vq_ap, if_pos ⟨e.1, by omega⟩, dn_ap, hav, centre_in_v _ t c (by rw [e3]; exact hvm), e3]
        have e' : (⟨256 * c.val + (s.val - 256 * c.val), by omega⟩ : Fin 2048) = s := Fin.ext (by show _ = s.val; simp only []; omega)
        simp only [e']
        rfl
      · next e =>
        rw [h2]
        by_cases hh : h = hF t ∧ s.val < 256 * c.val
        · rw [if_pos hh, if_pos ⟨hh.1, by omega⟩]
        · rw [if_neg hh, if_neg fun x => (by
            rcases x with ⟨x1, x2⟩
            exact e ⟨x1, by by_contra hc; exact hh ⟨x1, by omega⟩, by omega⟩)]
  · rintro _ σ' ⟨h0, h1, h2⟩
    refine hk σ' h0 (fun h s d => ?_) fun h d s => ?_
    · rw [h1]; simp only [show s.val < 256 * 8 from by omega, and_true]
    · rw [h2]; simp only [show s.val < 256 * 8 from by omega, and_true]

/-- Head `h` is prepared from keys `kk` and values `vv`. -/
structure Prep1 (kk vv : S1x2048x1024.Idx → EReal) (h : Fin 8) (σ : Sg) : Prop where
  vm : ∀ d, σ .vm (ix2 h d) = meanS (hdOf vv h) d
  vs : ∀ d, σ .vs (ix2 h d) = vS (hdOf vv h) d
  ks : ∀ b l, σ .ks (ix3 h b l) = kS (hdOf kk h) b
  kc : ∀ s d, σ .kc (ix3 h s d) = kC (hdOf kk h) s d
  vt : ∀ s d, σ .vt (ix3 h d s) = vC (hdOf vv h) s d

theorem head_spec (t : Fin headLoop.trips) (prev : FVec Ideal S32x128 .f32) (σ : Sg) :
    let q := (prepHead (F := Ideal) t prev).sem σ
    (∀ b l, q.1 (ix2 b l) = if l.val = t.val then kS (hdOf (σ .k) (hF t)) b else prev (ix2 b l)) ∧
    (∀ n, headW n = false → q.2 n = σ n) ∧ Prep1 (σ .k) (σ .v) (hF t) q.2 ∧
    (∀ h, h ≠ hF t → Prep1 (σ .k) (σ .v) h σ → Prep1 (σ .k) (σ .v) h q.2) := by
  intro q
  revert q
  unfold prepHead
  let P : FVec Ideal S32x128 .f32 × Sg → Prop := fun q =>
    (∀ b l, q.1 (ix2 b l) = if l.val = t.val then kS (hdOf (σ .k) (hF t)) b else prev (ix2 b l)) ∧
    (∀ n, headW n = false → q.2 n = σ n) ∧ Prep1 (σ .k) (σ .v) (hF t) q.2 ∧
    (∀ h, h ≠ hF t → Prep1 (σ .k) (σ .v) h σ → Prep1 (σ .k) (σ .v) h q.2)
  show P _
  refine sums_spec P t σ fun sm hk hv => ?_
  rw [sem_std]
  refine maxs_spec P t _ ?_ ?_ fun mx hak hav => ?_
  · rw [stv_ne _ _ _ (by decide)]; exact hk
  · rw [stv_ne _ _ _ (by decide)]; exact hv
  rw [stv_ne _ _ _ (by decide)] at hak hav
  rw [sem_std, sem_std]
  refine codes_spec P t _ ?_ ?_ ?_ ?_ fun σ' h0 h1 h2 => ?_
  · rw [stv_ne _ _ _ (by decide), stv_ne _ _ _ (by decide), stv_ne _ _ _ (by decide)]; exact hk
  · rw [stv_ne _ _ _ (by decide), stv_ne _ _ _ (by decide), stv_ne _ _ _ (by decide)]; exact hv
  · rw [stv_ne _ _ _ (by decide), stv_ne _ _ _ (by decide), stv_ne _ _ _ (by decide)]; exact hak
  · rw [stv_ne _ _ _ (by decide), stv_ne _ _ _ (by decide), stv_ne _ _ _ (by decide)]; exact hav
  rw [stv_ne _ _ _ (by decide), stv_ne _ _ _ (by decide), stv_ne _ _ _ (by decide)] at h1
  rw [stv_ne _ _ _ (by decide), stv_ne _ _ _ (by decide), stv_ne _ _ _ (by decide)] at h2
  have hvm : ∀ h d, σ' .vm (ix2 h d) = if h = hF t then meanS (hdOf (σ .v) (hF t)) d else σ .vm (ix2 h d) := by
    intro h d
    rw [h0 _ (by decide) (by decide), stv_ne _ _ _ (by decide), stv_ne _ _ _ (by decide), stv_same]
    refine (ov_row t _ _ h d).trans ?_
    rw [cast_row, hv]
  have hvs : ∀ h d, σ' .vs (ix2 h d) = if h = hF t then vS (hdOf (σ .v) (hF t)) d else σ .vs (ix2 h d) := by
    intro h d
    rw [h0 _ (by decide) (by decide), stv_same, stv_ne _ _ _ (by decide), stv_ne _ _ _ (by decide)]
    refine (ov_row t _ _ h d).trans ?_
    rw [cast_row, up_ap, hav]; rfl
  have hks : ∀ h b d, σ' .ks (ix3 h b d) = if h = hF t then kS (hdOf (σ .k) (hF t)) b else σ .ks (ix3 h b d) := by
    intro h b d
    rw [h0 _ (by decide) (by decide), stv_ne _ _ _ (by decide), stv_same, stv_ne _ _ _ (by decide)]
    refine (ov_ks t _ _ h b d).trans ?_
    rw [cast_ks, up_ap, hak]; rfl
  refine ⟨fun b l => ?_, fun n hn => ?_, ⟨fun d => ?_, fun d => ?_, fun b l => ?_, fun s d => ?_, fun s d => ?_⟩, fun h hh p => ⟨fun d => ?_, fun d => ?_, fun b l => ?_, fun s d => ?_, fun s d => ?_⟩⟩
  · show putCol _ _ _ _ = _
    rw [putCol_ap, up_ap, hak]
    have e : (BitVec.ofNat 32 l.val = hd t) ↔ l.val = t.val := by
      have e2 : ∀ t : Fin headLoop.trips, hd t = BitVec.ofNat 32 t.val := by decide +kernel
      rw [e2, ← BitVec.toNat_inj, BitVec.toNat_ofNat, BitVec.toNat_ofNat]
      have := hd_lt t
      omega
    simp only [e]; rfl
  · show σ' n = σ n
    have n1 : n ≠ .kc := fun e => by rw [e] at hn; cases hn
    have n2 : n ≠ .vt := fun e => by rw [e] at hn; cases hn
    have n3 : n ≠ .vs := fun e => by rw [e] at hn; cases hn
    have n4 : n ≠ .ks := fun e => by rw [e] at hn; cases hn
    have n5 : n ≠ .vm := fun e => by rw [e] at hn; cases hn
    rw [h0 n n1 n2, stv_ne _ _ _ n3, stv_ne _ _ _ n4, stv_ne _ _ _ n5]
  · exact (hvm _ d).trans (if_pos rfl)
  · exact (hvs _ d).trans (if_pos rfl)
  · exact (hks _ b l).trans (if_pos rfl)
  · exact (h1 _ s d).trans (if_pos rfl)
  · exact (h2 _ d s).trans (if_pos rfl)
  · exact ((hvm _ d).trans (if_neg hh)).trans (p.vm d)
  · exact ((hvs _ d).trans (if_neg hh)).trans (p.vs d)
  · exact ((hks _ b l).trans (if_neg hh)).trans (p.ks b l)
  · refine ((h1 _ s d).trans (if_neg hh)).trans ?_
    rw [stv_ne _ _ _ (by decide), stv_ne _ _ _ (by decide), stv_ne _ _ _ (by decide)]; exact p.kc s d
  · refine ((h2 _ d s).trans (if_neg hh)).trans ?_
    rw [stv_ne _ _ _ (by decide), stv_ne _ _ _ (by decide), stv_ne _ _ _ (by decide)]; exact p.vt s d

end Sage
-- ==== Proof.PrepW.lean ====
module

public import proofs.«01_k».proof.Proof.PrepV

@[expose] public section

set_option maxRecDepth 16384

noncomputable section

namespace Sage

open Idealize.ShloMosaic Idealize.SL.Sem

section
variable {φ : FTy}
theorem cast_ksc (w : FVec Ideal S8x32 φ) (h') (h : Fin 8) (b : Fin 32) : shapeCast S1x8x32 w h' (ix3 0 h b) = w (ix2 h b) := by pointwise []
theorem cast_vsc (w : FVec Ideal S8x128 φ) (h') (h : Fin 8) (b : Fin 128) : shapeCast S1x8x128 w h' (ix3 0 h b) = w (ix2 h b) := by pointwise []
theorem cast_sq (w : FVec Ideal S128x128 φ) (h') (r d : Fin 128) : shapeCast S128x128 w h' (ix2 r d) = w (ix2 r d) := by pointwise []
theorem cast_tmpk (w : FVec Ideal S1x128x128 .fp8e4m3) (h1 h2 h3) (r d : Fin 128) :
    shapeCast S128x128 (extf (φ := .fp8e4m3) .f32 (shapeCast (s := S1x128x128) S128x128 w h1) h2) h3 (ix2 r d) = w (ix3 0 r d) := by pointwise []
theorem cast_tmpv (w : FVec Ideal S1x128x128 .fp8e4m3) (h1 h2 h3 h4) (r d : Fin 128) :
    shapeCast S128x128 (transpose S128x128 [1, 0] (extf (φ := .fp8e4m3) .f32 (shapeCast (s := S1x128x128) S128x128 w h1) h2) h3) h4 (ix2 r d) = w (ix3 0 d r) := by
  pointwise []
theorem cast_co (w : FVec Ideal S1024x128 .f32) (h1 h2 h3) (r : Fin 128) (h : Fin 8) (d : Fin 128) :
    shapeCast S1x128x8x128 (shapeCast S128x8x128 (truncf (φ := .f32) .fp8e4m3 w h1) h2) h3 (ix4 0 r h d) = w (ix2 ⟨r.val * 8 + h.val, by omega⟩ d) := by
  pointwise []
end

theorem ov_t8 (g : Fin 8) (X : S1024x128.Idx → EReal) (w : S128x128.Idx → EReal) (r : Fin 128) (h : Fin 8) (d : Fin 128) :
    (rT8 g).overlay X w (ix2 ⟨r.val * 8 + h.val, by omega⟩ d) = if h = g then w (ix2 r d) else X (ix2 ⟨r.val * 8 + h.val, by omega⟩ d) := by
  split
  · next e =>
    subst e
    refine ov_in (rT8 h) X w (ix2 r d : S128x128.Idx) (idx2 _ _ _ ?_ ?_)
    · show h.val + 8 * r.val = r.val * 8 + h.val; omega
    · show 0 + 1 * d.val = d.val; omega
  · next e =>
    refine Rect.overlay_of_not_mem _ _ _ fun hm => ?_
    obtain ⟨j, _, hj⟩ := (rT8 g).mem_set.mp hm 0
    have hj : r.val * 8 + h.val = g.val + 8 * j := hj
    exact e (Fin.ext (by omega))

/-- The arrays a chunk of codes stores to. -/
def coW : Nm → Bool
  | .tmp | .kco | .vco => true
  | _ => false

theorem codesOut_spec (Post : PUnit × Sg → Prop) (t : Fin seqLoop.trips) (σ : Sg)
    (hk : ∀ σ' : Sg, (∀ n, coW n = false → σ' n = σ n) →
      (∀ s h d, σ' .kco (ix4 0 s h d) = if 128 * t.val ≤ s.val ∧ s.val < 128 * t.val + 128 then σ .kc (ix3 h s d) else σ .kco (ix4 0 s h d)) →
      (∀ s h d, σ' .vco (ix4 0 s h d) = if 128 * t.val ≤ s.val ∧ s.val < 128 * t.val + 128 then σ .vt (ix3 h d s) else σ .vco (ix4 0 s h d)) → Post (PUnit.unit, σ')) :
    Post ((codesOut t).sem σ) := by
  have ht := sq_lt t
  have co : ∀ (X : S1x2048x8x128.Idx → EReal) (w : S1x128x8x128.Idx → EReal) s h d,
      (rCo t).overlay X w (ix4 0 s h d) = if e : 128 * t.val ≤ s.val ∧ s.val < 128 * t.val + 128 then w (ix4 0 ⟨s.val - 128 * t.val, by omega⟩ h d) else X (ix4 0 s h d) := by
    intro X w s h d
    split
    · next e =>
      refine ov_in (rCo t) X w (ix4 0 ⟨s.val - 128 * t.val, by omega⟩ h d : S1x128x8x128.Idx) (idx4 _ _ _ rfl ?_ ?_ ?_)
      · show sN t + 1 * (s.val - 128 * t.val) = s.val; rw [sN_eq]; omega
      · show 0 + 1 * h.val = h.val; omega
      · show 0 + 1 * d.val = d.val; omega
    · next e =>
      refine ov_out X w 1 ?_
      show s.val < sN t ∨ sN t + 128 ≤ s.val
      rw [sN_eq]; omega
  unfold codesOut
  refine upto_inv Post (fun g _ σ' => (∀ n, n ≠ .tmp → σ' n = σ n) ∧ ∀ (r : Fin 128) (h : Fin 8) d, h.val < g →
      σ' .tmp (ix2 ⟨r.val * 8 + h.val, by omega⟩ d) = σ .kc (ix3 h ⟨128 * t.val + r.val, by omega⟩ d)) 8 (le_refl 8)
    ?_ ⟨fun _ _ => rfl, fun r h d hh => absurd hh (Nat.not_lt_zero _)⟩ ?_
  · rintro g _ σ' hg ⟨h0, h1⟩ k hk
    rw [sem_ld, sem_std]
    refine hk _ _ ⟨fun n hn => ?_, fun r h d hh => ?_⟩
    · rw [stv_ne _ _ _ hn, h0 n hn]
    · rw [stv_same]
      refine (ov_t8 g _ _ r h d).trans ?_
      split
      · next e =>
        subst e
        rw [cast_tmpk]
        refine Eq.trans (congrArg (σ' .kc) (idx3 _ _ (ix3 h ⟨128 * t.val + r.val, by omega⟩ d) ?_ ?_ ?_)) (congrFun (h0 .kc (by decide)) _)
        · show h.val + 1 * 0 = h.val; omega
        · show sN t + 1 * r.val = 128 * t.val + r.val; rw [sN_eq]; omega
        · show 0 + 1 * d.val = d.val; omega
      · next e => exact h1 r h d (by have : h.val ≠ g.val := fun x => e (Fin.ext x); omega)
  · rintro _ σ1 ⟨h0, h1⟩
    rw [sem_ld, sem_std]
    generalize hσ2 : stv σ1 .kco _ _ = σ2
    have k0 : ∀ n, n ≠ .kco → σ2 n = σ1 n := fun n hn => by rw [← hσ2, stv_ne _ _ _ hn]
    have k1 : ∀ s h d, σ2 .kco (ix4 0 s h d) = if 128 * t.val ≤ s.val ∧ s.val < 128 * t.val + 128 then σ .kc (ix3 h s d) else σ .kco (ix4 0 s h d) := by
      intro s h d
      rw [← hσ2, stv_same]
      refine (co _ _ s h d).trans ?_
      split
      · next e =>
        rw [cast_co]
        refine (congrArg (σ1 .tmp) (idx2 _ _ (ix2 ⟨(s.val - 128 * t.val) * 8 + h.val, by omega⟩ d) ?_ ?_)).trans ((h1 ⟨s.val - 128 * t.val, by omega⟩ h d h.isLt).trans ?_)
        · show 0 + 1 * ((s.val - 128 * t.val) * 8 + h.val) = _; rw [Nat.zero_add, Nat.one_mul]; rfl
        · show 0 + 1 * d.val = d.val; omega
        · have e' : (⟨128 * t.val + (s.val - 128 * t.val), by omega⟩ : Fin 2048) = s := Fin.ext (by show _ = s.val; simp only []; omega)
          simp only [e']
      · exact congrFun (h0 .kco (by decide)) _
    clear hσ2
    refine upto_inv Post (fun g _ σ' => (∀ n, n ≠ .tmp → σ' n = σ2 n) ∧ ∀ (r : Fin 128) (h : Fin 8) d, h.val < g →
        σ' .tmp (ix2 ⟨r.val * 8 + h.val, by omega⟩ d) = σ .vt (ix3 h d ⟨128 * t.val + r.val, by omega⟩)) 8 (le_refl 8)
      ?_ ⟨fun _ _ => rfl, fun r h d hh => absurd hh (Nat.not_lt_zero _)⟩ ?_
    · rintro g _ σ' hg ⟨i0, i1⟩ k hk
      rw [sem_ld, sem_std]
      refine hk _ _ ⟨fun n hn => ?_, fun r h d hh => ?_⟩
      · rw [stv_ne _ _ _ hn, i0 n hn]
      · rw [stv_same]
        refine (ov_t8 g _ _ r h d).trans ?_
        split
        · next e =>
          subst e
          rw [cast_tmpv]
          refine Eq.trans (congrArg (σ' .vt) (idx3 _ _ (ix3 h d ⟨128 * t.val + r.val, by omega⟩) ?_ ?_ ?_)) (congrFun ((i0 .vt (by decide)).trans ((k0 .vt (by decide)).trans (h0 .vt (by decide)))) _)
          · show h.val + 1 * 0 = h.val; omega
          · show 0 + 1 * d.val = d.val; omega
          · show sN t + 1 * r.val = 128 * t.val + r.val; rw [sN_eq]; omega
        · next e => exact i1 r h d (by have : h.val ≠ g.val := fun x => e (Fin.ext x); omega)
    · rintro _ σ3 ⟨i0, i1⟩
      rw [sem_ld, sem_std]
      refine hk _ (fun n hn => ?_) (fun s h d => ?_) fun s h d => ?_
      · have n1 : n ≠ .tmp := fun e => by rw [e] at hn; cases hn
        have n2 : n ≠ .kco := fun e => by rw [e] at hn; cases hn
        have n3 : n ≠ .vco := fun e => by rw [e] at hn; cases hn
        rw [stv_ne _ _ _ n3, i0 n n1, k0 n n2, h0 n n1]
      · rw [stv_ne _ _ _ (by decide), i0 _ (by decide)]; exact k1 s h d
      · rw [stv_same]
        refine (co _ _ s h d).trans ?_
        split
        · next e =>
          rw [cast_co]
          refine (congrArg (σ3 .tmp) (idx2 _ _ (ix2 ⟨(s.val - 128 * t.val) * 8 + h.val, by omega⟩ d) ?_ ?_)).trans ((i1 ⟨s.val - 128 * t.val, by omega⟩ h d h.isLt).trans ?_)
          · show 0 + 1 * ((s.val - 128 * t.val) * 8 + h.val) = _; rw [Nat.zero_add, Nat.one_mul]; rfl
          · show 0 + 1 * d.val = d.val; omega
          · have e' : (⟨128 * t.val + (s.val - 128 * t.val), by omega⟩ : Fin 2048) = s := Fin.ext (by show _ = s.val; simp only []; omega)
            simp only [e']
        · exact congrFun ((i0 .vco (by decide)).trans ((k0 .vco (by decide)).trans (h0 .vco (by decide)))) _

/-- What the preparation leaves: every head prepared, the codes and scales written out, the query scales cleared. -/
structure PrepP (kk vv : S1x2048x1024.Idx → EReal) (σ : Sg) : Prop where
  hd : ∀ h, Prep1 kk vv h σ
  ksc : ∀ h b, σ .ksc (ix3 0 h b) = kS (hdOf kk h) b
  vsc : ∀ h d, σ .vsc (ix3 0 h d) = vS (hdOf vv h) d
  kco : ∀ s h d, σ .kco (ix4 0 s h d) = kC (hdOf kk h) s d
  vco : ∀ s h d, σ .vco (ix4 0 s h d) = vC (hdOf vv h) s d

theorem prep_spec {α : Type} (Post : α × Sg → Prop) (σ : Sg) {k : Cmd (Elt Ideal) α}
    (hk : ∀ σ' : Sg, (∀ n, prepW n = false → σ' n = σ n) → PrepP (σ .k) (σ .v) σ' → (∀ j, σ' .qsc j = 0) → Post (k.sem σ')) :
    Post ((prep k).sem σ) := by
  unfold prep
  rw [sem_loop]
  have H := iter_inv (n := headLoop.trips) (f := fun t b => (prepHead (F := Ideal) t b).sem) (fun T (a : FVec Ideal S32x128 .f32) σ' => (∀ n, headW n = false → σ' n = σ n) ∧
      (∀ h : Fin 8, h.val < T → Prep1 (σ .k) (σ .v) h σ') ∧ ∀ (h : Fin 8) b, h.val < T → a (ix2 b ⟨h.val, by omega⟩) = kS (hdOf (σ .k) h) b)
    (fun t a σ' h => by
      obtain ⟨h0, h1, h2⟩ := h
      have e1 := h0 .k rfl
      have e2 := h0 .v rfl
      have := head_spec t a σ'
      dsimp only at this
      rw [e1, e2] at this
      obtain ⟨g0, g1, g2, g3⟩ := this
      refine ⟨fun n hn => (g1 n hn).trans (h0 n hn), fun h hh => ?_, fun h b hh => ?_⟩
      · by_cases e : h = hF t
        · rw [e]; exact g2
        · exact g3 h e (h1 h (by have : h.val ≠ t.val := fun x => e (Fin.ext x); omega))
      · refine (g0 b ⟨h.val, by omega⟩).trans ?_
        by_cases e : h.val = t.val
        · rw [if_pos e]
          have : h = hF t := Fin.ext e
          rw [this]
        · rw [if_neg e]; exact h2 h b (by omega))
    (b := broadcast S32x128 (Scalar.ofBits .f32 0x00000000#32)) (σ := σ) ⟨fun _ _ => rfl, fun h hh => absurd hh (Nat.not_lt_zero _), fun h b hh => absurd hh (Nat.not_lt_zero _)⟩
  revert H
  generalize iter (fun t b => (prepHead (F := Ideal) t b).sem) (List.finRange headLoop.trips) (broadcast S32x128 (Scalar.ofBits .f32 0x00000000#32)) σ = q
  rintro ⟨h0, h1, h2⟩
  have h1 := fun h => h1 h (by rw [head_trips]; exact h.isLt)
  have h2 := fun h b => h2 h b (by rw [head_trips]; exact h.isLt)
  rw [sem_std, sem_ld, sem_std]
  generalize hσ2 : stv (stv q.2 .ksc _ _) .vsc _ _ = σ2
  have k0 : ∀ n, n ≠ .ksc → n ≠ .vsc → σ2 n = q.2 n := fun n n1 n2 => by rw [← hσ2, stv_ne _ _ _ n2, stv_ne _ _ _ n1]
  have k1 : ∀ h b, σ2 .ksc (ix3 0 h b) = kS (hdOf (σ .k) h) b := by
    intro h b
    rw [← hσ2, stv_ne _ _ _ (by decide), stv_same]
    refine (ov_in rKsc _ _ (ix3 0 h b : S1x8x32.Idx) (idx3 _ _ _ rfl ?_ ?_)).trans ?_
    · show 0 + 1 * h.val = h.val; omega
    · show 0 + 1 * b.val = b.val; omega
    · rw [cast_ksc, kscOut_ap]; exact h2 h b
  have k2 : ∀ h d, σ2 .vsc (ix3 0 h d) = vS (hdOf (σ .v) h) d := by
    intro h d
    rw [← hσ2, stv_same]
    refine (ov_in rVsc _ _ (ix3 0 h d : S1x8x128.Idx) (idx3 _ _ _ rfl ?_ ?_)).trans ?_
    · show 0 + 1 * h.val = h.val; omega
    · show 0 + 1 * d.val = d.val; omega
    · rw [cast_vsc (φ := .f32)]
      refine Eq.trans (congrArg (stv q.2 .ksc _ _ .vs) (idx2 _ _ (ix2 h d) ?_ ?_)) ?_
      · show 0 + 1 * h.val = h.val; omega
      · show 0 + 1 * d.val = d.val; omega
      · rw [stv_ne _ _ _ (by decide)]; exact (h1 h).vs d
  clear hσ2
  have p2 : ∀ h, Prep1 (σ .k) (σ .v) h σ2 := fun h => ⟨fun d => by rw [k0 _ (by decide) (by decide)]; exact (h1 h).vm d, fun d => by rw [k0 _ (by decide) (by decide)]; exact (h1 h).vs d,
    fun b l => by rw [k0 _ (by decide) (by decide)]; exact (h1 h).ks b l, fun s d => by rw [k0 _ (by decide) (by decide)]; exact (h1 h).kc s d, fun s d => by rw [k0 _ (by decide) (by decide)]; exact (h1 h).vt s d⟩
  rw [sem_loop]
  have H := iter_inv (n := seqLoop.trips) (f := fun t (_ : PUnit) => (codesOut (F := Ideal) t).sem) (fun T _ σ' => (∀ n, coW n = false → σ' n = σ2 n) ∧
      (∀ s h d, s.val < 128 * T → σ' .kco (ix4 0 s h d) = kC (hdOf (σ .k) h) s d) ∧ (∀ s h d, s.val < 128 * T → σ' .vco (ix4 0 s h d) = vC (hdOf (σ .v) h) s d))
    (fun t a σ' h => by
      obtain ⟨h0, h1, h2⟩ := h
      refine codesOut_spec (fun q => (∀ n, coW n = false → q.2 n = σ2 n) ∧
        (∀ s h d, s.val < 128 * (t.val + 1) → q.2 .kco (ix4 0 s h d) = kC (hdOf (σ .k) h) s d) ∧ (∀ s h d, s.val < 128 * (t.val + 1) → q.2 .vco (ix4 0 s h d) = vC (hdOf (σ .v) h) s d))
        t σ' fun σ'' g0 g1 g2 => ⟨fun n hn => (g0 n hn).trans (h0 n hn), fun s h d hs => ?_, fun s h d hs => ?_⟩
      · refine (g1 s h d).trans ?_
        split
        · rw [h0 .kc rfl]; exact (p2 h).kc s d
        · exact h1 s h d (by omega)
      · refine (g2 s h d).trans ?_
        split
        · rw [h0 .vt rfl]; exact (p2 h).vt s d
        · exact h2 s h d (by omega))
    (b := PUnit.unit) (σ := σ2) ⟨fun _ _ => rfl, fun s h d hs => absurd hs (Nat.not_lt_zero _), fun s h d hs => absurd hs (Nat.not_lt_zero _)⟩
  revert H
  generalize iter (fun t (_ : PUnit) => (codesOut (F := Ideal) t).sem) (List.finRange seqLoop.trips) PUnit.unit σ2 = q'
  rintro ⟨i0, i1, i2⟩
  have i1 := fun s h d => i1 s h d (by rw [seq_trips]; exact s.isLt)
  have i2 := fun s h d => i2 s h d (by rw [seq_trips]; exact s.isLt)
  rw [sem_std]
  have z : Ideal.ofBits .f32 0x00000000#32 = 0 := by simp [Ideal.ofBits, Ideal.ieee]
  refine hk _ (fun n hn => ?_) ⟨fun h => ⟨fun d => ?_, fun d => ?_, fun b l => ?_, fun s d => ?_, fun s d => ?_⟩, fun h b => ?_, fun h d => ?_, fun s h d => ?_, fun s h d => ?_⟩ fun j => ?_
  · have n1 : n ≠ .qsc := fun e => by rw [e] at hn; cases hn
    have n2 : n ≠ .ksc := fun e => by rw [e] at hn; cases hn
    have n3 : n ≠ .vsc := fun e => by rw [e] at hn; cases hn
    rw [stv_ne _ _ _ n1, i0 n (by revert hn; cases n <;> decide), k0 n n2 n3, h0 n (by revert hn; cases n <;> decide)]
  · rw [stv_ne _ _ _ (by decide), i0 _ rfl]; exact (p2 h).vm d
  · rw [stv_ne _ _ _ (by decide), i0 _ rfl]; exact (p2 h).vs d
  · rw [stv_ne _ _ _ (by decide), i0 _ rfl]; exact (p2 h).ks b l
  · rw [stv_ne _ _ _ (by decide), i0 _ rfl]; exact (p2 h).kc s d
  · rw [stv_ne _ _ _ (by decide), i0 _ rfl]; exact (p2 h).vt s d
  · rw [stv_ne _ _ _ (by decide), i0 _ rfl]; exact k1 h b
  · rw [stv_ne _ _ _ (by decide), i0 _ rfl]; exact k2 h d
  · rw [stv_ne _ _ _ (by decide)]; exact i1 s h d
  · rw [stv_ne _ _ _ (by decide)]; exact i2 s h d
  · rw [stv_same]
    have e : rQsc.toLoadRect.idx j = j := by
      refine idx3 _ _ _ ?_ ?_ ?_
      · show 0 + 1 * (j 0).val = (j 0).val; omega
      · show 0 + 1 * (j 1).val = (j 1).val; omega
      · show 0 + 1 * (j 2).val = (j 2).val; omega
    exact (ov_in rQsc _ _ j e).trans z

end Sage
-- ==== Proof.QuantV.lean ====
module

public import proofs.«01_k».proof.Proof.PrepV

@[expose] public section

set_option maxRecDepth 16384

noncomputable section

namespace Sage

open Idealize.ShloMosaic Idealize.SL.Sem

/-- Largest magnitude of a query head's rows, per lane. -/
def qm (x : S1x128x4096.Idx → EReal) (h : Fin 32) (d : Fin 128) : EReal := Finset.univ.sup fun r : Fin 128 => mag (qdOf x h r d)

section
variable {φ : FTy}
theorem cast_all (w : FVec Ideal S32x128 φ) (h') (r : Fin 32) (d : Fin 128) : shapeCast S32x128 w h' (ix2 r d) = w (ix2 r d) := by pointwise []
theorem cast_qsc (w : FVec Ideal S32x16 φ) (h') (h : Fin 32) (c : Fin 16) : shapeCast S1x32x16 w h' (ix3 0 h c) = w (ix2 h c) := by pointwise []
theorem cast_sq' (w : FVec Ideal S128x128 φ) (h') (r d : Fin 128) : shapeCast S128x128 w h' (ix2 r d) = w (ix2 r d) := by pointwise []
theorem cast_qw (w : FVec Ideal S512x128 .f32) (h1 h2) (i : Fin 512) (d : Fin 128) :
    shapeCast S1x512x128 (truncf (φ := .f32) (s := S512x128) .fp8e4m3 w h1) h2 (ix3 0 i d) = w (ix2 i d) := by pointwise []
theorem cast_qc (w : FVec Ideal S512x128 .f32) (h1 h2 h3) (r : Fin 128) (j : Fin 4) (d : Fin 128) :
    shapeCast S1x128x4x128 (shapeCast S128x4x128 (truncf (φ := .f32) (s := S512x128) .fp8e4m3 w h1) h2) h3 (ix4 0 r j d) = w (ix2 ⟨r.val * 4 + j.val, by omega⟩ d) := by
  pointwise []
end

theorem ld_x (σ : Sg) (h : Fin 32) (r d : Fin 128) : ld σ .x (rX h).toLoadRect (ix3 0 r d) = qdOf (σ .x) h r d := by
  refine congrArg (σ .x) (idx3 _ _ _ rfl ?_ ?_)
  · show 0 + 1 * r.val = r.val; omega
  · show 128 * h.val + 1 * d.val = 128 * h.val + d.val; omega

theorem ov_am (g : Fin 32) (X : S32x128.Idx → EReal) (w : S1x128.Idx → EReal) (h : Fin 32) (d : Fin 128) :
    (rAm g).overlay X w (ix2 h d) = if h = g then w (ix2 0 d) else X (ix2 h d) := by
  split
  · next e =>
    subst e
    refine ov_in (rAm h) X w (ix2 0 d : S1x128.Idx) (idx2 _ _ _ ?_ ?_)
    · show h.val + 1 * 0 = h.val; rfl
    · show 0 + 1 * d.val = d.val; omega
  · next e =>
    refine ov_out X w 0 ?_
    have : h.val ≠ g.val := fun e' => e (Fin.ext e')
    show h.val < g.val ∨ g.val + 1 ≤ h.val
    omega

theorem absRow_am (σ : Sg) (g : Fin 32) (h : Fin 32) (d : Fin 128) :
    stv σ .am (rAm g) (shapeCast S1x128 (s := S1x128) (qabs (F := Ideal) (ld σ .x (rX g).toLoadRect)) (by decide)) .am (ix2 h d) = if h = g then qm (σ .x) g d else σ .am (ix2 h d) := by
  rw [stv_same]
  refine (ov_am g _ _ h d).trans ?_
  rw [cast_row, qabs_ap]
  simp only [ld_x]
  rfl

theorem absRows_spec {α : Type} (Post : α × Sg → Prop) : ∀ (l : List (Fin 32)) (σ : Sg) {k : Cmd (Elt Ideal) α},
    (∀ σ' : Sg, (∀ n, n ≠ .am → σ' n = σ n) → (∀ h d, σ' .am (ix2 h d) = if h ∈ l then qm (σ .x) h d else σ .am (ix2 h d)) → Post (k.sem σ')) →
    Post ((absRows l k).sem σ)
  | [], σ, k, hk => hk σ (fun _ _ => rfl) fun h d => by simp
  | g :: l, σ, k, hk => by
    show Post (Cmd.sem (absRow g _ (absRows l k)) σ)
    unfold absRow
    rw [sem_std]
    refine absRows_spec Post l _ fun σ' h0 h1 => hk σ' (fun n hn => ?_) fun h d => ?_
    · rw [h0 n hn, stv_ne _ _ _ hn]
    · rw [h1, absRow_am, stv_ne _ _ _ (by decide)]
      by_cases e : h ∈ l
      · simp [e]
      · by_cases e' : h = g
        · subst e'; simp [e]
        · simp [e, e']

theorem ov_t4 (g : Fin 4) (X : S1024x128.Idx → EReal) (w : S128x128.Idx → EReal) (r : Fin 128) (h : Fin 4) (d : Fin 128) :
    (rT4 g).overlay X w (ix2 ⟨r.val * 4 + h.val, by omega⟩ d) = if h = g then w (ix2 r d) else X (ix2 ⟨r.val * 4 + h.val, by omega⟩ d) := by
  split
  · next e =>
    subst e
    refine ov_in (rT4 h) X w (ix2 r d : S128x128.Idx) (idx2 _ _ _ ?_ ?_)
    · show h.val + 4 * r.val = r.val * 4 + h.val; omega
    · show 0 + 1 * d.val = d.val; omega
  · next e =>
    refine Rect.overlay_of_not_mem _ _ _ fun hm => ?_
    obtain ⟨j, _, hj⟩ := (rT4 g).mem_set.mp hm 0
    have hj : r.val * 4 + h.val = g.val + 4 * j := hj
    exact e (Fin.ext (by omega))

theorem ov_qw (g : Fin 8) (X : S8x512x128.Idx → EReal) (w : S1x512x128.Idx → EReal) (h : Fin 8) (i : Fin 512) (d : Fin 128) :
    (rQw g).overlay X w (ix3 h i d) = if h = g then w (ix3 0 i d) else X (ix3 h i d) := by
  split
  · next e =>
    subst e
    refine ov_in (rQw h) X w (ix3 0 i d : S1x512x128.Idx) (idx3 _ _ _ ?_ ?_ ?_)
    · show h.val + 1 * 0 = h.val; rfl
    · show 0 + 1 * i.val = i.val; omega
    · show 0 + 1 * d.val = d.val; omega
  · next e =>
    refine ov_out X w 0 ?_
    have : h.val ≠ g.val := fun e' => e (Fin.ext e')
    show h.val < g.val ∨ g.val + 1 ≤ h.val
    omega
theorem ov_qc (g : Fin 8) (X : S1x128x32x128.Idx → EReal) (w : S1x128x4x128.Idx → EReal) (r : Fin 128) (h : Fin 32) (d : Fin 128) :
    (rQc g).overlay X w (ix4 0 r h d) = if h.val / 4 = g.val then w (ix4 0 r ⟨h.val % 4, by omega⟩ d) else X (ix4 0 r h d) := by
  split
  · next e =>
    refine ov_in (rQc g) X w (ix4 0 r ⟨h.val % 4, by omega⟩ d : S1x128x4x128.Idx) (idx4 _ _ _ rfl ?_ ?_ ?_)
    · show 0 + 1 * r.val = r.val; omega
    · show 4 * g.val + 1 * (h.val % 4) = h.val; omega
    · show 0 + 1 * d.val = d.val; omega
  · next e =>
    refine ov_out X w 2 ?_
    show h.val < 4 * g.val ∨ 4 * g.val + 4 ≤ h.val
    omega

/-- One query head's rows put in the staging buffer. -/
theorem tmp_row (σ : Sg) (g : Fin 8) (a : FVec Ideal S32x128 .f32) (ha : ∀ h l, a (ix2 h l) = qA (qdOf (σ .x) h)) (j : Fin 4) (r : Fin 128) (h : Fin 4) (d : Fin 128) :
    stv σ .tmp (rT4 j) (shapeCast S128x128 (s := S128x128) (qscaled (F := Ideal) ⟨4 * g.val + j.val, by omega⟩ (ld σ .x (rX ⟨4 * g.val + j.val, by omega⟩).toLoadRect) (scaleDn (expo a))) (by decide)) .tmp
      (ix2 ⟨r.val * 4 + h.val, by omega⟩ d) = if h = j then qC (qdOf (σ .x) ⟨4 * g.val + j.val, by omega⟩) r d else σ .tmp (ix2 ⟨r.val * 4 + h.val, by omega⟩ d) := by
  rw [stv_same]
  refine (ov_t4 j _ _ r h d).trans ?_
  rw [cast_sq', qscaled_ap, ld_x, dn_ap, ha]
  rfl

/-- The arrays the quantisation of queries leaves alone. -/
def codeW : Nm → Bool
  | .tmp | .qw | .qc => true
  | _ => false

theorem quantCodes_spec {α : Type} (Post : α × Sg → Prop) (σ : Sg) (a : FVec Ideal S32x128 .f32) (ha : ∀ h l, a (ix2 h l) = qA (qdOf (σ .x) h)) {k : Cmd (Elt Ideal) α}
    (hk : ∀ σ' : Sg, (∀ n, codeW n = false → σ' n = σ n) →
      (∀ (g : Fin 8) (r : Fin 128) (j : Fin 4) d, σ' .qw (ix3 g ⟨r.val * 4 + j.val, by omega⟩ d) = qC (qdOf (σ .x) ⟨4 * g.val + j.val, by omega⟩) r d) →
      (∀ r h d, σ' .qc (ix4 0 r h d) = qC (qdOf (σ .x) h) r d) → Post (k.sem σ')) : Post ((quantCodes (expo a) k).sem σ) := by
  unfold quantCodes
  dsimp only
  refine upto_inv Post (fun g _ σ' => (∀ n, codeW n = false → σ' n = σ n) ∧
      (∀ (h : Fin 8) (r : Fin 128) (j : Fin 4) d, h.val < g → σ' .qw (ix3 h ⟨r.val * 4 + j.val, by omega⟩ d) = qC (qdOf (σ .x) ⟨4 * h.val + j.val, by omega⟩) r d) ∧
      (∀ r (h : Fin 32) d, h.val < 4 * g → σ' .qc (ix4 0 r h d) = qC (qdOf (σ .x) h) r d)) 8 (le_refl 8)
    ?_ ⟨fun _ _ => rfl, fun h r j d hh => absurd hh (Nat.not_lt_zero _), fun r h d hh => absurd hh (Nat.not_lt_zero _)⟩ ?_
  · rintro g _ σ0 hg ⟨h0, h1, h2⟩ k hk
    have hx : σ0 .x = σ .x := h0 .x rfl
    rw [sem_ld, sem_std, sem_ld, sem_std, sem_ld, sem_std, sem_ld, sem_std]
    generalize hσ1 : stv σ0 .tmp (rT4 0) _ = σ1
    have x1 : σ1 .x = σ .x := by rw [← hσ1, stv_ne _ _ _ (by decide), hx]
    have t1 := fun r h d => tmp_row σ0 g a (by rw [hx]; exact ha) 0 r h d
    have o1 : ∀ n, n ≠ .tmp → σ1 n = σ0 n := fun n hn => by rw [← hσ1, stv_ne _ _ _ hn]
    replace t1 := fun (r : Fin 128) (h : Fin 4) (d : Fin 128) => (congrArg (fun s : Sg => s .tmp (ix2 ⟨r.val * 4 + h.val, by omega⟩ d)) hσ1.symm).trans (t1 r h d)
    clear hσ1
    generalize hσ2 : stv σ1 .tmp (rT4 1) _ = σ2
    have x2 : σ2 .x = σ .x := by rw [← hσ2, stv_ne _ _ _ (by decide), x1]
    have o2 : ∀ n, n ≠ .tmp → σ2 n = σ1 n := fun n hn => by rw [← hσ2, stv_ne _ _ _ hn]
    have t2 := fun r h d => tmp_row σ1 g a (by rw [x1]; exact ha) 1 r h d
    replace t2 := fun (r : Fin 128) (h : Fin 4) (d : Fin 128) => (congrArg (fun s : Sg => s .tmp (ix2 ⟨r.val * 4 + h.val, by omega⟩ d)) hσ2.symm).trans (t2 r h d)
    clear hσ2
    generalize hσ3 : stv σ2 .tmp (rT4 2) _ = σ3
    have x3 : σ3 .x = σ .x := by rw [← hσ3, stv_ne _ _ _ (by decide), x2]
    have o3 : ∀ n, n ≠ .tmp → σ3 n = σ2 n := fun n hn => by rw [← hσ3, stv_ne _ _ _ hn]
    have t3 := fun r h d => tmp_row σ2 g a (by rw [x2]; exact ha) 2 r h d
    replace t3 := fun (r : Fin 128) (h : Fin 4) (d : Fin 128) => (congrArg (fun s : Sg => s .tmp (ix2 ⟨r.val * 4 + h.val, by omega⟩ d)) hσ3.symm).trans (t3 r h d)
    clear hσ3
    generalize hσ4 : stv σ3 .tmp (rT4 3) _ = σ4
    have x4 : σ4 .x = σ .x := by rw [← hσ4, stv_ne _ _ _ (by decide), x3]
    have o4 : ∀ n, n ≠ .tmp → σ4 n = σ3 n := fun n hn => by rw [← hσ4, stv_ne _ _ _ hn]
    have t4 := fun r h d => tmp_row σ3 g a (by rw [x3]; exact ha) 3 r h d
    replace t4 := fun (r : Fin 128) (h : Fin 4) (d : Fin 128) => (congrArg (fun s : Sg => s .tmp (ix2 ⟨r.val * 4 + h.val, by omega⟩ d)) hσ4.symm).trans (t4 r h d)
    clear hσ4
    have o : ∀ n, n ≠ .tmp → σ4 n = σ0 n := fun n hn => by rw [o4 n hn, o3 n hn, o2 n hn, o1 n hn]
    have T : ∀ (r : Fin 128) (j : Fin 4) d, σ4 .tmp (ix2 ⟨r.val * 4 + j.val, by omega⟩ d) = qC (qdOf (σ .x) ⟨4 * g.val + j.val, by omega⟩) r d := by
      intro r j d
      rw [t4, t3, t2, t1, hx, x1, x2, x3]
      fin_cases j <;> rfl
    rw [sem_ld, sem_std, sem_std]
    have v : ∀ (i : Fin 512) d, ld σ4 .tmp rT512.toLoadRect (ix2 i d) = σ4 .tmp (ix2 ⟨i.val, by omega⟩ d) := fun i d => congrArg (σ4 .tmp) (idx2 _ _ _ (by show 0 + 1 * i.val = i.val; omega) (by show 0 + 1 * d.val = d.val; omega))
    refine hk _ _ ⟨fun n hn => ?_, fun h r j d hh => ?_, fun r h d hh => ?_⟩
    · have n1 : n ≠ .qc := fun e => by rw [e] at hn; cases hn
      have n2 : n ≠ .qw := fun e => by rw [e] at hn; cases hn
      have n3 : n ≠ .tmp := fun e => by rw [e] at hn; cases hn
      rw [stv_ne _ _ _ n1, stv_ne _ _ _ n2, o n n3, h0 n hn]
    · rw [stv_ne _ _ _ (by decide), stv_same]
      refine (ov_qw g _ _ h _ d).trans ?_
      split
      · next e =>
        subst e
        rw [cast_qw, v]
        exact T r j d
      · next e =>
        rw [o _ (by decide)]
        exact h1 h r j d (by have : h.val ≠ g.val := fun x => e (Fin.ext x); omega)
    · rw [stv_same, stv_ne _ _ _ (by decide)]
      refine (ov_qc g _ _ r h d).trans ?_
      split
      · next e =>
        rw [cast_qc, v]
        refine (T r ⟨h.val % 4, by omega⟩ d).trans ?_
        have e' : (⟨4 * g.val + h.val % 4, by omega⟩ : Fin 32) = h := Fin.ext (by show _ = h.val; simp only []; omega)
        simp only [e']
      · next e =>
        rw [o _ (by decide)]
        exact h2 r h d (by omega)
  · rintro _ σ' ⟨h0, h1, h2⟩
    exact hk σ' h0 (fun g r j d => h1 g r j d g.isLt) fun r h d => h2 r h d (by omega)

/-- What the quantisation leaves: scales and codes of the block's queries. -/
structure QuantP (x : S1x128x4096.Idx → EReal) (σ : Sg) : Prop where
  qs : ∀ h l, σ .qs (ix2 h l) = qS (qdOf x h)
  qw : ∀ (g : Fin 8) (r : Fin 128) (j : Fin 4) d, σ .qw (ix3 g ⟨r.val * 4 + j.val, by omega⟩ d) = qC (qdOf x ⟨4 * g.val + j.val, by omega⟩) r d
  qc : ∀ r h d, σ .qc (ix4 0 r h d) = qC (qdOf x h) r d

theorem quantRest_spec {α : Type} (Post : α × Sg → Prop) (n : BitVec 32) (σ : Sg) (ha : ∀ h l, σ .am (ix2 h l) = qm (σ .x) h l) {k : Cmd (Elt Ideal) α}
    (hk : ∀ σ' : Sg, (∀ n, quantW n = false → σ' n = σ n) → QuantP (σ .x) σ' →
      (∀ h c, σ' .qsc (ix3 0 h c) = if BitVec.ofNat 32 c.val = n then qS (qdOf (σ .x) h) else σ .qsc (ix3 0 h c)) → Post (k.sem σ')) :
    Post ((quantRest n k).sem σ) := by
  unfold quantRest
  rw [sem_ld, sem_std, sem_ld, sem_std]
  have hr : ∀ h l, rowMax (F := Ideal) (ld σ .am rAll.toLoadRect) (ix2 h l) = qA (qdOf (σ .x) h) := by
    intro h l
    rw [rowMax_ap, qA]
    refine Finset.sup_congr rfl fun d _ => ?_
    exact (congrArg (σ .am) (idx2 _ _ (ix2 h d) (by show 0 + 1 * h.val = h.val; omega) (by show 0 + 1 * d.val = d.val; omega))).trans (ha h d)
  refine quantCodes_spec Post _ _ ?_ fun σ' h0 h1 h2 => ?_
  · rw [stv_ne _ _ _ (by decide), stv_ne _ _ _ (by decide)]; exact hr
  rw [stv_ne _ _ _ (by decide), stv_ne _ _ _ (by decide)] at h1 h2
  refine hk σ' (fun m hm => ?_) ⟨fun h l => ?_, h1, h2⟩ fun h c => ?_
  · have n1 : m ≠ .qsc := fun e => by rw [e] at hm; cases hm
    have n2 : m ≠ .qs := fun e => by rw [e] at hm; cases hm
    rw [h0 m (by revert hm; cases m <;> decide), stv_ne _ _ _ n1, stv_ne _ _ _ n2]
  · rw [h0 _ rfl, stv_ne _ _ _ (by decide), stv_same]
    refine (ov_in rAll _ _ (ix2 h l : S32x128.Idx) (idx2 _ _ _ ?_ ?_)).trans ?_
    · show 0 + 1 * h.val = h.val; omega
    · show 0 + 1 * l.val = l.val; omega
    · rw [cast_all, up_ap, hr]; rfl
  · rw [h0 _ rfl, stv_same]
    refine (ov_in rQsc _ _ (ix3 0 h c : S1x32x16.Idx) (idx3 _ _ _ rfl ?_ ?_)).trans ?_
    · show 0 + 1 * h.val = h.val; omega
    · show 0 + 1 * c.val = c.val; omega
    · rw [cast_qsc, qscOut_ap, up_ap, hr]
      congr 1
      refine (congrArg (stv σ .qs _ _ .qsc) (idx3 _ _ (ix3 0 h c) rfl ?_ ?_)).trans ?_
      · show 0 + 1 * h.val = h.val; omega
      · show 0 + 1 * c.val = c.val; omega
      · rw [stv_ne _ _ _ (by decide)]

end Sage
-- ==== Proof.AttV.lean ====
module

public import proofs.«01_k».proof.Proof.PrepW
public import proofs.«01_k».proof.Proof.QuantV

@[expose] public section

set_option maxRecDepth 16384

noncomputable section

namespace Sage

open Idealize.ShloMosaic Idealize.SL.Sem

/-! ### One group's scores, a query row per column -/

/-- Column `i`'s masked score at key `s`, from products `raw` and scales per key block `ct`, in query block `n`. -/
def scI (n : ℕ) (raw : Fin 512 → Fin 2048 → EReal) (ct : Fin 32 → Fin 512 → EReal) (i : Fin 512) (s : Fin 2048) : EReal :=
  if s.val ≤ 128 * n + i.val / 4 then raw i s * ct ⟨s.val / 64, by omega⟩ i else ⊥

theorem sup_mul_le {ι : Type} (S : Finset ι) (f : ι → EReal) {c : EReal} (h0 : 0 < c) (h1 : c ≠ ⊤) (y : EReal) : S.sup f * c ≤ y ↔ ∀ a ∈ S, f a * c ≤ y := by
  rw [← EReal.le_div_iff_mul_le h0 h1, Finset.sup_le_iff]
  simp only [EReal.le_div_iff_mul_le h0 h1]

/-- After `B` blocks of 64 keys: the running maxima, and the score buffer. -/
structure JS (σ0 : Sg) (n : ℕ) (raw : Fin 512 → Fin 2048 → EReal) (ct : Fin 32 → Fin 512 → EReal) (B : ℕ) (m : FVec Ideal S8x512 .f32) (σ : Sg) : Prop where
  oth : ∀ a, a ≠ .s → σ a = σ0 a
  mx : ∀ (r : Fin 8) i y, m (ix2 r i) ≤ y ↔ ∀ s : Fin 2048, s.val < 64 * B → s.val % 8 = r.val → scI n raw ct i s ≤ y
  sv : ∀ (s : Fin 2048) i, s.val < 64 * B → σ .s (ix2 s i) = if s.val < 128 * n then raw i s else scI n raw ct i s

theorem cast_s (w : FVec Ideal S64x512 .f32) (h') (r : Fin 64) (i : Fin 512) : shapeCast S64x512 w h' (ix2 r i) = w (ix2 r i) := by pointwise []

theorem ov_s (b : Fin 32) (X : S2048x512.Idx → EReal) (w : S64x512.Idx → EReal) (s : Fin 2048) (i : Fin 512) :
    (aS b).overlay X w (ix2 s i) = if e : 64 * b.val ≤ s.val ∧ s.val < 64 * b.val + 64 then w (ix2 ⟨s.val - 64 * b.val, by omega⟩ i) else X (ix2 s i) := by
  split
  · next e =>
    refine ov_in (aS b) X w (ix2 ⟨s.val - 64 * b.val, by omega⟩ i : S64x512.Idx) (idx2 _ _ _ ?_ ?_)
    · show 64 * b.val + 1 * (s.val - 64 * b.val) = s.val; omega
    · show 0 + 1 * i.val = i.val; omega
  · next e =>
    refine ov_out X w 0 ?_
    show s.val < 64 * b.val ∨ 64 * b.val + 64 ≤ s.val
    omega

section
variable {α : Type} (Post : α × Sg → Prop) {σ0 σ : Sg} {n : ℕ} {raw : Fin 512 → Fin 2048 → EReal} {ct : Fin 32 → Fin 512 → EReal}
  {ksq : FVec Ideal S32x128 .f32} {m : FVec Ideal S8x512 .f32}

/-- The running maximum past one block, from its scores. -/
theorem mx_step {B : ℕ} {b : Fin 32} (hB : b.val = B) {m m' : FVec Ideal S8x512 .f32}
    (hm : ∀ (r : Fin 8) i y, m (ix2 r i) ≤ y ↔ ∀ s : Fin 2048, s.val < 64 * B → s.val % 8 = r.val → scI n raw ct i s ≤ y)
    (h : ∀ (r : Fin 8) i y, m' (ix2 r i) ≤ y ↔ m (ix2 r i) ≤ y ∧ ∀ a : Fin 8, scI n raw ct i ⟨64 * b.val + (a.val * 8 + r.val), by omega⟩ ≤ y) :
    ∀ (r : Fin 8) i y, m' (ix2 r i) ≤ y ↔ ∀ s : Fin 2048, s.val < 64 * (B + 1) → s.val % 8 = r.val → scI n raw ct i s ≤ y := by
  intro r i y
  rw [h, hm]
  constructor
  · rintro ⟨h1, h2⟩ s hs hr
    by_cases hl : s.val < 64 * B
    · exact h1 s hl hr
    · have := h2 ⟨(s.val - 64 * B) / 8, by omega⟩
      have e : (⟨64 * b.val + ((s.val - 64 * B) / 8 * 8 + r.val), by omega⟩ : Fin 2048) = s := Fin.ext (by show _ = s.val; simp only []; omega)
      rw [e] at this
      exact this
  · intro h1
    refine ⟨fun s hs hr => h1 s (by omega) hr, fun a => h1 _ ?_ ?_⟩
    · show 64 * b.val + (a.val * 8 + r.val) < _; omega
    · show (64 * b.val + (a.val * 8 + r.val)) % 8 = _; omega

theorem stepN_spec (hct : ∀ b i, 0 < ct b i ∧ ct b i ≠ ⊤) (hks : ∀ b i, crow b ksq (ix2 0 i) = ct b i) {B : ℕ} {b : Fin 32} (hB : b.val = B) (hn : B < 2 * n)
    {sb : FVec Ideal S64x512 .f32} (hsb : ∀ (r : Fin 64) i, sb (ix2 r i) = raw i ⟨64 * b.val + r.val, by omega⟩)
    (J : JS σ0 n raw ct B m σ) {k : FVec Ideal S8x512 .f32 → Cmd (Elt Ideal) α} (hk : ∀ m' σ', JS σ0 n raw ct (B + 1) m' σ' → Post ((k m').sem σ')) :
    Post ((stepN b sb ksq m k).sem σ) := by
  unfold stepN
  rw [sem_std]
  refine hk _ _ ⟨fun a ha => ?_, mx_step hB J.mx fun r i y => ?_, fun s i hs => ?_⟩
  · rw [stv_ne _ _ _ ha, J.oth a ha]
  · rw [maxN_ap, max_le_iff, hks, max8_ap, sup_mul_le _ _ (hct b i).1 (hct b i).2]
    refine and_congr_right fun _ => ?_
    simp only [Finset.mem_univ, true_implies]
    refine forall_congr' fun a => ?_
    rw [hsb, scI, if_pos (by show 64 * b.val + (a.val * 8 + r.val) ≤ _; omega)]
    have e : (⟨(64 * b.val + (a.val * 8 + r.val)) / 64, by omega⟩ : Fin 32) = b := Fin.ext (by show _ = b.val; simp only []; omega)
    simp only [e]
  · rw [stv_same]
    refine (ov_s b _ _ s i).trans ?_
    split
    · next e =>
      rw [cast_s, hsb, if_pos (by omega)]
      congr 1
      exact Fin.ext (by show 64 * b.val + (s.val - 64 * b.val) = s.val; omega)
    · next e => exact J.sv s i (by omega)

theorem stepD_spec (hks : ∀ b i, crow b ksq (ix2 0 i) = ct b i) {B : ℕ} {b : Fin 32} (hB : b.val = B) (j : Fin 2) (hn : B = 2 * n + j.val)
    {sb : FVec Ideal S64x512 .f32} (hsb : ∀ (r : Fin 64) i, sb (ix2 r i) = raw i ⟨64 * b.val + r.val, by omega⟩)
    (J : JS σ0 n raw ct B m σ) {k : FVec Ideal S8x512 .f32 → Cmd (Elt Ideal) α} (hk : ∀ m' σ', JS σ0 n raw ct (B + 1) m' σ' → Post ((k m').sem σ')) :
    Post ((stepD j b sb ksq m k).sem σ) := by
  have hd : ∀ (r : Fin 64) i, diagB j sb (crow b ksq) (ix2 r i) = scI n raw ct i ⟨64 * b.val + r.val, by omega⟩ := by
    intro r i
    rw [diag_ap, causal_ap, hsb, hks, scI]
    have e : (⟨(64 * b.val + r.val) / 64, by omega⟩ : Fin 32) = b := Fin.ext (by show _ = b.val; simp only []; omega)
    simp only [e]
    by_cases h : 64 * j.val + r.val ≤ i.val / 4
    · rw [if_pos h, if_pos rfl, if_pos (by omega)]
    · rw [if_neg h, if_neg (by decide), if_neg (by omega)]
  unfold stepD
  rw [sem_std]
  refine hk _ _ ⟨fun a ha => ?_, mx_step hB J.mx fun r i y => ?_, fun s i hs => ?_⟩
  · rw [stv_ne _ _ _ ha, J.oth a ha]
  · rw [maxD_ap, max_le_iff, max8_ap, Finset.sup_le_iff]
    simp only [Finset.mem_univ, true_implies, hd]
  · rw [stv_same]
    refine (ov_s b _ _ s i).trans ?_
    split
    · next e =>
      rw [cast_s, hd, if_neg (by omega)]
      congr 1
      exact Fin.ext (by show 64 * b.val + (s.val - 64 * b.val) = s.val; omega)
    · next e => exact J.sv s i (by omega)
end

/-! ### Sums of probabilities and of values -/

/-- The probability of key `s`, and nothing past the last key. -/
def pN (n : ℕ) (raw : Fin 512 → Fin 2048 → EReal) (ct : Fin 32 → Fin 512 → EReal) (i : Fin 512) : ℕ → EReal := ext0 (prob (scI n raw ct i))
def gN (n : ℕ) (raw : Fin 512 → Fin 2048 → EReal) (ct : Fin 32 → Fin 512 → EReal) (vc : Fin 2048 → Fin 128 → EReal) (d : Fin 128) (i : Fin 512) : ℕ → EReal :=
  ext0 fun s => vc s d * clp (prob (scI n raw ct i) s)

/-- After `B` blocks: the partial sums of probabilities. -/
def LS (n : ℕ) (raw : Fin 512 → Fin 2048 → EReal) (ct : Fin 32 → Fin 512 → EReal) (B : ℕ) (l : FVec Ideal S8x512 .f32) : Prop :=
  ∀ (r : Fin 8) i, l (ix2 r i) = ∑ b ∈ Finset.range B, ∑ a ∈ Finset.range 8, pN n raw ct i (b * 64 + (a * 8 + r.val))

section
variable {n : ℕ} {raw : Fin 512 → Fin 2048 → EReal} {ct : Fin 32 → Fin 512 → EReal}

/-- A block's probabilities. -/
def PB (n : ℕ) (raw : Fin 512 → Fin 2048 → EReal) (ct : Fin 32 → Fin 512 → EReal) (B : ℕ) (p : FVec Ideal S64x512 .f32) : Prop :=
  ∀ (r : Fin 64) i, p (ix2 r i) = pN n raw ct i (64 * B + r.val)

theorem LS.step {B : ℕ} {l : FVec Ideal S8x512 .f32} (h : LS n raw ct B l) {p : FVec Ideal S64x512 .f32} (hp : PB n raw ct B p) :
    LS n raw ct (B + 1) (addf l (add8 p)) := by
  intro r i
  show l (ix2 r i) + add8 p (ix2 r i) = _
  rw [h, Finset.sum_range_succ, add8_ap, ← Fin.sum_univ_eq_sum_range (fun a => pN n raw ct i (B * 64 + (a * 8 + r.val))) 8]
  congr 1
  refine Finset.sum_congr rfl fun a _ => ?_
  rw [hp]
  congr 1
  show 64 * B + (a.val * 8 + r.val) = _
  omega

theorem catF_spec {c : ℕ} {p0 p1 p2 p3 : FVec Ideal S64x512 .f32} (h0 : PB n raw ct (4 * c) p0) (h1 : PB n raw ct (4 * c + 1) p1) (h2 : PB n raw ct (4 * c + 2) p2)
    (h3 : PB n raw ct (4 * c + 3) p3) (r : Fin 256) (i : Fin 512) : catF (q8 p0) (q8 p1) (q8 p2) (q8 p3) (ix2 r i) = clp (pN n raw ct i (256 * c + r.val)) := by
  rw [catF_ap]
  split_ifs with a b d
  · rw [q8_ap, h0, clp]; congr 3; simp only []; omega
  · rw [q8_ap, h1, clp]; congr 3; simp only []; omega
  · rw [q8_ap, h2, clp]; congr 3; simp only []; omega
  · rw [q8_ap, h3, clp]; congr 3; simp only []; omega
theorem catH_spec {c : ℕ} {p0 p1 : FVec Ideal S64x512 .f32} (h0 : PB n raw ct (4 * c) p0) (h1 : PB n raw ct (4 * c + 1) p1) (r : Fin 128) (i : Fin 512) :
    catH (q8 p0) (q8 p1) (ix2 r i) = clp (pN n raw ct i (256 * c + r.val)) := by
  rw [catH_ap]
  split_ifs with a
  · rw [q8_ap, h0, clp]; congr 3; simp only []; omega
  · rw [q8_ap, h1, clp]; congr 3; simp only []; omega

/-- What is summed so far. -/
def val (o : Option (FVec Ideal S128x512 .f32)) (d : Fin 128) (i : Fin 512) : EReal := match o with
  | none => 0
  | some a => a (ix2 d i)
theorem acc_ap (o : Option (FVec Ideal S128x512 .f32)) (w : FVec Ideal S128x512 .f32) (d : Fin 128) (i : Fin 512) : acc o w (ix2 d i) = val o d i + w (ix2 d i) := by
  cases o
  · exact (zero_add _).symm
  · rfl

theorem ldS_ap (σ : Sg) (b : Fin 32) (r : Fin 64) (i : Fin 512) : ld σ .s (aS b).toLoadRect (ix2 r i) = σ .s (ix2 ⟨64 * b.val + r.val, by omega⟩ i) :=
  congrArg (σ .s) (idx2 _ _ _ (by show 64 * b.val + 1 * r.val = 64 * b.val + r.val; omega) (by show 0 + 1 * i.val = i.val; omega))

variable {σ0 σ : Sg} {B : ℕ} {m8 : FVec Ideal S8x512 .f32} {ksq : FVec Ideal S32x128 .f32}

theorem shift_spec (hB : B = 2 * n + 2) (J : JS σ0 n raw ct B m8 σ) (i : Fin 512) :
    shiftOf m8 (ix2 0 i) = peak (scI n raw ct i) - Ideal.ofBits .f32 0x41000000#32 := by
  rw [shiftOf_ap, peak]
  congr 1
  refine eq_of_forall_ge_iff fun y => ?_
  simp only [Finset.sup_le_iff, Finset.mem_univ, true_implies, J.mx]
  constructor
  · intro h s
    by_cases hs : s.val < 64 * B
    · exact h ⟨s.val % 8, by omega⟩ s hs rfl
    · rw [scI, if_neg (by omega)]; exact bot_le
  · intro h r s _ _
    exact h s

theorem probN_spec (hks : ∀ b i, crow b ksq (ix2 0 i) = ct b i) (hB : B = 2 * n + 2) (J : JS σ0 n raw ct B m8 σ) (b : Fin 32) (hb : b.val < 2 * n) :
    PB n raw ct b.val (probN (ld σ .s (aS b).toLoadRect) (crow b ksq) (shiftOf m8)) := by
  intro r i
  rw [probN_ap, ldS_ap, J.sv _ _ (by show 64 * b.val + r.val < _; omega), if_pos (by show 64 * b.val + r.val < _; omega), hks, shift_spec hB J, pN, ext0_lt _ (by omega), prob, scI,
    if_pos (by show 64 * b.val + r.val ≤ _; omega)]
  have e : (⟨(64 * b.val + r.val) / 64, by omega⟩ : Fin 32) = b := Fin.ext (by show _ = b.val; simp only []; omega)
  simp only [e]
theorem probD_spec (hB : B = 2 * n + 2) (J : JS σ0 n raw ct B m8 σ) (b : Fin 32) (hb : 2 * n ≤ b.val) (hb' : b.val < B) :
    PB n raw ct b.val (probD (ld σ .s (aS b).toLoadRect) (shiftOf m8)) := by
  intro r i
  rw [probD_ap, ldS_ap, J.sv _ _ (by show 64 * b.val + r.val < _; omega), if_neg (by show ¬ 64 * b.val + r.val < _; omega), shift_spec hB J, pN, ext0_lt _ (by omega), prob]

/-- Past the query block's last key nothing is summed. -/
theorem prob_out {s : Fin 2048} {i : Fin 512} (hs : 64 * (2 * n + 2) ≤ s.val) : prob (scI n raw ct i) s = 0 := by
  have : scI n raw ct i s = ⊥ := if_neg (by omega)
  rw [prob, this]
  rw [show ((⊥ : EReal) - (peak (scI n raw ct i) - Ideal.ofBits .f32 0x41000000#32)) = ⊥ from by rw [sub_eq_add_neg, EReal.bot_add]]
  rfl
theorem clp_zero : clp 0 = 0 := by
  have h1 : Ideal.ofBits .f32 0x43E00000#32 = ((448 : ℝ) : EReal) := by simp [Ideal.ofBits, Ideal.ieee, -EReal.coe_mul]; norm_num
  have h2 : Ideal.ofBits .f32 0xC3E00000#32 = ((-448 : ℝ) : EReal) := by simp [Ideal.ofBits, Ideal.ieee, -EReal.coe_mul, -EReal.coe_neg]; norm_num
  rw [clp, h1, h2, max_eq_right (by rw [← EReal.coe_zero, EReal.coe_le_coe_iff]; norm_num), min_eq_right (by rw [← EReal.coe_zero, EReal.coe_le_coe_iff]; norm_num)]

theorem sum_tail (f : Fin 2048 → EReal) {N : ℕ} (hN : N ≤ 2048) (h : ∀ s : Fin 2048, N ≤ s.val → f s = 0) : ∑ s ∈ Finset.range N, ext0 f s = ∑ s, f s := by
  rw [← sum_ext0]
  refine Finset.sum_subset (fun x hx => Finset.mem_range.mpr ((Finset.mem_range.mp hx).trans_le hN)) fun x hx hx' => ?_
  have h1 := Finset.mem_range.mp hx
  rw [ext0_lt _ h1]
  exact h _ (Nat.le_of_not_lt fun hlt => hx' (Finset.mem_range.mpr hlt))

theorem LS.total (hn : n < 16) {l : FVec Ideal S8x512 .f32} (h : LS n raw ct (2 * n + 2) l) (i : Fin 512) : ∑ r : Fin 8, l (ix2 r i) = ∑ s, prob (scI n raw ct i) s := by
  rw [← sum_tail (prob (scI n raw ct i)) (N := (2 * n + 2) * 64) (by omega) fun s hs => prob_out (by omega), sum_mul]
  simp only [h _ i]
  rw [Fin.sum_univ_eq_sum_range (fun r => ∑ b ∈ Finset.range (2 * n + 2), ∑ a ∈ Finset.range 8, pN n raw ct i (b * 64 + (a * 8 + r))) 8, Finset.sum_comm]
  refine Finset.sum_congr rfl fun b _ => ?_
  rw [Finset.sum_comm, show (64 : ℕ) = 8 * 8 from rfl, sum_mul]
  rfl
end

end Sage
-- ==== Proof.AttW.lean ====
module

public import proofs.«01_k».proof.Proof.AttV

@[expose] public section

set_option maxRecDepth 16384

noncomputable section

namespace Sage

open Idealize.ShloMosaic Idealize.SL.Sem

theorem cast_q (w : FVec Ideal S1x512x128 .fp8e4m3) (h') (i : Fin 512) (d : Fin 128) : shapeCast S512x128 w h' (ix2 i d) = w (ix3 0 i d) := by pointwise []
theorem cast_o (w : FVec Ideal S512x128 .f32) (h') (i : Fin 512) (d : Fin 128) : shapeCast S512x128 w h' (ix2 i d) = w (ix2 i d) := by pointwise []
theorem cast_out (w : FVec Ideal S128x128 .f32) (h1 h2) (i : Fin 128) (d : Fin 128) :
    shapeCast S1x128x128 (truncf (φ := .f32) (s := S128x128) .bf16 w h1) h2 (ix3 0 i d) = w (ix2 i d) := by pointwise []

section
variable (kk : S1x2048x1024.Idx → EReal) (x : S1x128x4096.Idx → EReal) (t : Fin headLoop.trips)

/-- Column `i`'s query head. -/
def gI (i : Fin 512) : Qd := qdOf x ⟨4 * t.val + i.val % 4, by have := hd_lt t; omega⟩
def rawI (i : Fin 512) (s : Fin 2048) : EReal := ∑ d, kC (hdOf kk (hF t)) s d * qC (gI x t i) ⟨i.val / 4, by omega⟩ d
def ctI (b : Fin 32) (i : Fin 512) : EReal := kS (hdOf kk (hF t)) b * (qS (gI x t i) * Ideal.ofBits .f32 0x3E0293EE#32)

theorem smx_pos : ∃ r : ℝ, 0 < r ∧ Ideal.ofBits .f32 0x3E0293EE#32 = (r : EReal) := by
  refine ⟨_, ?_, by simp [Ideal.ofBits, Ideal.ieee, -EReal.coe_mul]; rfl⟩
  norm_num

theorem ctI_pos (b : Fin 32) (i : Fin 512) : 0 < ctI kk x t b i ∧ ctI kk x t b i ≠ ⊤ := by
  obtain ⟨r, h0, h1⟩ := smx_pos
  rw [ctI, h1, kS, qS, up1_eq, up1_eq, ← EReal.coe_mul, ← EReal.coe_mul]
  exact ⟨by rw [← EReal.coe_zero, EReal.coe_lt_coe_iff]; positivity, EReal.coe_ne_top _⟩

theorem scI_eq (n : Fin 16) (i : Fin 512) : scI n.val (rawI kk x t) (ctI kk x t) i = scOf n (gI x t i) (hdOf kk (hF t)) ⟨i.val / 4, by omega⟩ := rfl
end

section
variable {kk vv : S1x2048x1024.Idx → EReal} {x : S1x128x4096.Idx → EReal} {t : Fin headLoop.trips} {σ : Sg}

theorem q_ap (Q : QuantP x σ) (i : Fin 512) (d : Fin 128) (h') :
    shapeCast S512x128 (s := S1x512x128) (ld σ .qw (aQw t).toLoadRect) h' (ix2 i d) = qC (gI x t i) ⟨i.val / 4, by omega⟩ d := by
  refine (cast_q _ h' i d).trans ?_
  refine (congrArg (σ .qw) (idx3 _ _ (ix3 (hF t) ⟨(⟨i.val / 4, by omega⟩ : Fin 128).val * 4 + (⟨i.val % 4, by omega⟩ : Fin 4).val, by simp only []; omega⟩ d) ?_ ?_ ?_)).trans (Q.qw _ _ _ _)
  · show aN t + 1 * 0 = t.val; rw [aN_eq]; rfl
  · show 0 + 1 * i.val = i.val / 4 * 4 + i.val % 4; omega
  · show 0 + 1 * d.val = d.val; omega

theorem crow_spec (P : Prep1 kk vv (hF t) σ) (Q : QuantP x σ) (b : Fin 32) (i : Fin 512) :
    crow (F := Ideal) b (kqs (ld σ .ks (aKs t).toLoadRect) (qcol (ld σ .qs (aQs t 0).toLoadRect) (ld σ .qs (aQs t 1).toLoadRect) (ld σ .qs (aQs t 2).toLoadRect)
      (ld σ .qs (aQs t 3).toLoadRect))) (ix2 0 i) = ctI kk x t b i := by
  rw [crow_ap, kqs_ap, ctI]
  congr 1
  · refine (congrArg (σ .ks) (idx3 _ _ (ix3 (hF t) b ⟨i.val % 128, by omega⟩) ?_ ?_ ?_)).trans (P.ks _ _)
    · show aN t + 1 * 0 = t.val; rw [aN_eq]; rfl
    · show 0 + 1 * b.val = b.val; omega
    · show 0 + 1 * (i.val % 128) = i.val % 128; omega
  · refine (qcol_ap (fun j : Fin 4 => ld σ .qs (aQs t j).toLoadRect) ⟨i.val % 128, by omega⟩).trans ?_
    congr 1
    refine (congrArg (σ .qs) (idx2 _ _ (ix2 ⟨4 * t.val + i.val % 4, by have := hd_lt t; omega⟩ ⟨i.val % 128, by omega⟩) ?_ ?_)).trans (Q.qs _ _)
    · show qN t (BitVec.ofNat 32 (i.val % 128 % 4)) + 1 * 0 = 4 * t.val + i.val % 4
      rw [qN_eq t ⟨i.val % 128 % 4, by omega⟩]
      show 4 * t.val + i.val % 128 % 4 + 1 * 0 = _
      omega
    · show 0 + 1 * (i.val % 128) = i.val % 128; omega

theorem blkF_spec (P : Prep1 kk vv (hF t) σ) {σ' : Sg} (e : σ' .kc = σ .kc) {q : FVec Ideal S512x128 .fp8e4m3}
    (hq : ∀ i d, q (ix2 i d) = qC (gI x t i) ⟨i.val / 4, by omega⟩ d) (c : Fin 8) (j : Fin 4) (r : Fin 64) (i : Fin 512) :
    blkF j (scoreF (ld σ' .kc (aKcF t c).toLoadRect) q) (ix2 r i) = rawI kk x t i ⟨64 * (bk c j).val + r.val, by omega⟩ := by
  rw [blkF_ap, scoreF_ap, rawI]
  refine Finset.sum_congr rfl fun d _ => ?_
  rw [hq]
  congr 1
  refine (congrArg (σ' .kc) (idx3 _ _ (ix3 (hF t) ⟨64 * (bk c j).val + r.val, by omega⟩ d) ?_ ?_ ?_)).trans ((congrFun e _).trans (P.kc _ _))
  · show aN t + 1 * 0 = t.val; rw [aN_eq]; rfl
  · show 256 * c.val + 1 * (64 * j.val + r.val) = 64 * (4 * c.val + j.val) + r.val; omega
  · show 0 + 1 * d.val = d.val; omega
theorem blkH_spec (P : Prep1 kk vv (hF t) σ) {σ' : Sg} (e : σ' .kc = σ .kc) {q : FVec Ideal S512x128 .fp8e4m3}
    (hq : ∀ i d, q (ix2 i d) = qC (gI x t i) ⟨i.val / 4, by omega⟩ d) (c : Fin 8) (j : Fin 2) (b : Fin 32) (hb : b.val = 4 * c.val + j.val) (r : Fin 64) (i : Fin 512) :
    blkH j (scoreH (ld σ' .kc (aKcH t c).toLoadRect) q) (ix2 r i) = rawI kk x t i ⟨64 * b.val + r.val, by omega⟩ := by
  rw [blkH_ap, scoreH_ap, rawI]
  refine Finset.sum_congr rfl fun d _ => ?_
  rw [hq]
  congr 1
  refine (congrArg (σ' .kc) (idx3 _ _ (ix3 (hF t) ⟨64 * b.val + r.val, by omega⟩ d) ?_ ?_ ?_)).trans ((congrFun e _).trans (P.kc _ _))
  · show aN t + 1 * 0 = t.val; rw [aN_eq]; rfl
  · show 256 * c.val + 1 * (64 * j.val + r.val) = 64 * b.val + r.val; omega
  · show 0 + 1 * d.val = d.val; omega

/-- Chunk `c`'s contribution to the weighted values. -/
theorem pvF_spec (P : Prep1 kk vv (hF t) σ) {σ' : Sg} (e : σ' .vt = σ .vt) {n : ℕ} {raw : Fin 512 → Fin 2048 → EReal} {ct : Fin 32 → Fin 512 → EReal}
    (c : Fin 8) {p : FVec Ideal S256x512 .fp8e4m3} (hp : ∀ (r : Fin 256) i, p (ix2 r i) = clp (pN n raw ct i (256 * c.val + r.val))) (d : Fin 128) (i : Fin 512) :
    pvF (ld σ' .vt (aVtF t c).toLoadRect) p (ix2 d i) = ∑ s ∈ Finset.range 256, gN n raw ct (vC (hdOf vv (hF t))) d i (256 * c.val + s) := by
  rw [pvF_ap, ← Fin.sum_univ_eq_sum_range (fun s => gN n raw ct (vC (hdOf vv (hF t))) d i (256 * c.val + s)) 256]
  refine Finset.sum_congr rfl fun s _ => ?_
  rw [hp, gN, ext0_lt _ (by omega), pN, ext0_lt _ (by omega)]
  congr 1
  refine (congrArg (σ' .vt) (idx3 _ _ (ix3 (hF t) d ⟨256 * c.val + s.val, by omega⟩) ?_ ?_ ?_)).trans ((congrFun e _).trans (P.vt _ _))
  · show aN t + 1 * 0 = t.val; rw [aN_eq]; rfl
  · show 0 + 1 * d.val = d.val; omega
  · show 256 * c.val + 1 * s.val = 256 * c.val + s.val; omega
theorem pvH_spec (P : Prep1 kk vv (hF t) σ) {σ' : Sg} (e : σ' .vt = σ .vt) {n : ℕ} {raw : Fin 512 → Fin 2048 → EReal} {ct : Fin 32 → Fin 512 → EReal}
    (c : Fin 8) {p : FVec Ideal S128x512 .fp8e4m3} (hp : ∀ (r : Fin 128) i, p (ix2 r i) = clp (pN n raw ct i (256 * c.val + r.val))) (d : Fin 128) (i : Fin 512) :
    pvH (ld σ' .vt (aVtH t c).toLoadRect) p (ix2 d i) = ∑ s ∈ Finset.range 128, gN n raw ct (vC (hdOf vv (hF t))) d i (256 * c.val + s) := by
  rw [pvH_ap, ← Fin.sum_univ_eq_sum_range (fun s => gN n raw ct (vC (hdOf vv (hF t))) d i (256 * c.val + s)) 128]
  refine Finset.sum_congr rfl fun s _ => ?_
  rw [hp, gN, ext0_lt _ (by omega), pN, ext0_lt _ (by omega)]
  congr 1
  refine (congrArg (σ' .vt) (idx3 _ _ (ix3 (hF t) d ⟨256 * c.val + s.val, by omega⟩) ?_ ?_ ?_)).trans ((congrFun e _).trans (P.vt _ _))
  · show aN t + 1 * 0 = t.val; rw [aN_eq]; rfl
  · show 0 + 1 * d.val = d.val; omega
  · show 256 * c.val + 1 * s.val = 256 * c.val + s.val; omega

theorem outHead_spec {α : Type} (Post : α × Sg → Prop) (j : Fin 4) (σ : Sg) {k : Cmd (Elt Ideal) α}
    (hk : ∀ σ' : Sg, (∀ n, n ≠ .out → σ' n = σ n) → (∀ (r : Fin 128) (h : Fin 32) (d : Fin 128), σ' .out (ix3 0 r ⟨128 * h.val + d.val, by omega⟩) =
      if h.val = 4 * t.val + j.val then σ .o (ix2 ⟨4 * r.val + j.val, by omega⟩ d) else σ .out (ix3 0 r ⟨128 * h.val + d.val, by omega⟩)) → Post (k.sem σ')) :
    Post ((outHead t j k).sem σ) := by
  unfold outHead
  rw [sem_ld, sem_std]
  refine hk _ (fun n hn => by rw [stv_ne _ _ _ hn]) fun r h d => ?_
  rw [stv_same]
  have ho := oN_eq t j
  split
  · next e =>
    refine (ov_in (aOut t j) _ _ (ix3 0 r d : S1x128x128.Idx) (idx3 _ _ _ rfl ?_ ?_)).trans ((cast_out _ _ _ r d).trans ?_)
    · show 0 + 1 * r.val = r.val; omega
    · show oN t (BitVec.ofNat 32 j.val) + 1 * d.val = 128 * h.val + d.val; omega
    · refine congrArg (σ .o) (idx2 _ _ _ ?_ ?_)
      · show j.val + 4 * r.val = 4 * r.val + j.val; omega
      · show 0 + 1 * d.val = d.val; omega
  · next e =>
    refine ov_out _ _ 2 ?_
    show 128 * h.val + d.val < oN t (BitVec.ofNat 32 j.val) ∨ oN t (BitVec.ofNat 32 j.val) + 128 ≤ 128 * h.val + d.val
    omega

theorem attend_spec (f : Fin 8) (half : Bool) (n : Fin 16) (hn : n.val = 2 * f.val + (if half then 0 else 1)) (P : Prep1 kk vv (hF t) σ) (Q : QuantP x σ) :
    ∀ (r : Fin 128) (h : Fin 32) (d : Fin 128), ((attend (F := Ideal) f half t).sem σ).2 .out (ix3 0 r ⟨128 * h.val + d.val, by omega⟩) =
      if h.val / 4 = t.val then outS n (qdOf x h) (hdOf kk (hF t)) (hdOf vv (hF t)) r d else σ .out (ix3 0 r ⟨128 * h.val + d.val, by omega⟩) := by
  let Post : PUnit × Sg → Prop := fun q => ∀ (r : Fin 128) (h : Fin 32) (d : Fin 128), q.2 .out (ix3 0 r ⟨128 * h.val + d.val, by omega⟩) =
      if h.val / 4 = t.val then outS n (qdOf x h) (hdOf kk (hF t)) (hdOf vv (hF t)) r d else σ .out (ix3 0 r ⟨128 * h.val + d.val, by omega⟩)
  show Post _
  have ht := hd_lt t
  have hct := ctI_pos kk x t
  have hks := crow_spec P Q
  unfold attend
  rw [sem_ld, sem_ld, sem_ld, sem_ld, sem_ld, sem_ld]
  have hq := fun i d => q_ap (t := t) Q i d (by decide)
  dsimp only
  revert hks hq
  generalize kqs (F := Ideal) _ _ = ksq
  generalize shapeCast S512x128 (s := S1x512x128) (ld σ .qw (aQw t).toLoadRect) _ = q
  intro hks hq
  refine upto_inv Post (fun c m σ' => JS σ n.val (rawI kk x t) (ctI kk x t) (4 * c) m σ') f.val (Nat.le_of_lt f.isLt) ?_ ⟨fun _ _ => rfl, fun r i y => ?_, fun s i hs => absurd hs (by omega)⟩ ?_
  · intro c m σ' hc J k hk
    unfold scoresF
    rw [sem_ld]
    have e : σ' .kc = σ .kc := J.oth _ (by decide)
    refine stepN_spec Post hct hks (n := n.val) (B := 4 * c.val + 0) (b := bk c 0) rfl (by omega) (fun r i => blkF_spec P e hq c 0 r i) J fun m1 σ1 J1 => ?_
    refine stepN_spec Post hct hks (n := n.val) (B := 4 * c.val + 1) (b := bk c 1) rfl (by omega) (fun r i => blkF_spec P e hq c 1 r i) J1 fun m2 σ2 J2 => ?_
    refine stepN_spec Post hct hks (n := n.val) (B := 4 * c.val + 2) (b := bk c 2) rfl (by omega) (fun r i => blkF_spec P e hq c 2 r i) J2 fun m3 σ3 J3 => ?_
    exact stepN_spec Post hct hks (n := n.val) (B := 4 * c.val + 3) (b := bk c 3) rfl (by omega) (fun r i => blkF_spec P e hq c 3 r i) J3 hk
  · show Ideal.ofBits .f32 0xFF800000#32 ≤ y ↔ _
    rw [ninf32]
    exact ⟨fun _ s hs => absurd hs (by omega), fun _ => bot_le⟩
  intro m8 σ1 J
  suffices H : ∀ m8 σ2, JS σ n.val (rawI kk x t) (ctI kk x t) (2 * n.val + 2) m8 σ2 → Post (Cmd.sem (
      let m := shiftOf m8
      upto f.val (Nat.le_of_lt f.isLt) (valuesF t ksq m) (none, broadcast S8x512 (Scalar.ofBits .f32 0x00000000#32)) fun b =>
      valuesL t ksq m f b (half := half) fun ac l =>
      .ld .vs (aRow t).toLoadRect (show 0 < S1x128.numel by decide) fun vs =>
      .ld .vm (aRow t).toLoadRect (show 0 < S1x128.numel by decide) fun vm =>
      .std .o aOall (shapeCast S512x128 (addRow (mulRow (normT ac l) vs) vm) (by decide)) (show 0 < S512x128.numel by decide) (.inl rfl) <|
      outHead t 0 <| outHead t 1 <| outHead t 2 <| outHead t 3 <| .ret PUnit.unit) σ2) by
    have e : σ1 .kc = σ .kc := J.oth _ (by decide)
    cases half
    · have hn : n.val = 2 * f.val + 1 := hn
      unfold scoresL
      dsimp only
      rw [sem_ld]
      refine stepN_spec Post hct hks (n := n.val) (B := 4 * f.val + 0) (b := bk f 0) rfl (by omega) (fun r i => blkF_spec P e hq f 0 r i) J fun m1 σ1 J1 => ?_
      refine stepN_spec Post hct hks (n := n.val) (B := 4 * f.val + 1) (b := bk f 1) rfl (by omega) (fun r i => blkF_spec P e hq f 1 r i) J1 fun m2 σ2 J2 => ?_
      refine stepD_spec Post hks (n := n.val) (B := 4 * f.val + 2) (b := bk f 2) rfl 0 (by show _ = _ + 0; omega) (fun r i => blkF_spec P e hq f 2 r i) J2 fun m3 σ3 J3 => ?_
      refine stepD_spec Post hks (n := n.val) (B := 4 * f.val + 3) (b := bk f 3) rfl 1 (by show _ = _ + 1; omega) (fun r i => blkF_spec P e hq f 3 r i) J3 fun m4 σ4 J4 => ?_
      exact H m4 σ4 (by rw [show 2 * n.val + 2 = 4 * f.val + 1 + 1 + 1 + 1 from by omega]; exact J4)
    · have hn : n.val = 2 * f.val + 0 := hn
      unfold scoresL
      dsimp only
      rw [sem_ld]
      refine stepD_spec Post hks (n := n.val) (B := 4 * f.val + 0) (b := bk f 0) rfl 0 (by show _ = _ + 0; omega) (fun r i => blkH_spec P e hq f 0 (bk f 0) rfl r i) J fun m3 σ3 J3 => ?_
      refine stepD_spec Post hks (n := n.val) (B := 4 * f.val + 1) (b := bk f 1) rfl 1 (by show _ = _ + 1; omega) (fun r i => blkH_spec P e hq f 1 (bk f 1) rfl r i) J3 fun m4 σ4 J4 => ?_
      exact H m4 σ4 (by rw [show 2 * n.val + 2 = 4 * f.val + 1 + 1 from by omega]; exact J4)
  clear J σ1 m8
  intro m8 σ1 J
  dsimp only
  have ev : σ1 .vt = σ .vt := J.oth _ (by decide)
  have z : Ideal.ofBits .f32 0x00000000#32 = 0 := by simp [Ideal.ofBits, Ideal.ieee]
  refine upto_inv Post (fun c b σ' => σ' = σ1 ∧ LS n.val (rawI kk x t) (ctI kk x t) (4 * c) b.2 ∧ ∀ d i, val b.1 d i =
    ∑ s ∈ Finset.range (256 * c), gN n.val (rawI kk x t) (ctI kk x t) (vC (hdOf vv (hF t))) d i s) f.val (Nat.le_of_lt f.isLt) ?_ ⟨rfl, fun r i => z, fun d i => rfl⟩ ?_
  · rintro c b σ' hc ⟨rfl, L, V⟩ k hk
    unfold valuesF ldS
    rw [sem_ld, sem_ld, sem_ld, sem_ld]
    dsimp only
    rw [sem_ld]
    have p0 := probN_spec hks rfl J (bk c 0) (by show 4 * c.val + 0 < _; omega)
    have p1 := probN_spec hks rfl J (bk c 1) (by show 4 * c.val + 1 < _; omega)
    have p2 := probN_spec hks rfl J (bk c 2) (by show 4 * c.val + 2 < _; omega)
    have p3 := probN_spec hks rfl J (bk c 3) (by show 4 * c.val + 3 < _; omega)
    refine hk _ _ ⟨rfl, (((L.step p0).step p1).step p2).step p3, fun d i => ?_⟩
    show acc _ _ _ = _
    rw [acc_ap, V, pvF_spec P ev c (fun r i => catF_spec p0 p1 p2 p3 r i), Nat.mul_succ, Finset.sum_range_add]
  rintro b σ' ⟨rfl, L, V⟩
  suffices H : ∀ (ac : FVec Ideal S128x512 .f32) (l : FVec Ideal S8x512 .f32), LS n.val (rawI kk x t) (ctI kk x t) (2 * n.val + 2) l →
      (∀ d i, ac (ix2 d i) = ∑ s ∈ Finset.range (64 * (2 * n.val + 2)), gN n.val (rawI kk x t) (ctI kk x t) (vC (hdOf vv (hF t))) d i s) → Post (Cmd.sem (
      .ld .vs (aRow t).toLoadRect (show 0 < S1x128.numel by decide) fun vs =>
      .ld .vm (aRow t).toLoadRect (show 0 < S1x128.numel by decide) fun vm =>
      .std .o aOall (shapeCast S512x128 (addRow (mulRow (normT ac l) vs) vm) (by decide)) (show 0 < S512x128.numel by decide) (.inl rfl) <|
      outHead t 0 <| outHead t 1 <| outHead t 2 <| outHead t 3 <| .ret PUnit.unit) σ') by
    cases half
    · have hn : n.val = 2 * f.val + 1 := hn
      unfold valuesL ldS
      dsimp only
      rw [sem_ld, sem_ld, sem_ld, sem_ld]
      rw [sem_ld]
      have p0 := probN_spec hks rfl J (bk f 0) (by show 4 * f.val + 0 < _; omega)
      have p1 := probN_spec hks rfl J (bk f 1) (by show 4 * f.val + 1 < _; omega)
      have p2 := probD_spec rfl J (bk f 2) (by show _ ≤ 4 * f.val + 2; omega) (by show 4 * f.val + 2 < _; omega)
      have p3 := probD_spec rfl J (bk f 3) (by show _ ≤ 4 * f.val + 3; omega) (by show 4 * f.val + 3 < _; omega)
      refine H _ _ ?_ fun d i => ?_
      · rw [show 2 * n.val + 2 = 4 * f.val + 1 + 1 + 1 + 1 from by omega]; exact (((L.step p0).step p1).step p2).step p3
      · rw [acc_ap, V, pvF_spec P ev f (fun r i => catF_spec p0 p1 p2 p3 r i), show 64 * (2 * n.val + 2) = 256 * f.val + 256 from by omega, Finset.sum_range_add]
    · have hn : n.val = 2 * f.val + 0 := hn
      unfold valuesL ldS
      dsimp only
      rw [sem_ld, sem_ld]
      rw [sem_ld]
      have p2 := probD_spec rfl J (bk f 0) (by show _ ≤ 4 * f.val + 0; omega) (by show 4 * f.val + 0 < _; omega)
      have p3 := probD_spec rfl J (bk f 1) (by show _ ≤ 4 * f.val + 1; omega) (by show 4 * f.val + 1 < _; omega)
      refine H _ _ ?_ fun d i => ?_
      · rw [show 2 * n.val + 2 = 4 * f.val + 1 + 1 from by omega]; exact (L.step p2).step p3
      · rw [acc_ap, V, pvH_spec P ev f (fun r i => catH_spec p2 p3 r i), show 64 * (2 * n.val + 2) = 256 * f.val + 128 from by omega, Finset.sum_range_add]
  clear L V b
  intro ac l L V
  rw [sem_ld, sem_ld, sem_std]
  generalize hσ2 : stv σ' .o _ _ = σ2
  have o2 : σ2 .out = σ .out := by rw [← hσ2, stv_ne _ _ _ (by decide), J.oth _ (by decide)]
  have k2 : ∀ (r : Fin 128) (j : Fin 4) d, σ2 .o (ix2 ⟨4 * r.val + j.val, by omega⟩ d) =
      outS n (qdOf x ⟨4 * t.val + j.val, by omega⟩) (hdOf kk (hF t)) (hdOf vv (hF t)) r d := by
    intro r j d
    rw [← hσ2, stv_same]
    refine (ov_in aOall _ _ (ix2 ⟨4 * r.val + j.val, by omega⟩ d : S512x128.Idx) (idx2 _ _ _ ?_ ?_)).trans ?_
    · show 0 + 1 * (4 * r.val + j.val) = 4 * r.val + j.val; omega
    · show 0 + 1 * d.val = d.val; omega
    refine (cast_o _ _ _ _).trans ?_
    rw [addRow_ap, mulRow_ap, normT_ap, L.total n.isLt, V]
    have e1 : gI x t ⟨4 * r.val + j.val, by omega⟩ = qdOf x ⟨4 * t.val + j.val, by omega⟩ := by
      unfold gI
      congr 1
      exact Fin.ext (by show 4 * t.val + (4 * r.val + j.val) % 4 = 4 * t.val + j.val; omega)
    have e2 : (⟨(⟨4 * r.val + j.val, by omega⟩ : Fin 512).val / 4, by show (4 * r.val + j.val) / 4 < 128; omega⟩ : Fin 128) = r :=
      Fin.ext (by show (4 * r.val + j.val) / 4 = r.val; omega)
    unfold gN
    rw [sum_tail _ (by omega) (fun s hs => by rw [prob_out hs, clp_zero, mul_zero]), scI_eq, e1, e2]
    unfold outS attS
    congr 1
    · congr 1
      refine (congrArg (σ' .vs) (idx2 _ _ (ix2 (hF t) d) ?_ ?_)).trans ((congrFun (J.oth _ (by decide)) _).trans (P.vs d))
      · show aN t + 1 * 0 = t.val; rw [aN_eq]; rfl
      · show 0 + 1 * d.val = d.val; omega
    · refine (congrArg (σ' .vm) (idx2 _ _ (ix2 (hF t) d) ?_ ?_)).trans ((congrFun (J.oth _ (by decide)) _).trans (P.vm d))
      · show aN t + 1 * 0 = t.val; rw [aN_eq]; rfl
      · show 0 + 1 * d.val = d.val; omega
  clear hσ2
  refine outHead_spec (t := t) Post 0 σ2 fun σ3 a3 b3 => outHead_spec (t := t) Post 1 σ3 fun σ4 a4 b4 => outHead_spec (t := t) Post 2 σ4 fun σ5 a5 b5 =>
    outHead_spec (t := t) Post 3 σ5 fun σ6 a6 b6 => ?_
  intro r h d
  show σ6 .out _ = _
  have c3 : σ3 .o = σ2 .o := a3 _ (by decide)
  have c4 : σ4 .o = σ2 .o := (a4 _ (by decide)).trans c3
  have c5 : σ5 .o = σ2 .o := (a5 _ (by decide)).trans c4
  rw [b6, b5, b4, b3, c5, c4, c3, o2, k2, k2, k2, k2]
  have e : ∀ j : Fin 4, h.val = 4 * t.val + j.val → qdOf x ⟨4 * t.val + j.val, by omega⟩ = qdOf x h := fun j hj => congrArg (qdOf x) (Fin.ext hj.symm)
  by_cases hh : h.val / 4 = t.val
  · rw [if_pos hh]
    split_ifs with i3 i2 i1 i0
    · rw [e _ i3]
    · rw [e _ i2]
    · rw [e _ i1]
    · rw [e _ i0]
    · exfalso
      have i3 : ¬ h.val = 4 * t.val + 3 := i3
      have i2 : ¬ h.val = 4 * t.val + 2 := i2
      have i1 : ¬ h.val = 4 * t.val + 1 := i1
      have i0 : ¬ h.val = 4 * t.val + 0 := i0
      omega
  · rw [if_neg hh, if_neg, if_neg, if_neg, if_neg]
    · show ¬ h.val = 4 * t.val + 0; omega
    · show ¬ h.val = 4 * t.val + 1; omega
    · show ¬ h.val = 4 * t.val + 2; omega
    · show ¬ h.val = 4 * t.val + 3; omega
end

end Sage
-- ==== Proof.RefM.lean ====
module

public import proofs.«01_k».proof.Proof.AttW

@[expose] public section

set_option maxRecDepth 16384

noncomputable section

namespace Sage.Ref

open Idealize.ShloMosaic Idealize.SL.Sem

/-! The reference's scalar forms against the specification's. -/

theorem bot_bits : Ideal.ofBits .f32 0xFF800000#32 = ⊥ := by simp [Ideal.ofBits, Ideal.ieee]
theorem zero_bits' : Ideal.ofBits .f32 0#32 = 0 := by simp [Ideal.ofBits, Ideal.ieee]

theorem fold_max_sup {n : ℕ} (f : Fin n → EReal) : Finset.fold max (Ideal.ofBits .f32 0xFF800000#32) f Finset.univ = Finset.univ.sup f := by
  rw [bot_bits]; rfl

theorem refE_int (x : EReal) : (if lgf x < Ideal.ofBits .f32 0xC2FC0000#32 then Ideal.ofBits .f32 0#32 else min (lgf x) (Ideal.ofBits .f32 0x42EE0000#32) + Ideal.ofBits .f32 0x3F800000#32) =
    ((eInt x : ℝ) : EReal) := by
  obtain ⟨k, -, -, -, -, h⟩ := min119 x
  rw [cm126, zero_bits', c119, c1]
  exact h

theorem exp_up (x : EReal) : Ideal.exp (((eInt x : ℝ) : EReal) * Ideal.log (Ideal.ofBits .f32 0x40000000#32)) = up1 x := by
  rw [exp_log2, up1_eq]
theorem exp_dn (x : EReal) : Ideal.exp (-((eInt x : ℝ) : EReal) * Ideal.log (Ideal.ofBits .f32 0x40000000#32)) = dn1 x := by
  rw [dn1_eq, ← exp_log2, ← EReal.coe_neg]; push_cast; rfl

/-- A mean is a sum over 2048. -/
theorem mean_eq (x : EReal) : Ideal.div x (Ideal.ofBits .f32 0x45000000#32) = x * Ideal.ofBits .f32 0x3A000000#32 := by
  rw [c2048, ci2048, Ideal.div, if_neg (by rw [← EReal.coe_zero, EReal.coe_eq_coe_iff]; norm_num), ← EReal.coe_inv]
  norm_num

/-- The mask's comparison of token numbers. -/
theorem sle_nat (a b : Fin 2048) : IntOp.cmpi CmpIPredicate.sle (BitVec.ofNat 32 a.val) (BitVec.ofNat 32 b.val) = if a.val ≤ b.val then 1#1 else 0#1 := by
  have ha : (BitVec.ofNat 32 a.val).toInt = a.val := by
    rw [BitVec.toInt_eq_toNat_of_lt (by simp; omega)]; simp; omega
  have hb : (BitVec.ofNat 32 b.val).toInt = b.val := by
    rw [BitVec.toInt_eq_toNat_of_lt (by simp; omega)]; simp; omega
  show (BitVec.ofBool _ : BitVec 1) = _
  simp only [BitVec.sle, ha, hb, Nat.cast_le]
  by_cases h : a.val ≤ b.val
  · rw [if_pos h, decide_eq_true (by exact_mod_cast h)]; rfl
  · rw [if_neg h, decide_eq_false (by exact_mod_cast h)]; rfl

theorem score_eq (raw kt : EReal) (q : EReal) (p s : Fin 2048) :
    Scalar.select (IntOp.cmpi CmpIPredicate.sle (BitVec.ofNat 32 s.val) (BitVec.ofNat 32 p.val)) (raw * (q * Ideal.ofBits .f32 0x3E0293EE#32) * kt) (Ideal.ofBits .f32 0xFF800000#32) =
    if s.val ≤ p.val then raw * (kt * (q * Ideal.ofBits .f32 0x3E0293EE#32)) else ⊥ := by
  rw [sle_nat, bot_bits]
  split
  · rw [mul_assoc, mul_comm _ kt]; rfl
  · rfl

/-! ### The softmax -/

/-- Each score is a number or minus infinity, and some score is a number. -/
def Good (sc : Fin 2048 → EReal) : Prop := (∀ s, sc s = ⊥ ∨ ∃ r : ℝ, sc s = (r : EReal)) ∧ ∃ s, ∃ r : ℝ, sc s = (r : EReal)

theorem Good.peak {sc : Fin 2048 → EReal} (h : Good sc) : ∃ M : ℝ, peak sc = (M : EReal) := by
  obtain ⟨h1, s, r, hs⟩ := h
  have hb : Sage.peak sc ≠ ⊥ := fun e => by
    have : sc s ≤ Sage.peak sc := Finset.le_sup (f := sc) (Finset.mem_univ s)
    rw [e, hs, le_bot_iff] at this
    exact EReal.coe_ne_bot _ this
  have ht : Sage.peak sc < ⊤ := (Finset.sup_lt_iff (bot_lt_top)).mpr fun s _ => by
    rcases h1 s with h | ⟨r, h⟩ <;> rw [h]
    · exact bot_lt_top
    · exact EReal.coe_lt_top r
  exact ⟨(Sage.peak sc).toReal, (EReal.coe_toReal ht.ne hb).symm⟩

/-- The reference's probability of a key. -/
def rprob (sc : Fin 2048 → EReal) (s : Fin 2048) : EReal :=
  Ideal.exp ((sc s - peak sc) * Ideal.log (Ideal.ofBits .f32 0x40000000#32))

theorem rprob_cases {sc : Fin 2048 → EReal} (h : Good sc) (s : Fin 2048) :
    ∃ r : ℝ, 0 ≤ r ∧ (sc s ≠ ⊥ → 0 < r) ∧ rprob sc s = (r : EReal) ∧ prob sc s = ((r * 256 : ℝ) : EReal) := by
  obtain ⟨M, hM⟩ := h.peak
  unfold rprob prob
  rw [hM, c8, c2, Ideal.log_coe, if_neg (by norm_num), ← EReal.coe_sub]
  rcases h.1 s with e | ⟨x, e⟩ <;> rw [e]
  · refine ⟨0, le_refl _, fun h => absurd rfl h, ?_, ?_⟩
    · rw [sub_eq_add_neg, EReal.bot_add, EReal.bot_mul_coe_of_pos (Real.log_pos (by norm_num))]; rfl
    · rw [sub_eq_add_neg, EReal.bot_add]; simp
  · refine ⟨Real.exp ((x - M) * Real.log 2), (Real.exp_pos _).le, fun _ => Real.exp_pos _, ?_, ?_⟩
    · rw [← EReal.coe_sub, ← EReal.coe_mul]; rfl
    · rw [← EReal.coe_sub, Ideal.exp2_coe, EReal.coe_eq_coe_iff]
      show (2 : ℝ) ^ (x - (M - 8)) = _
      rw [show x - (M - 8) = (x - M) + 8 by ring, Real.rpow_add (by norm_num), Real.rpow_def_of_pos (by norm_num), mul_comm (Real.log 2)]
      norm_num

theorem coe_sum {n : ℕ} (f : Fin n → ℝ) : ∑ s, ((f s : ℝ) : EReal) = ((∑ s, f s : ℝ) : EReal) := by
  induction (Finset.univ : Finset (Fin n)) using Finset.cons_induction with
  | empty => simp
  | cons a s ha ih => rw [Finset.sum_cons, Finset.sum_cons, ih, EReal.coe_add]

/-- The reference's output is the specification's. -/
theorem att_eq {sc : Fin 2048 → EReal} (h : Good sc) (v : Fin 2048 → EReal) (vs vm : EReal) :
    Ideal.div ((∑ s, v s * clp (rprob sc s * Ideal.ofBits .f32 0x43800000#32)) * (Ideal.ofBits .f32 0x3B800000#32 * vs)) (∑ s, rprob sc s) + vm = attS sc v vs vm := by
  choose r h0 h1 h2 h3 using rprob_cases h
  obtain ⟨t, x, ht⟩ := h.2
  have hp : 0 < ∑ s, r s := Finset.sum_pos' (fun s _ => h0 s) ⟨t, Finset.mem_univ _, h1 t (by rw [ht]; exact EReal.coe_ne_bot _)⟩
  have e : ∀ s, rprob sc s * Ideal.ofBits .f32 0x43800000#32 = prob sc s := fun s => by rw [h2, h3, c256, EReal.coe_mul]
  unfold attS
  simp only [e]
  simp only [h2, h3]
  rw [coe_sum, coe_sum, ci256]
  have hp2 : 0 < ∑ s, r s * 256 := by rw [← Finset.sum_mul]; positivity
  have nz : ∀ y : ℝ, 0 < y → ((y : ℝ) : EReal) ≠ 0 := fun y hy => by rw [← EReal.coe_zero, Ne, EReal.coe_eq_coe_iff]; exact hy.ne'
  rw [Ideal.div, Ideal.div, if_neg (nz _ hp), if_neg (nz _ hp2), one_mul, ← EReal.coe_inv, ← EReal.coe_inv, ← Finset.sum_mul]
  congr 1
  have hc : (((∑ s, r s) * 256)⁻¹ : ℝ) = 1 / 256 * (∑ s, r s)⁻¹ := by field_simp
  rw [hc, EReal.coe_mul]
  simp only [mul_assoc]
  congr 1
  congr 1
  exact mul_comm _ _

/-! ### The scores are numbers -/

theorem clp_real (x : EReal) : ∃ r : ℝ, clp x = (r : EReal) := by
  have h1 : clp x ≤ ((448 : ℝ) : EReal) := by rw [clp, c448]; exact min_le_left _ _
  have h2 : ((-448 : ℝ) : EReal) ≤ clp x := by rw [clp, c448, cm448]; exact le_min (by rw [EReal.coe_le_coe_iff]; norm_num) (le_max_left _ _)
  exact ⟨(clp x).toReal, (EReal.coe_toReal (fun e => by rw [e, top_le_iff] at h1; exact EReal.coe_ne_top _ h1) (fun e => by rw [e, le_bot_iff] at h2; exact EReal.coe_ne_bot _ h2)).symm⟩

theorem scOf_good (n : Fin 16) (g : Qd) (f : Hd) (r : Fin 128) : Good (scOf n g f r) := by
  have key : ∀ s : Fin 2048, ∃ y : ℝ, (∑ d, kC f s d * qC g r d) * (kS f ⟨s.val / 64, by omega⟩ * (qS g * Ideal.ofBits .f32 0x3E0293EE#32)) = (y : EReal) := fun s => by
    have hk : ∀ d, ∃ y : ℝ, kC f s d = (y : EReal) := fun d => clp_real _
    have hq : ∀ d, ∃ y : ℝ, qC g r d = (y : EReal) := fun d => clp_real _
    choose a ha using hk
    choose b hb using hq
    obtain ⟨c, -, hc⟩ := smx_pos
    simp only [ha, hb, ← EReal.coe_mul]
    rw [coe_sum, hc, kS, qS, up1_eq, up1_eq, ← EReal.coe_mul, ← EReal.coe_mul, ← EReal.coe_mul]
    exact ⟨_, rfl⟩
  have yes : ∀ s : Fin 2048, s.val ≤ 128 * n.val + r.val → ∃ y : ℝ, scOf n g f r s = (y : EReal) := fun s h => by
    obtain ⟨y, hy⟩ := key s
    refine ⟨y, ?_⟩
    rw [← hy, scOf, scoreS]
    exact if_pos h
  refine ⟨fun s => ?_, ⟨0, by decide⟩, yes _ (Nat.zero_le _)⟩
  by_cases h : s.val ≤ 128 * n.val + r.val
  · exact .inr (yes s h)
  · exact .inl (if_neg h)

end Sage.Ref

end
-- ==== Proof.RefZ.lean ====
module

public import proofs.«01_k».proof.Proof.RefB
public import proofs.«01_k».proof.Proof.RefC
public import proofs.«01_k».proof.Proof.RefD
public import proofs.«01_k».proof.Proof.RefE
public import proofs.«01_k».proof.Proof.RefF
public import proofs.«01_k».proof.Proof.RefG
public import proofs.«01_k».proof.Proof.RefH
public import proofs.«01_k».proof.Proof.RefI
public import proofs.«01_k».proof.Proof.RefM

@[expose] public section

set_option maxRecDepth 16384

noncomputable section

namespace Sage.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-! What the reference computes, in the specification's words. -/

/-- Head `h` of sequence `b` of the keys and of the values; query head `h` of block `n`. -/
def kH (b : Fin 8) (h : Fin 8) : Hd := fun s d => A1 m c (ix3 b s ⟨h.val * 128 + d.val, by omega⟩)
def vH (b : Fin 8) (h : Fin 8) : Hd := fun s d => A2 m c (ix3 b s ⟨h.val * 128 + d.val, by omega⟩)
def qH (b : Fin 8) (n : Fin 16) (h : Fin 32) : Qd := fun r d => A0 m c (ix3 b ⟨n.val * 128 + r.val, by omega⟩ ⟨h.val * 128 + d.val, by omega⟩)

theorem refE_eq (x : EReal) : refE x = ((eInt x : ℝ) : EReal) := refE_int x
theorem mx_eq {n : ℕ} (f : Fin n → EReal) : mx f = Finset.univ.sup f := fold_max_sup f

theorem m9 (b h : Fin 8) (d : Fin 128) : x9 m c b h d = meanS (kH m c b h) d := (e9 m c b h d).trans (mean_eq _)
theorem m13 (b h : Fin 8) (d : Fin 128) : x13 m c b h d = meanS (vH m c b h) d := (e13 m c b h d).trans (mean_eq _)

theorem q33 (b : Fin 8) (n : Fin 16) (h : Fin 32) : x33 m c b n h = ((eInt (qA (qH m c b n h)) : ℝ) : EReal) := by
  rw [e33, refE_eq]; simp only [mx_eq, e14]; rfl
theorem q41 (b : Fin 8) (n : Fin 16) (r : Fin 128) (h : Fin 32) (d : Fin 128) : x41 m c b n r h d = qC (qH m c b n h) r d := by
  rw [e41, q33, lg2, exp_dn, e14]; rfl
theorem q45 (b : Fin 8) (n : Fin 16) (h : Fin 32) : x45 m c b n h = qS (qH m c b n h) := by
  rw [e45, q33, lg2, exp_up]; rfl

theorem k48 (b : Fin 8) (n : Fin 32) (r : Fin 64) (h : Fin 8) (d : Fin 128) : x48 m c b n r h d = cenS (kH m c b h) ⟨64 * n.val + r.val, by omega⟩ d := by
  rw [e48, e3, m9, show (⟨64 * n.val + r.val, by omega⟩ : Fin 2048) = ⟨n.val * 64 + r.val, by omega⟩ from Fin.ext (by show 64 * n.val + r.val = n.val * 64 + r.val; omega)]; rfl
theorem k67 (b : Fin 8) (n : Fin 32) (h : Fin 8) : x67 m c b n h = ((eInt (kA (kH m c b h) n) : ℝ) : EReal) := by
  rw [e67, refE_eq]; simp only [mx_eq, k48]; rfl
theorem k75 (b : Fin 8) (s : Fin 2048) (h : Fin 8) (d : Fin 128) : x75 m c b ⟨s.val / 64, by omega⟩ ⟨s.val % 64, by omega⟩ h d = kC (kH m c b h) s d := by
  rw [e75, k67, lg2, exp_dn, k48, kC, show (⟨64 * (s.val / 64) + s.val % 64, by omega⟩ : Fin 2048) = s from Fin.ext (by show 64 * (s.val / 64) + s.val % 64 = s.val; omega)]
theorem k79 (b : Fin 8) (n : Fin 32) (h : Fin 8) : x79 m c b n h = kS (kH m c b h) n := by
  rw [e79, k67, lg2, exp_up]; rfl

theorem v81 (b : Fin 8) (s : Fin 2048) (h : Fin 8) (d : Fin 128) : x81 m c b s h d = cenS (vH m c b h) s d := by
  rw [e81, e5, m13]; rfl
theorem v98 (b h : Fin 8) (d : Fin 128) : x98 m c b h d = ((eInt (vA (vH m c b h) d) : ℝ) : EReal) := by
  rw [e98, refE_eq, e83]; simp only [mx_eq, v81]; rfl
theorem v106 (b : Fin 8) (s : Fin 2048) (h : Fin 8) (d : Fin 128) : x106 m c b s h d = vC (vH m c b h) s d := by
  rw [e106, v98, lg2, exp_dn, v81]; rfl
theorem v110 (b h : Fin 8) (d : Fin 128) : x110 m c b h d = vS (vH m c b h) d := by
  rw [e110, v98, lg2, exp_up]; rfl

theorem s141 (b h : Fin 8) (g : Fin 4) (p s : Fin 2048) :
    x141 m c b h g p s = scOf ⟨p.val / 128, by omega⟩ (qH m c b ⟨p.val / 128, by omega⟩ ⟨h.val * 4 + g.val, by omega⟩) (kH m c b h) ⟨p.val % 128, by omega⟩ s := by
  rw [e141, score_eq, scOf, scoreS]
  simp only [k75, q41, q45, k79]
  have hp : 128 * (p.val / 128) + p.val % 128 = p.val := by omega
  simp only [hp]

theorem s149 (b h : Fin 8) (g : Fin 4) (p s : Fin 2048) :
    x149 m c b h g p s = rprob (scOf ⟨p.val / 128, by omega⟩ (qH m c b ⟨p.val / 128, by omega⟩ ⟨h.val * 4 + g.val, by omega⟩) (kH m c b h) ⟨p.val % 128, by omega⟩) s := by
  rw [e149, mx_eq]; simp only [s141]; rfl

/-- The reference's attention result, for every sequence, token, head and lane. -/
theorem o167 (b : Fin 8) (p : Fin 2048) (h : Fin 8) (g : Fin 4) (d : Fin 128) :
    x167 m c b p h g d = outS ⟨p.val / 128, by omega⟩ (qH m c b ⟨p.val / 128, by omega⟩ ⟨h.val * 4 + g.val, by omega⟩) (kH m c b h) (vH m c b h) ⟨p.val % 128, by omega⟩ d := by
  rw [e167, e150]
  simp only [e153, s149, v106]
  rw [e115, v110, m13]
  exact att_eq (scOf_good _ _ _ _) _ _ _

end Sage.Ref

end
-- ==== Proof.BodyV.lean ====
module

public import proofs.«01_k».proof.Proof.AttW

@[expose] public section

set_option maxRecDepth 16384

noncomputable section

namespace Sage

open Idealize.ShloMosaic Idealize.SL.Sem

theorem isBlk_iff : ∀ b m : Fin 16, isBlk (BitVec.ofNat 32 b.val) (BitVec.ofNat 32 m.val) = 1#1 ↔ b = m := by decide +kernel

/-- The attention of block `b` is in place over `σ0`. -/
structure Done (kk vv : S1x2048x1024.Idx → EReal) (x : S1x128x4096.Idx → EReal) (b : Fin 16) (σ0 σ : Sg) : Prop where
  oth : ∀ n, attW n = false → σ n = σ0 n
  out : ∀ (r : Fin 128) (h : Fin 32) (d : Fin 128), σ .out (ix3 0 r ⟨128 * h.val + d.val, by omega⟩) =
    outS b (qdOf x h) (hdOf kk ⟨h.val / 4, by omega⟩) (hdOf vv ⟨h.val / 4, by omega⟩) r d

section
variable {kk vv : S1x2048x1024.Idx → EReal} {x : S1x128x4096.Idx → EReal}

theorem prep1_of {σ σ' : Sg} {h : Fin 8} (e : ∀ n, headW n = true → σ' n = σ n) (p : Prep1 kk vv h σ) : Prep1 kk vv h σ' :=
  ⟨fun d => (congrFun (e .vm rfl) _).trans (p.vm d), fun d => (congrFun (e .vs rfl) _).trans (p.vs d), fun b l => (congrFun (e .ks rfl) _).trans (p.ks b l),
    fun s d => (congrFun (e .kc rfl) _).trans (p.kc s d), fun s d => (congrFun (e .vt rfl) _).trans (p.vt s d)⟩

theorem quantP_of {σ σ' : Sg} (e : ∀ n, attW n = false → σ' n = σ n) (q : QuantP x σ) : QuantP x σ' :=
  ⟨fun h l => (congrFun (e .qs rfl) _).trans (q.qs h l), fun g r j d => (congrFun (e .qw rfl) _).trans (q.qw g r j d), fun r h d => (congrFun (e .qc rfl) _).trans (q.qc r h d)⟩

theorem attCond_spec {α : Type} (Post : α × Sg → Prop) (b m : Fin 16) (f : Fin 8) (half : Bool) (hm : m.val = 2 * f.val + (if half then 0 else 1)) {σ0 σ : Sg}
    (P : ∀ h, Prep1 kk vv h σ0) (Q : QuantP x σ0) (J : (b.val < m.val → Done kk vv x b σ0 σ) ∧ (m.val ≤ b.val → σ = σ0)) {k : Cmd (Elt Ideal) α}
    (hk : ∀ σ' : Sg, (b.val < m.val + 1 → Done kk vv x b σ0 σ') ∧ (m.val + 1 ≤ b.val → σ' = σ0) → Post (k.sem σ')) :
    Post ((attCond (BitVec.ofNat 32 b.val) (BitVec.ofNat 32 m.val) f half k).sem σ) := by
  unfold attCond
  rw [sem_cond]
  split
  · next e =>
    have e := (isBlk_iff b m).mp e
    subst e
    have eσ := J.2 (le_refl _)
    subst eσ
    rw [sem_loop]
    have H := iter_inv (n := headLoop.trips) (f := fun t (_ : PUnit) => (attend (F := Ideal) f half t).sem) (fun T _ σ' => (∀ n, attW n = false → σ' n = σ n) ∧
        ∀ (r : Fin 128) (h : Fin 32) (d : Fin 128), h.val / 4 < T → σ' .out (ix3 0 r ⟨128 * h.val + d.val, by omega⟩) =
          outS b (qdOf x h) (hdOf kk ⟨h.val / 4, by omega⟩) (hdOf vv ⟨h.val / 4, by omega⟩) r d)
      (fun t a σ' h => by
        obtain ⟨h0, h1⟩ := h
        refine ⟨fun n hn => (sem_keeps hn _ (only_attend (fun _ h => h) f half t) σ').trans (h0 n hn), fun r h d hh => ?_⟩
        refine (attend_spec f half b hm (prep1_of (fun n hn => h0 n (by revert hn; cases n <;> decide)) (P (hF t))) (quantP_of h0 Q) r h d).trans ?_
        by_cases e : h.val / 4 = t.val
        · rw [if_pos e]
          have e' : hF t = ⟨h.val / 4, by omega⟩ := Fin.ext e.symm
          rw [e']
        · rw [if_neg e]; exact h1 r h d (by omega))
      (b := PUnit.unit) (σ := σ) ⟨fun _ _ => rfl, fun r h d hh => absurd hh (Nat.not_lt_zero _)⟩
    refine hk _ ⟨fun _ => ⟨H.1, fun r h d => H.2 r h d (by rw [head_trips]; omega)⟩, fun hlt => absurd hlt (by omega)⟩
  · next e =>
    have e : b.val ≠ m.val := fun h => e ((isBlk_iff b m).mpr (Fin.ext h))
    exact hk σ ⟨fun h => J.1 (by omega), fun h => J.2 (by omega)⟩

/-- What the body leaves at block `b`. -/
structure BodyP (kk vv : S1x2048x1024.Idx → EReal) (x : S1x128x4096.Idx → EReal) (b : Fin 16) (qold : S1x32x16.Idx → EReal) (σ : Sg) : Prop where
  prep : PrepP kk vv σ
  qc : ∀ r h d, σ .qc (ix4 0 r h d) = qC (qdOf x h) r d
  qsc : ∀ (h : Fin 32) (c : Fin 16), σ .qsc (ix3 0 h c) = if c = b then qS (qdOf x h) else if b.val = 0 then 0 else qold (ix3 0 h c)
  out : ∀ (r : Fin 128) (h : Fin 32) (d : Fin 128), σ .out (ix3 0 r ⟨128 * h.val + d.val, by omega⟩) =
    outS b (qdOf x h) (hdOf kk ⟨h.val / 4, by omega⟩) (hdOf vv ⟨h.val / 4, by omega⟩) r d

theorem prepP_of {σ σ' : Sg} (e : ∀ n, prepW n = true → n ≠ .qsc → n ≠ .tmp → σ' n = σ n) (p : PrepP kk vv σ) : PrepP kk vv σ' :=
  ⟨fun h => prep1_of (fun n hn => e n (by revert hn; cases n <;> decide) (by revert hn; cases n <;> decide) (by revert hn; cases n <;> decide)) (p.hd h),
    fun h b => (congrFun (e .ksc rfl (by decide) (by decide)) _).trans (p.ksc h b), fun h b => (congrFun (e .vsc rfl (by decide) (by decide)) _).trans (p.vsc h b),
    fun s h d => (congrFun (e .kco rfl (by decide) (by decide)) _).trans (p.kco s h d), fun s h d => (congrFun (e .vco rfl (by decide) (by decide)) _).trans (p.vco s h d)⟩

theorem heads_all : ∀ h : Fin 32, h ∈ heads4 ∨ h = 3 ∨ h ∈ ([0, 1, 2] : List (Fin 32)) := by decide +kernel

theorem body_spec (b : Fin 16) (σ : Sg) (hp : b.val ≠ 0 → PrepP (σ .k) (σ .v) σ) :
    BodyP (σ .k) (σ .v) (σ .x) b (σ .qsc) ((body (F := Ideal) (BitVec.ofNat 32 b.val)).sem σ).2 := by
  let Post : PUnit × Sg → Prop := fun q => BodyP (σ .k) (σ .v) (σ .x) b (σ .qsc) q.2
  show Post _
  unfold body
  rw [sem_bnd]
  let Post1 : (Σ' (_ : BitVec 32), Vec Ideal S1x128x128 .bf16) × Sg → Prop := fun q => Post ((mid (BitVec.ofNat 32 b.val) q.1.1 q.1.2 fun _ => .bnd (ten (BitVec.ofNat 32 b.val) q.1.1) fun _ =>
    attCond (BitVec.ofNat 32 b.val) 12#32 6 true <| attCond (BitVec.ofNat 32 b.val) 13#32 6 false <| attCond (BitVec.ofNat 32 b.val) 14#32 7 true <|
    attCond (BitVec.ofNat 32 b.val) 15#32 7 false <| .ret PUnit.unit).sem q.2)
  show Post1 _
  -- once the keys and values are prepared
  have main : ∀ σ1 : Sg, σ1 .x = σ .x → PrepP (σ .k) (σ .v) σ1 → (∀ h c, c ≠ b → σ1 .qsc (ix3 0 h c) = if b.val = 0 then 0 else σ .qsc (ix3 0 h c)) →
      Post1 ((absRows [0, 1, 2] <| .ld .x (rX 3).toLoadRect (show 0 < S1x128x128.numel by decide) fun v =>
        .ret (⟨BitVec.ofNat 32 b.val, v⟩ : Σ' (_ : BitVec 32), Vec Ideal S1x128x128 .bf16)).sem σ1) := by
    intro σ1 hx P1 hq1
    refine absRows_spec Post1 [0, 1, 2] σ1 fun σ2 a2 b2 => ?_
    rw [sem_ld, sem_ret]
    show Post (Cmd.sem (mid _ _ _ _) σ2)
    unfold mid absRow
    rw [sem_std]
    have am3 := absRow_am σ2 3
    refine absRows_spec Post heads4 _ fun σ3 a3 b3 => ?_
    have x2 : σ2 .x = σ .x := (a2 _ (by decide)).trans hx
    have e3 : ∀ n, n ≠ .am → σ3 n = σ1 n := fun n hn => by rw [a3 n hn, stv_ne _ _ _ hn, a2 n hn]
    have am : ∀ h l, σ3 .am (ix2 h l) = qm (σ3 .x) h l := by
      intro h l
      rw [b3, am3, b2, stv_ne _ _ _ (by decide), e3 _ (by decide), x2, hx]
      rcases heads_all h with e | e | e
      · rw [if_pos e]
      · rw [e, if_pos rfl]; split_ifs <;> rfl
      · rw [if_pos e]; split_ifs with e1 e2
        · rfl
        · rw [e2]
        · rfl
    refine quantRest_spec Post _ σ3 am fun σ4 a4 Q4 q4 => ?_
    rw [e3 _ (by decide), hx] at Q4 q4
    have P4 : PrepP (σ .k) (σ .v) σ4 := prepP_of (fun n h1 h2 h3 => by
      rw [a4 n (by revert h1 h2 h3; cases n <;> decide), e3 n (by rintro rfl; cases h1)]) P1
    rw [sem_bnd]
    have fin : ∀ σ5, ((b.val < 16 → Done (σ .k) (σ .v) (σ .x) b σ4 σ5) ∧ (16 ≤ b.val → σ5 = σ4)) → Post (PUnit.unit, σ5) := by
      intro σ5 J
      have D := J.1 b.isLt
      refine ⟨prepP_of (fun n h1 h2 h3 => D.oth n (by revert h1; cases n <;> decide)) P4, fun r h d => ?_, fun h c => ?_, D.out⟩
      · exact (congrFun (D.oth .qc rfl) _).trans (Q4.qc r h d)
      · refine (congrFun (D.oth .qsc rfl) _).trans ((q4 h c).trans ?_)
        have e : BitVec.ofNat 32 c.val = BitVec.ofNat 32 b.val ↔ c = b := by
          rw [← BitVec.toNat_inj, BitVec.toNat_ofNat, BitVec.toNat_ofNat, Fin.ext_iff]; omega
        by_cases hc : c = b
        · rw [if_pos (e.mpr hc), if_pos hc]
        · rw [if_neg fun x => hc (e.mp x), if_neg hc, e3 _ (by decide)]; exact hq1 h c hc
    have go := fun {α : Type} (Post : α × Sg → Prop) (m : Fin 16) (f : Fin 8) (half : Bool) (hm : m.val = 2 * f.val + (if half then 0 else 1)) {σ' : Sg} J {k} hk =>
      attCond_spec (kk := σ .k) (vv := σ .v) (x := σ .x) Post b m f half hm (σ0 := σ4) (σ := σ') P4.hd Q4 J (k := k) hk
    let Post2 : BitVec 32 × Sg → Prop := fun q => Post ((Cmd.bnd (ten (BitVec.ofNat 32 b.val) (BitVec.ofNat 32 b.val)) fun _ =>
      attCond (BitVec.ofNat 32 b.val) 12#32 6 true <| attCond (BitVec.ofNat 32 b.val) 13#32 6 false <| attCond (BitVec.ofNat 32 b.val) 14#32 7 true <|
      attCond (BitVec.ofNat 32 b.val) 15#32 7 false <| .ret PUnit.unit).sem q.2)
    show Post2 _
    refine go Post2 0 0 true rfl ⟨fun h => absurd h (Nat.not_lt_zero _), fun _ => rfl⟩ fun s0 J0 => ?_
    refine go Post2 1 0 false rfl J0 fun s1 J1 => ?_
    show Post _
    rw [sem_bnd]
    let Post3 : BitVec 32 × Sg → Prop := fun q => Post (Cmd.sem (
      attCond (BitVec.ofNat 32 b.val) 12#32 6 true <| attCond (BitVec.ofNat 32 b.val) 13#32 6 false <| attCond (BitVec.ofNat 32 b.val) 14#32 7 true <|
      attCond (BitVec.ofNat 32 b.val) 15#32 7 false <| .ret PUnit.unit) q.2)
    show Post3 _
    unfold ten
    refine go Post3 2 1 true rfl J1 fun s2 J2 => ?_
    refine go Post3 3 1 false rfl J2 fun s3 J3 => ?_
    refine go Post3 4 2 true rfl J3 fun s4 J4 => ?_
    refine go Post3 5 2 false rfl J4 fun s5 J5 => ?_
    refine go Post3 6 3 true rfl J5 fun s6 J6 => ?_
    refine go Post3 7 3 false rfl J6 fun s7 J7 => ?_
    refine go Post3 8 4 true rfl J7 fun s8 J8 => ?_
    refine go Post3 9 4 false rfl J8 fun s9 J9 => ?_
    refine go Post3 10 5 true rfl J9 fun s10 J10 => ?_
    refine go Post3 11 5 false rfl J10 fun s11 J11 => ?_
    show Post _
    refine go Post 12 6 true rfl J11 fun s12 J12 => ?_
    refine go Post 13 6 false rfl J12 fun s13 J13 => ?_
    refine go Post 14 7 true rfl J13 fun s14 J14 => ?_
    refine go Post 15 7 false rfl J14 fun s15 J15 => ?_
    exact fin s15 J15
  unfold start
  dsimp only
  rw [sem_cond]
  have hb : isBlk (BitVec.ofNat 32 b.val) 0#32 = 1#1 ↔ b.val = 0 := (isBlk_iff b 0).trans ⟨fun h => by rw [h]; rfl, fun h => Fin.ext h⟩
  split
  · next e =>
    have e := hb.mp e
    refine prep_spec Post1 σ fun σ1 h0 h1 h2 => main σ1 (h0 _ rfl) h1 fun h c _ => ?_
    rw [if_pos e]; exact h2 _
  · next e =>
    have e : b.val ≠ 0 := fun h => e (hb.mpr h)
    refine main σ rfl (hp e) fun h c _ => ?_
    rw [if_neg e]
end

end Sage
-- ==== Proof.RunI.lean ====
module

public import proofs.«01_k».proof.Proof.FrameI
public import proofs.«01_k».proof.Proof.BodyV
public import Idealize.ShloMosaic.Lib.Pipeline.ValueKit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Sage Gen

local notation "𝕄" => MT nD τ sig Unit (Elt Ideal) ℕ (UR sig nD τ) ℕ

/-! ## What a block of each result holds -/

def outB (b : Fin 16) (x : S1x128x4096.Idx → EReal) (kk vv : S1x2048x1024.Idx → EReal) : S1x128x4096.Idx → EReal := fun j =>
  outS b (qdOf x ⟨(j 2).val / 128, by have : (j 2).val < 4096 := (j 2).isLt; omega⟩)
    (hdOf kk ⟨(j 2).val / 128 / 4, by have : (j 2).val < 4096 := (j 2).isLt; omega⟩)
    (hdOf vv ⟨(j 2).val / 128 / 4, by have : (j 2).val < 4096 := (j 2).isLt; omega⟩) (j 1) ⟨(j 2).val % 128, Nat.mod_lt _ (by decide)⟩

def qcB (x : S1x128x4096.Idx → EReal) : S1x128x32x128.Idx → EReal := fun j => qC (qdOf x (j 2)) (j 1) (j 3)
def qscB (b : Fin 16) (x : Fin 16 → S1x128x4096.Idx → EReal) : S1x32x16.Idx → EReal := fun j =>
  if (j 2).val ≤ b.val then qS (qdOf (x (j 2)) (j 1)) else 0
def kcoB (kk : S1x2048x1024.Idx → EReal) : S1x2048x8x128.Idx → EReal := fun j => kC (hdOf kk (j 2)) (j 1) (j 3)
def vcoB (vv : S1x2048x1024.Idx → EReal) : S1x2048x8x128.Idx → EReal := fun j => vC (hdOf vv (j 2)) (j 1) (j 3)
def kscB (kk : S1x2048x1024.Idx → EReal) : S1x8x32.Idx → EReal := fun j => kS (hdOf kk (j 1)) (j 2)
def vscB (vv : S1x2048x1024.Idx → EReal) : S1x8x128.Idx → EReal := fun j => vS (hdOf vv (j 1)) (j 2)

theorem ix3_of {n0 n1 n2 : Nat} (j : (⟨3, ![n0, n1, n2]⟩ : Shape).Idx) : j = ix3 (j 0) (j 1) (j 2) := by
  funext a; fin_cases a <;> rfl

theorem ix3_one {n1 n2 : Nat} (j : (⟨3, ![1, n1, n2]⟩ : Shape).Idx) : j = ix3 (n0 := 1) 0 (j 1) (j 2) := by
  funext a; fin_cases a
  · exact Subsingleton.elim (α := Fin 1) _ _
  · rfl
  · rfl

theorem ix4_one {n1 n2 n3 : Nat} (j : (⟨4, ![1, n1, n2, n3]⟩ : Shape).Idx) : j = ix4 (n0 := 1) 0 (j 1) (j 2) (j 3) := by
  funext a; fin_cases a
  · exact Subsingleton.elim (α := Fin 1) _ _
  · rfl
  · rfl
  · rfl

section
variable {kk vv : S1x2048x1024.Idx → EReal} {x : S1x128x4096.Idx → EReal} {b : Fin 16} {qold : S1x32x16.Idx → EReal} {σ : Sg}

theorem _root_.Sage.BodyP.out_eq (P : BodyP kk vv x b qold σ) : σ .out = outB b x kk vv := by
  funext j
  have h2 : (j 2).val < 4096 := (j 2).isLt
  have e := P.out (j 1) ⟨(j 2).val / 128, by omega⟩ ⟨(j 2).val % 128, Nat.mod_lt _ (by decide)⟩
  have ej : j = ix3 (n0 := 1) 0 (j 1) ⟨128 * ((j 2).val / 128) + (j 2).val % 128, by omega⟩ := by
    refine (ix3_one j).trans ?_
    congr 1; exact Fin.ext (Nat.div_add_mod _ _).symm
  exact (congrArg (σ .out) ej).trans e

theorem _root_.Sage.BodyP.qc_eq (P : BodyP kk vv x b qold σ) : σ .qc = qcB x := by
  funext j; exact (congrArg (σ .qc) (ix4_one j)).trans (P.qc _ _ _)

theorem _root_.Sage.BodyP.qsc_eq {xs : Fin 16 → S1x128x4096.Idx → EReal} (P : BodyP kk vv (xs b) b qold σ)
    (hq : ∀ b' : Fin 16, b.val = b'.val + 1 → qold = qscB b' xs) : σ .qsc = qscB b xs := by
  have key : ∀ (h : Fin 32) (l : Fin 16), σ .qsc (ix3 0 h l) = if l.val ≤ b.val then qS (qdOf (xs l) h) else 0 := by
    intro h l
    refine (P.qsc h l).trans ?_
    by_cases e : l = b
    · rw [if_pos e, if_pos (le_of_eq (congrArg Fin.val e)), e]
    · rw [if_neg e]
      have ne : l.val ≠ b.val := fun h => e (Fin.ext h)
      by_cases b0 : b.val = 0
      · rw [if_pos b0, if_neg (by omega)]
      · rw [if_neg b0, hq ⟨b.val - 1, by omega⟩ (by show b.val = b.val - 1 + 1; omega)]
        show (if l.val ≤ b.val - 1 then _ else _) = _
        by_cases le : l.val ≤ b.val
        · rw [if_pos le, if_pos (by omega)]; rfl
        · rw [if_neg le, if_neg (by omega)]
  funext j
  exact (congrArg (σ .qsc) (ix3_one j)).trans (key _ _)

theorem _root_.Sage.BodyP.kco_eq (P : PrepP kk vv σ) : σ .kco = kcoB kk := by
  funext j; exact (congrArg (σ .kco) (ix4_one j)).trans (P.kco _ _ _)
theorem _root_.Sage.BodyP.vco_eq (P : PrepP kk vv σ) : σ .vco = vcoB vv := by
  funext j; exact (congrArg (σ .vco) (ix4_one j)).trans (P.vco _ _ _)
theorem _root_.Sage.BodyP.ksc_eq (P : PrepP kk vv σ) : σ .ksc = kscB kk := by
  funext j; exact (congrArg (σ .ksc) (ix3_one j)).trans (P.ksc _ _)
theorem _root_.Sage.BodyP.vsc_eq (P : PrepP kk vv σ) : σ .vsc = vscB vv := by
  funext j; exact (congrArg (σ .vsc) (ix3_one j)).trans (P.vsc _ _)
end

/-! ## The points of the grid -/

def bt (t : Fin cfg0.N) : Fin 8 := ⟨t.val / 16, by have : t.val < 128 := t.isLt; omega⟩
def nt (t : Fin cfg0.N) : Fin 16 := ⟨t.val % 16, Nat.mod_lt _ (by decide)⟩

theorem coords1 : ∀ t : Fin grid0.N, ((grid0.coords t) 1).val = t.val % 16 := by decide +kernel

variable (m : (ℓ : Loc nD τ sig) → Buf (Elt Ideal) ℓ)

def xB (c : Dev nD) (b : Fin 8) (n : Fin 16) : S1x128x4096.Idx → EReal := fun y =>
  V m c main_arg0 (ix3 b ⟨n.val * 128 + (y 1).val, by have : (y 1).val < 128 := (y 1).isLt; omega⟩ (y 2))
def kB (c : Dev nD) (b : Fin 8) : S1x2048x1024.Idx → EReal := fun y => V m c main_arg1 (ix3 b (y 1) (y 2))
def vB (c : Dev nD) (b : Fin 8) : S1x2048x1024.Idx → EReal := fun y => V m c main_arg2 (ix3 b (y 1) (y 2))

theorem e0 : ∀ t : Fin cfg0.N, win0_0.index t = ![t.val / 16, t.val % 16, 0] := (by decide +kernel : ∀ t : Fin grid0.N, _)
theorem e1 : ∀ t : Fin cfg0.N, win0_1.index t = ![t.val / 16, 0, 0] := (by decide +kernel : ∀ t : Fin grid0.N, _)
theorem e2 : ∀ t : Fin cfg0.N, win0_2.index t = ![t.val / 16, 0, 0] := (by decide +kernel : ∀ t : Fin grid0.N, _)
theorem e3 : ∀ t : Fin cfg0.N, win0_3.index t = ![t.val / 16, t.val % 16, 0] := (by decide +kernel : ∀ t : Fin grid0.N, _)
theorem e4 : ∀ t : Fin cfg0.N, win0_4.index t = ![t.val / 16, t.val % 16, 0, 0] := (by decide +kernel : ∀ t : Fin grid0.N, _)
theorem e5 : ∀ t : Fin cfg0.N, win0_5.index t = ![t.val / 16, 0, 0] := (by decide +kernel : ∀ t : Fin grid0.N, _)
theorem e6 : ∀ t : Fin cfg0.N, win0_6.index t = ![t.val / 16, 0, 0, 0] := (by decide +kernel : ∀ t : Fin grid0.N, _)
theorem e7 : ∀ t : Fin cfg0.N, win0_7.index t = ![t.val / 16, 0, 0] := (by decide +kernel : ∀ t : Fin grid0.N, _)
theorem e8 : ∀ t : Fin cfg0.N, win0_8.index t = ![t.val / 16, 0, 0, 0] := (by decide +kernel : ∀ t : Fin grid0.N, _)
theorem e9 : ∀ t : Fin cfg0.N, win0_9.index t = ![t.val / 16, 0, 0] := (by decide +kernel : ∀ t : Fin grid0.N, _)

theorem iblk0 (c : Dev nD) (t : Fin cfg0.N) : iblk m c 0 t = xB m c (bt t) (nt t) := by
  funext y
  blk_simp [iblk]
  unfold xB
  congr 1
  blk_ext [e0, bt, nt]

theorem iblk1 (c : Dev nD) (t : Fin cfg0.N) : iblk m c 1 t = kB m c (bt t) := by
  funext y
  blk_simp [iblk]
  unfold kB
  congr 1
  blk_ext [e1, bt]

theorem iblk2 (c : Dev nD) (t : Fin cfg0.N) : iblk m c 2 t = vB m c (bt t) := by
  funext y
  blk_simp [iblk]
  unfold vB
  congr 1
  blk_ext [e2, bt]

/-! ## The proof data -/

/-- What the body leaves in each window at each point. -/
def aftV (c : Dev nD) (w : Fin cfg0.W) (t : Fin cfg0.N) : (cfg0.win w).block.Idx → Elt Ideal (cfg0.win w).elt :=
  match w with
  | 0 => iblk m c 0 t
  | 1 => iblk m c 1 t
  | 2 => iblk m c 2 t
  | 3 => outB (nt t) (xB m c (bt t) (nt t)) (kB m c (bt t)) (vB m c (bt t))
  | 4 => qcB (xB m c (bt t) (nt t))
  | 5 => qscB (nt t) (xB m c (bt t))
  | 6 => kcoB (kB m c (bt t))
  | 7 => kscB (kB m c (bt t))
  | 8 => vcoB (vB m c (bt t))
  | 9 => vscB (vB m c (bt t))

/-- What the scratch buffers hold before point `t`: within a batch, its prepared keys and values. -/
def Inv (c : Dev nD) (t : Fin (cfg0.N + 1)) (σ : Sg) : Prop :=
  ∀ h : t.val < cfg0.N, t.val % 16 ≠ 0 → ∀ g, Prep1 (kB m c (bt ⟨t.val, h⟩)) (vB m c (bt ⟨t.val, h⟩)) g σ

def PhiV (c : Dev nD) (t : Fin (cfg0.N + 1)) : sProp 𝕄 :=
  iprop(∃ σ : Sg, ⌜Inv m c t σ⌝ ∗ scr c σ ∗ ∃ r, prngReg c r)

def datV (c : Dev nD) : Dat τ (Elt Ideal) Unit ℕ (UR sig nD τ) ℕ cfg0 c where
  A w := V m c (Pipeline.arrRef spec0 w)
  after := aftV m c
  Φ := PhiV m c
  q _ := fullShare
  owed _ := 0

def datsV : (p : Fin 1) → (c : Dev nD) → Dat τ (Elt Ideal) Unit ℕ (UR sig nD τ) ℕ (cfgs p) c
  | 0, c => datV m c

theorem phi_in (c : Dev nD) : (Pipeline.ΦA spec0 c : sProp 𝕄) ⊢ PhiV m c 0 := by
  refine (scratch_elim (F := Ideal) c).trans ?_
  unfold PhiV
  iintro ⟨%σ, H, Hg⟩
  iexists σ
  isplitr
  · ipureintro; exact fun _ h => absurd rfl h
  isplitl [H]; · iexact H
  iexact Hg

theorem phi_out (c : Dev nD) (t : Fin (cfg0.N + 1)) : PhiV m c t ⊢ (Pipeline.ΦA spec0 c : sProp 𝕄) := by
  unfold PhiV
  iintro ⟨%σ, -, H, Hg⟩
  iapply scratch_intro (F := Ideal) c σ
  isplitl [H]; · iexact H
  iexact Hg

def preV (c : Dev nD) (t : Fin cfg0.N) : sProp 𝕄 :=
  iprop(PhiV m c t.castSucc ∗ (datV m c).owesAt () t.castSucc
    ∗ (∃ d, owns (c : Thread nD τ) (st0_0 t) fullShare ((datV m c).before 0 t d))
    ∗ (∃ d, owns (c : Thread nD τ) (st0_1 t) fullShare ((datV m c).before 1 t d))
    ∗ (∃ d, owns (c : Thread nD τ) (st0_2 t) fullShare ((datV m c).before 2 t d))
    ∗ (∃ d, owns (c : Thread nD τ) (st0_3 t) fullShare ((datV m c).before 3 t d))
    ∗ (∃ d, owns (c : Thread nD τ) (st0_4 t) fullShare ((datV m c).before 4 t d))
    ∗ (∃ d, owns (c : Thread nD τ) (st0_5 t) fullShare ((datV m c).before 5 t d))
    ∗ (∃ d, owns (c : Thread nD τ) (st0_6 t) fullShare ((datV m c).before 6 t d))
    ∗ (∃ d, owns (c : Thread nD τ) (st0_7 t) fullShare ((datV m c).before 7 t d))
    ∗ (∃ d, owns (c : Thread nD τ) (st0_8 t) fullShare ((datV m c).before 8 t d))
    ∗ (∃ d, owns (c : Thread nD τ) (st0_9 t) fullShare ((datV m c).before 9 t d)))

theorem bt_pred (t : Fin cfg0.N) (h : t.val % 16 ≠ 0) : bt ⟨t.val - 1, Nat.lt_of_le_of_lt (Nat.sub_le _ _) t.isLt⟩ = bt t :=
  Fin.ext (show (t.val - 1) / 16 = t.val / 16 by omega)

theorem noflush {w : Fin cfg0.W} (hw : ∀ t : Fin cfg0.N, (cfg0.win w).flush t = true ↔ t.val % 16 = 15) (t : Fin cfg0.N) (h : t.val % 16 ≠ 0) :
    (cfg0.win w).flush ⟨t.val - 1, Nat.lt_of_le_of_lt (Nat.sub_le _ _) t.isLt⟩ = false :=
  Bool.eq_false_iff.mpr fun e => by have := (hw _).mp e; dsimp only at this; omega

/-- Within a batch an output window kept between points holds what the point before left. -/
theorem before_kept (c : Dev nD) (w : Fin cfg0.W) (hw : (cfg0.win w).isOut = true) (hf : ∀ t : Fin cfg0.N, (cfg0.win w).flush t = true ↔ t.val % 16 = 15)
    (hidle : ∀ i, cfg0.idle w i = false)
    (hclip : ∀ (i : cfg0.grid.Coords) a, (cfg0.win w).clip i a = none) (t : Fin cfg0.N) (h : t.val % 16 ≠ 0) (d) :
    (datV m c).before w t d = aftV m c w ⟨t.val - 1, Nat.lt_of_le_of_lt (Nat.sub_le _ _) t.isLt⟩ :=
  (datV m c).before_out_kept w hw t (fun e => h (by rw [e])) (noflush hf t h) hidle hclip d

theorem live3 : ∀ t : Fin cfg0.N, cfg0.idle 3 (cfg0.grid.coords t) = false := (by decide +kernel : ∀ t : Fin grid0.N, _)
theorem idle_mod6 : ∀ t : Fin cfg0.N, cfg0.idle 6 (cfg0.grid.coords t) = true → t.val % 16 ≠ 0 := (by decide +kernel : ∀ t : Fin grid0.N, _)
theorem idle_mod7 : ∀ t : Fin cfg0.N, cfg0.idle 7 (cfg0.grid.coords t) = true → t.val % 16 ≠ 0 := (by decide +kernel : ∀ t : Fin grid0.N, _)
theorem idle_mod8 : ∀ t : Fin cfg0.N, cfg0.idle 8 (cfg0.grid.coords t) = true → t.val % 16 ≠ 0 := (by decide +kernel : ∀ t : Fin grid0.N, _)
theorem idle_mod9 : ∀ t : Fin cfg0.N, cfg0.idle 9 (cfg0.grid.coords t) = true → t.val % 16 ≠ 0 := (by decide +kernel : ∀ t : Fin grid0.N, _)

/-- A window written once a batch, and left alone at the batch's other points, holds throughout what its first point left. -/
theorem before_held (c : Dev nD) (w : Fin cfg0.W) (hw : (cfg0.win w).isOut = true) (hf : ∀ t : Fin cfg0.N, (cfg0.win w).flush t = true ↔ t.val % 16 = 15)
    (hidle : ∀ t : Fin cfg0.N, cfg0.idle w (cfg0.grid.coords t) = true → t.val % 16 ≠ 0)
    (hclip : ∀ (i : cfg0.grid.Coords) a, (cfg0.win w).clip i a = none)
    (G : Fin 8 → (cfg0.win w).block.Idx → Elt Ideal (cfg0.win w).elt) (hG : ∀ t, aftV m c w t = G (bt t)) (d) :
    ∀ (n : ℕ) (t : Fin cfg0.N) (_ : t.val = n) (_ : t.val % 16 ≠ 0), (datV m c).before w t d = G (bt t)
  | 0, t, e, h => absurd (by rw [e]) h
  | n + 1, t, e, h => by
    rw [(datV m c).before_of_pos w t (by omega) ((cfg0.win w).fetch_out hw t), noflush hf t h, if_neg Bool.false_ne_true]
    unfold Dat.left
    rw [← bt_pred t h]
    generalize ht' : (⟨t.val - 1, Nat.lt_of_le_of_lt (Nat.sub_le _ _) t.isLt⟩ : Fin cfg0.N) = t'
    have e' : t'.val = n := by rw [← ht']; show t.val - 1 = n; omega
    cases hi : cfg0.idle w (cfg0.grid.coords t')
    · show (datV m c).kept w t' d = _
      unfold Dat.kept
      rw [Pipeline.fill_of_clip_none w _ (hclip _) d ((datV m c).after w _), Pipeline.Window.fill_cut]
      exact hG t'
    · exact before_held c w hw hf hidle hclip G hG d n t' e' (hidle t' hi)

/-- What a point owes of a window: what it left there, or, where it leaves the window alone, what it found. -/
def owed (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((datV m c).before w t d))
    | true => owns (c : Thread nD τ) ((cfg0.win w).stage (cfg0.slots t w)) fullShare ((datV m c).after w t)
  | false => owns (c : Thread nD τ) ((cfg0.win w).stage (cfg0.slots t w)) fullShare ((datV m c).after w t)

theorem owed_live (c : Dev nD) (w : Fin cfg0.W) (t : Fin cfg0.N) (hi : cfg0.idle w (cfg0.grid.coords t) = false) :
    owns (c : Thread nD τ) ((cfg0.win w).stage (cfg0.slots t w)) fullShare (aftV m c w t) ⊢ owed m c w t := by
  unfold owed
  rw [hi]
  exact .rfl

theorem owed_of (c : Dev nD) (w : Fin cfg0.W) (t : Fin cfg0.N) (hidle : cfg0.idle w (cfg0.grid.coords t) = true → t.val % 16 ≠ 0) (d)
    (h : t.val % 16 ≠ 0 → (datV m c).before w t d = aftV m c w t) :
    owns (c : Thread nD τ) ((cfg0.win w).stage (cfg0.slots t w)) fullShare (aftV m c w t) ⊢ owed m c w t := by
  unfold owed
  cases hi : cfg0.idle w (cfg0.grid.coords t)
  · exact .rfl
  · cases (cfg0.win w).flush t
    · dsimp only
      rw [← h (hidle hi)]
      iintro H
      iexists d
      iexact H
    · exact .rfl

def postV (c : Dev nD) (t : Fin cfg0.N) : sProp 𝕄 :=
  iprop(PhiV m c t.succ ∗ (datV m c).owesAt () t.succ
    ∗ owed m c 0 t
    ∗ owed m c 1 t
    ∗ owed m c 2 t
    ∗ owed m c 3 t
    ∗ owed m c 4 t
    ∗ owed m c 5 t
    ∗ owed m c 6 t ∗ owed m c 7 t ∗ owed m c 8 t ∗ owed m c 9 t)

/-- The body's specification at a point. -/
theorem body_pt (c : Dev nD) (t : Fin cfg0.N) (σ : Sg) (hx : σ .x = xB m c (bt t) (nt t)) (hk : σ .k = kB m c (bt t)) (hv : σ .v = vB m c (bt t))
    (hI : t.val % 16 ≠ 0 → PrepP (kB m c (bt t)) (vB m c (bt t)) σ) :
    BodyP (kB m c (bt t)) (vB m c (bt t)) (xB m c (bt t) (nt t)) (nt t) (σ .qsc) ((Sage.body (F := Ideal) (BitVec.ofNat 32 ((grid0.coords t) 1).val)).sem σ).2 := by
  have h := body_spec (nt t) σ (fun h => by rw [hk, hv]; exact hI h)
  rw [hx, hk, hv] at h
  rw [coords1]
  exact h

theorem sound_V (c : Dev nD) (t : Fin cfg0.N) :
    preV m c t ⊢ wp Idealize.ShloMosaic.frame (wpE (defs₀ (F := Ideal)) Variants.none c none) Set.univ (bodyAt0 t) (fun _ => postV m c t) := by
  unfold preV
  iintro ⟨HΦ, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0_0_of m (datV m c) rfl (fun _ => rfl) t d0, before0_1_of m (datV m c) rfl (fun _ => rfl) t d1,
    before0_2_of m (datV m c) rfl (fun _ => rfl) t d2]
  have b5 := fun h => (before_kept m c 5 rfl flush0_5 (fun _ => rfl) (fun _ _ => rfl) t h d5)
  have b6 : t.val % 16 ≠ 0 → (datV m c).before 6 t d6 = kcoB (kB m c (bt t)) := fun h =>
    before_held m c 6 rfl flush0_6 idle_mod6 (fun _ _ => rfl) (fun b => kcoB (kB m c b)) (fun _ => rfl) d6 _ t rfl h
  have o6 := owed_of m c 6 t (idle_mod6 t) d6 b6
  have b7 : t.val % 16 ≠ 0 → (datV m c).before 7 t d7 = kscB (kB m c (bt t)) := fun h =>
    before_held m c 7 rfl flush0_7 idle_mod7 (fun _ _ => rfl) (fun b => kscB (kB m c b)) (fun _ => rfl) d7 _ t rfl h
  have o7 := owed_of m c 7 t (idle_mod7 t) d7 b7
  have b8 : t.val % 16 ≠ 0 → (datV m c).before 8 t d8 = vcoB (vB m c (bt t)) := fun h =>
    before_held m c 8 rfl flush0_8 idle_mod8 (fun _ _ => rfl) (fun b => vcoB (vB m c b)) (fun _ => rfl) d8 _ t rfl h
  have o8 := owed_of m c 8 t (idle_mod8 t) d8 b8
  have b9 : t.val % 16 ≠ 0 → (datV m c).before 9 t d9 = vscB (vB m c (bt t)) := fun h =>
    before_held m c 9 rfl flush0_9 idle_mod9 (fun _ _ => rfl) (fun b => vscB (vB m c b)) (fun _ => rfl) d9 _ t rfl h
  have o9 := owed_of m c 9 t (idle_mod9 t) d9 b9
  generalize (datV m c).before 3 t d3 = X3
  generalize (datV m c).before 4 t d4 = X4
  generalize (datV m c).before 5 t d5 = X5 at b5 ⊢
  generalize (datV m c).before 6 t d6 = X6 at b6 ⊢
  generalize (datV m c).before 7 t d7 = X7 at b7 ⊢
  generalize (datV m c).before 8 t d8 = X8 at b8 ⊢
  generalize (datV m c).before 9 t d9 = X9 at b9 ⊢
  unfold PhiV
  icases HΦ with ⟨%σ, %hI, HS, Hg⟩
  iapply (body_at c t (withWins σ (mkW (iblk m c 0 t) (iblk m c 1 t) (iblk m c 2 t) X3 X4 X5 X6 X7 X8 X9)) (fun _ => postV m c t))
  rw [wins_with, scr_with]
  have P0 : t.val % 16 ≠ 0 → PrepP (kB m c (bt t)) (vB m c (bt t)) (withWins σ (mkW (iblk m c 0 t) (iblk m c 1 t) (iblk m c 2 t) X3 X4 X5 X6 X7 X8 X9)) := fun h =>
    ⟨fun g => let p := hI t.isLt h g; ⟨p.vm, p.vs, p.ks, p.kc, p.vt⟩, fun g b => congrFun (b7 h) (ix3 0 g b), fun g d => congrFun (b9 h) (ix3 0 g d),
      fun s g d => congrFun (b6 h) (ix4 0 s g d), fun s g d => congrFun (b8 h) (ix4 0 s g d)⟩
  generalize hσ : (withWins σ (mkW (iblk m c 0 t) (iblk m c 1 t) (iblk m c 2 t) X3 X4 X5 X6 X7 X8 X9)) = ρ at P0 ⊢
  have B := body_pt m c t ρ (hσ ▸ iblk0 m c t) (hσ ▸ iblk1 m c t) (hσ ▸ iblk2 m c t) P0
  have hx := (sem_keeps (m := .x) rfl _ (only_body (F := Ideal) (BitVec.ofNat 32 ((grid0.coords t) 1).val)) ρ).trans (show ρ .x = iblk m c 0 t from hσ ▸ rfl)
  have hk := (sem_keeps (m := .k) rfl _ (only_body (F := Ideal) (BitVec.ofNat 32 ((grid0.coords t) 1).val)) ρ).trans (show ρ .k = iblk m c 1 t from hσ ▸ rfl)
  have hv := (sem_keeps (m := .v) rfl _ (only_body (F := Ideal) (BitVec.ofNat 32 ((grid0.coords t) 1).val)) ρ).trans (show ρ .v = iblk m c 2 t from hσ ▸ rfl)
  have hq : ρ .qsc = X5 := hσ ▸ rfl
  rw [hq] at B
  generalize ((Sage.body (BitVec.ofNat 32 ((grid0.coords t) 1).val)).sem ρ).2 = ρ' at hx hk hv B ⊢
  have q5 : ρ' .qsc = qscB (nt t) (xB m c (bt t)) := B.qsc_eq fun b' e => by
    have e : t.val % 16 = b'.val + 1 := e
    have h : t.val % 16 ≠ 0 := by omega
    refine (b5 h).trans ?_
    show qscB _ (xB m c (bt _)) = _
    rw [bt_pred t h]
    congr 1
    exact Fin.ext (show (t.val - 1) % 16 = b'.val by omega)
  have I' : Inv m c t.succ ρ' := fun h h' g => by
    have e : bt ⟨t.succ.val, h⟩ = bt t := Fin.ext (show (t.val + 1) / 16 = t.val / 16 by
      have : (t.val + 1) % 16 ≠ 0 := h'
      omega)
    rw [e]; exact B.prep.hd g
  isplitl [H0 H1 H2 H3 H4 H5 H6 H7 H8 H9]
  · unfold wins mkW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]; · iexact HS
  unfold postV wins PhiV
  rw [hx, hk, hv, B.out_eq, B.qc_eq, q5, Sage.BodyP.kco_eq B.prep, BodyP.ksc_eq B.prep, BodyP.vco_eq B.prep, BodyP.vsc_eq B.prep]
  iintro ⟨⟨H0, H1, H2, H3, H4, H5, H6, H7, H8, H9⟩, HS⟩
  isplitl [HS Hg]
  · iexists ρ'
    isplitr
    · ipureintro; exact I'
    isplitl [HS]; · iexact HS
    iexact Hg
  isplitl [HW]
  · iexact HW
  isplitl [H0]; · iapply (owed_live m c 0 t rfl); iexact H0
  isplitl [H1]; · iapply (owed_live m c 1 t rfl); iexact H1
  isplitl [H2]; · iapply (owed_live m c 2 t rfl); iexact H2
  isplitl [H3]; · iapply (owed_live m c 3 t (live3 t)); iexact H3
  isplitl [H4]; · iapply (owed_live m c 4 t rfl); iexact H4
  isplitl [H5]; · iapply (owed_live m c 5 t rfl); iexact H5
  isplitl [H6]; · iapply o6; iexact H6
  isplitl [H7]; · iapply o7; iexact H7
  isplitl [H8]; · iapply o8; iexact H8
  iapply o9; iexact H9

theorem obligation_V (c : Dev nD) :
    BodyObligation (datsV m 0 c) (defs₀ (F := Ideal)) Variants.none () Set.univ := fun t => by
  rw [bigSep_W0, bigSep_W0, defs₀_row]
  refine triple_restated (sound_V m c t) rfl .rfl fun _ => ?_
  unfold postV owed
  exact .rfl

set_option backward.isDefEq.respectTransparency.types false in
theorem run_V (ρ : Dev nD → PrngReg) : θ_run defs (onTc (τ := τ) (main (F := Ideal))) ⟨m, fun _ => 0, ρ⟩ (Pipeline.FramePost cfgs (datsV m) 0 (V m)) :=
  Pipeline.θ_run_frame_track cfgs (datsV m) (0 : Fin 1) launch0 defs₀ Variants.none m ρ main
    (hbody := fun c => (obligation_V m c).loose) (hshare := fun c => (datsV m 0 c).share_full fun _ => rfl)
    (howed := fun _ _ => rfl) (V := V m) (hmain := hmain m Variants.none) (hA := fun _ _ => rfl)
    (hin := fun c => phi_in m c) (hout := fun c => phi_out m c _)

/-! ## The result arrays -/

def G3 (c : Dev nD) (i : S8x2048x4096.Idx) : EReal :=
  outB ⟨(i 1).val / 128, by have : (i 1).val < 2048 := (i 1).isLt; omega⟩ (xB m c (i 0) ⟨(i 1).val / 128, by have : (i 1).val < 2048 := (i 1).isLt; omega⟩)
    (kB m c (i 0)) (vB m c (i 0)) (ix3 0 ⟨(i 1).val % 128, Nat.mod_lt _ (by decide)⟩ (i 2))
def G4 (c : Dev nD) (i : S8x2048x32x128.Idx) : EReal :=
  qcB (xB m c (i 0) ⟨(i 1).val / 128, by have : (i 1).val < 2048 := (i 1).isLt; omega⟩) (ix4 0 ⟨(i 1).val % 128, Nat.mod_lt _ (by decide)⟩ (i 2) (i 3))
def G5 (c : Dev nD) (i : S8x32x16.Idx) : EReal := qS (qdOf (xB m c (i 0) (i 2)) (i 1))
def G6 (c : Dev nD) (i : S8x2048x8x128.Idx) : EReal := kcoB (kB m c (i 0)) (ix4 0 (i 1) (i 2) (i 3))
def G7 (c : Dev nD) (i : S8x8x32.Idx) : EReal := kscB (kB m c (i 0)) (ix3 0 (i 1) (i 2))
def G8 (c : Dev nD) (i : S8x2048x8x128.Idx) : EReal := vcoB (vB m c (i 0)) (ix4 0 (i 1) (i 2) (i 3))
def G9 (c : Dev nD) (i : S8x8x128.Idx) : EReal := vscB (vB m c (i 0)) (ix3 0 (i 1) (i 2))

theorem final3 (c : Dev nD) : (datV m c).arrAt 3 cfg0.N = G3 m c := by
  refine (datV m c).arrAt_eq_of_covers 3 _ (by decide +kernel) fun t hf y => ?_
  have y0 : (y 0).val < 1 := (y 0).isLt
  have y1 : (y 1).val < 128 := (y 1).isLt
  have key : ∀ i : S8x2048x4096.Idx, i 0 = bt t → (i 1).val = t.val % 16 * 128 + (y 1).val → i 2 = y 2 → aftV m c 3 t y = G3 m c i := by
    intro i h0 h1 h2
    unfold G3
    have e : (⟨(i 1).val / 128, by have : (i 1).val < 2048 := (i 1).isLt; omega⟩ : Fin 16) = nt t := Fin.ext (by show (i 1).val / 128 = t.val % 16; omega)
    rw [e, h0]
    refine congrArg (outB _ _ _ _) ((ix3_one y).trans ?_)
    rw [h2]
    congr 1
    exact Fin.ext (by show (y 1).val = (i 1).val % 128; omega)
  refine key ((win0_3.blk t).view.emb y) (Fin.ext ?_) ?_ (Fin.ext ?_) <;> blk_simp [e3, bt] <;> omega

theorem final4 (c : Dev nD) : (datV m c).arrAt 4 cfg0.N = G4 m c := by
  refine (datV m c).arrAt_eq_of_covers 4 _ (by decide +kernel) fun t hf y => ?_
  have y0 : (y 0).val < 1 := (y 0).isLt
  have y1 : (y 1).val < 128 := (y 1).isLt
  have key : ∀ i : S8x2048x32x128.Idx, i 0 = bt t → (i 1).val = t.val % 16 * 128 + (y 1).val → i 2 = y 2 → i 3 = y 3 → aftV m c 4 t y = G4 m c i := by
    intro i h0 h1 h2 h3
    unfold G4
    have e : (⟨(i 1).val / 128, by have : (i 1).val < 2048 := (i 1).isLt; omega⟩ : Fin 16) = nt t := Fin.ext (by show (i 1).val / 128 = t.val % 16; omega)
    rw [e, h0]
    refine congrArg (qcB _) ((ix4_one y).trans ?_)
    rw [h2, h3]
    congr 1
    exact Fin.ext (by show (y 1).val = (i 1).val % 128; omega)
  refine key ((win0_4.blk t).view.emb y) (Fin.ext ?_) ?_ (Fin.ext ?_) (Fin.ext ?_) <;> blk_simp [e4, bt] <;> omega

theorem final5 (c : Dev nD) : (datV m c).arrAt 5 cfg0.N = G5 m c := by
  refine (datV m c).arrAt_eq_of_covers 5 _ (by decide +kernel) fun t hf y => ?_
  have y0 : (y 0).val < 1 := (y 0).isLt
  have y2 : (y 2).val < 16 := (y 2).isLt
  have key : ∀ i : S8x32x16.Idx, i 0 = bt t → i 1 = y 1 → i 2 = y 2 → aftV m c 5 t y = G5 m c i := by
    intro i h0 h1 h2
    unfold G5
    rw [h0, h1, h2]
    exact if_pos (by have := (flush0_5 t).mp hf; show (y 2).val ≤ t.val % 16; omega)
  refine key ((win0_5.blk t).view.emb y) (Fin.ext ?_) (Fin.ext ?_) (Fin.ext ?_) <;> blk_simp [e5, bt] <;> omega

theorem final6 (c : Dev nD) : (datV m c).arrAt 6 cfg0.N = G6 m c := by
  refine (datV m c).arrAt_eq_of_covers 6 _ (by decide +kernel) fun t hf y => ?_
  have y0 : (y 0).val < 1 := (y 0).isLt
  have key : ∀ i : S8x2048x8x128.Idx, i 0 = bt t → i 1 = y 1 → i 2 = y 2 → i 3 = y 3 → aftV m c 6 t y = G6 m c i := by
    intro i h0 h1 h2 h3
    unfold G6
    rw [h0, h1, h2, h3]
    exact congrArg (kcoB _) (ix4_one y)
  refine key ((win0_6.blk t).view.emb y) (Fin.ext ?_) (Fin.ext ?_) (Fin.ext ?_) (Fin.ext ?_) <;> blk_simp [e6, bt] <;> omega

theorem final7 (c : Dev nD) : (datV m c).arrAt 7 cfg0.N = G7 m c := by
  refine (datV m c).arrAt_eq_of_covers 7 _ (by decide +kernel) fun t hf y => ?_
  have y0 : (y 0).val < 1 := (y 0).isLt
  have key : ∀ i : S8x8x32.Idx, i 0 = bt t → i 1 = y 1 → i 2 = y 2 → aftV m c 7 t y = G7 m c i := by
    intro i h0 h1 h2
    unfold G7
    rw [h0, h1, h2]
    exact congrArg (kscB _) (ix3_one y)
  refine key ((win0_7.blk t).view.emb y) (Fin.ext ?_) (Fin.ext ?_) (Fin.ext ?_) <;> blk_simp [e7, bt] <;> omega

theorem final8 (c : Dev nD) : (datV m c).arrAt 8 cfg0.N = G8 m c := by
  refine (datV m c).arrAt_eq_of_covers 8 _ (by decide +kernel) fun t hf y => ?_
  have y0 : (y 0).val < 1 := (y 0).isLt
  have key : ∀ i : S8x2048x8x128.Idx, i 0 = bt t → i 1 = y 1 → i 2 = y 2 → i 3 = y 3 → aftV m c 8 t y = G8 m c i := by
    intro i h0 h1 h2 h3
    unfold G8
    rw [h0, h1, h2, h3]
    exact congrArg (vcoB _) (ix4_one y)
  refine key ((win0_8.blk t).view.emb y) (Fin.ext ?_) (Fin.ext ?_) (Fin.ext ?_) (Fin.ext ?_) <;> blk_simp [e8, bt] <;> omega

theorem final9 (c : Dev nD) : (datV m c).arrAt 9 cfg0.N = G9 m c := by
  refine (datV m c).arrAt_eq_of_covers 9 _ (by decide +kernel) fun t hf y => ?_
  have y0 : (y 0).val < 1 := (y 0).isLt
  have key : ∀ i : S8x8x128.Idx, i 0 = bt t → i 1 = y 1 → i 2 = y 2 → aftV m c 9 t y = G9 m c i := by
    intro i h0 h1 h2
    unfold G9
    rw [h0, h1, h2]
    exact congrArg (vscB _) (ix3_one y)
  refine key ((win0_9.blk t).view.emb y) (Fin.ext ?_) (Fin.ext ?_) (Fin.ext ?_) <;> blk_simp [e9, bt] <;> omega

end Cert.KernelIdeal

end
-- ==== Proof.RefW.lean ====
module

public import proofs.«01_k».proof.Proof.RefP
public import proofs.«01_k».proof.Proof.RefZ
public import proofs.«01_k».proof.Proof.RunI

@[expose] public section

set_option maxRecDepth 16384

noncomputable section

namespace Sage.Ref

open Idealize.ShloMosaic Idealize.ShloMosaic.TcCoe Idealize.SL.Sem

/-! The kernel's results and the reference's, from the same arguments, are the same arrays. -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same queries, keys and values. -/
structure Same : Prop where
  a0 : ∀ i : (⟨3, ![8, 2048, 4096]⟩ : Shape).Idx, A0 m' c i = (Cert.KernelIdeal.Gen.V m c Cert.KernelIdeal.main_arg0 i : EReal)
  a1 : ∀ i : (⟨3, ![8, 2048, 1024]⟩ : Shape).Idx, A1 m' c i = (Cert.KernelIdeal.Gen.V m c Cert.KernelIdeal.main_arg1 i : EReal)
  a2 : ∀ i : (⟨3, ![8, 2048, 1024]⟩ : Shape).Idx, A2 m' c i = (Cert.KernelIdeal.Gen.V m c Cert.KernelIdeal.main_arg2 i : EReal)

variable {m m' c} (S : Same m m' c)
include S

/-- The reference's key head is the kernel's. -/
theorem Same.k (b h : Fin 8) : kH m' c b h = hdOf (Cert.KernelIdeal.kB m c b) h := by
  funext s d
  refine (S.a1 _).trans ?_
  show _ = (Cert.KernelIdeal.Gen.V m c Cert.KernelIdeal.main_arg1 (ix3 b s ⟨128 * h.val + d.val, _⟩) : EReal)
  congr 2; exact Fin.ext (by simp only [Nat.mul_comm])

/-- The reference's value head is the kernel's. -/
theorem Same.v (b h : Fin 8) : vH m' c b h = hdOf (Cert.KernelIdeal.vB m c b) h := by
  funext s d
  refine (S.a2 _).trans ?_
  show _ = (Cert.KernelIdeal.Gen.V m c Cert.KernelIdeal.main_arg2 (ix3 b s ⟨128 * h.val + d.val, _⟩) : EReal)
  congr 2; exact Fin.ext (by simp only [Nat.mul_comm])

/-- The reference's block of a query head is the kernel's. -/
theorem Same.q (b : Fin 8) (n : Fin 16) (h : Fin 32) : qH m' c b n h = qdOf (Cert.KernelIdeal.xB m c b n) h := by
  funext r d
  refine (S.a0 _).trans ?_
  show _ = (Cert.KernelIdeal.Gen.V m c Cert.KernelIdeal.main_arg0 (ix3 b ⟨n.val * 128 + r.val, _⟩ ⟨128 * h.val + d.val, _⟩) : EReal)
  congr 2; exact Fin.ext (by simp only [Nat.mul_comm])

open Cert.KernelIdeal (G3 G4 G5 G6 G7 G8 G9) in
section

/-- Result 1, the attention output, agrees at every element. -/
theorem Same.r3 (b : Fin 8) (p : Fin 2048) (e : Fin 4096) : x169 m' c b p e = G3 m c (ix3 b p e) := by
  rw [e169, o167, S.k, S.v, S.q]
  have h1 : (⟨e.val / 512 * 4 + e.val / 128 % 4, by omega⟩ : Fin 32) = ⟨e.val / 128, by omega⟩ := Fin.ext (by show e.val / 512 * 4 + e.val / 128 % 4 = e.val / 128; omega)
  have h2 : (⟨e.val / 512, by omega⟩ : Fin 8) = ⟨e.val / 128 / 4, by omega⟩ := Fin.ext (by show e.val / 512 = e.val / 128 / 4; omega)
  refine (congrArg₂ (fun (h : Fin 32) (k : Fin 8) => outS (⟨p.val / 128, by omega⟩ : Fin 16) (qdOf (Cert.KernelIdeal.xB m c b ⟨p.val / 128, by omega⟩) h) (hdOf (Cert.KernelIdeal.kB m c b) k) (hdOf (Cert.KernelIdeal.vB m c b) k) (⟨p.val % 128, by omega⟩ : Fin 128) (⟨e.val % 128, by omega⟩ : Fin 128)) h1 h2).trans ?_
  rfl

/-- Result 2, the query codes. -/
theorem Same.r4 (b : Fin 8) (s : Fin 2048) (h : Fin 32) (d : Fin 128) : x116 m' c b s h d = G4 m c (ix4 b s h d) := by
  rw [e116, q41, S.q]; rfl

/-- Result 3, the query scales. -/
theorem Same.r5 (b : Fin 8) (h : Fin 32) (n : Fin 16) : x112 m' c b h n = G5 m c (ix3 b h n) := by
  rw [e112, q45, S.q]; rfl

/-- Result 4, the key codes. -/
theorem Same.r6 (b : Fin 8) (s : Fin 2048) (h : Fin 8) (d : Fin 128) : x117 m' c b s h d = G6 m c (ix4 b s h d) := by
  rw [e117, k75, S.k]; rfl

/-- Result 5, the key scales. -/
theorem Same.r7 (b h : Fin 8) (n : Fin 32) : x114 m' c b h n = G7 m c (ix3 b h n) := by
  rw [e114, k79, S.k]; rfl

/-- Result 6, the value codes. -/
theorem Same.r8 (b : Fin 8) (s : Fin 2048) (h : Fin 8) (d : Fin 128) : x106 m' c b s h d = G8 m c (ix4 b s h d) := by
  rw [v106, S.v]; rfl

/-- Result 7, the value scales. -/
theorem Same.r9 (b h : Fin 8) (d : Fin 128) : x115 m' c b h d = G9 m c (ix3 b h d) := by
  rw [e115, v110, S.v]; rfl

end
end

end Sage.Ref

end
-- ==== Proof.RefV.lean ====
module

public import proofs.«01_k».proof.Proof.RefW

@[expose] public section

set_option maxRecDepth 16384

noncomputable section

namespace Sage.Ref

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-! Each program's run, with every result named by what the kernel computes. -/

section
open Cert.KernelIdeal Cert.KernelIdeal.Gen

/-- What the kernel's run leaves: its seven results, and its arguments unchanged. -/
theorem kernel_results (r : PUnit × MemSt nD τ sig (Elt Ideal)) (h : Pipeline.FramePost cfgs (datsV m) 0 (V m) r) (c : Dev nD) :
    r.2.mem ((c.tc : Thread nD τ).loc main_v0_0) = G3 m c
    ∧ r.2.mem ((c.tc : Thread nD τ).loc main_v0_1) = G4 m c
    ∧ r.2.mem ((c.tc : Thread nD τ).loc main_v0_2) = G5 m c
    ∧ r.2.mem ((c.tc : Thread nD τ).loc main_v0_3) = G6 m c
    ∧ r.2.mem ((c.tc : Thread nD τ).loc main_v0_4) = G7 m c
    ∧ r.2.mem ((c.tc : Thread nD τ).loc main_v0_5) = G8 m c
    ∧ r.2.mem ((c.tc : Thread nD τ).loc main_v0_6) = G9 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).1 3).trans (final3 m c), ((h c).1 4).trans (final4 m c), ((h c).1 5).trans (final5 m c),
    ((h c).1 6).trans (final6 m c), ((h c).1 7).trans (final7 m c), ((h c).1 8).trans (final8 m c),
    ((h c).1 9).trans (final9 m c),
    ((h c).1 0).trans (((datV m c).arrAt_in 0 rfl _).trans (V_main_arg0 m c)),
    ((h c).1 1).trans (((datV m c).arrAt_in 1 rfl _).trans (V_main_arg1 m c)),
    ((h c).1 2).trans (((datV m c).arrAt_in 2 rfl _).trans (V_main_arg2 m c))⟩

end

section
open Cert.ReferenceIdeal Cert.ReferenceIdeal.Gen Cert.ReferenceIdeal.Value
open Cert.KernelIdeal (G3 G4 G5 G6 G7 G8 G9)

variable {m m'}

theorem ref169 {c : Dev nD} (S : Same m m' c) : @Eq (S8x2048x4096.Idx → EReal) (Gen.V m' c main_v169) (G3 m c) := by
  funext i; rw [Cert.KernelIdeal.ix3_of i]; exact S.r3 _ _ _
theorem ref116 {c : Dev nD} (S : Same m m' c) : @Eq (S8x2048x32x128.Idx → EReal) (Gen.V m' c main_v116) (G4 m c) := by
  funext i
  have e : i = ix4 (i 0) (i 1) (i 2) (i 3) := by funext a; fin_cases a <;> rfl
  rw [e]; exact S.r4 _ _ _ _
theorem ref112 {c : Dev nD} (S : Same m m' c) : @Eq (S8x32x16.Idx → EReal) (Gen.V m' c main_v112) (G5 m c) := by
  funext i; rw [Cert.KernelIdeal.ix3_of i]; exact S.r5 _ _ _
theorem ref117 {c : Dev nD} (S : Same m m' c) : @Eq (S8x2048x8x128.Idx → EReal) (Gen.V m' c main_v117) (G6 m c) := by
  funext i
  have e : i = ix4 (i 0) (i 1) (i 2) (i 3) := by funext a; fin_cases a <;> rfl
  rw [e]; exact S.r6 _ _ _ _
theorem ref114 {c : Dev nD} (S : Same m m' c) : @Eq (S8x8x32.Idx → EReal) (Gen.V m' c main_v114) (G7 m c) := by
  funext i; rw [Cert.KernelIdeal.ix3_of i]; exact S.r7 _ _ _
theorem ref106 {c : Dev nD} (S : Same m m' c) : @Eq (S8x2048x8x128.Idx → EReal) (Gen.V m' c main_v106) (G8 m c) := by
  funext i
  have e : i = ix4 (i 0) (i 1) (i 2) (i 3) := by funext a; fin_cases a <;> rfl
  rw [e]; exact S.r8 _ _ _ _
theorem ref115 {c : Dev nD} (S : Same m m' c) : @Eq (S8x8x128.Idx → EReal) (Gen.V m' c main_v115) (G9 m c) := by
  funext i; rw [Cert.KernelIdeal.ix3_of i]; exact S.r9 _ _ _

/-- What the reference's run leaves, from the same arguments: the same seven results, and its arguments unchanged. -/
theorem reference_results (r : PUnit × MemSt nD τ sig (Elt Ideal)) (h : Pipeline.FramePost cfgs (dats m') 0 (Gen.V m') r) (c : Dev nD)
    (S : Same m m' c) :
    r.2.mem ((c.tc : Thread nD τ).loc main_v169) = G3 m c
    ∧ r.2.mem ((c.tc : Thread nD τ).loc main_v170_0) = G4 m c
    ∧ r.2.mem ((c.tc : Thread nD τ).loc main_v112) = G5 m c
    ∧ r.2.mem ((c.tc : Thread nD τ).loc main_v170_1) = G6 m c
    ∧ r.2.mem ((c.tc : Thread nD τ).loc main_v114) = G7 m c
    ∧ r.2.mem ((c.tc : Thread nD τ).loc main_v170_2) = G8 m c
    ∧ r.2.mem ((c.tc : Thread nD τ).loc main_v115) = G9 m c
    ∧ r.2.mem ((c.tc : Thread nD τ).loc main_arg0) = m' ((c.tc : Thread nD τ).loc main_arg0)
    ∧ r.2.mem ((c.tc : Thread nD τ).loc main_arg1) = m' ((c.tc : Thread nD τ).loc main_arg1)
    ∧ r.2.mem ((c.tc : Thread nD τ).loc main_arg2) = m' ((c.tc : Thread nD τ).loc main_arg2) :=
  ⟨((h c).2 main_v169 (Pipeline.mem_restRefs_of main_v169 (by decide) (by decide))).trans (ref169 S),
    (post3 m' r h c).trans (arr3_of m' c _ (ref116 S)),
    ((h c).2 main_v112 (Pipeline.mem_restRefs_of main_v112 (by decide) (by decide))).trans (ref112 S),
    (post4 m' r h c).trans (arr4_of m' c _ (ref117 S)),
    ((h c).2 main_v114 (Pipeline.mem_restRefs_of main_v114 (by decide) (by decide))).trans (ref114 S),
    (post5 m' r h c).trans (arr5_of m' c _ (ref106 S)),
    ((h c).2 main_v115 (Pipeline.mem_restRefs_of main_v115 (by decide) (by decide))).trans (ref115 S),
    kept_main_arg0 m' r h c, kept_main_arg1 m' r h c, kept_main_arg2 m' r h c⟩

end

end Sage.Ref

end
-- ==== Proof.lean ====
/- The claims of this certificate: every program runs and ends quiescent, the second program is the first's
   idealization, and the kernel's seven results are, over the reals, the reference's. -/
module

public import proofs.«01_k».proof.Proof.Gen.ReferenceIdeal.Value
public import proofs.«01_k».proof.Defs
public import proofs.«01_k».proof.Proof.FrameK
public import proofs.«01_k».proof.Proof.FrameI
public import proofs.«01_k».proof.Proof.RefV

@[expose] public section

noncomputable section

namespace Cert.Proof

open Idealize.ShloMosaic Idealize.ShloMosaic.TcCoe Idealize.SL.Sem

/-- The kernel's seven results are the reference's, from the same arguments. -/
theorem algebraic : Cert.algebraic_KernelIdeal_ReferenceIdeal
    (hKernelIdeal := Cert.KernelIdeal.Gen.facts) (hReferenceIdeal := Cert.ReferenceIdeal.Gen.facts) := by
  intro m g m' g' _ ha
  have S : ∀ c, Sage.Ref.Same m m' c := fun c =>
    { a0 := fun i => (congrFun (ha c).1 i).trans (congrFun (Cert.KernelIdeal.Gen.V_main_arg0 m c) i).symm
      a1 := fun i => (congrFun (ha c).2.1 i).trans (congrFun (Cert.KernelIdeal.Gen.V_main_arg1 m c) i).symm
      a2 := fun i => (congrFun (ha c).2.2 i).trans (congrFun (Cert.KernelIdeal.Gen.V_main_arg2 m c) i).symm }
  exact ⟨Cert.KernelIdeal.G3 m, Cert.KernelIdeal.G4 m, Cert.KernelIdeal.G5 m, Cert.KernelIdeal.G6 m, Cert.KernelIdeal.G7 m,
    Cert.KernelIdeal.G8 m, Cert.KernelIdeal.G9 m,
    (θ_run _ _ _).mono (fun r h c => Sage.Ref.kernel_results m r h c) (Cert.KernelIdeal.run_V m g),
    (θ_run _ _ _).mono (fun r h c => Sage.Ref.reference_results r h c (S c)) (Cert.ReferenceIdeal.Gen.run_main m' g')⟩

theorem claim : Cert.Claim :=
  ⟨Cert.Kernel.Gen.facts, Cert.KernelIdeal.Gen.facts, Cert.ReferenceIdeal.Gen.facts,
    fun m g _ => Cert.Kernel.frame (F := Bits) m g, fun m g _ => Cert.KernelIdeal.frame (F := Ideal) m g,
    fun m g _ => Cert.ReferenceIdeal.Gen.frame (F := Ideal) m g, trivial, algebraic⟩

end Cert.Proof

end
